-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v118)) (v2 : (c : Dev Cert.KernelIdeal.nD) → Buf (Elt Ideal) ((c.tc : Thread Cert.KernelIdeal.nD Cert.KernelIdeal.τ).loc Cert.KernelIdeal.main_v119)) (v3 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_v119) = v2 c
          ∧ r.2.mem ((c.tc : Thread Cert.KernelIdeal.nD Cert.KernelIdeal.τ).loc Cert.KernelIdeal.main_v121) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_in_range.lean ====
abbrev S16x32 : Shape := ⟨2, ![16, 32]⟩
abbrev S16x8192x64 : Shape := ⟨3, ![16, 8192, 64]⟩
abbrev S16x8192 : Shape := ⟨2, ![16, 8192]⟩
abbrev S_ : Shape := ⟨0, ![]⟩

class Facts : Prop where
  bcast_S_S16x32 : S_.BroadcastsInDim S16x32 (![] : Fin 0 → Fin S16x32.rank)
  reducesTo_S16x32_S_d0_1 : S16x32.ReducesTo [0, 1] S_
  h_S_ : 0 < S_.numel
  bcast_S_S16x8192x64 : S_.BroadcastsInDim S16x8192x64 (![] : Fin 0 → Fin S16x8192x64.rank)
  reducesTo_S16x8192x64_S_d0_1_2 : S16x8192x64.ReducesTo [0, 1, 2] S_
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S16x8192 .f32) (main_arg5 : FVec F S16x8192x64 .f32) (main_v15 : IVec S_ 1) (main_v16 : FVec F S16x8192x64 .f32) (main_cst_4 : FVec F S_ .f32) : IVec S_ 1 :=
  let main_v17 : FVec F S16x8192x64 .f32 := broadcastInDim S16x8192x64 ![] bcast_S_S16x8192x64 main_cst_4
  let main_v18 : IVec S16x8192x64 1 := cmpf .olt main_v16 main_v17
  let main_c_5 : IVec S_ 1 := constantI S_ 1 1#1
  let main_v19 : IVec S_ 1 := (fun x v => Host.reduce IntOp.andi x v reducesTo_S16x8192x64_S_d0_1_2 h_S_) main_v18 main_c_5
  let main_v20 : IVec S_ 1 := andi main_v15 main_v19
  let main_v21 : FVec F S16x8192 .f32 := Host.absf main_arg4
  let main_cst_6 : FVec F S_ .f32 := constant S_ .f32 0x7F800000#32
  let main_v22 : FVec F S16x8192 .f32 := broadcastInDim S16x8192 ![] bcast_S_S16x8192 main_cst_6
  let main_v23 : IVec S16x8192 1 := cmpf .olt main_v21 main_v22
  let main_c_7 : IVec S_ 1 := constantI S_ 1 1#1
  let main_v24 : IVec S_ 1 := (fun x v => Host.reduce IntOp.andi x v reducesTo_S16x8192_S_d0_1 h_S_) main_v23 main_c_7
  let main_v25 : IVec S_ 1 := andi main_v20 main_v24
  let main_v26 : FVec F S16x8192x64 .f32 := Host.absf main_arg5
  let main_cst_8 : FVec F S_ .f32 := constant S_ .f32 0x7F800000#32
  let main_v27 : FVec F S16x8192x64 .f32 := broadcastInDim S16x8192x64 ![] bcast_S_S16x8192x64 main_cst_8
  let main_v28 : IVec S16x8192x64 1 := cmpf .olt main_v26 main_v27
  let main_c_9 : IVec S_ 1 := constantI S_ 1 1#1
  let main_v29 : IVec S_ 1 := (fun x v => Host.reduce IntOp.andi x v reducesTo_S16x8192x64_S_d0_1_2 h_S_) main_v28 main_c_9
  let main_v30 : IVec S_ 1 := andi main_v25 main_v29
  main_v30

def fn {F : FTy → Type} [FloatOps F] (main_arg0 : IVec S16x32 32) (main_arg1 : FVec F S16x8192x64 .f32) (main_arg2 : FVec F S16x8192x64 .f32) (main_arg3 : FVec F S16x8192x64 .f32) (main_arg4 : FVec F S16x8192 .f32) (main_arg5 : FVec F S16x8192x64 .f32) : IVec S_ 1 :=
  let main_v0 : IVec S16x32 32 := iotaInDim S16x32 32 1
  let main_v1 : IVec S16x32 1 := cmpi .sge main_arg0 main_v0
  let main_c : IVec S_ 32 := constantI S_ 32 31#32
  let main_v2 : IVec S16x32 32 := broadcastInDim S16x32 ![] bcast_S_S16x32 main_c
  let main_v3 : IVec S16x32 1 := cmpi .sle main_arg0 main_v2
  let main_v4 : IVec S16x32 1 := andi main_v1 main_v3
  let main_c_0 : IVec S_ 1 := constantI S_ 1 1#1
  let main_v5 : IVec S_ 1 := (fun x v => Host.reduce IntOp.andi x v reducesTo_S16x32_S_d0_1 h_S_) main_v4 main_c_0
  let main_v6 : FVec F S16x8192x64 .f32 := Host.absf main_arg1
  let main_cst : FVec F S_ .f32 := constant S_ .f32 0x7F800000#32
  let main_v7 : FVec F S16x8192x64 .f32 := broadcastInDim S16x8192x64 ![] bcast_S_S16x8192x64 main_cst
  let main_v8 : IVec S16x8192x64 1 := cmpf .olt main_v6 main_v7
  let main_c_1 : IVec S_ 1 := constantI S_ 1 1#1
  let main_v9 : IVec S_ 1 := (fun x v => Host.reduce IntOp.andi x v reducesTo_S16x8192x64_S_d0_1_2 h_S_) main_v8 main_c_1
  let main_v10 : IVec S_ 1 := andi main_v5 main_v9
  let main_v11 : FVec F S16x8192x64 .f32 := Host.absf main_arg2
  let main_cst_2 : FVec F S_ .f32 := constant S_ .f32 0x7F800000#32
  let main_v12 : FVec F S16x8192x64 .f32 := broadcastInDim S16x8192x64 ![] bcast_S_S16x8192x64 main_cst_2
  let main_v13 : IVec S16x8192x64 1 := cmpf .olt main_v11 main_v12
  let main_c_3 : IVec S_ 1 := constantI S_ 1 1#1
  let main_v14 : IVec S_ 1 := (fun x v => Host.reduce IntOp.andi x v reducesTo_S16x8192x64_S_d0_1_2 h_S_) main_v13 main_c_3
  let main_v15 : IVec S_ 1 := andi main_v10 main_v14
  let main_v16 : FVec F S16x8192x64 .f32 := Host.absf main_arg3
  let main_cst_4 : FVec F S_ .f32 := constant S_ .f32 0x7F800000#32
  fn_part1 (F := F) main_arg4 main_arg5 main_v15 main_v16 main_cst_4
-- ==== Kernel.lean ====
abbrev S16x32 : Shape := ⟨2, ![16, 32]⟩
abbrev S16x8192x64 : Shape := ⟨3, ![16, 8192, 64]⟩
abbrev S16x8192 : Shape := ⟨2, ![16, 8192]⟩
abbrev S_ : Shape := ⟨0, ![]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S16x32x1 : Shape := ⟨3, ![16, 32, 1]⟩
abbrev S16x32x256 : Shape := ⟨3, ![16, 32, 256]⟩
abbrev S16x8192x3 : Shape := ⟨3, ![16, 8192, 3]⟩
abbrev S16x8192x52 : Shape := ⟨3, ![16, 8192, 52]⟩
abbrev S16x8192x128 : Shape := ⟨3, ![16, 8192, 128]⟩
abbrev S16x8192x55 : Shape := ⟨3, ![16, 8192, 55]⟩
abbrev S16x8192x61 : Shape := ⟨3, ![16, 8192, 61]⟩
abbrev S1x8192x128 : Shape := ⟨3, ![1, 8192, 128]⟩
abbrev S1x256x128 : Shape := ⟨3, ![1, 256, 128]⟩
abbrev S1x1x256 : Shape := ⟨3, ![1, 1, 256]⟩
abbrev S1x1 : Shape := ⟨2, ![1, 1]⟩
abbrev S8192x128 : Shape := ⟨2, ![8192, 128]⟩
abbrev S256x128 : Shape := ⟨2, ![256, 128]⟩
abbrev S8x256 : Shape := ⟨2, ![8, 256]⟩
abbrev S1x2048x128 : Shape := ⟨3, ![1, 2048, 128]⟩
abbrev S2048x128 : Shape := ⟨2, ![2048, 128]⟩
abbrev S2048x256 : Shape := ⟨2, ![2048, 256]⟩
abbrev S256x8x256 : Shape := ⟨3, ![256, 8, 256]⟩
abbrev S1x1024x128 : Shape := ⟨3, ![1, 1024, 128]⟩
abbrev S1024x128 : Shape := ⟨2, ![1024, 128]⟩
abbrev S1024x256 : Shape := ⟨2, ![1024, 256]⟩
abbrev S128x8x256 : Shape := ⟨3, ![128, 8, 256]⟩
abbrev S1x512x128 : Shape := ⟨3, ![1, 512, 128]⟩
abbrev S512x128 : Shape := ⟨2, ![512, 128]⟩
abbrev S512x256 : Shape := ⟨2, ![512, 256]⟩
abbrev S64x8x256 : Shape := ⟨3, ![64, 8, 256]⟩
abbrev S256x256 : Shape := ⟨2, ![256, 256]⟩
abbrev S32x8x256 : Shape := ⟨3, ![32, 8, 256]⟩
abbrev S256 : Shape := ⟨1, ![256]⟩
abbrev S1x256 : Shape := ⟨2, ![1, 256]⟩

abbrev nBuf : Space → Nat
  | .hbm => 149
  | .vmem => 16
  | .smem => 1
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192, .f32⟩
  | 4 => ⟨S16x8192x64, .f32⟩
  | 5 => ⟨S_, .f32⟩
  | 6 => ⟨S_, .f32⟩
  | 7 => ⟨S_, .f32⟩
  | 8 => ⟨S_, .f32⟩
  | 9 => ⟨S16x8192x8192, .f32⟩
  | 10 => ⟨S_, .f32⟩
  | 11 => ⟨S16x8192x8192, .f32⟩
  | 12 => ⟨S16x8192x8192, .f32⟩
  | 13 => ⟨S16x8192x1, .f32⟩
  | 14 => ⟨S16x1x8192, .f32⟩
  | 15 => ⟨S16x8192x8192, .f32⟩
  | 16 => ⟨S16x8192x8192, .f32⟩
  | 17 => ⟨S16x8192x8192, .f32⟩
  | 18 => ⟨S16x8192x8192, .f32⟩
  | 19 => ⟨S16x8192x8192, .i32⟩
  | 20 => ⟨S16x8192x8192, .i32⟩
  | 21 => ⟨S16x32x1, .i32⟩
  | 22 => ⟨S16x32x256, .i32⟩
  | 23 => ⟨S16x1x8192, .i32⟩
  | 24 => ⟨S16x8192x8192, .i1⟩
  | 25 => ⟨S_, .i32⟩
  | 26 => ⟨S16x1x8192, .i32⟩
  | 27 => ⟨S16x1x8192, .i32⟩
  | 28 => ⟨S_, .i32⟩
  | 29 => ⟨S16x1x8192, .i32⟩
  | 30 => ⟨S16x1x8192, .i32⟩
  | 31 => ⟨S16x8192x8192, .i32⟩
  | 32 => ⟨S16x8192x8192, .i1⟩
  | 33 => ⟨S16x8192x8192, .i1⟩
  | 34 => ⟨S_, .f32⟩
  | 35 => ⟨S_, .f32⟩
  | 36 => ⟨S16x8192x8192, .f32⟩
  | 37 => ⟨S16x8192x8192, .f32⟩
  | 38 => ⟨S16x8192x8192, .f32⟩
  | 39 => ⟨S16x8192x8192, .f32⟩
  | 40 => ⟨S_, .f32⟩
  | 41 => ⟨S16x8192, .f32⟩
  | 42 => ⟨S16x8192, .f32⟩
  | 43 => ⟨S16x8192x1, .f32⟩
  | 44 => ⟨S16x8192x8192, .f32⟩
  | 45 => ⟨S16x8192x8192, .f32⟩
  | 46 => ⟨S16x8192x8192, .f32⟩
  | 47 => ⟨S16x8192x8192, .f32⟩
  | 48 => ⟨S16x8192x8192, .f32⟩
  | 49 => ⟨S_, .f32⟩
  | 50 => ⟨S16x8192, .f32⟩
  | 51 => ⟨S_, .f32⟩
  | 52 => ⟨S16x8192, .f32⟩
  | 53 => ⟨S16x8192, .f32⟩
  | 54 => ⟨S16x8192x64, .f32⟩
  | 55 => ⟨S16x8192x1, .f32⟩
  | 56 => ⟨S16x8192x64, .f32⟩
  | 57 => ⟨S16x8192x64, .f32⟩
  | 58 => ⟨S16x8192x1, .f32⟩
  | 59 => ⟨S16x8192x64, .f32⟩
  | 60 => ⟨S16x8192x64, .f32⟩
  | 61 => ⟨S16x8192, .f32⟩
  | 62 => ⟨S16x8192, .f32⟩
  | 63 => ⟨S16x8192, .bf16⟩
  | 64 => ⟨S16x8192, .f32⟩
  | 65 => ⟨S16x8192, .f32⟩
  | 66 => ⟨S16x8192, .bf16⟩
  | 67 => ⟨S16x8192, .f32⟩
  | 68 => ⟨S16x8192, .f32⟩
  | 69 => ⟨S16x8192, .bf16⟩
  | 70 => ⟨S16x8192x1, .bf16⟩
  | 71 => ⟨S16x8192x1, .bf16⟩
  | 72 => ⟨S16x8192x1, .bf16⟩
  | 73 => ⟨S16x8192x3, .bf16⟩
  | 74 => ⟨S_, .bf16⟩
  | 75 => ⟨S16x8192x3, .bf16⟩
  | 76 => ⟨S_, .f32⟩
  | 77 => ⟨S_, .f32⟩
  | 78 => ⟨S16x8192x64, .f32⟩
  | 79 => ⟨S16x8192x64, .f32⟩
  | 80 => ⟨S16x8192x64, .bf16⟩
  | 81 => ⟨S16x8192, .bf16⟩
  | 82 => ⟨S16x8192, .f32⟩
  | 83 => ⟨S16x8192, .f32⟩
  | 84 => ⟨S16x8192, .bf16⟩
  | 85 => ⟨S16x8192, .f32⟩
  | 86 => ⟨S16x8192, .f32⟩
  | 87 => ⟨S16x8192, .bf16⟩
  | 88 => ⟨S16x8192x1, .bf16⟩
  | 89 => ⟨S16x8192x1, .bf16⟩
  | 90 => ⟨S16x8192x1, .bf16⟩
  | 91 => ⟨S16x8192x3, .bf16⟩
  | 92 => ⟨S16x8192x3, .bf16⟩
  | 93 => ⟨S16x8192, .bf16⟩
  | 94 => ⟨S16x8192, .f32⟩
  | 95 => ⟨S16x8192, .f32⟩
  | 96 => ⟨S16x8192, .bf16⟩
  | 97 => ⟨S16x8192, .f32⟩
  | 98 => ⟨S16x8192, .f32⟩
  | 99 => ⟨S16x8192, .bf16⟩
  | 100 => ⟨S16x8192x1, .bf16⟩
  | 101 => ⟨S16x8192x1, .bf16⟩
  | 102 => ⟨S16x8192x1, .bf16⟩
  | 103 => ⟨S16x8192x3, .bf16⟩
  | 104 => ⟨S_, .bf16⟩
  | 105 => ⟨S16x8192x52, .bf16⟩
  | 106 => ⟨S16x8192x128, .bf16⟩
  | 107 => ⟨S16x8192x64, .bf16⟩
  | 108 => ⟨S16x8192x3, .bf16⟩
  | 109 => ⟨S_, .bf16⟩
  | 110 => ⟨S16x8192x55, .bf16⟩
  | 111 => ⟨S16x8192x128, .bf16⟩
  | 112 => ⟨S16x8192x64, .bf16⟩
  | 113 => ⟨S_, .bf16⟩
  | 114 => ⟨S16x8192x61, .bf16⟩
  | 115 => ⟨S16x8192x128, .bf16⟩
  | 116 => ⟨S16x8192x64, .bf16⟩
  | 117 => ⟨S16x8192x64, .f32⟩
  | 118 => ⟨S_, .f32⟩
  | 119 => ⟨S16x8192, .f32⟩
  | 120 => ⟨S16x8192, .bf16⟩
  | 121 => ⟨S16x8192, .f32⟩
  | 122 => ⟨S16x8192, .f32⟩
  | 123 => ⟨S16x8192, .bf16⟩
  | 124 => ⟨S16x8192, .f32⟩
  | 125 => ⟨S16x8192, .f32⟩
  | 126 => ⟨S16x8192, .bf16⟩
  | 127 => ⟨S16x8192x1, .bf16⟩
  | _ => ⟨S16x8192x64, .f32⟩

abbrev hbmTy0_1 (i : Nat) : BufTy := match i % 128 with
  | 0 => ⟨S16x8192x1, .bf16⟩
  | 1 => ⟨S16x8192x1, .bf16⟩
  | 2 => ⟨S16x8192x3, .bf16⟩
  | 3 => ⟨S16x8192x3, .bf16⟩
  | 4 => ⟨S_, .bf16⟩
  | 5 => ⟨S16x8192x61, .bf16⟩
  | 6 => ⟨S16x8192x128, .bf16⟩
  | 7 => ⟨S16x8192x128, .f32⟩
  | 8 => ⟨S16x8192x128, .f32⟩
  | 9 => ⟨S16x8192x128, .f32⟩
  | 10 => ⟨S16x1x8192, .f32⟩
  | 11 => ⟨S16x8192x64, .f32⟩
  | 12 => ⟨S_, .f32⟩
  | 13 => ⟨S16x8192x64, .f32⟩
  | 14 => ⟨S16x8192x64, .f32⟩
  | 15 => ⟨S16x8192x64, .f32⟩
  | 16 => ⟨S16x8192x64, .f32⟩
  | 17 => ⟨S16x8192x64, .f32⟩
  | 18 => ⟨S16x8192x64, .f32⟩
  | 19 => ⟨S16x8192, .f32⟩
  | 20 => ⟨S16x8192, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x8192x128, .f32⟩
  | .local _ .vmem, ⟨9, _⟩ => ⟨S1x8192x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x1x256, .f32⟩
  | .local _ .vmem, ⟨15, _⟩ => ⟨S1x1x256, .f32⟩
  | .local _ .smem, ⟨0, _⟩ => ⟨S16x32, .i32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_12 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_13 : Ref sig .tc := ⟨.hbm, 132, rfl⟩
abbrev main_v110 : Ref sig .tc := ⟨.hbm, 133, rfl⟩
abbrev main_v111 : Ref sig .tc := ⟨.hbm, 134, rfl⟩
abbrev main_v112_0 : Ref sig .tc := ⟨.hbm, 135, rfl⟩
abbrev main_v112_1 : Ref sig .tc := ⟨.hbm, 136, rfl⟩
abbrev main_v112_2 : Ref sig .tc := ⟨.hbm, 137, rfl⟩
abbrev main_v112_3 : Ref sig .tc := ⟨.hbm, 138, rfl⟩
abbrev main_v113 : Ref sig .tc := ⟨.hbm, 139, rfl⟩
abbrev main_cst_14 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop (i : grid0.Coords) (v2 : BitVec 32) : Scf.Loop 32 :=
  let c0_i32_13 : BitVec 32 := 0#32
  let c1_i32 : BitVec 32 := 1#32
  let v3 : BitVec 32 := Scalar.addi v2 c1_i32
  let arg1 : BitVec 32 := BitVec.ofNat 32 (i 1).val
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_15 : BitVec 32 := 1#32
  ⟨c0_i32_13, v35, c1_i32_15⟩

def k0_mult1 (i : grid0.Coords) (v2 : BitVec 32) (k0_t1 : Fin (k0_t1_loop i v2).trips) : BitVec 32 :=
  let arg1 : BitVec 32 := BitVec.ofNat 32 (i 1).val
  let c8_i32_61 : BitVec 32 := 8#32
  let c0_i32_13 : BitVec 32 := 0#32
  let c1_i32_15 : BitVec 32 := 1#32
  let arg11 : BitVec 32 := Scf.iv c0_i32_13 c1_i32_15 k0_t1
  let v130 : BitVec 32 := Scalar.muli c8_i32_61 arg11
  let v131 : BitVec 32 := Scalar.addi arg1 v130
  let c256_i32 : BitVec 32 := 256#32
  let v132 : BitVec 32 := Scalar.muli v131 c256_i32
  v132
def k0_off2 (i : grid0.Coords) (v2 : BitVec 32) (k0_t1 : Fin (k0_t1_loop i v2).trips) : Fin 3 → Nat :=
  let c0_62 : Index := 0#32
  let arg1 : BitVec 32 := BitVec.ofNat 32 (i 1).val
  let c8_i32_61 : BitVec 32 := 8#32
  let c0_i32_13 : BitVec 32 := 0#32
  let c1_i32_15 : BitVec 32 := 1#32
  let arg11 : BitVec 32 := Scf.iv c0_i32_13 c1_i32_15 k0_t1
  let v130 : BitVec 32 := Scalar.muli c8_i32_61 arg11
  let v131 : BitVec 32 := Scalar.addi arg1 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t2_loop (i : grid0.Coords) (v2 : BitVec 32) : Scf.Loop 32 :=
  let c0_i32_13 : BitVec 32 := 0#32
  let c1_i32 : BitVec 32 := 1#32
  let v3 : BitVec 32 := Scalar.addi v2 c1_i32
  let arg1 : BitVec 32 := BitVec.ofNat 32 (i 1).val
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let v32 : BitVec 32 := Scalar.addi c0_i32_13 v31
  let c1_i32_16 : BitVec 32 := 1#32
  ⟨v35, v32, c1_i32_16⟩
def k0_mult2 (i : grid0.Coords) (v2 : BitVec 32) (k0_t2 : Fin (k0_t2_loop i v2).trips) : BitVec 32 :=
  let arg1 : BitVec 32 := BitVec.ofNat 32 (i 1).val
  let c8_i32_61 : BitVec 32 := 8#32
  let c0_i32_13 : BitVec 32 := 0#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg11 : BitVec 32 := Scf.iv v35 c1_i32_16 k0_t2
  let v130 : BitVec 32 := Scalar.muli c8_i32_61 arg11
  let v131 : BitVec 32 := Scalar.addi arg1 v130
  let c256_i32 : BitVec 32 := 256#32
  let v132 : BitVec 32 := Scalar.muli v131 c256_i32
  v132
def k0_off3 (i : grid0.Coords) (v2 : BitVec 32) (k0_t2 : Fin (k0_t2_loop i v2).trips) : Fin 3 → Nat :=
  let c0_62 : Index := 0#32
  let arg1 : BitVec 32 := BitVec.ofNat 32 (i 1).val
  let c8_i32_61 : BitVec 32 := 8#32
  let c0_i32_13 : BitVec 32 := 0#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v31 : BitVec 32 := Scalar.subi v30 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg11 : BitVec 32 := Scf.iv v35 c1_i32_16 k0_t2
  let v130 : BitVec 32 := Scalar.muli c8_i32_61 arg11
  let v131 : BitVec 32 := Scalar.addi arg1 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t3_loop (i : grid0.Coords) (v2 : BitVec 32) : Scf.Loop 32 :=
  let c0_i32_24 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_26 : BitVec 32 := 1#32
  ⟨c0_i32_24, v62, c1_i32_26⟩
def k0_mult3 (i : grid0.Coords) (v2 : BitVec 32) (k0_t3 : Fin (k0_t3_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_61 : BitVec 32 := 4#32
  let c0_i32_24 : BitVec 32 := 0#32
  let c1_i32_26 : BitVec 32 := 1#32
  let arg11 : BitVec 32 := Scf.iv c0_i32_24 c1_i32_26 k0_t3
  let v130 : BitVec 32 := Scalar.muli c4_i32_61 arg11
  let v131 : BitVec 32 := Scalar.addi v39 v130
  let c256_i32 : BitVec 32 := 256#32
  let v132 : BitVec 32 := Scalar.muli v131 c256_i32
  v132
def k0_off4 (i : grid0.Coords) (v2 : BitVec 32) (k0_t3 : Fin (k0_t3_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_61 : BitVec 32 := 4#32
  let c0_i32_24 : BitVec 32 := 0#32
  let c1_i32_26 : BitVec 32 := 1#32
  let arg11 : BitVec 32 := Scf.iv c0_i32_24 c1_i32_26 k0_t3
  let v130 : BitVec 32 := Scalar.muli c4_i32_61 arg11
  let v131 : BitVec 32 := Scalar.addi v39 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t4_loop (i : grid0.Coords) (v2 : BitVec 32) : Scf.Loop 32 :=
  let c0_i32_24 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let v59 : BitVec 32 := Scalar.addi c0_i32_24 v58
  let c1_i32_27 : BitVec 32 := 1#32
  ⟨v62, v59, c1_i32_27⟩
def k0_mult4 (i : grid0.Coords) (v2 : BitVec 32) (k0_t4 : Fin (k0_t4_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_61 : BitVec 32 := 4#32
  let c0_i32_24 : BitVec 32 := 0#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg11 : BitVec 32 := Scf.iv v62 c1_i32_27 k0_t4
  let v130 : BitVec 32 := Scalar.muli c4_i32_61 arg11
  let v131 : BitVec 32 := Scalar.addi v39 v130
  let c256_i32 : BitVec 32 := 256#32
  let v132 : BitVec 32 := Scalar.muli v131 c256_i32
  v132
def k0_off5 (i : grid0.Coords) (v2 : BitVec 32) (k0_t4 : Fin (k0_t4_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_61 : BitVec 32 := 4#32
  let c0_i32_24 : BitVec 32 := 0#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg11 : BitVec 32 := Scf.iv v62 c1_i32_27 k0_t4
  let v130 : BitVec 32 := Scalar.muli c4_i32_61 arg11
  let v131 : BitVec 32 := Scalar.addi v39 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t5_loop (i : grid0.Coords) (v2 : BitVec 32) : Scf.Loop 32 :=
  let c0_i32_35 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v85 : BitVec 32 := Scalar.subi v84 c0_i32_35
  let c1_i32_36 : BitVec 32 := 1#32
  let v87 : BitVec 32 := Scalar.divsi v85 c1_i32_36
  let v88 : BitVec 32 := Scalar.muli v87 c1_i32_36
  let v89 : BitVec 32 := Scalar.addi c0_i32_35 v88
  let c1_i32_37 : BitVec 32 := 1#32
  ⟨c0_i32_35, v89, c1_i32_37⟩
def k0_mult5 (i : grid0.Coords) (v2 : BitVec 32) (k0_t5 : Fin (k0_t5_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_61 : BitVec 32 := 2#32
  let c0_i32_35 : BitVec 32 := 0#32
  let c1_i32_37 : BitVec 32 := 1#32
  let arg11 : BitVec 32 := Scf.iv c0_i32_35 c1_i32_37 k0_t5
  let v130 : BitVec 32 := Scalar.muli c2_i32_61 arg11
  let v131 : BitVec 32 := Scalar.addi v66 v130
  let c256_i32 : BitVec 32 := 256#32
  let v132 : BitVec 32 := Scalar.muli v131 c256_i32
  v132
def k0_off6 (i : grid0.Coords) (v2 : BitVec 32) (k0_t5 : Fin (k0_t5_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_61 : BitVec 32 := 2#32
  let c0_i32_35 : BitVec 32 := 0#32
  let c1_i32_37 : BitVec 32 := 1#32
  let arg11 : BitVec 32 := Scf.iv c0_i32_35 c1_i32_37 k0_t5
  let v130 : BitVec 32 := Scalar.muli c2_i32_61 arg11
  let v131 : BitVec 32 := Scalar.addi v66 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t6_loop (i : grid0.Coords) (v2 : BitVec 32) : Scf.Loop 32 :=
  let c0_i32_35 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v85 : BitVec 32 := Scalar.subi v84 c0_i32_35
  let c1_i32_36 : BitVec 32 := 1#32
  let v87 : BitVec 32 := Scalar.divsi v85 c1_i32_36
  let v88 : BitVec 32 := Scalar.muli v87 c1_i32_36
  let v89 : BitVec 32 := Scalar.addi c0_i32_35 v88
  let v86 : BitVec 32 := Scalar.addi c0_i32_35 v85
  let c1_i32_38 : BitVec 32 := 1#32
  ⟨v89, v86, c1_i32_38⟩
def k0_mult6 (i : grid0.Coords) (v2 : BitVec 32) (k0_t6 : Fin (k0_t6_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_61 : BitVec 32 := 2#32
  let c0_i32_35 : BitVec 32 := 0#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v85 : BitVec 32 := Scalar.subi v84 c0_i32_35
  let c1_i32_36 : BitVec 32 := 1#32
  let v87 : BitVec 32 := Scalar.divsi v85 c1_i32_36
  let v88 : BitVec 32 := Scalar.muli v87 c1_i32_36
  let v89 : BitVec 32 := Scalar.addi c0_i32_35 v88
  let c1_i32_38 : BitVec 32 := 1#32
  let arg11 : BitVec 32 := Scf.iv v89 c1_i32_38 k0_t6
  let v130 : BitVec 32 := Scalar.muli c2_i32_61 arg11
  let v131 : BitVec 32 := Scalar.addi v66 v130
  let c256_i32 : BitVec 32 := 256#32
  let v132 : BitVec 32 := Scalar.muli v131 c256_i32
  v132
def k0_off7 (i : grid0.Coords) (v2 : BitVec 32) (k0_t6 : Fin (k0_t6_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_61 : BitVec 32 := 2#32
  let c0_i32_35 : BitVec 32 := 0#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v85 : BitVec 32 := Scalar.subi v84 c0_i32_35
  let c1_i32_36 : BitVec 32 := 1#32
  let v87 : BitVec 32 := Scalar.divsi v85 c1_i32_36
  let v88 : BitVec 32 := Scalar.muli v87 c1_i32_36
  let v89 : BitVec 32 := Scalar.addi c0_i32_35 v88
  let c1_i32_38 : BitVec 32 := 1#32
  let arg11 : BitVec 32 := Scf.iv v89 c1_i32_38 k0_t6
  let v130 : BitVec 32 := Scalar.muli c2_i32_61 arg11
  let v131 : BitVec 32 := Scalar.addi v66 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t7_loop (i : grid0.Coords) (v2 : BitVec 32) : Scf.Loop 32 :=
  let c0_i32_47 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let v94 : BitVec 32 := Scalar.subi v3 v93
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c1_i32_40 : BitVec 32 := 1#32
  let c0_i32_43 : BitVec 32 := 0#32
  let v101 : BitVec 1 := Scalar.cmpi .sgt c1_i32_40 c0_i32_43
  let v102 : BitVec 32 := Scalar.extui v101
  let c0_i32_44 : BitVec 32 := 0#32
  let v103 : BitVec 1 := Scalar.cmpi .slt c1_i32_40 c0_i32_44
  let v104 : BitVec 32 := Scalar.extui v103
  let v105 : BitVec 32 := Scalar.subi v102 v104
  let v106 : BitVec 1 := Scalar.cmpi .ne v100 v105
  let v107 : BitVec 32 := Scalar.remsi v94 c1_i32_40
  let c0_i32_45 : BitVec 32 := 0#32
  let v108 : BitVec 1 := Scalar.cmpi .ne v107 c0_i32_45
  let v109 : BitVec 1 := Scalar.andi v106 v108
  let v95 : BitVec 32 := Scalar.divsi v94 c1_i32_40
  let c1_i32_46 : BitVec 32 := 1#32
  let v110 : BitVec 32 := Scalar.subi v95 c1_i32_46
  let v111 : BitVec 32 := Scalar.select v109 v110 v95
  let v112 : BitVec 32 := Scalar.subi v111 c0_i32_47
  let c1_i32_48 : BitVec 32 := 1#32
  let v114 : BitVec 32 := Scalar.divsi v112 c1_i32_48
  let v115 : BitVec 32 := Scalar.muli v114 c1_i32_48
  let v116 : BitVec 32 := Scalar.addi c0_i32_47 v115
  let c1_i32_49 : BitVec 32 := 1#32
  ⟨c0_i32_47, v116, c1_i32_49⟩
def k0_mult7 (i : grid0.Coords) (v2 : BitVec 32) (k0_t7 : Fin (k0_t7_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let c1_i32_61 : BitVec 32 := 1#32
  let c0_i32_47 : BitVec 32 := 0#32
  let c1_i32_49 : BitVec 32 := 1#32
  let arg11 : BitVec 32 := Scf.iv c0_i32_47 c1_i32_49 k0_t7
  let v130 : BitVec 32 := Scalar.muli c1_i32_61 arg11
  let v131 : BitVec 32 := Scalar.addi v93 v130
  let c256_i32 : BitVec 32 := 256#32
  let v132 : BitVec 32 := Scalar.muli v131 c256_i32
  v132
def k0_off8 (i : grid0.Coords) (v2 : BitVec 32) (k0_t7 : Fin (k0_t7_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let c1_i32_61 : BitVec 32 := 1#32
  let c0_i32_47 : BitVec 32 := 0#32
  let c1_i32_49 : BitVec 32 := 1#32
  let arg11 : BitVec 32 := Scf.iv c0_i32_47 c1_i32_49 k0_t7
  let v130 : BitVec 32 := Scalar.muli c1_i32_61 arg11
  let v131 : BitVec 32 := Scalar.addi v93 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]
@[reducible] def k0_t8_loop (i : grid0.Coords) (v2 : BitVec 32) : Scf.Loop 32 :=
  let c0_i32_47 : BitVec 32 := 0#32
  let c1_i32 : BitVec 32 := 1#32
  let v3 : BitVec 32 := Scalar.addi v2 c1_i32
  let arg1 : BitVec 32 := BitVec.ofNat 32 (i 1).val
  let c8_i32_17 : BitVec 32 := 8#32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let v94 : BitVec 32 := Scalar.subi v3 v93
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c1_i32_40 : BitVec 32 := 1#32
  let c0_i32_43 : BitVec 32 := 0#32
  let v101 : BitVec 1 := Scalar.cmpi .sgt c1_i32_40 c0_i32_43
  let v102 : BitVec 32 := Scalar.extui v101
  let c0_i32_44 : BitVec 32 := 0#32
  let v103 : BitVec 1 := Scalar.cmpi .slt c1_i32_40 c0_i32_44
  let v104 : BitVec 32 := Scalar.extui v103
  let v105 : BitVec 32 := Scalar.subi v102 v104
  let v106 : BitVec 1 := Scalar.cmpi .ne v100 v105
  let v107 : BitVec 32 := Scalar.remsi v94 c1_i32_40
  let c0_i32_45 : BitVec 32 := 0#32
  let v108 : BitVec 1 := Scalar.cmpi .ne v107 c0_i32_45
  let v109 : BitVec 1 := Scalar.andi v106 v108
  let v95 : BitVec 32 := Scalar.divsi v94 c1_i32_40
  let c1_i32_46 : BitVec 32 := 1#32
  let v110 : BitVec 32 := Scalar.subi v95 c1_i32_46
  let v111 : BitVec 32 := Scalar.select v109 v110 v95
  let v112 : BitVec 32 := Scalar.subi v111 c0_i32_47
  let c1_i32_48 : BitVec 32 := 1#32
  let v114 : BitVec 32 := Scalar.divsi v112 c1_i32_48
  let v115 : BitVec 32 := Scalar.muli v114 c1_i32_48
  let v116 : BitVec 32 := Scalar.addi c0_i32_47 v115
  let v113 : BitVec 32 := Scalar.addi c0_i32_47 v112
  let c1_i32_50 : BitVec 32 := 1#32
  ⟨v116, v113, c1_i32_50⟩
def k0_mult8 (i : grid0.Coords) (v2 : BitVec 32) (k0_t8 : Fin (k0_t8_loop i v2).trips) : BitVec 32 :=
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let c1_i32_61 : BitVec 32 := 1#32
  let c0_i32_47 : BitVec 32 := 0#32
  let v94 : BitVec 32 := Scalar.subi v3 v93
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c1_i32_40 : BitVec 32 := 1#32
  let c0_i32_43 : BitVec 32 := 0#32
  let v101 : BitVec 1 := Scalar.cmpi .sgt c1_i32_40 c0_i32_43
  let v102 : BitVec 32 := Scalar.extui v101
  let c0_i32_44 : BitVec 32 := 0#32
  let v103 : BitVec 1 := Scalar.cmpi .slt c1_i32_40 c0_i32_44
  let v104 : BitVec 32 := Scalar.extui v103
  let v105 : BitVec 32 := Scalar.subi v102 v104
  let v106 : BitVec 1 := Scalar.cmpi .ne v100 v105
  let v107 : BitVec 32 := Scalar.remsi v94 c1_i32_40
  let c0_i32_45 : BitVec 32 := 0#32
  let v108 : BitVec 1 := Scalar.cmpi .ne v107 c0_i32_45
  let v109 : BitVec 1 := Scalar.andi v106 v108
  let v95 : BitVec 32 := Scalar.divsi v94 c1_i32_40
  let c1_i32_46 : BitVec 32 := 1#32
  let v110 : BitVec 32 := Scalar.subi v95 c1_i32_46
  let v111 : BitVec 32 := Scalar.select v109 v110 v95
  let v112 : BitVec 32 := Scalar.subi v111 c0_i32_47
  let c1_i32_48 : BitVec 32 := 1#32
  let v114 : BitVec 32 := Scalar.divsi v112 c1_i32_48
  let v115 : BitVec 32 := Scalar.muli v114 c1_i32_48
  let v116 : BitVec 32 := Scalar.addi c0_i32_47 v115
  let c1_i32_50 : BitVec 32 := 1#32
  let arg11 : BitVec 32 := Scf.iv v116 c1_i32_50 k0_t8
  let v130 : BitVec 32 := Scalar.muli c1_i32_61 arg11
  let v131 : BitVec 32 := Scalar.addi v93 v130
  let c256_i32 : BitVec 32 := 256#32
  let v132 : BitVec 32 := Scalar.muli v131 c256_i32
  v132
def k0_off9 (i : grid0.Coords) (v2 : BitVec 32) (k0_t8 : Fin (k0_t8_loop i v2).trips) : Fin 3 → Nat :=
  let c0_62 : Index := 0#32
  let arg1 : BitVec 32 := BitVec.ofNat 32 (i 1).val
  let c8_i32_17 : BitVec 32 := 8#32
  let c1_i32 : BitVec 32 := 1#32
  let v3 : BitVec 32 := Scalar.addi v2 c1_i32
  let v13 : BitVec 32 := Scalar.subi v3 arg1
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .slt v13 c0_i32_8
  let v18 : BitVec 32 := Scalar.extui v17
  let v19 : BitVec 32 := Scalar.subi v16 v18
  let c8_i32 : BitVec 32 := 8#32
  let c0_i32_9 : BitVec 32 := 0#32
  let v20 : BitVec 1 := Scalar.cmpi .sgt c8_i32 c0_i32_9
  let v21 : BitVec 32 := Scalar.extui v20
  let c0_i32_10 : BitVec 32 := 0#32
  let v22 : BitVec 1 := Scalar.cmpi .slt c8_i32 c0_i32_10
  let v23 : BitVec 32 := Scalar.extui v22
  let v24 : BitVec 32 := Scalar.subi v21 v23
  let v25 : BitVec 1 := Scalar.cmpi .ne v19 v24
  let v26 : BitVec 32 := Scalar.remsi v13 c8_i32
  let c0_i32_11 : BitVec 32 := 0#32
  let v27 : BitVec 1 := Scalar.cmpi .ne v26 c0_i32_11
  let v28 : BitVec 1 := Scalar.andi v25 v27
  let v14 : BitVec 32 := Scalar.divsi v13 c8_i32
  let c1_i32_12 : BitVec 32 := 1#32
  let v29 : BitVec 32 := Scalar.subi v14 c1_i32_12
  let v30 : BitVec 32 := Scalar.select v28 v29 v14
  let v38 : BitVec 32 := Scalar.muli c8_i32_17 v30
  let v39 : BitVec 32 := Scalar.addi arg1 v38
  let c4_i32_28 : BitVec 32 := 4#32
  let v40 : BitVec 32 := Scalar.subi v3 v39
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c4_i32 : BitVec 32 := 4#32
  let c0_i32_20 : BitVec 32 := 0#32
  let v47 : BitVec 1 := Scalar.cmpi .sgt c4_i32 c0_i32_20
  let v48 : BitVec 32 := Scalar.extui v47
  let c0_i32_21 : BitVec 32 := 0#32
  let v49 : BitVec 1 := Scalar.cmpi .slt c4_i32 c0_i32_21
  let v50 : BitVec 32 := Scalar.extui v49
  let v51 : BitVec 32 := Scalar.subi v48 v50
  let v52 : BitVec 1 := Scalar.cmpi .ne v46 v51
  let v53 : BitVec 32 := Scalar.remsi v40 c4_i32
  let c0_i32_22 : BitVec 32 := 0#32
  let v54 : BitVec 1 := Scalar.cmpi .ne v53 c0_i32_22
  let v55 : BitVec 1 := Scalar.andi v52 v54
  let v41 : BitVec 32 := Scalar.divsi v40 c4_i32
  let c1_i32_23 : BitVec 32 := 1#32
  let v56 : BitVec 32 := Scalar.subi v41 c1_i32_23
  let v57 : BitVec 32 := Scalar.select v55 v56 v41
  let v65 : BitVec 32 := Scalar.muli c4_i32_28 v57
  let v66 : BitVec 32 := Scalar.addi v39 v65
  let c2_i32_39 : BitVec 32 := 2#32
  let v67 : BitVec 32 := Scalar.subi v3 v66
  let c0_i32_29 : BitVec 32 := 0#32
  let v69 : BitVec 1 := Scalar.cmpi .sgt v67 c0_i32_29
  let v70 : BitVec 32 := Scalar.extui v69
  let c0_i32_30 : BitVec 32 := 0#32
  let v71 : BitVec 1 := Scalar.cmpi .slt v67 c0_i32_30
  let v72 : BitVec 32 := Scalar.extui v71
  let v73 : BitVec 32 := Scalar.subi v70 v72
  let c2_i32 : BitVec 32 := 2#32
  let c0_i32_31 : BitVec 32 := 0#32
  let v74 : BitVec 1 := Scalar.cmpi .sgt c2_i32 c0_i32_31
  let v75 : BitVec 32 := Scalar.extui v74
  let c0_i32_32 : BitVec 32 := 0#32
  let v76 : BitVec 1 := Scalar.cmpi .slt c2_i32 c0_i32_32
  let v77 : BitVec 32 := Scalar.extui v76
  let v78 : BitVec 32 := Scalar.subi v75 v77
  let v79 : BitVec 1 := Scalar.cmpi .ne v73 v78
  let v80 : BitVec 32 := Scalar.remsi v67 c2_i32
  let c0_i32_33 : BitVec 32 := 0#32
  let v81 : BitVec 1 := Scalar.cmpi .ne v80 c0_i32_33
  let v82 : BitVec 1 := Scalar.andi v79 v81
  let v68 : BitVec 32 := Scalar.divsi v67 c2_i32
  let c1_i32_34 : BitVec 32 := 1#32
  let v83 : BitVec 32 := Scalar.subi v68 c1_i32_34
  let v84 : BitVec 32 := Scalar.select v82 v83 v68
  let v92 : BitVec 32 := Scalar.muli c2_i32_39 v84
  let v93 : BitVec 32 := Scalar.addi v66 v92
  let c1_i32_61 : BitVec 32 := 1#32
  let c0_i32_47 : BitVec 32 := 0#32
  let v94 : BitVec 32 := Scalar.subi v3 v93
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c1_i32_40 : BitVec 32 := 1#32
  let c0_i32_43 : BitVec 32 := 0#32
  let v101 : BitVec 1 := Scalar.cmpi .sgt c1_i32_40 c0_i32_43
  let v102 : BitVec 32 := Scalar.extui v101
  let c0_i32_44 : BitVec 32 := 0#32
  let v103 : BitVec 1 := Scalar.cmpi .slt c1_i32_40 c0_i32_44
  let v104 : BitVec 32 := Scalar.extui v103
  let v105 : BitVec 32 := Scalar.subi v102 v104
  let v106 : BitVec 1 := Scalar.cmpi .ne v100 v105
  let v107 : BitVec 32 := Scalar.remsi v94 c1_i32_40
  let c0_i32_45 : BitVec 32 := 0#32
  let v108 : BitVec 1 := Scalar.cmpi .ne v107 c0_i32_45
  let v109 : BitVec 1 := Scalar.andi v106 v108
  let v95 : BitVec 32 := Scalar.divsi v94 c1_i32_40
  let c1_i32_46 : BitVec 32 := 1#32
  let v110 : BitVec 32 := Scalar.subi v95 c1_i32_46
  let v111 : BitVec 32 := Scalar.select v109 v110 v95
  let v112 : BitVec 32 := Scalar.subi v111 c0_i32_47
  let c1_i32_48 : BitVec 32 := 1#32
  let v114 : BitVec 32 := Scalar.divsi v112 c1_i32_48
  let v115 : BitVec 32 := Scalar.muli v114 c1_i32_48
  let v116 : BitVec 32 := Scalar.addi c0_i32_47 v115
  let c1_i32_50 : BitVec 32 := 1#32
  let arg11 : BitVec 32 := Scf.iv v116 c1_i32_50 k0_t8
  let v130 : BitVec 32 := Scalar.muli c1_i32_61 arg11
  let v131 : BitVec 32 := Scalar.addi v93 v130
  let c256_i32 : BitVec 32 := 256#32
  let v132 : BitVec 32 := Scalar.muli v131 c256_i32
  let v133 : BitVec 32 := v132
  let v134 : Index := Scalar.indexCast v133
  let c0_63 : Index := 0#32
  ![0, v134.toNat, 0]

def k0_chk1 (i : grid0.Coords) (v2 : BitVec 32) : Prop :=
  ((k0_t1_loop i v2).OK) ∧
  (∀ k0_t1 : Fin (k0_t1_loop i v2).trips, 256 ∣ (k0_mult1 i v2 k0_t1).toNat) ∧
  (∀ k0_t1 : Fin (k0_t1_loop i v2).trips, ∀ a, (k0_off2 i v2 k0_t1) a + S1x2048x128.size a ≤ S1x8192x128.size a) ∧
  ((k0_t2_loop i v2).OK) ∧
  (∀ k0_t2 : Fin (k0_t2_loop i v2).trips, 256 ∣ (k0_mult2 i v2 k0_t2).toNat) ∧
  (∀ k0_t2 : Fin (k0_t2_loop i v2).trips, ∀ a, (k0_off3 i v2 k0_t2) a + S1x2048x128.size a ≤ S1x8192x128.size a) ∧
  ((k0_t3_loop i v2).OK) ∧
  (∀ k0_t3 : Fin (k0_t3_loop i v2).trips, 256 ∣ (k0_mult3 i v2 k0_t3).toNat) ∧
  (∀ k0_t3 : Fin (k0_t3_loop i v2).trips, ∀ a, (k0_off4 i v2 k0_t3) a + S1x1024x128.size a ≤ S1x8192x128.size a) ∧
  ((k0_t4_loop i v2).OK) ∧
  (∀ k0_t4 : Fin (k0_t4_loop i v2).trips, 256 ∣ (k0_mult4 i v2 k0_t4).toNat) ∧
  (∀ k0_t4 : Fin (k0_t4_loop i v2).trips, ∀ a, (k0_off5 i v2 k0_t4) a + S1x1024x128.size a ≤ S1x8192x128.size a) ∧
  ((k0_t5_loop i v2).OK) ∧
  (∀ k0_t5 : Fin (k0_t5_loop i v2).trips, 256 ∣ (k0_mult5 i v2 k0_t5).toNat) ∧
  (∀ k0_t5 : Fin (k0_t5_loop i v2).trips, ∀ a, (k0_off6 i v2 k0_t5) a + S1x512x128.size a ≤ S1x8192x128.size a) ∧
  ((k0_t6_loop i v2).OK) ∧
  (∀ k0_t6 : Fin (k0_t6_loop i v2).trips, 256 ∣ (k0_mult6 i v2 k0_t6).toNat) ∧
  (∀ k0_t6 : Fin (k0_t6_loop i v2).trips, ∀ a, (k0_off7 i v2 k0_t6) a + S1x512x128.size a ≤ S1x8192x128.size a) ∧
  ((k0_t7_loop i v2).OK) ∧
  (∀ k0_t7 : Fin (k0_t7_loop i v2).trips, 256 ∣ (k0_mult7 i v2 k0_t7).toNat) ∧
  (∀ k0_t7 : Fin (k0_t7_loop i v2).trips, ∀ a, (k0_off8 i v2 k0_t7) a + S1x256x128.size a ≤ S1x8192x128.size a) ∧
  ((k0_t8_loop i v2).OK) ∧
  (∀ k0_t8 : Fin (k0_t8_loop i v2).trips, 256 ∣ (k0_mult8 i v2 k0_t8).toNat) ∧
  (∀ k0_t8 : Fin (k0_t8_loop i v2).trips, ∀ a, (k0_off9 i v2 k0_t8) a + S1x256x128.size a ≤ S1x8192x128.size a)
theorem k0_t1_ok : ∀ (i : grid0.Coords) (v2 : BitVec 32) (k0_hw1 : k0_chk1 i v2), (k0_t1_loop i v2).OK := fun i v2 k0_hw1 => k0_hw1.1
theorem k0_mult1_dvd : ∀ (i : grid0.Coords) (v2 : BitVec 32) (k0_hw1 : k0_chk1 i v2) (k0_t1 : Fin (k0_t1_loop i v2).trips), 256 ∣ (k0_mult1 i v2 k0_t1).toNat := fun i v2 k0_hw1 k0_t1 => k0_hw1.2.1 k0_t1
theorem k0_off2_inb : ∀ (i : grid0.Coords) (v2 : BitVec 32) (k0_hw1 : k0_chk1 i v2) (k0_t1 : Fin (k0_t1_loop i v2).trips), ∀ a, (k0_off2 i v2 k0_t1) a + S1x2048x128.size a ≤ S1x8192x128.size a := fun i v2 k0_hw1 k0_t1 => k0_hw1.2.2.1 k0_t1
theorem k0_t2_ok : ∀ (i : grid0.Coords) (v2 : BitVec 32) (k0_hw1 : k0_chk1 i v2), (k0_t2_loop i v2).OK := fun i v2 k0_hw1 => k0_hw1.2.2.2.1
theorem k0_mult2_dvd : ∀ (i : grid0.Coords) (v2 : BitVec 32) (k0_hw1 : k0_chk1 i v2) (k0_t2 : Fin (k0_t2_loop i v2).trips), 256 ∣ (k0_mult2 i v2 k0_t2).toNat := fun i v2 k0_hw1 k0_t2 => k0_hw1.2.2.2.2.1 k0_t2
theorem k0_off3_inb : ∀ (i : grid0.Coords) (v2 : BitVec 32) (k0_hw1 : k0_chk1 i v2) (k0_t2 : Fin (k0_t2_loop i v2).trips), ∀ a, (k0_off3 i v2 k0_t2) a + S1x2048x128.size a ≤ S1x8192x128.size a := fun i v2 k0_hw1 k0_t2 => k0_hw1.2.2.2.2.2.1 k0_t2
theorem k0_t3_ok : ∀ (i : grid0.Coords) (v2 : BitVec 32) (k0_hw1 : k0_chk1 i v2), (k0_t3_loop i v2).OK := fun i v2 k0_hw1 => k0_hw1.2.2.2.2.2.2.1
theorem k0_mult3_dvd : ∀ (i : grid0.Coords) (v2 : BitVec 32) (k0_hw1 : k0_chk1 i v2) (k0_t3 : Fin (k0_t3_loop i v2).trips), 256 ∣ (k0_mult3 i v2 k0_t3).toNat := fun i v2 k0_hw1 k0_t3 => k0_hw1.2.2.2.2.2.2.2.1 k0_t3
theorem k0_off4_inb : ∀ (i : grid0.Coords) (v2 : BitVec 32) (k0_hw1 : k0_chk1 i v2) (k0_t3 : Fin (k0_t3_loop i v2).trips), ∀ a, (k0_off4 i v2 k0_t3) a + S1x1024x128.size a ≤ S1x8192x128.size a := fun i v2 k0_hw1 k0_t3 => k0_hw1.2.2.2.2.2.2.2.2.1 k0_t3
theorem k0_t4_ok : ∀ (i : grid0.Coords) (v2 : BitVec 32) (k0_hw1 : k0_chk1 i v2), (k0_t4_loop i v2).OK := fun i v2 k0_hw1 => k0_hw1.2.2.2.2.2.2.2.2.2.1
theorem k0_mult4_dvd : ∀ (i : grid0.Coords) (v2 : BitVec 32) (k0_hw1 : k0_chk1 i v2) (k0_t4 : Fin (k0_t4_loop i v2).trips), 256 ∣ (k0_mult4 i v2 k0_t4).toNat := fun i v2 k0_hw1 k0_t4 => k0_hw1.2.2.2.2.2.2.2.2.2.2.1 k0_t4
theorem k0_off5_inb : ∀ (i : grid0.Coords) (v2 : BitVec 32) (k0_hw1 : k0_chk1 i v2) (k0_t4 : Fin (k0_t4_loop i v2).trips), ∀ a, (k0_off5 i v2 k0_t4) a + S1x1024x128.size a ≤ S1x8192x128.size a := fun i v2 k0_hw1 k0_t4 => k0_hw1.2.2.2.2.2.2.2.2.2.2.2.1 k0_t4
theorem k0_t5_ok : ∀ (i : grid0.Coords) (v2 : BitVec 32) (k0_hw1 : k0_chk1 i v2), (k0_t5_loop i v2).OK := fun i v2 k0_hw1 => k0_hw1.2.2.2.2.2.2.2.2.2.2.2.2.1
theorem k0_mult5_dvd : ∀ (i : grid0.Coords) (v2 : BitVec 32) (k0_hw1 : k0_chk1 i v2) (k0_t5 : Fin (k0_t5_loop i v2).trips), 256 ∣ (k0_mult5 i v2 k0_t5).toNat := fun i v2 k0_hw1 k0_t5 => k0_hw1.2.2.2.2.2.2.2.2.2.2.2.2.2.1 k0_t5
theorem k0_off6_inb : ∀ (i : grid0.Coords) (v2 : BitVec 32) (k0_hw1 : k0_chk1 i v2) (k0_t5 : Fin (k0_t5_loop i v2).trips), ∀ a, (k0_off6 i v2 k0_t5) a + S1x512x128.size a ≤ S1x8192x128.size a := fun i v2 k0_hw1 k0_t5 => k0_hw1.2.2.2.2.2.2.2.2.2.2.2.2.2.2.1 k0_t5
theorem k0_t6_ok : ∀ (i : grid0.Coords) (v2 : BitVec 32) (k0_hw1 : k0_chk1 i v2), (k0_t6_loop i v2).OK := fun i v2 k0_hw1 => k0_hw1.2.2.2.2.2.2.2.2.2.2.2.2.2.2.2.1
theorem k0_mult6_dvd : ∀ (i : grid0.Coords) (v2 : BitVec 32) (k0_hw1 : k0_chk1 i v2) (k0_t6 : Fin (k0_t6_loop i v2).trips), 256 ∣ (k0_mult6 i v2 k0_t6).toNat := fun i v2 k0_hw1 k0_t6 => k0_hw1.2.2.2.2.2.2.2.2.2.2.2.2.2.2.2.2.1 k0_t6
theorem k0_off7_inb : ∀ (i : grid0.Coords) (v2 : BitVec 32) (k0_hw1 : k0_chk1 i v2) (k0_t6 : Fin (k0_t6_loop i v2).trips), ∀ a, (k0_off7 i v2 k0_t6) a + S1x512x128.size a ≤ S1x8192x128.size a := fun i v2 k0_hw1 k0_t6 => k0_hw1.2.2.2.2.2.2.2.2.2.2.2.2.2.2.2.2.2.1 k0_t6
theorem k0_t7_ok : ∀ (i : grid0.Coords) (v2 : BitVec 32) (k0_hw1 : k0_chk1 i v2), (k0_t7_loop i v2).OK := fun i v2 k0_hw1 => k0_hw1.2.2.2.2.2.2.2.2.2.2.2.2.2.2.2.2.2.2.1
theorem k0_mult7_dvd : ∀ (i : grid0.Coords) (v2 : BitVec 32) (k0_hw1 : k0_chk1 i v2) (k0_t7 : Fin (k0_t7_loop i v2).trips), 256 ∣ (k0_mult7 i v2 k0_t7).toNat := fun i v2 k0_hw1 k0_t7 => k0_hw1.2.2.2.2.2.2.2.2.2.2.2.2.2.2.2.2.2.2.2.1 k0_t7
theorem k0_off8_inb : ∀ (i : grid0.Coords) (v2 : BitVec 32) (k0_hw1 : k0_chk1 i v2) (k0_t7 : Fin (k0_t7_loop i v2).trips), ∀ a, (k0_off8 i v2 k0_t7) a + S1x256x128.size a ≤ S1x8192x128.size a := fun i v2 k0_hw1 k0_t7 => k0_hw1.2.2.2.2.2.2.2.2.2.2.2.2.2.2.2.2.2.2.2.2.1 k0_t7
theorem k0_t8_ok : ∀ (i : grid0.Coords) (v2 : BitVec 32) (k0_hw1 : k0_chk1 i v2), (k0_t8_loop i v2).OK := fun i v2 k0_hw1 => k0_hw1.2.2.2.2.2.2.2.2.2.2.2.2.2.2.2.2.2.2.2.2.2.1
theorem k0_mult8_dvd : ∀ (i : grid0.Coords) (v2 : BitVec 32) (k0_hw1 : k0_chk1 i v2) (k0_t8 : Fin (k0_t8_loop i v2).trips), 256 ∣ (k0_mult8 i v2 k0_t8).toNat := fun i v2 k0_hw1 k0_t8 => k0_hw1.2.2.2.2.2.2.2.2.2.2.2.2.2.2.2.2.2.2.2.2.2.2.1 k0_t8
theorem k0_off9_inb : ∀ (i : grid0.Coords) (v2 : BitVec 32) (k0_hw1 : k0_chk1 i v2) (k0_t8 : Fin (k0_t8_loop i v2).trips), ∀ a, (k0_off9 i v2 k0_t8) a + S1x256x128.size a ≤ S1x8192x128.size a := fun i v2 k0_hw1 k0_t8 => k0_hw1.2.2.2.2.2.2.2.2.2.2.2.2.2.2.2.2.2.2.2.2.2.2.2 k0_t8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x32 : Shape := ⟨2, ![16, 32]⟩
abbrev S16x8192x64 : Shape := ⟨3, ![16, 8192, 64]⟩
abbrev S16x8192 : Shape := ⟨2, ![16, 8192]⟩
abbrev S16x8192x8192 : Shape := ⟨3, ![16, 8192, 8192]⟩
abbrev S16x32x1 : Shape := ⟨3, ![16, 32, 1]⟩
abbrev S16x32x256 : Shape := ⟨3, ![16, 32, 256]⟩
abbrev S16x1x8192 : Shape := ⟨3, ![16, 1, 8192]⟩
abbrev S_ : Shape := ⟨0, ![]⟩
abbrev S16x8192x1 : Shape := ⟨3, ![16, 8192, 1]⟩
abbrev S16x64x8192 : Shape := ⟨3, ![16, 64, 8192]⟩

abbrev nBuf : Space → Nat
  | .hbm => 113
  | .vmem => 0
  | .smem => 0
  | _ => 0

abbrev bufTy : (tb : Table) → Fin (tcTables nBuf tb) → BufTy
  | .hbm, ⟨0, _⟩ => ⟨S16x32, .i32⟩
  | .hbm, ⟨1, _⟩ => ⟨S16x8192x64, .f32⟩
  | .hbm, ⟨2, _⟩ => ⟨S16x8192x64, .f32⟩
  | .hbm, ⟨3, _⟩ => ⟨S16x8192x64, .f32⟩
  | .hbm, ⟨4, _⟩ => ⟨S16x8192, .f32⟩
  | .hbm, ⟨5, _⟩ => ⟨S16x8192x64, .f32⟩
  | .hbm, ⟨6, _⟩ => ⟨S16x8192x8192, .i32⟩
  | .hbm, ⟨7, _⟩ => ⟨S16x8192x8192, .i32⟩
  | .hbm, ⟨8, _⟩ => ⟨S16x32x1, .i32⟩
  | .hbm, ⟨9, _⟩ => ⟨S16x32x256, .i32⟩
  | .hbm, ⟨10, _⟩ => ⟨S16x1x8192, .i32⟩
  | .hbm, ⟨11, _⟩ => ⟨S16x8192x8192, .i1⟩
  | .hbm, ⟨12, _⟩ => ⟨S_, .i32⟩
  | .hbm, ⟨13, _⟩ => ⟨S16x1x8192, .i32⟩
  | .hbm, ⟨14, _⟩ => ⟨S16x1x8192, .i32⟩
  | .hbm, ⟨15, _⟩ => ⟨S_, .i32⟩
  | .hbm, ⟨16, _⟩ => ⟨S16x1x8192, .i32⟩
  | .hbm, ⟨17, _⟩ => ⟨S16x1x8192, .i32⟩
  | .hbm, ⟨18, _⟩ => ⟨S16x8192x8192, .i32⟩
  | .hbm, ⟨19, _⟩ => ⟨S16x8192x8192, .i1⟩
  | .hbm, ⟨20, _⟩ => ⟨S16x8192x8192, .i1⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x1, .f32⟩
  | .hbm, ⟨26, _⟩ => ⟨S16x1x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S_, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .i1⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S_, .f32⟩
  | .hbm, ⟨49, _⟩ => ⟨S16x8192, .f32⟩
  | .hbm, ⟨50, _⟩ => ⟨S16x8192, .i1⟩
  | .hbm, ⟨51, _⟩ => ⟨S_, .f32⟩
  | .hbm, ⟨52, _⟩ => ⟨S16x8192, .f32⟩
  | .hbm, ⟨53, _⟩ => ⟨S16x8192, .i1⟩
  | .hbm, ⟨54, _⟩ => ⟨S_, .f32⟩
  | .hbm, ⟨55, _⟩ => ⟨S16x8192, .f32⟩
  | .hbm, ⟨56, _⟩ => ⟨S_, .f32⟩
  | .hbm, ⟨57, _⟩ => ⟨S16x8192, .f32⟩
  | .hbm, ⟨58, _⟩ => ⟨S_, .f32⟩
  | .hbm, ⟨59, _⟩ => ⟨S16x8192, .f32⟩
  | .hbm, ⟨60, _⟩ => ⟨S16x8192, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S16x8192, .f32⟩
  | .hbm, ⟨68, _⟩ => ⟨S16x8192x1, .f32⟩
  | .hbm, ⟨69, _⟩ => ⟨S16x8192x8192, .f32⟩
  | .hbm, ⟨70, _⟩ => ⟨S16x8192x8192, .f32⟩
  | .hbm, ⟨71, _⟩ => ⟨S16x8192x1, .f32⟩
  | .hbm, ⟨72, _⟩ => ⟨S_, .f32⟩
  | .hbm, ⟨73, _⟩ => ⟨S16x8192x1, .f32⟩
  | .hbm, ⟨74, _⟩ => ⟨S16x8192x1, .f32⟩
  | .hbm, ⟨75, _⟩ => ⟨S16x8192x64, .f32⟩
  | .hbm, ⟨76, _⟩ => ⟨S16x64x8192, .f32⟩
  | .hbm, ⟨77, _⟩ => ⟨S16x8192x64, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192, .f32⟩
  | .hbm, ⟨84, _⟩ => ⟨S16x8192x1, .f32⟩
  | .hbm, ⟨85, _⟩ => ⟨S16x8192x1, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192, .f32⟩
  | .hbm, ⟨90, _⟩ => ⟨S16x8192x8192, .f32⟩
  | .hbm, ⟨91, _⟩ => ⟨S16x8192x8192, .f32⟩
  | .hbm, ⟨92, _⟩ => ⟨S16x8192x8192, .f32⟩
  | .hbm, ⟨93, _⟩ => ⟨S_, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x8192x1, .f32⟩
  | .hbm, ⟨99, _⟩ => ⟨S16x8192x8192, .f32⟩
  | .hbm, ⟨100, _⟩ => ⟨S_, .f32⟩
  | .hbm, ⟨101, _⟩ => ⟨S16x8192, .f32⟩
  | .hbm, ⟨102, _⟩ => ⟨S16x1x8192, .f32⟩
  | .hbm, ⟨103, _⟩ => ⟨S_, .f32⟩
  | .hbm, ⟨104, _⟩ => ⟨S16x8192, .f32⟩
  | .hbm, ⟨105, _⟩ => ⟨S_, .f32⟩
  | .hbm, ⟨106, _⟩ => ⟨S16x8192, .f32⟩
  | .hbm, ⟨107, _⟩ => ⟨S16x8192, .f32⟩
  | .hbm, ⟨108, _⟩ => ⟨S_, .f32⟩
  | .hbm, ⟨109, _⟩ => ⟨S16x8192x8192, .f32⟩
  | .hbm, ⟨110, _⟩ => ⟨S16x8192x8192, .f32⟩
  | .hbm, ⟨111, _⟩ => ⟨S16x8192x64, .f32⟩
  | .hbm, ⟨112, _⟩ => ⟨S16x8192x64, .f32⟩
  | _, _ => ⟨S16x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v22_0 : Ref sig .tc := ⟨.hbm, 34, rfl⟩
abbrev main_call0_cst : Ref sig .tc := ⟨.hbm, 35, rfl⟩
abbrev main_v22_1 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩
abbrev S1024 : Shape := ⟨1, ![1024]⟩

abbrev nBuf : Space → Nat
  | .hbm => 16
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S4096x1024, .bf16⟩
  | .hbm, ⟨8, _⟩ => ⟨S8192x4096, .f32⟩
  | .hbm, ⟨9, _⟩ => ⟨S8192x4096, .bf16⟩
  | .hbm, ⟨10, _⟩ => ⟨S8192x1024, .f32⟩
  | .hbm, ⟨11, _⟩ => ⟨S8192x1024, .bf16⟩
  | .hbm, ⟨12, _⟩ => ⟨S8192x4096, .bf16⟩
  | .hbm, ⟨13, _⟩ => ⟨S8192x4096, .bf16⟩
  | .hbm, ⟨14, _⟩ => ⟨S8192x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x4096 : Shape := ⟨2, ![8192, 4096]⟩
abbrev S4096x1024 : Shape := ⟨2, ![4096, 1024]⟩
abbrev S1x1024 : Shape := ⟨2, ![1, 1024]⟩
abbrev S8192x1024 : Shape := ⟨2, ![8192, 1024]⟩
abbrev S_ : Shape := ⟨0, ![]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .bf16⟩
  | .hbm, ⟨30, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S_ : Shape := ⟨0, ![]⟩
abbrev S4x2x3088x1024 : Shape := ⟨4, ![4, 2, 3088, 1024]⟩
abbrev S1x8192x4096 : Shape := ⟨3, ![1, 8192, 4096]⟩
abbrev S1024x1024 : Shape := ⟨2, ![1024, 1024]⟩
abbrev S1x1024x1024 : Shape := ⟨3, ![1, 1024, 1024]⟩
abbrev S1x1x1024x1024 : Shape := ⟨4, ![1, 1, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S4x2x3088x1024, .f32⟩
  | .hbm, ⟨4, _⟩ => ⟨S8192x1024, .bf16⟩
  | .hbm, ⟨5, _⟩ => ⟨S8192x4096, .bf16⟩
  | .hbm, ⟨6, _⟩ => ⟨S1x8192x4096, .bf16⟩
  | .hbm, ⟨7, _⟩ => ⟨S4x2x3088x1024, .f32⟩
  | .hbm, ⟨8, _⟩ => ⟨S4x1x1024x1024, .f32⟩
  | .hbm, ⟨9, _⟩ => ⟨S4x1024x1024, .f32⟩
  | .hbm, ⟨10, _⟩ => ⟨S1024x4x1024, .f32⟩
  | .hbm, ⟨11, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![arg1.toNat, c0_i32.toNat, v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S_ : Shape := ⟨0, ![]⟩
abbrev S4x2x3088x1024 : Shape := ⟨4, ![4, 2, 3088, 1024]⟩
abbrev S1x8192x1024 : Shape := ⟨3, ![1, 8192, 1024]⟩
abbrev S1024x1024 : Shape := ⟨2, ![1024, 1024]⟩
abbrev S1x1024x1024 : Shape := ⟨3, ![1, 1024, 1024]⟩
abbrev S1x1x1024x1024 : Shape := ⟨4, ![1, 1, 1024, 1024]⟩
abbrev S4x1x1024x1024 : Shape := ⟨4, ![4, 1, 1024, 1024]⟩
abbrev S4x1024x1024 : Shape := ⟨3, ![4, 1024, 1024]⟩
abbrev S4096x1024 : Shape := ⟨2, ![4096, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S4x2x3088x1024, .f32⟩
  | .hbm, ⟨7, _⟩ => ⟨S8192x4096, .f32⟩
  | .hbm, ⟨8, _⟩ => ⟨S8192x4096, .bf16⟩
  | .hbm, ⟨9, _⟩ => ⟨S8192x1024, .bf16⟩
  | .hbm, ⟨10, _⟩ => ⟨S1x8192x1024, .bf16⟩
  | .hbm, ⟨11, _⟩ => ⟨S4x2x3088x1024, .f32⟩
  | .hbm, ⟨12, _⟩ => ⟨S4x1x1024x1024, .f32⟩
  | .hbm, ⟨13, _⟩ => ⟨S4x1024x1024, .f32⟩
  | .hbm, ⟨14, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c1_i32_12 : BitVec 32 := 1#32
  let c0_i32_13 : BitVec 32 := 0#32
  let c0_i32_14 : BitVec 32 := 0#32
  ![v16.toNat, c1_i32_12.toNat, v27.toNat, c0_i32_13.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1x8192x4096 : Shape := ⟨3, ![1, 8192, 4096]⟩
abbrev S1x512x4096 : Shape := ⟨3, ![1, 512, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x4096, .bf16⟩
  | .hbm, ⟨7, _⟩ => ⟨S1x8192x4096, .bf16⟩
  | .hbm, ⟨8, _⟩ => ⟨S1024x4096, .bf16⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x4096, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel6.lean ====
abbrev S8192x4112 : Shape := ⟨2, ![8192, 4112]⟩
abbrev S1024x4112 : Shape := ⟨2, ![1024, 4112]⟩
abbrev S8192x1024 : Shape := ⟨2, ![8192, 1024]⟩
abbrev S1x1024 : Shape := ⟨2, ![1, 1024]⟩
abbrev S_ : Shape := ⟨0, ![]⟩
abbrev S8192x5120 : Shape := ⟨2, ![8192, 5120]⟩
abbrev S8192x5x1024 : Shape := ⟨3, ![8192, 5, 1024]⟩
abbrev S5x8192x1024 : Shape := ⟨3, ![5, 8192, 1024]⟩
abbrev S1024x5120 : Shape := ⟨2, ![1024, 5120]⟩
abbrev S5x512x1024 : Shape := ⟨3, ![5, 512, 1024]⟩
abbrev S512x1024 : Shape := ⟨2, ![512, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S8192x4112, .f32⟩
  | .hbm, ⟨1, _⟩ => ⟨S1024x4112, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .i32⟩
  | .hbm, ⟨7, _⟩ => ⟨S_, .f32⟩
  | .hbm, ⟨8, _⟩ => ⟨S8192x5120, .f32⟩
  | .hbm, ⟨9, _⟩ => ⟨S8192x5x1024, .f32⟩
  | .hbm, ⟨10, _⟩ => ⟨S5x8192x1024, .f32⟩
  | .hbm, ⟨11, _⟩ => ⟨S_, .i32⟩
  | .hbm, ⟨12, _⟩ => ⟨S_, .f32⟩
  | .hbm, ⟨13, _⟩ => ⟨S1024x5120, .f32⟩
  | .hbm, ⟨14, _⟩ => ⟨S5x8192x1024, .bf16⟩
  | .hbm, ⟨15, _⟩ => ⟨S1024x5120, .bf16⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S5x512x1024, .bf16⟩
  | .local _ .vmem, ⟨1, _⟩ => ⟨S5x512x1024, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S8192x4112 : Shape := ⟨2, ![8192, 4112]⟩
abbrev S1024x4112 : Shape := ⟨2, ![1024, 4112]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x4112, .f32⟩
  | .hbm, ⟨1, _⟩ => ⟨S1024x4112, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x4112, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S512x4096 : Shape := ⟨2, ![512, 4096]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S4096x1024, .bf16⟩
  | .hbm, ⟨10, _⟩ => ⟨S8192x1024, .f32⟩
  | .hbm, ⟨11, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S1024x4096, .bf16⟩
  | .hbm, ⟨6, _⟩ => ⟨S8192x4096, .bf16⟩
  | .hbm, ⟨7, _⟩ => ⟨S8192x4096, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S8192x4096, .f32⟩
  | .hbm, ⟨33, _⟩ => ⟨S8192x4096, .bf16⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Host.lean ====
/-
  The host lines of the kernel before its call, as functions of the six arguments: one definition for each line.
-/
module

public import Idealize.ShloMosaic.Lib.Pipeline.Value
public import Idealize.ShloMosaic.PureOps.Ideal.Laws
public import proofs.«01_k».proof.Proof.Gen.KernelIdeal.Launch

@[expose] public section

noncomputable section

namespace Cert.Host

open Cert.KernelIdeal Cert.KernelIdeal.Gen Idealize.ShloMosaic Idealize.ShloMosaic.StableHlo

/-- The six arguments. -/
structure Args where
  tab : (⟨S16x32, .i32⟩ : BufTy).Contents (Elt Ideal)
  q : FVec Ideal S16x8192x64 .f32
  k : FVec Ideal S16x8192x64 .f32
  v : FVec Ideal S16x8192x64 .f32
  f : FVec Ideal S16x8192 .f32
  ct : FVec Ideal S16x8192x64 .f32

def cst (A : Args) : FVec Ideal S_ .f32 :=
  constant S_ .f32 0x40000000#32
def x0 (A : Args) : FVec Ideal S_ .f32 :=
  Host.log (cst A)
def cst_0 (A : Args) : FVec Ideal S_ .f32 :=
  constant S_ .f32 0x3F800000#32
def x1 (A : Args) : FVec Ideal S_ .f32 :=
  Host.divf (cst_0 A) (x0 A)
def x2 (A : Args) : FVec Ideal S16x8192x8192 .f32 :=
  Host.dotGeneral dot_S16x8192x64_S16x8192x64_S16x8192x8192_2_2_1_1_0_0 none A.q A.k
def cst_1 (A : Args) : FVec Ideal S_ .f32 :=
  constant S_ .f32 0x3E000000#32
def x3 (A : Args) : FVec Ideal S16x8192x8192 .f32 :=
  broadcastInDim S16x8192x8192 ![] bcast_S_S16x8192x8192 (cst_1 A)
def x4 (A : Args) : FVec Ideal S16x8192x8192 .f32 :=
  mulf (x2 A) (x3 A)
def x5 (A : Args) : FVec Ideal S16x8192x1 .f32 :=
  broadcastInDim S16x8192x1 ![0, 1] bcast_S16x8192_S16x8192x1_0_1 A.f
def x6 (A : Args) : FVec Ideal S16x1x8192 .f32 :=
  broadcastInDim S16x1x8192 ![0, 2] bcast_S16x8192_S16x1x8192_0_2 A.f
def x7 (A : Args) : FVec Ideal S16x8192x8192 .f32 :=
  broadcastInDim S16x8192x8192 ![0, 1, 2] bcast_S16x8192x1_S16x8192x8192_0_1_2 (x5 A)
def x8 (A : Args) : FVec Ideal S16x8192x8192 .f32 :=
  broadcastInDim S16x8192x8192 ![0, 1, 2] bcast_S16x1x8192_S16x8192x8192_0_1_2 (x6 A)
def x9 (A : Args) : FVec Ideal S16x8192x8192 .f32 :=
  subf (x7 A) (x8 A)
def x10 (A : Args) : FVec Ideal S16x8192x8192 .f32 :=
  addf (x4 A) (x9 A)
def x11 (A : Args) : (⟨S16x8192x8192, .i32⟩ : BufTy).Contents (Elt Ideal) :=
  iotaInDim S16x8192x8192 32 1
def x12 (A : Args) : (⟨S16x8192x8192, .i32⟩ : BufTy).Contents (Elt Ideal) :=
  iotaInDim S16x8192x8192 32 2
def x13 (A : Args) : (⟨S16x32x1, .i32⟩ : BufTy).Contents (Elt Ideal) :=
  broadcastInDim S16x32x1 ![0, 1] bcast_S16x32_S16x32x1_0_1 A.tab
def x14 (A : Args) : (⟨S16x32x256, .i32⟩ : BufTy).Contents (Elt Ideal) :=
  broadcastInDim S16x32x256 ![0, 1, 2] bcast_S16x32x1_S16x32x256_0_1_2 (x13 A)
def x15 (A : Args) : (⟨S16x1x8192, .i32⟩ : BufTy).Contents (Elt Ideal) :=
  shapeCast S16x1x8192 (x14 A) shapeCasts_S16x32x256_S16x1x8192
def x16 (A : Args) : (⟨S16x8192x8192, .i1⟩ : BufTy).Contents (Elt Ideal) :=
  cmpi .sle (x12 A) (x11 A)
def c (A : Args) : (⟨S_, .i32⟩ : BufTy).Contents (Elt Ideal) :=
  constantI S_ 32 1#32
def x17 (A : Args) : (⟨S16x1x8192, .i32⟩ : BufTy).Contents (Elt Ideal) :=
  broadcastInDim S16x1x8192 ![] bcast_S_S16x1x8192 (c A)
def x18 (A : Args) : (⟨S16x1x8192, .i32⟩ : BufTy).Contents (Elt Ideal) :=
  addi (x15 A) (x17 A)
def c_2 (A : Args) : (⟨S_, .i32⟩ : BufTy).Contents (Elt Ideal) :=
  constantI S_ 32 256#32
def x19 (A : Args) : (⟨S16x1x8192, .i32⟩ : BufTy).Contents (Elt Ideal) :=
  broadcastInDim S16x1x8192 ![] bcast_S_S16x1x8192 (c_2 A)
def x20 (A : Args) : (⟨S16x1x8192, .i32⟩ : BufTy).Contents (Elt Ideal) :=
  muli (x18 A) (x19 A)
def x21 (A : Args) : (⟨S16x8192x8192, .i32⟩ : BufTy).Contents (Elt Ideal) :=
  broadcastInDim S16x8192x8192 ![0, 1, 2] bcast_S16x1x8192_S16x8192x8192_0_1_2 (x20 A)
def x22 (A : Args) : (⟨S16x8192x8192, .i1⟩ : BufTy).Contents (Elt Ideal) :=
  cmpi .slt (x11 A) (x21 A)
def x23 (A : Args) : (⟨S16x8192x8192, .i1⟩ : BufTy).Contents (Elt Ideal) :=
  andi (x16 A) (x22 A)
def cst_3 (A : Args) : FVec Ideal S_ .f32 :=
  constant S_ .f32 0xFF800000#32
def y0 (A : Args) : FVec Ideal S_ .f32 :=
  (cst_3 A)
def y1 (A : Args) : FVec Ideal S16x8192x8192 .f32 :=
  broadcastInDim S16x8192x8192 ![] bcast_S_S16x8192x8192 (y0 A)
def x24 (A : Args) : FVec Ideal S16x8192x8192 .f32 :=
  select (x23 A) (x10 A) (y1 A)
def x25 (A : Args) : FVec Ideal S16x8192x8192 .f32 :=
  broadcastInDim S16x8192x8192 ![] bcast_S_S16x8192x8192 (x1 A)
def x26 (A : Args) : FVec Ideal S16x8192x8192 .f32 :=
  mulf (x24 A) (x25 A)
def cst_4 (A : Args) : FVec Ideal S_ .f32 :=
  constant S_ .f32 0xFF800000#32
def x27 (A : Args) : FVec Ideal S16x8192 .f32 :=
  Host.reduce FloatOps.maximumf (x26 A) (cst_4 A) reducesTo_S16x8192x8192_S16x8192_d2 h_S_
def x28 (A : Args) : FVec Ideal S16x8192 .f32 :=
  Host.ceil (x27 A)
def x29 (A : Args) : FVec Ideal S16x8192x1 .f32 :=
  broadcastInDim S16x8192x1 ![0, 1] bcast_S16x8192_S16x8192x1_0_1 (x28 A)
def x30 (A : Args) : FVec Ideal S16x8192x8192 .f32 :=
  broadcastInDim S16x8192x8192 ![0, 1, 2] bcast_S16x8192x1_S16x8192x8192_0_1_2 (x29 A)
def x31 (A : Args) : FVec Ideal S16x8192x8192 .f32 :=
  subf (x26 A) (x30 A)
def x32 (A : Args) : FVec Ideal S16x8192x8192 .f32 :=
  broadcastInDim S16x8192x8192 ![] bcast_S_S16x8192x8192 (x0 A)
def x33 (A : Args) : FVec Ideal S16x8192x8192 .f32 :=
  mulf (x31 A) (x32 A)
def x34 (A : Args) : FVec Ideal S16x8192x8192 .f32 :=
  Host.exp (x33 A)
def cst_5 (A : Args) : FVec Ideal S_ .f32 :=
  constant S_ .f32 0x00000000#32
def x35 (A : Args) : FVec Ideal S16x8192 .f32 :=
  Host.reduceAdd (x34 A) (cst_5 A) reducesTo_S16x8192x8192_S16x8192_d2 h_S_
def cst_6 (A : Args) : FVec Ideal S_ .f32 :=
  constant S_ .f32 0x3F800000#32
def x36 (A : Args) : FVec Ideal S16x8192 .f32 :=
  broadcastInDim S16x8192 ![] bcast_S_S16x8192 (cst_6 A)
def x37 (A : Args) : FVec Ideal S16x8192 .f32 :=
  Host.divf (x36 A) (x35 A)
def x38 (A : Args) : FVec Ideal S16x8192x64 .f32 :=
  Host.dotGeneral dot_S16x8192x8192_S16x8192x64_S16x8192x64_2_1_1_2_0_0 none (x34 A) A.v
def x39 (A : Args) : FVec Ideal S16x8192x1 .f32 :=
  broadcastInDim S16x8192x1 ![0, 1] bcast_S16x8192_S16x8192x1_0_1 (x37 A)
def x40 (A : Args) : FVec Ideal S16x8192x64 .f32 :=
  broadcastInDim S16x8192x64 ![0, 1, 2] bcast_S16x8192x1_S16x8192x64_0_1_2 (x39 A)
def x41 (A : Args) : FVec Ideal S16x8192x64 .f32 :=
  mulf (x38 A) (x40 A)
def x42 (A : Args) : FVec Ideal S16x8192x1 .f32 :=
  broadcastInDim S16x8192x1 ![0, 1] bcast_S16x8192_S16x8192x1_0_1 (x37 A)
def x43 (A : Args) : FVec Ideal S16x8192x64 .f32 :=
  broadcastInDim S16x8192x64 ![0, 1, 2] bcast_S16x8192x1_S16x8192x64_0_1_2 (x42 A)
def x44 (A : Args) : FVec Ideal S16x8192x64 .f32 :=
  mulf A.ct (x43 A)
def x45 (A : Args) : FVec Ideal S16x8192 .f32 :=
  broadcastInDim S16x8192 ![] bcast_S_S16x8192 (x1 A)
def x46 (A : Args) : FVec Ideal S16x8192 .f32 :=
  mulf A.f (x45 A)
def x47 (A : Args) : FVec Ideal S16x8192 .bf16 :=
  truncf .bf16 (x46 A) bitsLt_bf16_f32
def x48 (A : Args) : FVec Ideal S16x8192 .f32 :=
  extf .f32 (x47 A) bitsLt_bf16_f32
def x49 (A : Args) : FVec Ideal S16x8192 .f32 :=
  subf (x46 A) (x48 A)
def x50 (A : Args) : FVec Ideal S16x8192 .bf16 :=
  truncf .bf16 (x49 A) bitsLt_bf16_f32
def x51 (A : Args) : FVec Ideal S16x8192 .f32 :=
  extf .f32 (x50 A) bitsLt_bf16_f32
def x52 (A : Args) : FVec Ideal S16x8192 .f32 :=
  subf (x49 A) (x51 A)
def x53 (A : Args) : FVec Ideal S16x8192 .bf16 :=
  truncf .bf16 (x52 A) bitsLt_bf16_f32
def x54 (A : Args) : FVec Ideal S16x8192x1 .bf16 :=
  broadcastInDim S16x8192x1 ![0, 1] bcast_S16x8192_S16x8192x1_0_1 (x47 A)
def x55 (A : Args) : FVec Ideal S16x8192x1 .bf16 :=
  broadcastInDim S16x8192x1 ![0, 1] bcast_S16x8192_S16x8192x1_0_1 (x50 A)
def x56 (A : Args) : FVec Ideal S16x8192x1 .bf16 :=
  broadcastInDim S16x8192x1 ![0, 1] bcast_S16x8192_S16x8192x1_0_1 (x53 A)
def x57 (A : Args) : FVec Ideal S16x8192x3 .bf16 :=
  concatenate S16x8192x3 2 [⟨S16x8192x1, (x54 A)⟩, ⟨S16x8192x1, (x55 A)⟩, ⟨S16x8192x1, (x56 A)⟩] concatenates_S16x8192x1_S16x8192x1_S16x8192x1_S16x8192x3_d2
def cst_7 (A : Args) : FVec Ideal S_ .bf16 :=
  constant S_ .bf16 0x3F80#16
def x58 (A : Args) : FVec Ideal S16x8192x3 .bf16 :=
  broadcastInDim S16x8192x3 ![] bcast_S_S16x8192x3 (cst_7 A)
def cst_8 (A : Args) : FVec Ideal S_ .f32 :=
  constant S_ .f32 0x3E000000#32
def x59 (A : Args) : FVec Ideal S_ .f32 :=
  mulf (cst_8 A) (x1 A)
def x60 (A : Args) : FVec Ideal S16x8192x64 .f32 :=
  broadcastInDim S16x8192x64 ![] bcast_S_S16x8192x64 (x59 A)
def x61 (A : Args) : FVec Ideal S16x8192x64 .f32 :=
  mulf A.q (x60 A)
def x62 (A : Args) : FVec Ideal S16x8192x64 .bf16 :=
  truncf .bf16 (x61 A) bitsLt_bf16_f32
def x63 (A : Args) : FVec Ideal S16x8192 .bf16 :=
  truncf .bf16 (x28 A) bitsLt_bf16_f32
def x64 (A : Args) : FVec Ideal S16x8192 .f32 :=
  extf .f32 (x63 A) bitsLt_bf16_f32
def x65 (A : Args) : FVec Ideal S16x8192 .f32 :=
  subf (x28 A) (x64 A)
def x66 (A : Args) : FVec Ideal S16x8192 .bf16 :=
  truncf .bf16 (x65 A) bitsLt_bf16_f32
def x67 (A : Args) : FVec Ideal S16x8192 .f32 :=
  extf .f32 (x66 A) bitsLt_bf16_f32
def x68 (A : Args) : FVec Ideal S16x8192 .f32 :=
  subf (x65 A) (x67 A)
def x69 (A : Args) : FVec Ideal S16x8192 .bf16 :=
  truncf .bf16 (x68 A) bitsLt_bf16_f32
def x70 (A : Args) : FVec Ideal S16x8192x1 .bf16 :=
  broadcastInDim S16x8192x1 ![0, 1] bcast_S16x8192_S16x8192x1_0_1 (x63 A)
def x71 (A : Args) : FVec Ideal S16x8192x1 .bf16 :=
  broadcastInDim S16x8192x1 ![0, 1] bcast_S16x8192_S16x8192x1_0_1 (x66 A)
def x72 (A : Args) : FVec Ideal S16x8192x1 .bf16 :=
  broadcastInDim S16x8192x1 ![0, 1] bcast_S16x8192_S16x8192x1_0_1 (x69 A)
def x73 (A : Args) : FVec Ideal S16x8192x3 .bf16 :=
  concatenate S16x8192x3 2 [⟨S16x8192x1, (x70 A)⟩, ⟨S16x8192x1, (x71 A)⟩, ⟨S16x8192x1, (x72 A)⟩] concatenates_S16x8192x1_S16x8192x1_S16x8192x1_S16x8192x3_d2
def x74 (A : Args) : FVec Ideal S16x8192x3 .bf16 :=
  Host.negf (x73 A)
def x75 (A : Args) : FVec Ideal S16x8192 .bf16 :=
  truncf .bf16 (x37 A) bitsLt_bf16_f32
def x76 (A : Args) : FVec Ideal S16x8192 .f32 :=
  extf .f32 (x75 A) bitsLt_bf16_f32
def x77 (A : Args) : FVec Ideal S16x8192 .f32 :=
  subf (x37 A) (x76 A)
def x78 (A : Args) : FVec Ideal S16x8192 .bf16 :=
  truncf .bf16 (x77 A) bitsLt_bf16_f32
def x79 (A : Args) : FVec Ideal S16x8192 .f32 :=
  extf .f32 (x78 A) bitsLt_bf16_f32
def x80 (A : Args) : FVec Ideal S16x8192 .f32 :=
  subf (x77 A) (x79 A)
def x81 (A : Args) : FVec Ideal S16x8192 .bf16 :=
  truncf .bf16 (x80 A) bitsLt_bf16_f32
def x82 (A : Args) : FVec Ideal S16x8192x1 .bf16 :=
  broadcastInDim S16x8192x1 ![0, 1] bcast_S16x8192_S16x8192x1_0_1 (x75 A)
def x83 (A : Args) : FVec Ideal S16x8192x1 .bf16 :=
  broadcastInDim S16x8192x1 ![0, 1] bcast_S16x8192_S16x8192x1_0_1 (x78 A)
def x84 (A : Args) : FVec Ideal S16x8192x1 .bf16 :=
  broadcastInDim S16x8192x1 ![0, 1] bcast_S16x8192_S16x8192x1_0_1 (x81 A)
def x85 (A : Args) : FVec Ideal S16x8192x3 .bf16 :=
  concatenate S16x8192x3 2 [⟨S16x8192x1, (x82 A)⟩, ⟨S16x8192x1, (x83 A)⟩, ⟨S16x8192x1, (x84 A)⟩] concatenates_S16x8192x1_S16x8192x1_S16x8192x1_S16x8192x3_d2
def cst_9 (A : Args) : FVec Ideal S_ .bf16 :=
  constant S_ .bf16 0x0000#16
def x86 (A : Args) : FVec Ideal S16x8192x52 .bf16 :=
  broadcastInDim S16x8192x52 ![] bcast_S_S16x8192x52 (cst_9 A)
def x87 (A : Args) : FVec Ideal S16x8192x128 .bf16 :=
  concatenate S16x8192x128 2 [⟨S16x8192x64, (x62 A)⟩, ⟨S16x8192x3, (x57 A)⟩, ⟨S16x8192x3, (x58 A)⟩, ⟨S16x8192x3, (x74 A)⟩, ⟨S16x8192x3, (x85 A)⟩, ⟨S16x8192x52, (x86 A)⟩] concatenates_S16x8192x64_S16x8192x3_S16x8192x3_S16x8192x3_S16x8192x3_S16x8192x52_S16x8192x128_d2
def x88 (A : Args) : FVec Ideal S16x8192x64 .bf16 :=
  truncf .bf16 A.k bitsLt_bf16_f32
def x89 (A : Args) : FVec Ideal S16x8192x3 .bf16 :=
  Host.negf (x57 A)
def cst_10 (A : Args) : FVec Ideal S_ .bf16 :=
  constant S_ .bf16 0x0000#16
def x90 (A : Args) : FVec Ideal S16x8192x55 .bf16 :=
  broadcastInDim S16x8192x55 ![] bcast_S_S16x8192x55 (cst_10 A)
def x91 (A : Args) : FVec Ideal S16x8192x128 .bf16 :=
  concatenate S16x8192x128 2 [⟨S16x8192x64, (x88 A)⟩, ⟨S16x8192x3, (x58 A)⟩, ⟨S16x8192x3, (x89 A)⟩, ⟨S16x8192x3, (x58 A)⟩, ⟨S16x8192x55, (x90 A)⟩] concatenates_S16x8192x64_S16x8192x3_S16x8192x3_S16x8192x3_S16x8192x55_S16x8192x128_d2
def x92 (A : Args) : FVec Ideal S16x8192x64 .bf16 :=
  truncf .bf16 A.v bitsLt_bf16_f32
def cst_11 (A : Args) : FVec Ideal S_ .bf16 :=
  constant S_ .bf16 0x0000#16
def x93 (A : Args) : FVec Ideal S16x8192x61 .bf16 :=
  broadcastInDim S16x8192x61 ![] bcast_S_S16x8192x61 (cst_11 A)
def x94 (A : Args) : FVec Ideal S16x8192x128 .bf16 :=
  concatenate S16x8192x128 2 [⟨S16x8192x64, (x92 A)⟩, ⟨S16x8192x3, (x58 A)⟩, ⟨S16x8192x61, (x93 A)⟩] concatenates_S16x8192x64_S16x8192x3_S16x8192x61_S16x8192x128_d2
def x95 (A : Args) : FVec Ideal S16x8192x64 .bf16 :=
  truncf .bf16 (x44 A) bitsLt_bf16_f32
def x96 (A : Args) : FVec Ideal S16x8192x64 .f32 :=
  mulf (x44 A) (x41 A)
def cst_12 (A : Args) : FVec Ideal S_ .f32 :=
  constant S_ .f32 0x00000000#32
def x97 (A : Args) : FVec Ideal S16x8192 .f32 :=
  Host.reduceAdd (x96 A) (cst_12 A) reducesTo_S16x8192x64_S16x8192_d2 h_S_
def x98 (A : Args) : FVec Ideal S16x8192 .bf16 :=
  truncf .bf16 (x97 A) bitsLt_bf16_f32
def x99 (A : Args) : FVec Ideal S16x8192 .f32 :=
  extf .f32 (x98 A) bitsLt_bf16_f32
def x100 (A : Args) : FVec Ideal S16x8192 .f32 :=
  subf (x97 A) (x99 A)
def x101 (A : Args) : FVec Ideal S16x8192 .bf16 :=
  truncf .bf16 (x100 A) bitsLt_bf16_f32
def x102 (A : Args) : FVec Ideal S16x8192 .f32 :=
  extf .f32 (x101 A) bitsLt_bf16_f32
def x103 (A : Args) : FVec Ideal S16x8192 .f32 :=
  subf (x100 A) (x102 A)
def x104 (A : Args) : FVec Ideal S16x8192 .bf16 :=
  truncf .bf16 (x103 A) bitsLt_bf16_f32
def x105 (A : Args) : FVec Ideal S16x8192x1 .bf16 :=
  broadcastInDim S16x8192x1 ![0, 1] bcast_S16x8192_S16x8192x1_0_1 (x98 A)
def x106 (A : Args) : FVec Ideal S16x8192x1 .bf16 :=
  broadcastInDim S16x8192x1 ![0, 1] bcast_S16x8192_S16x8192x1_0_1 (x101 A)
def x107 (A : Args) : FVec Ideal S16x8192x1 .bf16 :=
  broadcastInDim S16x8192x1 ![0, 1] bcast_S16x8192_S16x8192x1_0_1 (x104 A)
def x108 (A : Args) : FVec Ideal S16x8192x3 .bf16 :=
  concatenate S16x8192x3 2 [⟨S16x8192x1, (x105 A)⟩, ⟨S16x8192x1, (x106 A)⟩, ⟨S16x8192x1, (x107 A)⟩] concatenates_S16x8192x1_S16x8192x1_S16x8192x1_S16x8192x3_d2
def x109 (A : Args) : FVec Ideal S16x8192x3 .bf16 :=
  Host.negf (x108 A)
def cst_13 (A : Args) : FVec Ideal S_ .bf16 :=
  constant S_ .bf16 0x0000#16
def x110 (A : Args) : FVec Ideal S16x8192x61 .bf16 :=
  broadcastInDim S16x8192x61 ![] bcast_S_S16x8192x61 (cst_13 A)
def x111 (A : Args) : FVec Ideal S16x8192x128 .bf16 :=
  concatenate S16x8192x128 2 [⟨S16x8192x64, (x95 A)⟩, ⟨S16x8192x3, (x109 A)⟩, ⟨S16x8192x61, (x110 A)⟩] concatenates_S16x8192x64_S16x8192x3_S16x8192x61_S16x8192x128_d2

end Cert.Host
-- ==== Proof.Sem.lean ====
module

public import proofs.«01_k».proof.Defs
public import Idealize.ShloMosaic.Lib.Pointwise
public import Idealize.ShloMosaic.Lib.WritesUnit
public import Idealize.ShloMosaic.PureOps.Ideal.Laws
public import Mathlib.Algebra.BigOperators.Intervals
public import Mathlib.Algebra.BigOperators.Fin

@[expose] public section

set_option maxRecDepth 16384

noncomputable section

/-! What one key block accumulates, in plain sums: the probabilities, their gradient, and the state
    after the query rows below some row have been added. -/

namespace Cert.Sem

open Idealize.ShloMosaic Cert.KernelIdeal

/-- The three carried blocks: the gradients of the keys and of the values, and the column sums in eight parts. -/
abbrev Carry := FVec Ideal S256x128 .f32 × FVec Ideal S256x128 .f32 × FVec Ideal S8x256 .f32

variable (Q D : ℕ → Fin 128 → EReal) (K V : Fin 256 → Fin 128 → EReal) (j : ℕ)

/-- The probability of query row `t` at key `c` of the block. -/
def pr (t : ℕ) (c : Fin 256) : EReal := Ideal.exp2 (if 256 * j + c.val ≤ t then ∑ l, Q t l * K c l else ⊥)

/-- The gradient of the logit of query row `t` at key `c`. -/
def gr (t : ℕ) (c : Fin 256) : EReal := pr Q K j t c * ∑ l, D t l * V c l

/-- The state after the query rows from the block's first one up to row `R`: `G` is what the query gradient
    held before. -/
structure Good (R : ℕ) (acc : Carry) (G f : Fin 8192 → Fin 128 → EReal) : Prop where
  le : 256 * j ≤ R
  dk : ∀ c l, acc.1 (ix2 c l) = ∑ t ∈ Finset.Ico (256 * j) R, gr Q D K V j t c * Q t l
  dv : ∀ c l, acc.2.1 (ix2 c l) = ∑ t ∈ Finset.Ico (256 * j) R, pr Q K j t c * D t l
  cs : ∀ c, ∑ b : Fin 8, acc.2.2 (ix2 b c) = ∑ t ∈ Finset.Ico (256 * j) R, gr Q D K V j t c
  dq : ∀ t l, f t l = if 256 * j ≤ t.val ∧ t.val < R then G t l + ∑ c, gr Q D K V j t.val c * K c l else G t l

/-- One trip over the rows `[R, R + n)`, where `n = 8 m`. -/
structure Step (m n R : ℕ) (acc acc' : Carry) (f f' : Fin 8192 → Fin 128 → EReal) : Prop where
  dk : ∀ c l, acc'.1 (ix2 c l) = acc.1 (ix2 c l) + ∑ r : Fin n, gr Q D K V j (R + r.val) c * Q (R + r.val) l
  dv : ∀ c l, acc'.2.1 (ix2 c l) = acc.2.1 (ix2 c l) + ∑ r : Fin n, pr Q K j (R + r.val) c * D (R + r.val) l
  cs : ∀ b c, acc'.2.2 (ix2 b c) = acc.2.2 (ix2 b c) + ∑ x : Fin m, gr Q D K V j (R + (x.val * 8 + b.val)) c
  dq : ∀ t l, f' t l = if R ≤ t.val ∧ t.val < R + n then f t l + ∑ c, gr Q D K V j t.val c * K c l else f t l

theorem sum_more (g : ℕ → EReal) {a R : ℕ} (n : ℕ) (h : a ≤ R) :
    ∑ t ∈ Finset.Ico a (R + n), g t = ∑ t ∈ Finset.Ico a R, g t + ∑ r : Fin n, g (R + r.val) := by
  rw [← Finset.sum_Ico_consecutive g h (Nat.le_add_right R n), Finset.sum_Ico_eq_sum_range g R, Nat.add_sub_cancel_left,
    ← Fin.sum_univ_eq_sum_range (fun r => g (R + r)) n]

theorem sum_parts (g : ℕ → EReal) (m : ℕ) :
    ∑ b : Fin 8, ∑ x : Fin m, g (x.val * 8 + b.val) = ∑ r : Fin (8 * m), g r.val := by
  have e := Equiv.sum_comp (finProdFinEquiv (m := m) (n := 8)) (fun r => g r.val)
  rw [Fintype.sum_prod_type, Finset.sum_comm] at e
  simp only [finProdFinEquiv_apply_val] at e
  rw [Fin.sum_univ_eq_sum_range g (8 * m), Nat.mul_comm 8 m, ← Fin.sum_univ_eq_sum_range g (m * 8), ← e]
  exact Finset.sum_congr rfl fun b _ => Finset.sum_congr rfl fun x _ => by rw [Nat.mul_comm x.val 8, Nat.add_comm]

variable {Q D K V j}

theorem Good.start {acc : Carry} {G : Fin 8192 → Fin 128 → EReal} (h1 : ∀ x, acc.1 x = 0) (h2 : ∀ x, acc.2.1 x = 0)
    (h3 : ∀ x, acc.2.2 x = 0) : Good Q D K V j (256 * j) acc G G where
  le := le_rfl
  dk c l := by rw [h1, Finset.Ico_self, Finset.sum_empty]
  dv c l := by rw [h2, Finset.Ico_self, Finset.sum_empty]
  cs c := by simp only [h3, Finset.Ico_self, Finset.sum_empty, Finset.sum_const_zero]
  dq t l := by rw [if_neg (by omega)]

theorem Good.step {m n R : ℕ} (hn : n = 8 * m) {acc acc' : Carry} {G f f' : Fin 8192 → Fin 128 → EReal} (h : Good Q D K V j R acc G f)
    (s : Step Q D K V j m n R acc acc' f f') : Good Q D K V j (R + n) acc' G f' where
  le := h.le.trans (Nat.le_add_right _ _)
  dk c l := by rw [s.dk, h.dk, sum_more _ _ h.le]
  dv c l := by rw [s.dv, h.dv, sum_more _ _ h.le]
  cs c := by
    simp only [s.cs]
    subst hn
    rw [Finset.sum_add_distrib, h.cs, sum_more _ _ h.le, sum_parts (fun r => gr Q D K V j (R + r) c)]
  dq t l := by
    have hl := h.le
    rw [s.dq, h.dq]
    by_cases h1 : R ≤ t.val ∧ t.val < R + n
    · rw [if_pos h1, if_neg (by omega), if_pos (by omega)]
    · rw [if_neg h1]
      by_cases h2 : 256 * j ≤ t.val ∧ t.val < R
      · rw [if_pos h2, if_pos (by omega)]
      · rw [if_neg h2, if_neg (by omega)]

/-! ### The mask, in words -/

theorem edge : ∀ (j : Fin 32) (d : Fin 64),
    (Scalar.muli (Scalar.subi (BitVec.ofNat 32 j.val) (BitVec.ofNat 32 (j.val + d.val))) 256#32).toInt = -(256 * (d.val : ℤ)) := by
  decide +kernel

theorem mask {j d r c : ℕ} (hj : j < 32) (hd : d < 64) (hr : r < 2048) (hc : c < 256) :
    IntOp.cmpi .sge (IntOp.subi (BitVec.ofNat 32 r) (BitVec.ofNat 32 c))
      (Scalar.muli (Scalar.subi (BitVec.ofNat 32 j) (BitVec.ofNat 32 (j + d))) 256#32) = BitVec.ofBool (c ≤ r + 256 * d) := by
  have e1 : (BitVec.ofNat 32 r - BitVec.ofNat 32 c).toInt = (r : ℤ) - c := by
    rw [BitVec.toInt_sub, BitVec.toInt_eq_toNat_bmod, BitVec.toInt_eq_toNat_bmod, BitVec.toNat_ofNat, BitVec.toNat_ofNat]
    simp only [Int.bmod_def]
    omega
  have e2 := edge ⟨j, hj⟩ ⟨d, hd⟩
  refine congrArg BitVec.ofBool ?_
  show BitVec.sle _ _ = _
  rw [BitVec.sle, show BitVec.toInt (IntOp.subi (BitVec.ofNat 32 r) (BitVec.ofNat 32 c)) = _ from e1, e2]
  exact decide_eq_decide.mpr (by show -(256 * (d : ℤ)) ≤ _ ↔ _; omega)

theorem word (s U k : ℕ) : Scalar.addi (BitVec.ofNat 32 s) (Scalar.muli (BitVec.ofNat 32 U) (Scf.iv 0#32 1#32 k)) = BitVec.ofNat 32 (s + U * k) := by
  show BitVec.ofNat 32 s + BitVec.ofNat 32 U * (0#32 + BitVec.ofNat 32 k * 1#32) = _
  rw [BitVec.ofNat_add, BitVec.ofNat_mul, BitVec.zero_add, BitVec.mul_one]

theorem select_ofBool {α : Type} (p : Prop) [Decidable p] (a b : α) : Scalar.select (BitVec.ofBool (decide p)) a b = if p then a else b := by
  unfold Scalar.select
  by_cases h : p
  · rw [if_pos h, decide_eq_true h]; rfl
  · rw [if_neg h, decide_eq_false h]; rfl

theorem negInf : Ideal.ofBits .f32 4286578688#32 = ⊥ := by
  simp [Ideal.ofBits, Ideal.ieee]

/-! ### Loads and stores of whole rows -/

/-- The rows of a block of 8192, on all natural numbers (row `t` modulo 8192). -/
def rowsOf (x : S1x8192x128.Idx → EReal) (t : ℕ) (l : Fin 128) : EReal := x (ix3 0 ⟨t % 8192, Nat.mod_lt _ (by omega)⟩ l)

/-- The entries of a block. -/
def blk (x : S256x128.Idx → EReal) (c : Fin 256) (l : Fin 128) : EReal := x (ix2 c l)

theorem rowsOf_lt (x : S1x8192x128.Idx → EReal) (t : Fin 8192) (l : Fin 128) : rowsOf x t.val l = x (ix3 0 t l) := by
  unfold rowsOf
  rw [show (⟨t.val % 8192, Nat.mod_lt _ (by omega)⟩ : Fin 8192) = t from Fin.ext (Nat.mod_eq_of_lt t.isLt)]

theorem load {e : EltTy} {n R : ℕ} {off : Fin 3 → ℕ} (v : Memref sig .tc .vmem S1x8192x128 e) (f : BufTy.Contents (Elt Ideal) v.view.ty)
    (inb : ∀ a, off a + (![1, n, 128] : Fin 3 → ℕ) a ≤ S1x8192x128.size a) (heq : off = ![0, R, 0]) (r : Fin n) (l : Fin 128) :
    v.view.readAt (Elt Ideal) (Rect.unit (s := S1x8192x128) off ![1, n, 128] inb).toLoadRect f (ix3 0 r l)
      = v.view.read (Elt Ideal) f (ix3 0 ⟨R + r.val, by subst heq; have h := inb 1; exact lt_of_lt_of_le (Nat.add_lt_add_left r.isLt R) h⟩ l) := by
  subst heq
  rw [View.readAt_apply]
  refine congrArg (v.view.read (Elt Ideal) f) (funext fun a => Fin.ext ?_)
  match a with
  | ⟨0, _⟩ => rfl
  | ⟨1, _⟩ => exact congrArg (R + ·) (Nat.one_mul r.val)
  | ⟨2, _⟩ => exact (Nat.zero_add _).trans (Nat.one_mul l.val)

theorem store {n R : ℕ} {off : Fin 3 → ℕ} (v : Memref sig .tc .vmem S1x8192x128 .f32) (f : BufTy.Contents (Elt Ideal) v.view.ty)
    (inb : ∀ a, off a + (![1, n, 128] : Fin 3 → ℕ) a ≤ S1x8192x128.size a)
    (w : (Rect.unit (s := S1x8192x128) off ![1, n, 128] inb).shape.Idx → EReal) (L : List (View.Piece (Elt Ideal) S1x8192x128 .f32))
    (heq : off = ![0, R, 0]) (t : Fin 8192) (l : Fin 128) (g : Fin n → Fin 128 → EReal) (hg : ∀ r l, w (ix3 0 r l) = g r l) :
    v.view.read (Elt Ideal) (v.view.writes (Elt Ideal) f (⟨Rect.unit (s := S1x8192x128) off ![1, n, 128] inb, w⟩ :: L)) (ix3 0 t l)
      = if h : R ≤ t.val ∧ t.val < R + n then g ⟨t.val - R, by omega⟩ l
        else v.view.read (Elt Ideal) (v.view.writes (Elt Ideal) f L) (ix3 0 t l) := by
  split
  next h =>
    rw [← hg]
    refine View.read_writes_cons_unit_of_mem v.view f inb w L (ix3 0 t l) (ix3 0 ⟨t.val - R, by omega⟩ l) heq fun a => ?_
    match a with
    | ⟨0, _⟩ => rfl
    | ⟨1, _⟩ => show t.val = R + (t.val - R); omega
    | ⟨2, _⟩ => exact (Nat.zero_add _).symm
  next h =>
    refine View.read_writes_cons_unit_of_not_mem v.view f inb w L (ix3 0 t l) heq 1 ?_
    show t.val < R ∨ R + n ≤ t.val
    omega

end Cert.Sem
-- ==== Proof.Words.lean ====
module

public import proofs.«01_k».proof.KernelIdeal
public import proofs.«01_k».proof.Kernel

@[expose] public section

set_option maxRecDepth 16384

namespace Cert.Words

open Idealize.ShloMosaic Cert.KernelIdeal

/-- The grid point of head `x` and key block `j`. -/
abbrev pt (x : Fin 16) (j : Fin 32) : grid0.Coords := fun a => match a with
  | ⟨0, _⟩ => x
  | ⟨1, _⟩ => j

/-- Every grid point is one of these. -/
theorem pt_eta (i : grid0.Coords) : i = pt (i 0) (i 1) := by
  funext a
  match a with
  | ⟨0, _⟩ => rfl
  | ⟨1, _⟩ => rfl

private theorem chk_pt : ∀ j e : Fin 32, j ≤ e → k0_chk1 (pt 0 j) (BitVec.ofNat 32 e.val) := by
  decide +kernel

private theorem trips1_pt : ∀ j e : Fin 32, j ≤ e → (k0_t1_loop (pt 0 j) (BitVec.ofNat 32 e.val)).trips = (e.val + 1 - j.val) / 8 := by
  decide +kernel

private theorem off2_pt : ∀ j e : Fin 32, j ≤ e → ∀ k : Fin (k0_t1_loop (pt 0 j) (BitVec.ofNat 32 e.val)).trips,
    k0_off2 (pt 0 j) (BitVec.ofNat 32 e.val) k = ![0, 256 * (j.val + 8 * k.val), 0] := by
  decide +kernel

private theorem trips2_pt : ∀ j e : Fin 32, j ≤ e → (k0_t2_loop (pt 0 j) (BitVec.ofNat 32 e.val)).trips = 0 := by
  decide +kernel

private theorem trips3_pt : ∀ j e : Fin 32, j ≤ e → (k0_t3_loop (pt 0 j) (BitVec.ofNat 32 e.val)).trips = (e.val + 1 - j.val) % 8 / 4 := by
  decide +kernel

private theorem off4_pt : ∀ j e : Fin 32, j ≤ e → ∀ k : Fin (k0_t3_loop (pt 0 j) (BitVec.ofNat 32 e.val)).trips,
    k0_off4 (pt 0 j) (BitVec.ofNat 32 e.val) k = ![0, 256 * (j.val + 8 * ((e.val + 1 - j.val) / 8) + 4 * k.val), 0] := by
  decide +kernel

private theorem trips4_pt : ∀ j e : Fin 32, j ≤ e → (k0_t4_loop (pt 0 j) (BitVec.ofNat 32 e.val)).trips = 0 := by
  decide +kernel

private theorem trips5_pt : ∀ j e : Fin 32, j ≤ e → (k0_t5_loop (pt 0 j) (BitVec.ofNat 32 e.val)).trips = (e.val + 1 - j.val) % 4 / 2 := by
  decide +kernel

private theorem off6_pt : ∀ j e : Fin 32, j ≤ e → ∀ k : Fin (k0_t5_loop (pt 0 j) (BitVec.ofNat 32 e.val)).trips,
    k0_off6 (pt 0 j) (BitVec.ofNat 32 e.val) k = ![0, 256 * (j.val + 4 * ((e.val + 1 - j.val) / 4) + 2 * k.val), 0] := by
  decide +kernel

private theorem trips6_pt : ∀ j e : Fin 32, j ≤ e → (k0_t6_loop (pt 0 j) (BitVec.ofNat 32 e.val)).trips = 0 := by
  decide +kernel

private theorem trips7_pt : ∀ j e : Fin 32, j ≤ e → (k0_t7_loop (pt 0 j) (BitVec.ofNat 32 e.val)).trips = (e.val + 1 - j.val) % 2 := by
  decide +kernel

private theorem off8_pt : ∀ j e : Fin 32, j ≤ e → ∀ k : Fin (k0_t7_loop (pt 0 j) (BitVec.ofNat 32 e.val)).trips,
    k0_off8 (pt 0 j) (BitVec.ofNat 32 e.val) k = ![0, 256 * (j.val + 2 * ((e.val + 1 - j.val) / 2) + k.val), 0] := by
  decide +kernel

private theorem trips8_pt : ∀ j e : Fin 32, j ≤ e → (k0_t8_loop (pt 0 j) (BitVec.ofNat 32 e.val)).trips = 0 := by
  decide +kernel

variable (i : grid0.Coords) (e : Fin 32) (h : i 1 ≤ e)
include h

/-- The checks of the body hold at a word between the key block and the last block. -/
theorem chk : k0_chk1 i (BitVec.ofNat 32 e.val) := by
  rw [pt_eta i]; exact chk_pt (i 1) e h

theorem trips1 : (k0_t1_loop i (BitVec.ofNat 32 e.val)).trips = (e.val + 1 - (i 1).val) / 8 := by
  rw [pt_eta i]; exact trips1_pt (i 1) e h

theorem off2 (k : Fin (k0_t1_loop i (BitVec.ofNat 32 e.val)).trips) :
    k0_off2 i (BitVec.ofNat 32 e.val) k = ![0, 256 * ((i 1).val + 8 * k.val), 0] := by
  revert k; rw [pt_eta i]; exact off2_pt (i 1) e h

theorem trips2 : (k0_t2_loop i (BitVec.ofNat 32 e.val)).trips = 0 := by
  rw [pt_eta i]; exact trips2_pt (i 1) e h

theorem trips3 : (k0_t3_loop i (BitVec.ofNat 32 e.val)).trips = (e.val + 1 - (i 1).val) % 8 / 4 := by
  rw [pt_eta i]; exact trips3_pt (i 1) e h

theorem off4 (k : Fin (k0_t3_loop i (BitVec.ofNat 32 e.val)).trips) :
    k0_off4 i (BitVec.ofNat 32 e.val) k = ![0, 256 * ((i 1).val + 8 * ((e.val + 1 - (i 1).val) / 8) + 4 * k.val), 0] := by
  revert k; rw [pt_eta i]; exact off4_pt (i 1) e h

theorem trips4 : (k0_t4_loop i (BitVec.ofNat 32 e.val)).trips = 0 := by
  rw [pt_eta i]; exact trips4_pt (i 1) e h

theorem trips5 : (k0_t5_loop i (BitVec.ofNat 32 e.val)).trips = (e.val + 1 - (i 1).val) % 4 / 2 := by
  rw [pt_eta i]; exact trips5_pt (i 1) e h

theorem off6 (k : Fin (k0_t5_loop i (BitVec.ofNat 32 e.val)).trips) :
    k0_off6 i (BitVec.ofNat 32 e.val) k = ![0, 256 * ((i 1).val + 4 * ((e.val + 1 - (i 1).val) / 4) + 2 * k.val), 0] := by
  revert k; rw [pt_eta i]; exact off6_pt (i 1) e h

theorem trips6 : (k0_t6_loop i (BitVec.ofNat 32 e.val)).trips = 0 := by
  rw [pt_eta i]; exact trips6_pt (i 1) e h

theorem trips7 : (k0_t7_loop i (BitVec.ofNat 32 e.val)).trips = (e.val + 1 - (i 1).val) % 2 := by
  rw [pt_eta i]; exact trips7_pt (i 1) e h

theorem off8 (k : Fin (k0_t7_loop i (BitVec.ofNat 32 e.val)).trips) :
    k0_off8 i (BitVec.ofNat 32 e.val) k = ![0, 256 * ((i 1).val + 2 * ((e.val + 1 - (i 1).val) / 2) + k.val), 0] := by
  revert k; rw [pt_eta i]; exact off8_pt (i 1) e h

theorem trips8 : (k0_t8_loop i (BitVec.ofNat 32 e.val)).trips = 0 := by
  rw [pt_eta i]; exact trips8_pt (i 1) e h

omit h in
/-- The check of the printed kernel is that of the idealized one. -/
theorem chk_kernel (v : BitVec 32) : k0_chk1 i v → Cert.Kernel.k0_chk1 i v := fun h => h

end Cert.Words
-- ==== Proof.Evens.lean ====
module

public import proofs.«01_k».proof.Proof.Sem
public import proofs.«01_k».proof.Proof.Words
public import proofs.«01_k».proof.Proof.Gen.KernelIdeal.Frame

@[expose] public section

set_option maxRecDepth 16384

noncomputable section

/-! The loops over the remainders below one chunk's step make no trip: the state after them is the one before. -/

namespace Cert.Trips

open Idealize.ShloMosaic Idealize.ShloMosaic.TcCoe Cert.KernelIdeal Cert.KernelIdeal.Gen Cert.Sem

theorem even2 (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (arg1 : BitVec 32) (v2 : Elt Ideal .i32) (k0_hw1 : k0_chk1 i v2) (v3 : BitVec 32) (v8 : FVec Ideal S256x128 .bf16) (v10 : FVec Ideal S256x128 .bf16) (v11 : FVec Ideal S256x128 .f32) (v12 : FVec Ideal S8x256 .f32) (v30 : BitVec 32) (c0_i32_13 : BitVec 32) (v35 : BitVec 32) (X_arg3 : BufTy.Contents (Elt Ideal) arg3.view.ty) (X_arg4 : BufTy.Contents (Elt Ideal) arg4.view.ty) (G : BufTy.Contents (Elt Ideal) arg7.view.ty) (init : Carry) (e : Fin 32) (h : i 1 ≤ e) (hv : v2 = BitVec.ofNat 32 e.val) :
    st_k0_t2 (F := Ideal) 𝒱 c bd i arg2 harg2 arg3 harg3 arg4 harg4 arg5 harg5 arg6 harg6 arg7 harg7 arg8 harg8 arg9 harg9 arg10 harg10 arg1 v2 k0_hw1 v3 v8 v10 v11 v12 v30 c0_i32_13 v35 X_arg3 X_arg4 G init (k0_t2_loop i v2).trips = (init, []) := by
  have : (k0_t2_loop i v2).trips = 0 := by rw [hv]; exact Words.trips2 i e h
  rw [this]
  rfl

theorem even4 (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (arg1 : BitVec 32) (v2 : Elt Ideal .i32) (k0_hw1 : k0_chk1 i v2) (v3 : BitVec 32) (v8 : FVec Ideal S256x128 .bf16) (v10 : FVec Ideal S256x128 .bf16) (v11 : FVec Ideal S256x128 .f32) (v12 : FVec Ideal S8x256 .f32) (v30 : BitVec 32) (c0_i32_13 : BitVec 32) (v35 : BitVec 32) (v39 : BitVec 32) (v62 : BitVec 32) (X_arg3 : BufTy.Contents (Elt Ideal) arg3.view.ty) (X_arg4 : BufTy.Contents (Elt Ideal) arg4.view.ty) (G : BufTy.Contents (Elt Ideal) arg7.view.ty) (init : Carry) (e : Fin 32) (h : i 1 ≤ e) (hv : v2 = BitVec.ofNat 32 e.val) :
    st_k0_t4 (F := Ideal) 𝒱 c bd i arg2 harg2 arg3 harg3 arg4 harg4 arg5 harg5 arg6 harg6 arg7 harg7 arg8 harg8 arg9 harg9 arg10 harg10 arg1 v2 k0_hw1 v3 v8 v10 v11 v12 v30 c0_i32_13 v35 v39 v62 X_arg3 X_arg4 G init (k0_t4_loop i v2).trips = (init, []) := by
  have : (k0_t4_loop i v2).trips = 0 := by rw [hv]; exact Words.trips4 i e h
  rw [this]
  rfl

theorem even6 (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (arg1 : BitVec 32) (v2 : Elt Ideal .i32) (k0_hw1 : k0_chk1 i v2) (v3 : BitVec 32) (v8 : FVec Ideal S256x128 .bf16) (v10 : FVec Ideal S256x128 .bf16) (v64_0 : FVec Ideal S256x128 .f32) (v64_1 : FVec Ideal S256x128 .f32) (v64_2 : FVec Ideal S8x256 .f32) (v66 : BitVec 32) (v67 : BitVec 32) (c2_i32 : BitVec 32) (v68 : BitVec 32) (v73 : BitVec 32) (v75 : BitVec 32) (c0_i32_32 : BitVec 32) (v89 : BitVec 32) (X_arg3 : BufTy.Contents (Elt Ideal) arg3.view.ty) (X_arg4 : BufTy.Contents (Elt Ideal) arg4.view.ty) (G : BufTy.Contents (Elt Ideal) arg7.view.ty) (init : Carry) (e : Fin 32) (h : i 1 ≤ e) (hv : v2 = BitVec.ofNat 32 e.val) :
    st_k0_t6 (F := Ideal) 𝒱 c bd i arg2 harg2 arg3 harg3 arg4 harg4 arg5 harg5 arg6 harg6 arg7 harg7 arg8 harg8 arg9 harg9 arg10 harg10 arg1 v2 k0_hw1 v3 v8 v10 v64_0 v64_1 v64_2 v66 v67 c2_i32 v68 v73 v75 c0_i32_32 v89 X_arg3 X_arg4 G init (k0_t6_loop i v2).trips = (init, []) := by
  have : (k0_t6_loop i v2).trips = 0 := by rw [hv]; exact Words.trips6 i e h
  rw [this]
  rfl

theorem even8 (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (arg1 : BitVec 32) (v2 : Elt Ideal .i32) (k0_hw1 : k0_chk1 i v2) (v8 : FVec Ideal S256x128 .bf16) (v10 : FVec Ideal S256x128 .bf16) (v93 : BitVec 32) (v116 : BitVec 32) (c1_i32_50 : BitVec 32) (X_arg3 : BufTy.Contents (Elt Ideal) arg3.view.ty) (X_arg4 : BufTy.Contents (Elt Ideal) arg4.view.ty) (G : BufTy.Contents (Elt Ideal) arg7.view.ty) (init : Carry) (e : Fin 32) (h : i 1 ≤ e) (hv : v2 = BitVec.ofNat 32 e.val) :
    st_k0_t8 (F := Ideal) 𝒱 c bd i arg2 harg2 arg3 harg3 arg4 harg4 arg5 harg5 arg6 harg6 arg7 harg7 arg8 harg8 arg9 harg9 arg10 harg10 arg1 v2 k0_hw1 v8 v10 v93 v116 c1_i32_50 X_arg3 X_arg4 G init (k0_t8_loop i v2).trips = (init, []) := by
  have : (k0_t8_loop i v2).trips = 0 := by rw [hv]; exact Words.trips8 i e h
  rw [this]
  rfl

end Cert.Trips
-- ==== Proof.Seg.lean ====
module

public import proofs.«01_k».proof.Proof.Words

@[expose] public section

set_option maxRecDepth 16384

/-! The first chunk of each of the four sweeps, as the body computes it from the key block and the table word. -/

namespace Cert.Words

open Idealize.ShloMosaic Cert.KernelIdeal

/-- The floor division of the body. -/
abbrev fdiv (a n : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt n 0#32)) (Scalar.extui (Scalar.cmpi .slt n 0#32))))
      (Scalar.cmpi .ne (Scalar.remsi a n) 0#32))
    (Scalar.subi (Scalar.divsi a n) 1#32) (Scalar.divsi a n)

/-- The first chunk after the sweep in steps of `n` chunks that begins at chunk `s`, up to chunk `w`. -/
abbrev after (n : BitVec 32) (w s : BitVec 32) : BitVec 32 :=
  Scalar.addi s (Scalar.muli n (fdiv (Scalar.subi (Scalar.addi w 1#32) s) n))

theorem after8 : ∀ j e : Fin 32, j ≤ e → after 8#32 (BitVec.ofNat 32 e.val) (BitVec.ofNat 32 j.val)
    = BitVec.ofNat 32 (j.val + 8 * ((e.val + 1 - j.val) / 8)) := by
  decide +kernel

theorem after4 : ∀ j e : Fin 32, j ≤ e → after 4#32 (BitVec.ofNat 32 e.val) (BitVec.ofNat 32 (j.val + 8 * ((e.val + 1 - j.val) / 8)))
    = BitVec.ofNat 32 (j.val + 4 * ((e.val + 1 - j.val) / 4)) := by
  decide +kernel

theorem after2 : ∀ j e : Fin 32, j ≤ e → after 2#32 (BitVec.ofNat 32 e.val) (BitVec.ofNat 32 (j.val + 4 * ((e.val + 1 - j.val) / 4)))
    = BitVec.ofNat 32 (j.val + 2 * ((e.val + 1 - j.val) / 2)) := by
  decide +kernel

end Cert.Words
-- ==== Proof.Loop1.lean ====
module

public import proofs.«01_k».proof.Defs
public import proofs.«01_k».proof.Proof.Words
public import proofs.«01_k».proof.Proof.Sem
public import proofs.«01_k».proof.Proof.Gen.KernelIdeal.Frame

@[expose] public section

set_option maxRecDepth 16384

noncomputable section

/-! The loop that takes the query rows in chunks of 2048: one trip as sums, then all its trips. -/

namespace Cert.Trips

open Idealize.ShloMosaic Idealize.ShloMosaic.TcCoe Cert.KernelIdeal Cert.KernelIdeal.Gen Cert.Sem

section payloads

variable (i : grid0.Coords) (j d : ℕ) (v2 : BitVec 32) (v8 v10 : FVec Ideal S256x128 .bf16) (k : Fin (k0_t1_loop i v2).trips)
  (x y : Vec Ideal S1x2048x128 .bf16)

theorem p1 (hj : j < 32) (hd : d < 64) (hw : Scalar.addi (BitVec.ofNat 32 j) (Scalar.muli 8#32 (Scf.iv 0#32 1#32 k.val)) = BitVec.ofNat 32 (j + d)) (r : Fin 2048) (c : Fin 256) :
    k0_pay7 (F := Ideal) i (BitVec.ofNat 32 j) v2 v8 0#32 1#32 k x (ix2 r c) = Ideal.exp2 (if c.val ≤ r.val + 256 * d then ∑ l, x (ix3 0 r l) * v8 (ix2 c l) else ⊥) := by
  unfold k0_pay7 k0_pay5
  pointwise
  simp only [hw, mask hj hd (show r.val < 2048 by omega) c.isLt, select_ofBool, negInf]
  rfl

theorem g1 (hj : j < 32) (hd : d < 64) (hw : Scalar.addi (BitVec.ofNat 32 j) (Scalar.muli 8#32 (Scf.iv 0#32 1#32 k.val)) = BitVec.ofNat 32 (j + d)) (r : Fin 2048) (c : Fin 256) :
    k0_pay8 (F := Ideal) i (BitVec.ofNat 32 j) v2 v8 v10 0#32 1#32 k x y (ix2 r c) = Ideal.exp2 (if c.val ≤ r.val + 256 * d then ∑ l, x (ix3 0 r l) * v8 (ix2 c l) else ⊥)
      * ∑ l, y (ix3 0 r l) * v10 (ix2 c l) := by
  rw [← p1 i j d v2 v8 k x hj hd hw r c]
  unfold k0_pay8 k0_pay6
  pointwise

theorem cs1 (a : FVec Ideal S8x256 .f32) (r : Fin 8) (c : Fin 256) :
    k0_pay10 (F := Ideal) i (BitVec.ofNat 32 j) v2 v8 v10 0#32 1#32 k a x y (ix2 r c) = a (ix2 r c) + ∑ z : Fin 256, k0_pay8 (F := Ideal) i (BitVec.ofNat 32 j) v2 v8 v10 0#32 1#32 k x y (ix2 ⟨z.val * 8 + r.val, by omega⟩ c) := by
  unfold k0_pay10
  pointwise

theorem dv1 (a : FVec Ideal S256x128 .f32) (c : Fin 256) (l : Fin 128) :
    k0_pay11 (F := Ideal) i (BitVec.ofNat 32 j) v2 v8 0#32 1#32 k a x y (ix2 c l) = a (ix2 c l) + ∑ r : Fin 2048, k0_pay7 (F := Ideal) i (BitVec.ofNat 32 j) v2 v8 0#32 1#32 k x (ix2 r c) * y (ix3 0 r l) := by
  unfold k0_pay11 k0_pay6
  pointwise

theorem dk1 (a : FVec Ideal S256x128 .f32) (c : Fin 256) (l : Fin 128) :
    k0_pay12 (F := Ideal) i (BitVec.ofNat 32 j) v2 v8 v10 0#32 1#32 k a x y (ix2 c l) = a (ix2 c l) + ∑ r : Fin 2048, k0_pay8 (F := Ideal) i (BitVec.ofNat 32 j) v2 v8 v10 0#32 1#32 k x y (ix2 r c) * x (ix3 0 r l) := by
  unfold k0_pay12 k0_pay9 k0_pay5
  pointwise

theorem dq1 (a : FVec Ideal S1x2048x128 .f32) (r : Fin 2048) (l : Fin 128) :
    k0_pay82 (k0_pay13 (F := Ideal) i (BitVec.ofNat 32 j) v2 v8 v10 0#32 1#32 k x y a) (ix3 0 r l) = a (ix3 0 r l) + ∑ c : Fin 256, k0_pay8 (F := Ideal) i (BitVec.ofNat 32 j) v2 v8 v10 0#32 1#32 k x y (ix2 r c) * v8 (ix2 c l) := by
  unfold k0_pay82 k0_pay13 k0_pay9
  pointwise

end payloads

section trips

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v3 : BitVec 32) (v11 : FVec Ideal S256x128 .f32) (v12 : FVec Ideal S8x256 .f32) (v30 : BitVec 32) (v35 : BitVec 32)
  (e : Fin 32) (h : i 1 ≤ e) (k0_hw1 : k0_chk1 i (BitVec.ofNat 32 e.val)) (v8 v10 : FVec Ideal S256x128 .bf16)
  (X_arg3 : BufTy.Contents (Elt Ideal) arg3.view.ty) (X_arg4 : BufTy.Contents (Elt Ideal) arg4.view.ty)

set_option maxHeartbeats 400000 in
include h in
theorem trip1 (k : Fin (k0_t1_loop i (BitVec.ofNat 32 e.val)).trips) (acc : Carry) (f : BufTy.Contents (Elt Ideal) arg7.view.ty) (L : List (View.Piece (Elt Ideal) S1x8192x128 .f32)) :
    Step (rowsOf (arg3.view.read (Elt Ideal) X_arg3)) (rowsOf (arg4.view.read (Elt Ideal) X_arg4)) (blk v8) (blk v10) (i 1).val 256 2048 (256 * ((i 1).val + 8 * k.val)) acc
      (tripR_k0_t1 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 k acc (arg7.view.writes (Elt Ideal) f L))
      (fun t l => arg7.view.read (Elt Ideal) (arg7.view.writes (Elt Ideal) f L) (ix3 0 t l))
      (fun t l => arg7.view.read (Elt Ideal) (arg7.view.writes (Elt Ideal) f
        (tripL_k0_t1 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 k acc (arg7.view.writes (Elt Ideal) f L) ++ L)) (ix3 0 t l)) := by
  have hj : (i 1).val < 32 := (i 1).isLt
  have hk := lt_of_lt_of_eq k.isLt (Words.trips1 i e h)
  have he := e.isLt
  have hle : (i 1).val ≤ e.val := h
  have hd : 8 * k.val < 64 := by omega
  have hoff := Words.off2 i e h k
  have hinb := k0_off2_inb i (BitVec.ofNat 32 e.val) k0_hw1 k
  have hw := word (i 1).val 8 k.val
  have hR : 256 * ((i 1).val + 8 * k.val) + 2048 ≤ 8192 := by omega
  unfold tripR_k0_t1 tripL_k0_t1 trip_k0_t1
  dsimp only
  unfold trip_k0_t1.sl.r trip_k0_t1.sl.r_1 trip_k0_t1.sl.r_2 trip_k0_t1.sl.r_3
  generalize hx : arg3.view.readAt (Elt Ideal) (Rect.unit (s := S1x8192x128) (k0_off2 i (BitVec.ofNat 32 e.val) k) S1x2048x128.size hinb).toLoadRect X_arg3 = x
  generalize hy : arg4.view.readAt (Elt Ideal) (Rect.unit (s := S1x8192x128) (k0_off2 i (BitVec.ofNat 32 e.val) k) S1x2048x128.size hinb).toLoadRect X_arg4 = y
  have eQ (r : Fin 2048) (l : Fin 128) : x (ix3 0 r l) = rowsOf (arg3.view.read (Elt Ideal) X_arg3) (256 * ((i 1).val + 8 * k.val) + r.val) l := by
    subst hx; exact (load arg3 X_arg3 hinb hoff r l).trans (rowsOf_lt (arg3.view.read (Elt Ideal) X_arg3) _ l).symm
  have eD (r : Fin 2048) (l : Fin 128) : y (ix3 0 r l) = rowsOf (arg4.view.read (Elt Ideal) X_arg4) (256 * ((i 1).val + 8 * k.val) + r.val) l := by
    subst hy; exact (load arg4 X_arg4 hinb hoff r l).trans (rowsOf_lt (arg4.view.read (Elt Ideal) X_arg4) _ l).symm
  have cond (r : Fin 2048) (c : Fin 256) : c.val ≤ r.val + 256 * (8 * k.val) ↔ 256 * (i 1).val + c.val ≤ 256 * ((i 1).val + 8 * k.val) + r.val := by omega
  have eP (r : Fin 2048) (c : Fin 256) := p1 i (i 1).val (8 * k.val) (BitVec.ofNat 32 e.val) v8 k x hj hd (hw.trans (congrArg (BitVec.ofNat 32) (by omega))) r c
  have eG (r : Fin 2048) (c : Fin 256) := g1 i (i 1).val (8 * k.val) (BitVec.ofNat 32 e.val) v8 v10 k x y hj hd (hw.trans (congrArg (BitVec.ofNat 32) (by omega))) r c
  simp only [eQ, cond] at eP eG
  simp only [eD] at eG
  have h1 (c : Fin 256) (l : Fin 128) := dk1 i (i 1).val (BitVec.ofNat 32 e.val) v8 v10 k x y acc.1 c l
  have h2 (c : Fin 256) (l : Fin 128) := dv1 i (i 1).val (BitVec.ofNat 32 e.val) v8 k x y acc.2.1 c l
  have h3 (b : Fin 8) (c : Fin 256) := cs1 i (i 1).val (BitVec.ofNat 32 e.val) v8 v10 k x y acc.2.2 b c
  have h4 (a : FVec Ideal S1x2048x128 .f32) (r : Fin 2048) (l : Fin 128) := dq1 i (i 1).val (BitVec.ofNat 32 e.val) v8 v10 k x y a r l
  simp only [eG, eQ] at h1 h4
  simp only [eP, eD] at h2
  simp only [eG] at h3
  refine ⟨h1, h2, h3, fun t l => ?_⟩
  refine (store arg7 f hinb _ L hoff t l _ fun r l => h4 _ r l).trans ?_
  split
  next ht =>
    refine congrArg₂ (· + ·) ((load arg7 _ hinb hoff _ l).trans (congrArg _ ?_)) ?_
    · exact congrArg (ix3 0 · l) (Fin.ext (by show _ + (t.val - _) = t.val; omega))
    · simp only [Nat.add_sub_cancel' ht.1]
      rfl
  next ht => rfl

end trips

section loop

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v2 : Elt Ideal .i32) (k0_hw1 : k0_chk1 i v2) (v3 : BitVec 32) (v8 : FVec Ideal S256x128 .bf16) (v10 : FVec Ideal S256x128 .bf16) (v11 : FVec Ideal S256x128 .f32) (v12 : FVec Ideal S8x256 .f32) (v30 : BitVec 32) (v35 : BitVec 32) (X_arg3 : BufTy.Contents (Elt Ideal) arg3.view.ty) (X_arg4 : BufTy.Contents (Elt Ideal) arg4.view.ty)
  (e : Fin 32) (h : i 1 ≤ e) (hv : v2 = BitVec.ofNat 32 e.val) (init : Carry) (G : BufTy.Contents (Elt Ideal) arg7.view.ty) (H : Fin 8192 → Fin 128 → EReal)
  (hG : Good (rowsOf (arg3.view.read (Elt Ideal) X_arg3)) (rowsOf (arg4.view.read (Elt Ideal) X_arg4)) (blk v8) (blk v10) (i 1).val (256 * (i 1).val) init H (fun t l => arg7.view.read (Elt Ideal) G (ix3 0 t l)))
include h hv hG

/-- The state after `n` trips. -/
theorem loop1_upto (n : ℕ) (hn : n ≤ (k0_t1_loop i v2).trips) : Good (rowsOf (arg3.view.read (Elt Ideal) X_arg3)) (rowsOf (arg4.view.read (Elt Ideal) X_arg4)) (blk v8) (blk v10) (i 1).val (256 * (i 1).val + 2048 * n) (st_k0_t1 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 X_arg3 X_arg4 G init n).1 H
    (fun t l => arg7.view.read (Elt Ideal) (arg7.view.writes (Elt Ideal) G (st_k0_t1 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 X_arg3 X_arg4 G init n).2) (ix3 0 t l)) := by
  subst hv
  induction n with
  | zero => exact hG
  | succ n ih =>
    have := st_k0_t1_succ (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 G init ⟨n, hn⟩
    rw [show (st_k0_t1 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 G init (n + 1)) = _ from this]
    have hst := (ih (Nat.le_of_succ_le hn)).step (m := 256) (n := 2048) rfl (acc' := _) (f' := _)
      (by
        have t := trip1 (e := e) (h := h) (v8 := v8) (v10 := v10) (X_arg3 := X_arg3) (X_arg4 := X_arg4) (𝒱 := 𝒱) (c := c) (bd := bd) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (k0_hw1 := k0_hw1) (v3 := v3) (v11 := v11) (v12 := v12) (v30 := v30) (v35 := v35) ⟨n, hn⟩ (st_k0_t1 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 G init n).1 G (st_k0_t1 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 X_arg3 X_arg4 G init n).2
        exact (show 256 * ((i 1).val + 8 * n) = 256 * (i 1).val + 2048 * n by omega) ▸ t)
    exact hst

/-- The state after the loop. -/
theorem loop1 : Good (rowsOf (arg3.view.read (Elt Ideal) X_arg3)) (rowsOf (arg4.view.read (Elt Ideal) X_arg4)) (blk v8) (blk v10) (i 1).val (256 * ((i 1).val + 8 * ((e.val + 1 - (i 1).val) / 8))) (st_k0_t1 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 X_arg3 X_arg4 G init (k0_t1_loop i v2).trips).1 H
    (fun t l => arg7.view.read (Elt Ideal) (arg7.view.writes (Elt Ideal) G (st_k0_t1 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 X_arg3 X_arg4 G init (k0_t1_loop i v2).trips).2) (ix3 0 t l)) := by
  have t := loop1_upto 𝒱 c bd i arg2 harg2 arg3 harg3 arg4 harg4 arg5 harg5 arg6 harg6 arg7 harg7 arg8 harg8 arg9 harg9 arg10 harg10 v2 k0_hw1 v3 v8 v10 v11 v12 v30 v35 X_arg3 X_arg4 e h hv init G H hG _ le_rfl
  have hle : (i 1).val ≤ e.val := h
  have e1 : (k0_t1_loop i v2).trips = (e.val + 1 - (i 1).val) / 8 := by rw [hv]; exact Words.trips1 i e h
  have e2 : 256 * (i 1).val + 2048 * (k0_t1_loop i v2).trips = 256 * ((i 1).val + 8 * ((e.val + 1 - (i 1).val) / 8)) := by rw [e1]; omega
  exact e2 ▸ t

end loop

end Cert.Trips
-- ==== Proof.Loop3.lean ====
module

public import proofs.«01_k».proof.Defs
public import proofs.«01_k».proof.Proof.Words
public import proofs.«01_k».proof.Proof.Sem
public import proofs.«01_k».proof.Proof.Gen.KernelIdeal.Frame

@[expose] public section

set_option maxRecDepth 16384

noncomputable section

/-! The loop that takes the query rows in chunks of 1024: one trip as sums, then all its trips. -/

namespace Cert.Trips

open Idealize.ShloMosaic Idealize.ShloMosaic.TcCoe Cert.KernelIdeal Cert.KernelIdeal.Gen Cert.Sem

section payloads

variable (i : grid0.Coords) (j d : ℕ) (v2 : BitVec 32) (v8 v10 : FVec Ideal S256x128 .bf16) (s : BitVec 32) (k : Fin (k0_t3_loop i v2).trips)
  (x y : Vec Ideal S1x1024x128 .bf16)

theorem p3 (hj : j < 32) (hd : d < 64) (hw : Scalar.addi s (Scalar.muli 4#32 (Scf.iv 0#32 1#32 k.val)) = BitVec.ofNat 32 (j + d)) (r : Fin 1024) (c : Fin 256) :
    k0_pay25 (F := Ideal) i (BitVec.ofNat 32 j) v2 v8 s 0#32 1#32 k x (ix2 r c) = Ideal.exp2 (if c.val ≤ r.val + 256 * d then ∑ l, x (ix3 0 r l) * v8 (ix2 c l) else ⊥) := by
  unfold k0_pay25 k0_pay23
  pointwise
  simp only [hw, mask hj hd (show r.val < 2048 by omega) c.isLt, select_ofBool, negInf]
  rfl

theorem g3 (hj : j < 32) (hd : d < 64) (hw : Scalar.addi s (Scalar.muli 4#32 (Scf.iv 0#32 1#32 k.val)) = BitVec.ofNat 32 (j + d)) (r : Fin 1024) (c : Fin 256) :
    k0_pay26 (F := Ideal) i (BitVec.ofNat 32 j) v2 v8 v10 s 0#32 1#32 k x y (ix2 r c) = Ideal.exp2 (if c.val ≤ r.val + 256 * d then ∑ l, x (ix3 0 r l) * v8 (ix2 c l) else ⊥)
      * ∑ l, y (ix3 0 r l) * v10 (ix2 c l) := by
  rw [← p3 i j d v2 v8 s k x hj hd hw r c]
  unfold k0_pay26 k0_pay24
  pointwise

theorem cs3 (a : FVec Ideal S8x256 .f32) (r : Fin 8) (c : Fin 256) :
    k0_pay28 (F := Ideal) i (BitVec.ofNat 32 j) v2 v8 v10 s 0#32 1#32 k a x y (ix2 r c) = a (ix2 r c) + ∑ z : Fin 128, k0_pay26 (F := Ideal) i (BitVec.ofNat 32 j) v2 v8 v10 s 0#32 1#32 k x y (ix2 ⟨z.val * 8 + r.val, by omega⟩ c) := by
  unfold k0_pay28
  pointwise

theorem dv3 (a : FVec Ideal S256x128 .f32) (c : Fin 256) (l : Fin 128) :
    k0_pay29 (F := Ideal) i (BitVec.ofNat 32 j) v2 v8 s 0#32 1#32 k a x y (ix2 c l) = a (ix2 c l) + ∑ r : Fin 1024, k0_pay25 (F := Ideal) i (BitVec.ofNat 32 j) v2 v8 s 0#32 1#32 k x (ix2 r c) * y (ix3 0 r l) := by
  unfold k0_pay29 k0_pay24
  pointwise

theorem dk3 (a : FVec Ideal S256x128 .f32) (c : Fin 256) (l : Fin 128) :
    k0_pay30 (F := Ideal) i (BitVec.ofNat 32 j) v2 v8 v10 s 0#32 1#32 k a x y (ix2 c l) = a (ix2 c l) + ∑ r : Fin 1024, k0_pay26 (F := Ideal) i (BitVec.ofNat 32 j) v2 v8 v10 s 0#32 1#32 k x y (ix2 r c) * x (ix3 0 r l) := by
  unfold k0_pay30 k0_pay27 k0_pay23
  pointwise

theorem dq3 (a : FVec Ideal S1x1024x128 .f32) (r : Fin 1024) (l : Fin 128) :
    k0_pay84 (k0_pay31 (F := Ideal) i (BitVec.ofNat 32 j) v2 v8 v10 s 0#32 1#32 k x y a) (ix3 0 r l) = a (ix3 0 r l) + ∑ c : Fin 256, k0_pay26 (F := Ideal) i (BitVec.ofNat 32 j) v2 v8 v10 s 0#32 1#32 k x y (ix2 r c) * v8 (ix2 c l) := by
  unfold k0_pay84 k0_pay31 k0_pay27
  pointwise

end payloads

section trips

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v3 : BitVec 32) (v11 : FVec Ideal S256x128 .f32) (v12 : FVec Ideal S8x256 .f32) (v30 : BitVec 32) (v35 : BitVec 32)
  (e : Fin 32) (h : i 1 ≤ e) (k0_hw1 : k0_chk1 i (BitVec.ofNat 32 e.val)) (v8 v10 : FVec Ideal S256x128 .bf16)
  (X_arg3 : BufTy.Contents (Elt Ideal) arg3.view.ty) (X_arg4 : BufTy.Contents (Elt Ideal) arg4.view.ty)

set_option maxHeartbeats 400000 in
include h in
theorem trip3 (k : Fin (k0_t3_loop i (BitVec.ofNat 32 e.val)).trips) (acc : Carry) (f : BufTy.Contents (Elt Ideal) arg7.view.ty) (L : List (View.Piece (Elt Ideal) S1x8192x128 .f32)) :
    Step (rowsOf (arg3.view.read (Elt Ideal) X_arg3)) (rowsOf (arg4.view.read (Elt Ideal) X_arg4)) (blk v8) (blk v10) (i 1).val 128 1024 (256 * ((i 1).val + 8 * ((e.val + 1 - (i 1).val) / 8) + 4 * k.val)) acc
      (tripR_k0_t3 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 k acc (arg7.view.writes (Elt Ideal) f L))
      (fun t l => arg7.view.read (Elt Ideal) (arg7.view.writes (Elt Ideal) f L) (ix3 0 t l))
      (fun t l => arg7.view.read (Elt Ideal) (arg7.view.writes (Elt Ideal) f
        (tripL_k0_t3 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 k acc (arg7.view.writes (Elt Ideal) f L) ++ L)) (ix3 0 t l)) := by
  have hj : (i 1).val < 32 := (i 1).isLt
  have hk := lt_of_lt_of_eq k.isLt (Words.trips3 i e h)
  have he := e.isLt
  have hle : (i 1).val ≤ e.val := h
  have hd : 8 * ((e.val + 1 - (i 1).val) / 8) + 4 * k.val < 64 := by omega
  have hoff := Words.off4 i e h k
  have hinb := k0_off4_inb i (BitVec.ofNat 32 e.val) k0_hw1 k
  have hw := word ((i 1).val + 8 * ((e.val + 1 - (i 1).val) / 8)) 4 k.val
  have hR : 256 * ((i 1).val + 8 * ((e.val + 1 - (i 1).val) / 8) + 4 * k.val) + 1024 ≤ 8192 := by omega
  unfold tripR_k0_t3 tripL_k0_t3 trip_k0_t3
  dsimp only
  unfold trip_k0_t3.sl.r trip_k0_t3.sl.r_1 trip_k0_t3.sl.r_2 trip_k0_t3.sl.r_3
  generalize hx : arg3.view.readAt (Elt Ideal) (Rect.unit (s := S1x8192x128) (k0_off4 i (BitVec.ofNat 32 e.val) k) S1x1024x128.size hinb).toLoadRect X_arg3 = x
  generalize hy : arg4.view.readAt (Elt Ideal) (Rect.unit (s := S1x8192x128) (k0_off4 i (BitVec.ofNat 32 e.val) k) S1x1024x128.size hinb).toLoadRect X_arg4 = y
  have eQ (r : Fin 1024) (l : Fin 128) : x (ix3 0 r l) = rowsOf (arg3.view.read (Elt Ideal) X_arg3) (256 * ((i 1).val + 8 * ((e.val + 1 - (i 1).val) / 8) + 4 * k.val) + r.val) l := by
    subst hx; exact (load arg3 X_arg3 hinb hoff r l).trans (rowsOf_lt (arg3.view.read (Elt Ideal) X_arg3) _ l).symm
  have eD (r : Fin 1024) (l : Fin 128) : y (ix3 0 r l) = rowsOf (arg4.view.read (Elt Ideal) X_arg4) (256 * ((i 1).val + 8 * ((e.val + 1 - (i 1).val) / 8) + 4 * k.val) + r.val) l := by
    subst hy; exact (load arg4 X_arg4 hinb hoff r l).trans (rowsOf_lt (arg4.view.read (Elt Ideal) X_arg4) _ l).symm
  have cond (r : Fin 1024) (c : Fin 256) : c.val ≤ r.val + 256 * (8 * ((e.val + 1 - (i 1).val) / 8) + 4 * k.val) ↔ 256 * (i 1).val + c.val ≤ 256 * ((i 1).val + 8 * ((e.val + 1 - (i 1).val) / 8) + 4 * k.val) + r.val := by omega
  have eP (r : Fin 1024) (c : Fin 256) := p3 i (i 1).val (8 * ((e.val + 1 - (i 1).val) / 8) + 4 * k.val) (BitVec.ofNat 32 e.val) v8 (BitVec.ofNat 32 ((i 1).val + 8 * ((e.val + 1 - (i 1).val) / 8))) k x hj hd (hw.trans (congrArg (BitVec.ofNat 32) (by omega))) r c
  have eG (r : Fin 1024) (c : Fin 256) := g3 i (i 1).val (8 * ((e.val + 1 - (i 1).val) / 8) + 4 * k.val) (BitVec.ofNat 32 e.val) v8 v10 (BitVec.ofNat 32 ((i 1).val + 8 * ((e.val + 1 - (i 1).val) / 8))) k x y hj hd (hw.trans (congrArg (BitVec.ofNat 32) (by omega))) r c
  simp only [eQ, cond] at eP eG
  simp only [eD] at eG
  have h1 (c : Fin 256) (l : Fin 128) := dk3 i (i 1).val (BitVec.ofNat 32 e.val) v8 v10 (BitVec.ofNat 32 ((i 1).val + 8 * ((e.val + 1 - (i 1).val) / 8))) k x y acc.1 c l
  have h2 (c : Fin 256) (l : Fin 128) := dv3 i (i 1).val (BitVec.ofNat 32 e.val) v8 (BitVec.ofNat 32 ((i 1).val + 8 * ((e.val + 1 - (i 1).val) / 8))) k x y acc.2.1 c l
  have h3 (b : Fin 8) (c : Fin 256) := cs3 i (i 1).val (BitVec.ofNat 32 e.val) v8 v10 (BitVec.ofNat 32 ((i 1).val + 8 * ((e.val + 1 - (i 1).val) / 8))) k x y acc.2.2 b c
  have h4 (a : FVec Ideal S1x1024x128 .f32) (r : Fin 1024) (l : Fin 128) := dq3 i (i 1).val (BitVec.ofNat 32 e.val) v8 v10 (BitVec.ofNat 32 ((i 1).val + 8 * ((e.val + 1 - (i 1).val) / 8))) k x y a r l
  simp only [eG, eQ] at h1 h4
  simp only [eP, eD] at h2
  simp only [eG] at h3
  refine ⟨h1, h2, h3, fun t l => ?_⟩
  refine (store arg7 f hinb _ L hoff t l _ fun r l => h4 _ r l).trans ?_
  split
  next ht =>
    refine congrArg₂ (· + ·) ((load arg7 _ hinb hoff _ l).trans (congrArg _ ?_)) ?_
    · exact congrArg (ix3 0 · l) (Fin.ext (by show _ + (t.val - _) = t.val; omega))
    · simp only [Nat.add_sub_cancel' ht.1]
      rfl
  next ht => rfl

end trips

section loop

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v2 : Elt Ideal .i32) (k0_hw1 : k0_chk1 i v2) (v3 : BitVec 32) (v8 : FVec Ideal S256x128 .bf16) (v10 : FVec Ideal S256x128 .bf16) (v11 : FVec Ideal S256x128 .f32) (v12 : FVec Ideal S8x256 .f32) (v30 : BitVec 32) (v35 : BitVec 32) (v39 : BitVec 32) (X_arg3 : BufTy.Contents (Elt Ideal) arg3.view.ty) (X_arg4 : BufTy.Contents (Elt Ideal) arg4.view.ty)
  (e : Fin 32) (h : i 1 ≤ e) (hv : v2 = BitVec.ofNat 32 e.val) (hs : v39 = BitVec.ofNat 32 ((i 1).val + 8 * ((e.val + 1 - (i 1).val) / 8))) (init : Carry) (G : BufTy.Contents (Elt Ideal) arg7.view.ty) (H : Fin 8192 → Fin 128 → EReal)
  (hG : Good (rowsOf (arg3.view.read (Elt Ideal) X_arg3)) (rowsOf (arg4.view.read (Elt Ideal) X_arg4)) (blk v8) (blk v10) (i 1).val (256 * ((i 1).val + 8 * ((e.val + 1 - (i 1).val) / 8))) init H (fun t l => arg7.view.read (Elt Ideal) G (ix3 0 t l)))
include h hv hs hG

/-- The state after `n` trips. -/
theorem loop3_upto (n : ℕ) (hn : n ≤ (k0_t3_loop i v2).trips) : Good (rowsOf (arg3.view.read (Elt Ideal) X_arg3)) (rowsOf (arg4.view.read (Elt Ideal) X_arg4)) (blk v8) (blk v10) (i 1).val (256 * ((i 1).val + 8 * ((e.val + 1 - (i 1).val) / 8)) + 1024 * n) (st_k0_t3 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 v39 X_arg3 X_arg4 G init n).1 H
    (fun t l => arg7.view.read (Elt Ideal) (arg7.view.writes (Elt Ideal) G (st_k0_t3 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 v39 X_arg3 X_arg4 G init n).2) (ix3 0 t l)) := by
  subst hv hs
  induction n with
  | zero => exact hG
  | succ n ih =>
    have := st_k0_t3_succ (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 G init ⟨n, hn⟩
    rw [show (st_k0_t3 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 G init (n + 1)) = _ from this]
    have hst := (ih (Nat.le_of_succ_le hn)).step (m := 128) (n := 1024) rfl (acc' := _) (f' := _)
      (by
        have t := trip3 (e := e) (h := h) (v8 := v8) (v10 := v10) (X_arg3 := X_arg3) (X_arg4 := X_arg4) (𝒱 := 𝒱) (c := c) (bd := bd) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (k0_hw1 := k0_hw1) (v3 := v3) (v11 := v11) (v12 := v12) (v30 := v30) (v35 := v35) ⟨n, hn⟩ (st_k0_t3 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 G init n).1 G (st_k0_t3 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v11 v12 v30 0#32 v35 (BitVec.ofNat 32 ((i 1).val + 8 * ((e.val + 1 - (i 1).val) / 8))) X_arg3 X_arg4 G init n).2
        exact (show 256 * ((i 1).val + 8 * ((e.val + 1 - (i 1).val) / 8) + 4 * n) = 256 * ((i 1).val + 8 * ((e.val + 1 - (i 1).val) / 8)) + 1024 * n by omega) ▸ t)
    exact hst

/-- The state after the loop. -/
theorem loop3 : Good (rowsOf (arg3.view.read (Elt Ideal) X_arg3)) (rowsOf (arg4.view.read (Elt Ideal) X_arg4)) (blk v8) (blk v10) (i 1).val (256 * ((i 1).val + 4 * ((e.val + 1 - (i 1).val) / 4))) (st_k0_t3 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 v39 X_arg3 X_arg4 G init (k0_t3_loop i v2).trips).1 H
    (fun t l => arg7.view.read (Elt Ideal) (arg7.view.writes (Elt Ideal) G (st_k0_t3 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v11 v12 v30 0#32 v35 v39 X_arg3 X_arg4 G init (k0_t3_loop i v2).trips).2) (ix3 0 t l)) := by
  have t := loop3_upto 𝒱 c bd i arg2 harg2 arg3 harg3 arg4 harg4 arg5 harg5 arg6 harg6 arg7 harg7 arg8 harg8 arg9 harg9 arg10 harg10 v2 k0_hw1 v3 v8 v10 v11 v12 v30 v35 v39 X_arg3 X_arg4 e h hv hs init G H hG _ le_rfl
  have hle : (i 1).val ≤ e.val := h
  have e1 : (k0_t3_loop i v2).trips = (e.val + 1 - (i 1).val) % 8 / 4 := by rw [hv]; exact Words.trips3 i e h
  have e2 : 256 * ((i 1).val + 8 * ((e.val + 1 - (i 1).val) / 8)) + 1024 * (k0_t3_loop i v2).trips = 256 * ((i 1).val + 4 * ((e.val + 1 - (i 1).val) / 4)) := by rw [e1]; omega
  exact e2 ▸ t

end loop

end Cert.Trips
-- ==== Proof.Loop5.lean ====
module

public import proofs.«01_k».proof.Defs
public import proofs.«01_k».proof.Proof.Words
public import proofs.«01_k».proof.Proof.Sem
public import proofs.«01_k».proof.Proof.Gen.KernelIdeal.Frame

@[expose] public section

set_option maxRecDepth 16384

noncomputable section

/-! The loop that takes the query rows in chunks of 512: one trip as sums, then all its trips. -/

namespace Cert.Trips

open Idealize.ShloMosaic Idealize.ShloMosaic.TcCoe Cert.KernelIdeal Cert.KernelIdeal.Gen Cert.Sem

section payloads

variable (i : grid0.Coords) (j d : ℕ) (v2 : BitVec 32) (v8 v10 : FVec Ideal S256x128 .bf16) (s : BitVec 32) (k : Fin (k0_t5_loop i v2).trips)
  (x y : Vec Ideal S1x512x128 .bf16)

theorem p5 (hj : j < 32) (hd : d < 64) (hw : Scalar.addi s (Scalar.muli 2#32 (Scf.iv 0#32 1#32 k.val)) = BitVec.ofNat 32 (j + d)) (r : Fin 512) (c : Fin 256) :
    k0_pay43 (F := Ideal) i (BitVec.ofNat 32 j) v2 v8 s 0#32 1#32 k x (ix2 r c) = Ideal.exp2 (if c.val ≤ r.val + 256 * d then ∑ l, x (ix3 0 r l) * v8 (ix2 c l) else ⊥) := by
  unfold k0_pay43 k0_pay41
  pointwise
  simp only [hw, mask hj hd (show r.val < 2048 by omega) c.isLt, select_ofBool, negInf]
  rfl

theorem g5 (hj : j < 32) (hd : d < 64) (hw : Scalar.addi s (Scalar.muli 2#32 (Scf.iv 0#32 1#32 k.val)) = BitVec.ofNat 32 (j + d)) (r : Fin 512) (c : Fin 256) :
    k0_pay44 (F := Ideal) i (BitVec.ofNat 32 j) v2 v8 v10 s 0#32 1#32 k x y (ix2 r c) = Ideal.exp2 (if c.val ≤ r.val + 256 * d then ∑ l, x (ix3 0 r l) * v8 (ix2 c l) else ⊥)
      * ∑ l, y (ix3 0 r l) * v10 (ix2 c l) := by
  rw [← p5 i j d v2 v8 s k x hj hd hw r c]
  unfold k0_pay44 k0_pay42
  pointwise

theorem cs5 (a : FVec Ideal S8x256 .f32) (r : Fin 8) (c : Fin 256) :
    k0_pay46 (F := Ideal) i (BitVec.ofNat 32 j) v2 v8 v10 s 0#32 1#32 k a x y (ix2 r c) = a (ix2 r c) + ∑ z : Fin 64, k0_pay44 (F := Ideal) i (BitVec.ofNat 32 j) v2 v8 v10 s 0#32 1#32 k x y (ix2 ⟨z.val * 8 + r.val, by omega⟩ c) := by
  unfold k0_pay46
  pointwise

theorem dv5 (a : FVec Ideal S256x128 .f32) (c : Fin 256) (l : Fin 128) :
    k0_pay47 (F := Ideal) i (BitVec.ofNat 32 j) v2 v8 s 0#32 1#32 k a x y (ix2 c l) = a (ix2 c l) + ∑ r : Fin 512, k0_pay43 (F := Ideal) i (BitVec.ofNat 32 j) v2 v8 s 0#32 1#32 k x (ix2 r c) * y (ix3 0 r l) := by
  unfold k0_pay47 k0_pay42
  pointwise

theorem dk5 (a : FVec Ideal S256x128 .f32) (c : Fin 256) (l : Fin 128) :
    k0_pay48 (F := Ideal) i (BitVec.ofNat 32 j) v2 v8 v10 s 0#32 1#32 k a x y (ix2 c l) = a (ix2 c l) + ∑ r : Fin 512, k0_pay44 (F := Ideal) i (BitVec.ofNat 32 j) v2 v8 v10 s 0#32 1#32 k x y (ix2 r c) * x (ix3 0 r l) := by
  unfold k0_pay48 k0_pay45 k0_pay41
  pointwise

theorem dq5 (a : FVec Ideal S1x512x128 .f32) (r : Fin 512) (l : Fin 128) :
    k0_pay86 (k0_pay49 (F := Ideal) i (BitVec.ofNat 32 j) v2 v8 v10 s 0#32 1#32 k x y a) (ix3 0 r l) = a (ix3 0 r l) + ∑ c : Fin 256, k0_pay44 (F := Ideal) i (BitVec.ofNat 32 j) v2 v8 v10 s 0#32 1#32 k x y (ix2 r c) * v8 (ix2 c l) := by
  unfold k0_pay86 k0_pay49 k0_pay45
  pointwise

end payloads

section trips

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v3 : BitVec 32) (v64_0 : FVec Ideal S256x128 .f32) (v64_1 : FVec Ideal S256x128 .f32) (v64_2 : FVec Ideal S8x256 .f32) (v67 : BitVec 32) (v68 : BitVec 32) (v73 : BitVec 32) (v75 : BitVec 32)
  (e : Fin 32) (h : i 1 ≤ e) (k0_hw1 : k0_chk1 i (BitVec.ofNat 32 e.val)) (v8 v10 : FVec Ideal S256x128 .bf16)
  (X_arg3 : BufTy.Contents (Elt Ideal) arg3.view.ty) (X_arg4 : BufTy.Contents (Elt Ideal) arg4.view.ty)

set_option maxHeartbeats 400000 in
include h in
theorem trip5 (k : Fin (k0_t5_loop i (BitVec.ofNat 32 e.val)).trips) (acc : Carry) (f : BufTy.Contents (Elt Ideal) arg7.view.ty) (L : List (View.Piece (Elt Ideal) S1x8192x128 .f32)) :
    Step (rowsOf (arg3.view.read (Elt Ideal) X_arg3)) (rowsOf (arg4.view.read (Elt Ideal) X_arg4)) (blk v8) (blk v10) (i 1).val 64 512 (256 * ((i 1).val + 4 * ((e.val + 1 - (i 1).val) / 4) + 2 * k.val)) acc
      (tripR_k0_t5 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 k acc (arg7.view.writes (Elt Ideal) f L))
      (fun t l => arg7.view.read (Elt Ideal) (arg7.view.writes (Elt Ideal) f L) (ix3 0 t l))
      (fun t l => arg7.view.read (Elt Ideal) (arg7.view.writes (Elt Ideal) f
        (tripL_k0_t5 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 k acc (arg7.view.writes (Elt Ideal) f L) ++ L)) (ix3 0 t l)) := by
  have hj : (i 1).val < 32 := (i 1).isLt
  have hk := lt_of_lt_of_eq k.isLt (Words.trips5 i e h)
  have he := e.isLt
  have hle : (i 1).val ≤ e.val := h
  have hd : 4 * ((e.val + 1 - (i 1).val) / 4) + 2 * k.val < 64 := by omega
  have hoff := Words.off6 i e h k
  have hinb := k0_off6_inb i (BitVec.ofNat 32 e.val) k0_hw1 k
  have hw := word ((i 1).val + 4 * ((e.val + 1 - (i 1).val) / 4)) 2 k.val
  have hR : 256 * ((i 1).val + 4 * ((e.val + 1 - (i 1).val) / 4) + 2 * k.val) + 512 ≤ 8192 := by omega
  unfold tripR_k0_t5 tripL_k0_t5 trip_k0_t5
  dsimp only
  unfold trip_k0_t5.sl.r trip_k0_t5.sl.r_1 trip_k0_t5.sl.r_2 trip_k0_t5.sl.r_3
  generalize hx : arg3.view.readAt (Elt Ideal) (Rect.unit (s := S1x8192x128) (k0_off6 i (BitVec.ofNat 32 e.val) k) S1x512x128.size hinb).toLoadRect X_arg3 = x
  generalize hy : arg4.view.readAt (Elt Ideal) (Rect.unit (s := S1x8192x128) (k0_off6 i (BitVec.ofNat 32 e.val) k) S1x512x128.size hinb).toLoadRect X_arg4 = y
  have eQ (r : Fin 512) (l : Fin 128) : x (ix3 0 r l) = rowsOf (arg3.view.read (Elt Ideal) X_arg3) (256 * ((i 1).val + 4 * ((e.val + 1 - (i 1).val) / 4) + 2 * k.val) + r.val) l := by
    subst hx; exact (load arg3 X_arg3 hinb hoff r l).trans (rowsOf_lt (arg3.view.read (Elt Ideal) X_arg3) _ l).symm
  have eD (r : Fin 512) (l : Fin 128) : y (ix3 0 r l) = rowsOf (arg4.view.read (Elt Ideal) X_arg4) (256 * ((i 1).val + 4 * ((e.val + 1 - (i 1).val) / 4) + 2 * k.val) + r.val) l := by
    subst hy; exact (load arg4 X_arg4 hinb hoff r l).trans (rowsOf_lt (arg4.view.read (Elt Ideal) X_arg4) _ l).symm
  have cond (r : Fin 512) (c : Fin 256) : c.val ≤ r.val + 256 * (4 * ((e.val + 1 - (i 1).val) / 4) + 2 * k.val) ↔ 256 * (i 1).val + c.val ≤ 256 * ((i 1).val + 4 * ((e.val + 1 - (i 1).val) / 4) + 2 * k.val) + r.val := by omega
  have eP (r : Fin 512) (c : Fin 256) := p5 i (i 1).val (4 * ((e.val + 1 - (i 1).val) / 4) + 2 * k.val) (BitVec.ofNat 32 e.val) v8 (BitVec.ofNat 32 ((i 1).val + 4 * ((e.val + 1 - (i 1).val) / 4))) k x hj hd (hw.trans (congrArg (BitVec.ofNat 32) (by omega))) r c
  have eG (r : Fin 512) (c : Fin 256) := g5 i (i 1).val (4 * ((e.val + 1 - (i 1).val) / 4) + 2 * k.val) (BitVec.ofNat 32 e.val) v8 v10 (BitVec.ofNat 32 ((i 1).val + 4 * ((e.val + 1 - (i 1).val) / 4))) k x y hj hd (hw.trans (congrArg (BitVec.ofNat 32) (by omega))) r c
  simp only [eQ, cond] at eP eG
  simp only [eD] at eG
  have h1 (c : Fin 256) (l : Fin 128) := dk5 i (i 1).val (BitVec.ofNat 32 e.val) v8 v10 (BitVec.ofNat 32 ((i 1).val + 4 * ((e.val + 1 - (i 1).val) / 4))) k x y acc.1 c l
  have h2 (c : Fin 256) (l : Fin 128) := dv5 i (i 1).val (BitVec.ofNat 32 e.val) v8 (BitVec.ofNat 32 ((i 1).val + 4 * ((e.val + 1 - (i 1).val) / 4))) k x y acc.2.1 c l
  have h3 (b : Fin 8) (c : Fin 256) := cs5 i (i 1).val (BitVec.ofNat 32 e.val) v8 v10 (BitVec.ofNat 32 ((i 1).val + 4 * ((e.val + 1 - (i 1).val) / 4))) k x y acc.2.2 b c
  have h4 (a : FVec Ideal S1x512x128 .f32) (r : Fin 512) (l : Fin 128) := dq5 i (i 1).val (BitVec.ofNat 32 e.val) v8 v10 (BitVec.ofNat 32 ((i 1).val + 4 * ((e.val + 1 - (i 1).val) / 4))) k x y a r l
  simp only [eG, eQ] at h1 h4
  simp only [eP, eD] at h2
  simp only [eG] at h3
  refine ⟨h1, h2, h3, fun t l => ?_⟩
  refine (store arg7 f hinb _ L hoff t l _ fun r l => h4 _ r l).trans ?_
  split
  next ht =>
    refine congrArg₂ (· + ·) ((load arg7 _ hinb hoff _ l).trans (congrArg _ ?_)) ?_
    · exact congrArg (ix3 0 · l) (Fin.ext (by show _ + (t.val - _) = t.val; omega))
    · simp only [Nat.add_sub_cancel' ht.1]
      rfl
  next ht => rfl

end trips

section loop

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v2 : Elt Ideal .i32) (k0_hw1 : k0_chk1 i v2) (v3 : BitVec 32) (v8 : FVec Ideal S256x128 .bf16) (v10 : FVec Ideal S256x128 .bf16) (v64_0 : FVec Ideal S256x128 .f32) (v64_1 : FVec Ideal S256x128 .f32) (v64_2 : FVec Ideal S8x256 .f32) (v66 : BitVec 32) (v67 : BitVec 32) (v68 : BitVec 32) (v73 : BitVec 32) (v75 : BitVec 32) (X_arg3 : BufTy.Contents (Elt Ideal) arg3.view.ty) (X_arg4 : BufTy.Contents (Elt Ideal) arg4.view.ty)
  (e : Fin 32) (h : i 1 ≤ e) (hv : v2 = BitVec.ofNat 32 e.val) (hs : v66 = BitVec.ofNat 32 ((i 1).val + 4 * ((e.val + 1 - (i 1).val) / 4))) (init : Carry) (G : BufTy.Contents (Elt Ideal) arg7.view.ty) (H : Fin 8192 → Fin 128 → EReal)
  (hG : Good (rowsOf (arg3.view.read (Elt Ideal) X_arg3)) (rowsOf (arg4.view.read (Elt Ideal) X_arg4)) (blk v8) (blk v10) (i 1).val (256 * ((i 1).val + 4 * ((e.val + 1 - (i 1).val) / 4))) init H (fun t l => arg7.view.read (Elt Ideal) G (ix3 0 t l)))
include h hv hs hG

/-- The state after `n` trips. -/
theorem loop5_upto (n : ℕ) (hn : n ≤ (k0_t5_loop i v2).trips) : Good (rowsOf (arg3.view.read (Elt Ideal) X_arg3)) (rowsOf (arg4.view.read (Elt Ideal) X_arg4)) (blk v8) (blk v10) (i 1).val (256 * ((i 1).val + 4 * ((e.val + 1 - (i 1).val) / 4)) + 512 * n) (st_k0_t5 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 X_arg3 X_arg4 G init n).1 H
    (fun t l => arg7.view.read (Elt Ideal) (arg7.view.writes (Elt Ideal) G (st_k0_t5 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 X_arg3 X_arg4 G init n).2) (ix3 0 t l)) := by
  subst hv hs
  induction n with
  | zero => exact hG
  | succ n ih =>
    have := st_k0_t5_succ (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 G init ⟨n, hn⟩
    rw [show (st_k0_t5 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 G init (n + 1)) = _ from this]
    have hst := (ih (Nat.le_of_succ_le hn)).step (m := 64) (n := 512) rfl (acc' := _) (f' := _)
      (by
        have t := trip5 (e := e) (h := h) (v8 := v8) (v10 := v10) (X_arg3 := X_arg3) (X_arg4 := X_arg4) (𝒱 := 𝒱) (c := c) (bd := bd) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (k0_hw1 := k0_hw1) (v3 := v3) (v64_0 := v64_0) (v64_1 := v64_1) (v64_2 := v64_2) (v67 := v67) (v68 := v68) (v73 := v73) (v75 := v75) ⟨n, hn⟩ (st_k0_t5 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 G init n).1 G (st_k0_t5 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 (BitVec.ofNat 32 ((i 1).val + 4 * ((e.val + 1 - (i 1).val) / 4))) v67 2#32 v68 v73 v75 0#32 X_arg3 X_arg4 G init n).2
        exact (show 256 * ((i 1).val + 4 * ((e.val + 1 - (i 1).val) / 4) + 2 * n) = 256 * ((i 1).val + 4 * ((e.val + 1 - (i 1).val) / 4)) + 512 * n by omega) ▸ t)
    exact hst

/-- The state after the loop. -/
theorem loop5 : Good (rowsOf (arg3.view.read (Elt Ideal) X_arg3)) (rowsOf (arg4.view.read (Elt Ideal) X_arg4)) (blk v8) (blk v10) (i 1).val (256 * ((i 1).val + 2 * ((e.val + 1 - (i 1).val) / 2))) (st_k0_t5 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 X_arg3 X_arg4 G init (k0_t5_loop i v2).trips).1 H
    (fun t l => arg7.view.read (Elt Ideal) (arg7.view.writes (Elt Ideal) G (st_k0_t5 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 X_arg3 X_arg4 G init (k0_t5_loop i v2).trips).2) (ix3 0 t l)) := by
  have t := loop5_upto 𝒱 c bd i arg2 harg2 arg3 harg3 arg4 harg4 arg5 harg5 arg6 harg6 arg7 harg7 arg8 harg8 arg9 harg9 arg10 harg10 v2 k0_hw1 v3 v8 v10 v64_0 v64_1 v64_2 v66 v67 v68 v73 v75 X_arg3 X_arg4 e h hv hs init G H hG _ le_rfl
  have hle : (i 1).val ≤ e.val := h
  have e1 : (k0_t5_loop i v2).trips = (e.val + 1 - (i 1).val) % 4 / 2 := by rw [hv]; exact Words.trips5 i e h
  have e2 : 256 * ((i 1).val + 4 * ((e.val + 1 - (i 1).val) / 4)) + 512 * (k0_t5_loop i v2).trips = 256 * ((i 1).val + 2 * ((e.val + 1 - (i 1).val) / 2)) := by rw [e1]; omega
  exact e2 ▸ t

end loop

end Cert.Trips
-- ==== Proof.Loop7.lean ====
module

public import proofs.«01_k».proof.Defs
public import proofs.«01_k».proof.Proof.Words
public import proofs.«01_k».proof.Proof.Sem
public import proofs.«01_k».proof.Proof.Gen.KernelIdeal.Frame

@[expose] public section

set_option maxRecDepth 16384

noncomputable section

/-! The loop that takes the query rows in chunks of 256: one trip as sums, then all its trips. -/

namespace Cert.Trips

open Idealize.ShloMosaic Idealize.ShloMosaic.TcCoe Cert.KernelIdeal Cert.KernelIdeal.Gen Cert.Sem

section payloads

variable (i : grid0.Coords) (j d : ℕ) (v2 : BitVec 32) (v8 v10 : FVec Ideal S256x128 .bf16) (s : BitVec 32) (k : Fin (k0_t7_loop i v2).trips)
  (x y : Vec Ideal S1x256x128 .bf16)

theorem p7 (hj : j < 32) (hd : d < 64) (hw : Scalar.addi s (Scalar.muli 1#32 (Scf.iv 0#32 1#32 k.val)) = BitVec.ofNat 32 (j + d)) (r : Fin 256) (c : Fin 256) :
    k0_pay61 (F := Ideal) i (BitVec.ofNat 32 j) v2 v8 s 0#32 1#32 k x (ix2 r c) = Ideal.exp2 (if c.val ≤ r.val + 256 * d then ∑ l, x (ix3 0 r l) * v8 (ix2 c l) else ⊥) := by
  unfold k0_pay61 k0_pay59
  pointwise
  simp only [hw, mask hj hd (show r.val < 2048 by omega) c.isLt, select_ofBool, negInf]
  rfl

theorem g7 (hj : j < 32) (hd : d < 64) (hw : Scalar.addi s (Scalar.muli 1#32 (Scf.iv 0#32 1#32 k.val)) = BitVec.ofNat 32 (j + d)) (r : Fin 256) (c : Fin 256) :
    k0_pay62 (F := Ideal) i (BitVec.ofNat 32 j) v2 v8 v10 s 0#32 1#32 k x y (ix2 r c) = Ideal.exp2 (if c.val ≤ r.val + 256 * d then ∑ l, x (ix3 0 r l) * v8 (ix2 c l) else ⊥)
      * ∑ l, y (ix3 0 r l) * v10 (ix2 c l) := by
  rw [← p7 i j d v2 v8 s k x hj hd hw r c]
  unfold k0_pay62 k0_pay60
  pointwise

theorem cs7 (a : FVec Ideal S8x256 .f32) (r : Fin 8) (c : Fin 256) :
    k0_pay64 (F := Ideal) i (BitVec.ofNat 32 j) v2 v8 v10 s 0#32 1#32 k a x y (ix2 r c) = a (ix2 r c) + ∑ z : Fin 32, k0_pay62 (F := Ideal) i (BitVec.ofNat 32 j) v2 v8 v10 s 0#32 1#32 k x y (ix2 ⟨z.val * 8 + r.val, by omega⟩ c) := by
  unfold k0_pay64
  pointwise

theorem dv7 (a : FVec Ideal S256x128 .f32) (c : Fin 256) (l : Fin 128) :
    k0_pay65 (F := Ideal) i (BitVec.ofNat 32 j) v2 v8 s 0#32 1#32 k a x y (ix2 c l) = a (ix2 c l) + ∑ r : Fin 256, k0_pay61 (F := Ideal) i (BitVec.ofNat 32 j) v2 v8 s 0#32 1#32 k x (ix2 r c) * y (ix3 0 r l) := by
  unfold k0_pay65 k0_pay60
  pointwise

theorem dk7 (a : FVec Ideal S256x128 .f32) (c : Fin 256) (l : Fin 128) :
    k0_pay66 (F := Ideal) i (BitVec.ofNat 32 j) v2 v8 v10 s 0#32 1#32 k a x y (ix2 c l) = a (ix2 c l) + ∑ r : Fin 256, k0_pay62 (F := Ideal) i (BitVec.ofNat 32 j) v2 v8 v10 s 0#32 1#32 k x y (ix2 r c) * x (ix3 0 r l) := by
  unfold k0_pay66 k0_pay63 k0_pay59
  pointwise

theorem dq7 (a : FVec Ideal S1x256x128 .f32) (r : Fin 256) (l : Fin 128) :
    k0_pay88 (k0_pay67 (F := Ideal) i (BitVec.ofNat 32 j) v2 v8 v10 s 0#32 1#32 k x y a) (ix3 0 r l) = a (ix3 0 r l) + ∑ c : Fin 256, k0_pay62 (F := Ideal) i (BitVec.ofNat 32 j) v2 v8 v10 s 0#32 1#32 k x y (ix2 r c) * v8 (ix2 c l) := by
  unfold k0_pay88 k0_pay67 k0_pay63
  pointwise

end payloads

section trips

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v3 : BitVec 32) (v64_0 : FVec Ideal S256x128 .f32) (v64_1 : FVec Ideal S256x128 .f32) (v64_2 : FVec Ideal S8x256 .f32) (v66 : BitVec 32) (v67 : BitVec 32) (v68 : BitVec 32) (v73 : BitVec 32) (v75 : BitVec 32)
  (e : Fin 32) (h : i 1 ≤ e) (k0_hw1 : k0_chk1 i (BitVec.ofNat 32 e.val)) (v8 v10 : FVec Ideal S256x128 .bf16)
  (X_arg3 : BufTy.Contents (Elt Ideal) arg3.view.ty) (X_arg4 : BufTy.Contents (Elt Ideal) arg4.view.ty)

set_option maxHeartbeats 400000 in
include h in
theorem trip7 (k : Fin (k0_t7_loop i (BitVec.ofNat 32 e.val)).trips) (acc : Carry) (f : BufTy.Contents (Elt Ideal) arg7.view.ty) (L : List (View.Piece (Elt Ideal) S1x8192x128 .f32)) :
    Step (rowsOf (arg3.view.read (Elt Ideal) X_arg3)) (rowsOf (arg4.view.read (Elt Ideal) X_arg4)) (blk v8) (blk v10) (i 1).val 32 256 (256 * ((i 1).val + 2 * ((e.val + 1 - (i 1).val) / 2) + k.val)) acc
      (tripR_k0_t7 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 k acc (arg7.view.writes (Elt Ideal) f L))
      (fun t l => arg7.view.read (Elt Ideal) (arg7.view.writes (Elt Ideal) f L) (ix3 0 t l))
      (fun t l => arg7.view.read (Elt Ideal) (arg7.view.writes (Elt Ideal) f
        (tripL_k0_t7 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 k acc (arg7.view.writes (Elt Ideal) f L) ++ L)) (ix3 0 t l)) := by
  have hj : (i 1).val < 32 := (i 1).isLt
  have hk := lt_of_lt_of_eq k.isLt (Words.trips7 i e h)
  have he := e.isLt
  have hle : (i 1).val ≤ e.val := h
  have hd : 2 * ((e.val + 1 - (i 1).val) / 2) + k.val < 64 := by omega
  have hoff := Words.off8 i e h k
  have hinb := k0_off8_inb i (BitVec.ofNat 32 e.val) k0_hw1 k
  have hw := word ((i 1).val + 2 * ((e.val + 1 - (i 1).val) / 2)) 1 k.val
  have hR : 256 * ((i 1).val + 2 * ((e.val + 1 - (i 1).val) / 2) + k.val) + 256 ≤ 8192 := by omega
  unfold tripR_k0_t7 tripL_k0_t7 trip_k0_t7
  dsimp only
  unfold trip_k0_t7.sl.r trip_k0_t7.sl.r_1 trip_k0_t7.sl.r_2 trip_k0_t7.sl.r_3
  generalize hx : arg3.view.readAt (Elt Ideal) (Rect.unit (s := S1x8192x128) (k0_off8 i (BitVec.ofNat 32 e.val) k) S1x256x128.size hinb).toLoadRect X_arg3 = x
  generalize hy : arg4.view.readAt (Elt Ideal) (Rect.unit (s := S1x8192x128) (k0_off8 i (BitVec.ofNat 32 e.val) k) S1x256x128.size hinb).toLoadRect X_arg4 = y
  have eQ (r : Fin 256) (l : Fin 128) : x (ix3 0 r l) = rowsOf (arg3.view.read (Elt Ideal) X_arg3) (256 * ((i 1).val + 2 * ((e.val + 1 - (i 1).val) / 2) + k.val) + r.val) l := by
    subst hx; exact (load arg3 X_arg3 hinb hoff r l).trans (rowsOf_lt (arg3.view.read (Elt Ideal) X_arg3) _ l).symm
  have eD (r : Fin 256) (l : Fin 128) : y (ix3 0 r l) = rowsOf (arg4.view.read (Elt Ideal) X_arg4) (256 * ((i 1).val + 2 * ((e.val + 1 - (i 1).val) / 2) + k.val) + r.val) l := by
    subst hy; exact (load arg4 X_arg4 hinb hoff r l).trans (rowsOf_lt (arg4.view.read (Elt Ideal) X_arg4) _ l).symm
  have cond (r : Fin 256) (c : Fin 256) : c.val ≤ r.val + 256 * (2 * ((e.val + 1 - (i 1).val) / 2) + k.val) ↔ 256 * (i 1).val + c.val ≤ 256 * ((i 1).val + 2 * ((e.val + 1 - (i 1).val) / 2) + k.val) + r.val := by omega
  have eP (r : Fin 256) (c : Fin 256) := p7 i (i 1).val (2 * ((e.val + 1 - (i 1).val) / 2) + k.val) (BitVec.ofNat 32 e.val) v8 (BitVec.ofNat 32 ((i 1).val + 2 * ((e.val + 1 - (i 1).val) / 2))) k x hj hd (hw.trans (congrArg (BitVec.ofNat 32) (by omega))) r c
  have eG (r : Fin 256) (c : Fin 256) := g7 i (i 1).val (2 * ((e.val + 1 - (i 1).val) / 2) + k.val) (BitVec.ofNat 32 e.val) v8 v10 (BitVec.ofNat 32 ((i 1).val + 2 * ((e.val + 1 - (i 1).val) / 2))) k x y hj hd (hw.trans (congrArg (BitVec.ofNat 32) (by omega))) r c
  simp only [eQ, cond] at eP eG
  simp only [eD] at eG
  have h1 (c : Fin 256) (l : Fin 128) := dk7 i (i 1).val (BitVec.ofNat 32 e.val) v8 v10 (BitVec.ofNat 32 ((i 1).val + 2 * ((e.val + 1 - (i 1).val) / 2))) k x y acc.1 c l
  have h2 (c : Fin 256) (l : Fin 128) := dv7 i (i 1).val (BitVec.ofNat 32 e.val) v8 (BitVec.ofNat 32 ((i 1).val + 2 * ((e.val + 1 - (i 1).val) / 2))) k x y acc.2.1 c l
  have h3 (b : Fin 8) (c : Fin 256) := cs7 i (i 1).val (BitVec.ofNat 32 e.val) v8 v10 (BitVec.ofNat 32 ((i 1).val + 2 * ((e.val + 1 - (i 1).val) / 2))) k x y acc.2.2 b c
  have h4 (a : FVec Ideal S1x256x128 .f32) (r : Fin 256) (l : Fin 128) := dq7 i (i 1).val (BitVec.ofNat 32 e.val) v8 v10 (BitVec.ofNat 32 ((i 1).val + 2 * ((e.val + 1 - (i 1).val) / 2))) k x y a r l
  simp only [eG, eQ] at h1 h4
  simp only [eP, eD] at h2
  simp only [eG] at h3
  refine ⟨h1, h2, h3, fun t l => ?_⟩
  refine (store arg7 f hinb _ L hoff t l _ fun r l => h4 _ r l).trans ?_
  split
  next ht =>
    refine congrArg₂ (· + ·) ((load arg7 _ hinb hoff _ l).trans (congrArg _ ?_)) ?_
    · exact congrArg (ix3 0 · l) (Fin.ext (by show _ + (t.val - _) = t.val; omega))
    · simp only [Nat.add_sub_cancel' ht.1]
      rfl
  next ht => rfl

end trips

section loop

variable (𝒱 : Variants) (c : Dev nD) (bd : Option 𝒱.V) (i : grid0.Coords) (arg2 : Memref sig .tc .smem S16x32 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (v2 : Elt Ideal .i32) (k0_hw1 : k0_chk1 i v2) (v3 : BitVec 32) (v8 : FVec Ideal S256x128 .bf16) (v10 : FVec Ideal S256x128 .bf16) (v64_0 : FVec Ideal S256x128 .f32) (v64_1 : FVec Ideal S256x128 .f32) (v64_2 : FVec Ideal S8x256 .f32) (v66 : BitVec 32) (v67 : BitVec 32) (v68 : BitVec 32) (v73 : BitVec 32) (v75 : BitVec 32) (v93 : BitVec 32) (X_arg3 : BufTy.Contents (Elt Ideal) arg3.view.ty) (X_arg4 : BufTy.Contents (Elt Ideal) arg4.view.ty)
  (e : Fin 32) (h : i 1 ≤ e) (hv : v2 = BitVec.ofNat 32 e.val) (hs : v93 = BitVec.ofNat 32 ((i 1).val + 2 * ((e.val + 1 - (i 1).val) / 2))) (init : Carry) (G : BufTy.Contents (Elt Ideal) arg7.view.ty) (H : Fin 8192 → Fin 128 → EReal)
  (hG : Good (rowsOf (arg3.view.read (Elt Ideal) X_arg3)) (rowsOf (arg4.view.read (Elt Ideal) X_arg4)) (blk v8) (blk v10) (i 1).val (256 * ((i 1).val + 2 * ((e.val + 1 - (i 1).val) / 2))) init H (fun t l => arg7.view.read (Elt Ideal) G (ix3 0 t l)))
include h hv hs hG

/-- The state after `n` trips. -/
theorem loop7_upto (n : ℕ) (hn : n ≤ (k0_t7_loop i v2).trips) : Good (rowsOf (arg3.view.read (Elt Ideal) X_arg3)) (rowsOf (arg4.view.read (Elt Ideal) X_arg4)) (blk v8) (blk v10) (i 1).val (256 * ((i 1).val + 2 * ((e.val + 1 - (i 1).val) / 2)) + 256 * n) (st_k0_t7 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 v93 X_arg3 X_arg4 G init n).1 H
    (fun t l => arg7.view.read (Elt Ideal) (arg7.view.writes (Elt Ideal) G (st_k0_t7 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 v93 X_arg3 X_arg4 G init n).2) (ix3 0 t l)) := by
  subst hv hs
  induction n with
  | zero => exact hG
  | succ n ih =>
    have := st_k0_t7_succ (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 G init ⟨n, hn⟩
    rw [show (st_k0_t7 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 G init (n + 1)) = _ from this]
    have hst := (ih (Nat.le_of_succ_le hn)).step (m := 32) (n := 256) rfl (acc' := _) (f' := _)
      (by
        have t := trip7 (e := e) (h := h) (v8 := v8) (v10 := v10) (X_arg3 := X_arg3) (X_arg4 := X_arg4) (𝒱 := 𝒱) (c := c) (bd := bd) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (k0_hw1 := k0_hw1) (v3 := v3) (v64_0 := v64_0) (v64_1 := v64_1) (v64_2 := v64_2) (v66 := v66) (v67 := v67) (v68 := v68) (v73 := v73) (v75 := v75) ⟨n, hn⟩ (st_k0_t7 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 G init n).1 G (st_k0_t7 (F := Ideal) 𝒱 c bd i arg2 harg2 arg3 harg3 arg4 harg4 arg5 harg5 arg6 harg6 arg7 harg7 arg8 harg8 arg9 harg9 arg10 harg10 (BitVec.ofNat 32 (i 1).val) (BitVec.ofNat 32 e.val) k0_hw1 v3 v8 v10 v64_0 v64_1 v64_2 v66 v67 2#32 v68 v73 v75 0#32 (BitVec.ofNat 32 ((i 1).val + 2 * ((e.val + 1 - (i 1).val) / 2))) X_arg3 X_arg4 G init n).2
        exact (show 256 * ((i 1).val + 2 * ((e.val + 1 - (i 1).val) / 2) + n) = 256 * ((i 1).val + 2 * ((e.val + 1 - (i 1).val) / 2)) + 256 * n by omega) ▸ t)
    exact hst

/-- The state after the loop. -/
theorem loop7 : Good (rowsOf (arg3.view.read (Elt Ideal) X_arg3)) (rowsOf (arg4.view.read (Elt Ideal) X_arg4)) (blk v8) (blk v10) (i 1).val (256 * (e.val + 1)) (st_k0_t7 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 v93 X_arg3 X_arg4 G init (k0_t7_loop i v2).trips).1 H
    (fun t l => arg7.view.read (Elt Ideal) (arg7.view.writes (Elt Ideal) G (st_k0_t7 (F := Ideal) 𝒱 c bd i arg2 harg2 arg3 harg3 arg4 harg4 arg5 harg5 arg6 harg6 arg7 harg7 arg8 harg8 arg9 harg9 arg10 harg10 (BitVec.ofNat 32 (i 1).val) v2 k0_hw1 v3 v8 v10 v64_0 v64_1 v64_2 v66 v67 2#32 v68 v73 v75 0#32 v93 X_arg3 X_arg4 G init (k0_t7_loop i v2).trips).2) (ix3 0 t l)) := by
  have t := loop7_upto 𝒱 c bd i arg2 harg2 arg3 harg3 arg4 harg4 arg5 harg5 arg6 harg6 arg7 harg7 arg8 harg8 arg9 harg9 arg10 harg10 v2 k0_hw1 v3 v8 v10 v64_0 v64_1 v64_2 v66 v67 v68 v73 v75 v93 X_arg3 X_arg4 e h hv hs init G H hG _ le_rfl
  have hle : (i 1).val ≤ e.val := h
  have e1 : (k0_t7_loop i v2).trips = (e.val + 1 - (i 1).val) % 2 := by rw [hv]; exact Words.trips7 i e h
  have e2 : 256 * ((i 1).val + 2 * ((e.val + 1 - (i 1).val) / 2)) + 256 * (k0_t7_loop i v2).trips = 256 * (e.val + 1) := by rw [e1]; omega
  exact e2 ▸ t

end loop

end Cert.Trips
-- ==== Proof.Point.lean ====
module

public import proofs.«01_k».proof.Proof.Evens
public import proofs.«01_k».proof.Proof.Seg
public import proofs.«01_k».proof.Proof.Loop1
public import proofs.«01_k».proof.Proof.Loop3
public import proofs.«01_k».proof.Proof.Loop5
public import proofs.«01_k».proof.Proof.Loop7

@[expose] public section

set_option maxRecDepth 1000000

noncomputable section

/-! One grid point: what its run leaves in the four output blocks, as the state after its last query row. -/

namespace Cert.Trips

open Idealize.ShloMosaic Idealize.ShloMosaic.TcCoe Cert.KernelIdeal Cert.KernelIdeal.Gen Cert.Sem

theorem block5 (f) (inb) (X : FVec Ideal S256x128 .f32) (c : Fin 256) (l : Fin 128) :
    VO0_5.read (Elt Ideal) (VO0_5.writes (Elt Ideal) f [⟨Rect.unit (s := S1x256x128) ![0, 0, 0] ![1, 256, 128] inb, k0_pay2 X⟩]) (ix3 0 c l) = X (ix2 c l) := by
  refine (View.read_writes_cons_unit_of_mem VO0_5 f inb _ [] (ix3 0 c l) (ix3 0 c l) rfl fun a => ?_).trans ?_
  · match a with
    | ⟨0, _⟩ => rfl
    | ⟨1, _⟩ => exact (Nat.zero_add _).symm
    | ⟨2, _⟩ => exact (Nat.zero_add _).symm
  · unfold k0_pay2
    pointwise

theorem block6 (f) (inb) (X : FVec Ideal S256x128 .f32) (c : Fin 256) (l : Fin 128) :
    VO0_6.read (Elt Ideal) (VO0_6.writes (Elt Ideal) f [⟨Rect.unit (s := S1x256x128) ![0, 0, 0] ![1, 256, 128] inb, k0_pay3 X⟩]) (ix3 0 c l) = X (ix2 c l) := by
  refine (View.read_writes_cons_unit_of_mem VO0_6 f inb _ [] (ix3 0 c l) (ix3 0 c l) rfl fun a => ?_).trans ?_
  · match a with
    | ⟨0, _⟩ => rfl
    | ⟨1, _⟩ => exact (Nat.zero_add _).symm
    | ⟨2, _⟩ => exact (Nat.zero_add _).symm
  · unfold k0_pay3
    pointwise

theorem block7 (f) (inb) (X : FVec Ideal S8x256 .f32) (c : Fin 256) :
    VO0_7.read (Elt Ideal) (VO0_7.writes (Elt Ideal) f [⟨Rect.unit (s := S1x1x256) ![0, 0, 0] ![1, 1, 256] inb, k0_pay4 X⟩]) (ix3 0 0 c) = ∑ b : Fin 8, X (ix2 b c) := by
  refine (View.read_writes_cons_unit_of_mem VO0_7 f inb _ [] (ix3 0 0 c) (ix3 0 0 c) rfl fun a => ?_).trans ?_
  · match a with
    | ⟨0, _⟩ => rfl
    | ⟨1, _⟩ => rfl
    | ⟨2, _⟩ => exact (Nat.zero_add _).symm
  · unfold k0_pay4
    pointwise

theorem peel_even {Q D : ℕ → Fin 128 → EReal} {K V : Fin 256 → Fin 128 → EReal} {j R : ℕ} {G : Fin 8192 → Fin 128 → EReal}
    (arg7 : Memref sig .tc .vmem S1x8192x128 .f32) (f : BufTy.Contents (Elt Ideal) arg7.view.ty)
    (L : List (View.Piece (Elt Ideal) S1x8192x128 .f32)) (S : Carry × List (View.Piece (Elt Ideal) S1x8192x128 .f32)) (init acc : Carry)
    (hS : S = (init, []))
    (hacc : acc = (S.1.1, S.1.2.1, S.1.2.2))
    (hg : Good Q D K V j R init G (fun t l => arg7.view.read (Elt Ideal) (arg7.view.writes (Elt Ideal) f L) (ix3 0 t l))) :
    Good Q D K V j R acc G (fun t l => arg7.view.read (Elt Ideal) (arg7.view.writes (Elt Ideal) f (S.2 ++ L)) (ix3 0 t l)) := by
  subst hS hacc
  exact hg

theorem peel_odd {Q D : ℕ → Fin 128 → EReal} {K V : Fin 256 → Fin 128 → EReal} {j R : ℕ} {G : Fin 8192 → Fin 128 → EReal}
    (arg7 : Memref sig .tc .vmem S1x8192x128 .f32) (f : BufTy.Contents (Elt Ideal) arg7.view.ty)
    (L : List (View.Piece (Elt Ideal) S1x8192x128 .f32)) (S : Carry × List (View.Piece (Elt Ideal) S1x8192x128 .f32)) (acc : Carry)
    (hacc : acc = (S.1.1, S.1.2.1, S.1.2.2))
    (hg : Good Q D K V j R S.1 G (fun t l => arg7.view.read (Elt Ideal) (arg7.view.writes (Elt Ideal) (arg7.view.writes (Elt Ideal) f L) S.2) (ix3 0 t l))) :
    Good Q D K V j R acc G (fun t l => arg7.view.read (Elt Ideal) (arg7.view.writes (Elt Ideal) f (S.2 ++ L)) (ix3 0 t l)) := by
  subst hacc
  rw [View.writes_append]
  exact hg

theorem start_of {Q D : ℕ → Fin 128 → EReal} {K V : Fin 256 → Fin 128 → EReal} {j : ℕ} {G f : Fin 8192 → Fin 128 → EReal} {acc : Carry}
    (h1 : ∀ x, acc.1 x = 0) (h2 : ∀ x, acc.2.1 x = 0) (h3 : ∀ x, acc.2.2 x = 0) (hf : ∀ t l, f t l = G t l) :
    Good Q D K V j (256 * j) acc G f := by
  obtain rfl : f = G := funext fun t => funext fun l => hf t l
  exact Good.start h1 h2 h3

theorem zero80 (x) : k0_pay80 (F := Ideal) x = 0 := Ideal.ofBits_zero_f32
theorem zero81 (x) : k0_pay81 (F := Ideal) x = 0 := Ideal.ofBits_zero_f32

theorem zero_rows (arg7 : Memref sig .tc .vmem S1x8192x128 .f32) (f : BufTy.Contents (Elt Ideal) arg7.view.ty) (inb) (t : Fin 8192) (l : Fin 128) :
    arg7.view.read (Elt Ideal) (arg7.view.writes (Elt Ideal) f [⟨Rect.unit (s := S1x8192x128) ![0, 0, 0] ![1, 8192, 128] inb, (k0_pay77 : FVec Ideal S1x8192x128 .f32)⟩]) (ix3 0 t l) = 0 := by
  refine (View.read_writes_cons_unit_of_mem arg7.view f inb _ [] (ix3 0 t l) (ix3 0 t l) rfl fun a => ?_).trans ?_
  · match a with
    | ⟨0, _⟩ => rfl
    | ⟨1, _⟩ => exact (Nat.zero_add _).symm
    | ⟨2, _⟩ => exact (Nat.zero_add _).symm
  · exact Ideal.ofBits_zero_f32

theorem key_block (arg5 : Memref sig .tc .vmem S1x256x128 .bf16) (harg5 : arg5.IsWhole) (x : Vec Ideal S1x256x128 .bf16) (inb) :
    blk (k0_pay78 (arg5.view.readAt (Elt Ideal) (Rect.unit (s := S1x256x128) ![0, 0, 0] S1x256x128.size inb).toLoadRect (harg5.unread x)))
      = fun c l => x (ix3 0 c l) := by
  funext c l
  unfold blk k0_pay78
  pointwise
  rw [View.readAt_apply]
  refine (congrFun (harg5.read_unread x) _).trans (congrArg x ?_)
  funext a
  match a with
  | ⟨0, _⟩ => rfl
  | ⟨1, _⟩ => exact Fin.ext (by first | (show 0 + 1 * c.val = c.val; omega) | (show 0 + c.val * 1 = c.val; omega))
  | ⟨2, _⟩ => exact Fin.ext (by first | (show 0 + 1 * l.val = l.val; omega) | (show 0 + l.val * 1 = l.val; omega))

theorem value_block (arg5 : Memref sig .tc .vmem S1x256x128 .bf16) (harg5 : arg5.IsWhole) (x : Vec Ideal S1x256x128 .bf16) (inb) :
    blk (k0_pay79 (arg5.view.readAt (Elt Ideal) (Rect.unit (s := S1x256x128) ![0, 0, 0] S1x256x128.size inb).toLoadRect (harg5.unread x)))
      = fun c l => x (ix3 0 c l) := by
  funext c l
  unfold blk k0_pay79
  pointwise
  rw [View.readAt_apply]
  refine (congrFun (harg5.read_unread x) _).trans (congrArg x ?_)
  funext a
  match a with
  | ⟨0, _⟩ => rfl
  | ⟨1, _⟩ => exact Fin.ext (by first | (show 0 + 1 * c.val = c.val; omega) | (show 0 + c.val * 1 = c.val; omega))
  | ⟨2, _⟩ => exact Fin.ext (by first | (show 0 + 1 * l.val = l.val; omega) | (show 0 + l.val * 1 = l.val; omega))

set_option maxHeartbeats 4000000 in
theorem pointA (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (hc0 : cond0_0 i) (x0 : Vec Ideal S1x8192x128 .bf16) (x1 : Vec Ideal S1x8192x128 .bf16) (x2 : Vec Ideal S1x256x128 .bf16) (x3 : Vec Ideal S1x256x128 .bf16) (xt0 : TbBuf0 (F := Ideal) c tbM0_0) (k0_hw1 : k0_chk1 i (tbM0_0.view.readAt (Elt Ideal) (Rect.unit (s := S16x32) (k0_off1 i) S1x1.size (k0_off1_inb i)).toLoadRect xt0 (Shape.Idx.first (numel1_S1x1.symm ▸ Nat.one_pos)))) (e : Fin 32) (h : i 1 ≤ e) (hv : (tbM0_0.view.readAt (Elt Ideal) (Rect.unit (s := S16x32) (k0_off1 i) S1x1.size (k0_off1_inb i)).toLoadRect xt0 (Shape.Idx.first (numel1_S1x1.symm ▸ Nat.one_pos))) = BitVec.ofNat 32 e.val) :
    ∃ acc : Carry, Good (rowsOf x0) (rowsOf x1) (fun r l => x2 (ix3 0 r l)) (fun r l => x3 (ix3 0 r l)) (i 1).val (256 * (e.val + 1)) acc (fun _ _ => 0)
        (fun t l => out0_A_4 (F := Ideal) c i arg3 harg3 arg4 harg4 arg5 harg5 arg6 harg6 arg7 harg7 arg8 harg8 arg9 harg9 arg10 harg10 hc0 x0 x1 x2 x3 xt0 k0_hw1 (ix3 0 t l))
      ∧ (∀ r l, out0_A_5 (F := Ideal) c i arg3 harg3 arg4 harg4 arg5 harg5 arg6 harg6 arg7 harg7 arg8 harg8 arg9 harg9 arg10 harg10 hc0 x0 x1 x2 x3 xt0 k0_hw1 (ix3 0 r l) = acc.1 (ix2 r l))
      ∧ (∀ r l, out0_A_6 (F := Ideal) c i arg3 harg3 arg4 harg4 arg5 harg5 arg6 harg6 arg7 harg7 arg8 harg8 arg9 harg9 arg10 harg10 hc0 x0 x1 x2 x3 xt0 k0_hw1 (ix3 0 r l) = acc.2.1 (ix2 r l))
      ∧ ∀ r, out0_A_7 (F := Ideal) c i arg3 harg3 arg4 harg4 arg5 harg5 arg6 harg6 arg7 harg7 arg8 harg8 arg9 harg9 arg10 harg10 hc0 x0 x1 x2 x3 xt0 k0_hw1 (ix3 0 0 r) = ∑ b : Fin 8, acc.2.2 (ix2 b r) := by
  have e4 (t : Fin 8192) (l : Fin 128) : out0_A_4 (F := Ideal) c i arg3 harg3 arg4 harg4 arg5 harg5 arg6 harg6 arg7 harg7 arg8 harg8 arg9 harg9 arg10 harg10 hc0 x0 x1 x2 x3 xt0 k0_hw1 (ix3 0 t l) = _ :=
    View.read_writes_apply_eq VO0_4 _ arg7.view arg7.view.junk (ix3 0 t l) _ (cover0_A_4 c i arg3 harg3 arg4 harg4 arg5 harg5 arg6 harg6 arg7 harg7 arg8 harg8 arg9 harg9 arg10 harg10 hc0 x0 x1 x2 x3 xt0 k0_hw1 (ix3 0 t l))
  simp only [e4]
  unfold out0_A_5 out0_A_6 out0_A_7 kernelRun0_A
  refine ⟨_, ?_, fun r l => block5 _ _ _ r l, fun r l => block6 _ _ _ r l, fun r => block7 _ _ _ r⟩
  have hQ : arg3.view.read (Elt Ideal) (harg3.unread x0) = x0 := harg3.read_unread x0
  have hD : arg4.view.read (Elt Ideal) (harg4.unread x1) = x1 := harg4.read_unread x1
  have hK : blk (kernelRun0_A.sl.r_1 (F := Ideal) c arg5 harg5 x2) = fun r l => x2 (ix3 0 r l) := key_block arg5 harg5 x2 _
  have hV : blk (kernelRun0_A.sl.r_2 (F := Ideal) c arg6 harg6 x3) = fun r l => x3 (ix3 0 r l) := value_block arg6 harg6 x3 _
  have hw : kernelRun0_A.sl.r (F := Ideal) c i xt0 = BitVec.ofNat 32 e.val := hv
  have s3 : kernelRun0_A.sl.v39 (F := Ideal) c i xt0 = BitVec.ofNat 32 ((i 1).val + 8 * ((e.val + 1 - (i 1).val) / 8)) := by
    rw [show kernelRun0_A.sl.v39 (F := Ideal) c i xt0 = Words.after 8#32 (kernelRun0_A.sl.r (F := Ideal) c i xt0) (BitVec.ofNat 32 (i 1).val) from rfl, hw]
    exact Words.after8 (i 1) e h
  have s5 : kernelRun0_A.sl.v66 (F := Ideal) c i xt0 = BitVec.ofNat 32 ((i 1).val + 4 * ((e.val + 1 - (i 1).val) / 4)) := by
    rw [show kernelRun0_A.sl.v66 (F := Ideal) c i xt0 = Words.after 4#32 (kernelRun0_A.sl.r (F := Ideal) c i xt0) (kernelRun0_A.sl.v39 (F := Ideal) c i xt0) from rfl, hw, s3]
    exact Words.after4 (i 1) e h
  have s7 : kernelRun0_A.sl.v93 (F := Ideal) c i xt0 = BitVec.ofNat 32 ((i 1).val + 2 * ((e.val + 1 - (i 1).val) / 2)) := by
    rw [show kernelRun0_A.sl.v93 (F := Ideal) c i xt0 = Words.after 2#32 (kernelRun0_A.sl.r (F := Ideal) c i xt0) (kernelRun0_A.sl.v66 (F := Ideal) c i xt0) from rfl, hw, s5]
    exact Words.after2 (i 1) e h
  dsimp only
  rw [← hK, ← hV]
  conv => arg 1; rw [← hQ]
  conv => arg 2; rw [← hD]
  refine peel_even arg7 _ _ _ ?i8 _ ?e8 rfl ?_
  case e8 => exact even8 (e := e) (h := h) (hv := hw) ..
  refine peel_odd arg7 _ _ _ _ rfl ?_
  refine loop7 (e := e) (h := h) (hv := hw) (hs := s7) (hG := ?_) ..
  refine peel_even arg7 _ _ _ ?i6 _ ?e6 rfl ?_
  case e6 => exact even6 (e := e) (h := h) (hv := hw) ..
  refine peel_odd arg7 _ _ _ _ rfl ?_
  refine loop5 (e := e) (h := h) (hv := hw) (hs := s5) (hG := ?_) ..
  refine peel_even arg7 _ _ _ ?i4 _ ?e4 rfl ?_
  case e4 => exact even4 (e := e) (h := h) (hv := hw) ..
  refine peel_odd arg7 _ _ _ _ rfl ?_
  refine loop3 (e := e) (h := h) (hv := hw) (hs := s3) (hG := ?_) ..
  refine peel_even arg7 _ _ _ ?i2 _ ?e2 rfl ?_
  case e2 => exact even2 (e := e) (h := h) (hv := hw) ..
  refine peel_odd arg7 _ _ _ _ rfl ?_
  refine loop1 (e := e) (h := h) (hv := hw) (hG := ?_) ..

  exact start_of zero80 zero80 zero81 fun t l => zero_rows arg7 _ _ t l

end Cert.Trips
-- ==== Proof.PointB.lean ====
module

public import proofs.«01_k».proof.Proof.Point

@[expose] public section

set_option maxRecDepth 1000000

noncomputable section

/-! A grid point that is not the first of its head: what its run leaves in the four output blocks, as the state after its last query row. -/

namespace Cert.Trips

open Idealize.ShloMosaic Idealize.ShloMosaic.TcCoe Cert.KernelIdeal Cert.KernelIdeal.Gen Cert.Sem

set_option maxHeartbeats 4000000 in
theorem pointB (c : Dev nD) (i : grid0.Coords) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x8192x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x1x256 .f32) (harg10 : arg10.IsWhole) (hc0 : ¬cond0_0 i) (x0 : Vec Ideal S1x8192x128 .bf16) (x1 : Vec Ideal S1x8192x128 .bf16) (x2 : Vec Ideal S1x256x128 .bf16) (x3 : Vec Ideal S1x256x128 .bf16) (xt0 : TbBuf0 (F := Ideal) c tbM0_0) (xo4 : Vec Ideal S1x8192x128 .f32) (k0_hw1 : k0_chk1 i (tbM0_0.view.readAt (Elt Ideal) (Rect.unit (s := S16x32) (k0_off1 i) S1x1.size (k0_off1_inb i)).toLoadRect xt0 (Shape.Idx.first (numel1_S1x1.symm ▸ Nat.one_pos)))) (e : Fin 32) (h : i 1 ≤ e) (hv : (tbM0_0.view.readAt (Elt Ideal) (Rect.unit (s := S16x32) (k0_off1 i) S1x1.size (k0_off1_inb i)).toLoadRect xt0 (Shape.Idx.first (numel1_S1x1.symm ▸ Nat.one_pos))) = BitVec.ofNat 32 e.val) :
    ∃ acc : Carry, Good (rowsOf x0) (rowsOf x1) (fun r l => x2 (ix3 0 r l)) (fun r l => x3 (ix3 0 r l)) (i 1).val (256 * (e.val + 1)) acc (fun t l => xo4 (ix3 0 t l))
        (fun t l => out0_B_4 (F := Ideal) c i arg3 harg3 arg4 harg4 arg5 harg5 arg6 harg6 arg7 harg7 arg8 harg8 arg9 harg9 arg10 harg10 hc0 x0 x1 x2 x3 xt0 xo4 k0_hw1 (ix3 0 t l))
      ∧ (∀ r l, out0_B_5 (F := Ideal) c i arg3 harg3 arg4 harg4 arg5 harg5 arg6 harg6 arg7 harg7 arg8 harg8 arg9 harg9 arg10 harg10 hc0 x0 x1 x2 x3 xt0 xo4 k0_hw1 (ix3 0 r l) = acc.1 (ix2 r l))
      ∧ (∀ r l, out0_B_6 (F := Ideal) c i arg3 harg3 arg4 harg4 arg5 harg5 arg6 harg6 arg7 harg7 arg8 harg8 arg9 harg9 arg10 harg10 hc0 x0 x1 x2 x3 xt0 xo4 k0_hw1 (ix3 0 r l) = acc.2.1 (ix2 r l))
      ∧ ∀ r, out0_B_7 (F := Ideal) c i arg3 harg3 arg4 harg4 arg5 harg5 arg6 harg6 arg7 harg7 arg8 harg8 arg9 harg9 arg10 harg10 hc0 x0 x1 x2 x3 xt0 xo4 k0_hw1 (ix3 0 0 r) = ∑ b : Fin 8, acc.2.2 (ix2 b r) := by
  unfold out0_B_4 out0_B_5 out0_B_6 out0_B_7 kernelRun0_B
  refine ⟨_, ?_, fun r l => block5 _ _ _ r l, fun r l => block6 _ _ _ r l, fun r => block7 _ _ _ r⟩
  have hQ : arg3.view.read (Elt Ideal) (harg3.unread x0) = x0 := harg3.read_unread x0
  have hD : arg4.view.read (Elt Ideal) (harg4.unread x1) = x1 := harg4.read_unread x1
  have hK : blk (kernelRun0_B.sl.r_1 (F := Ideal) c arg5 harg5 x2) = fun r l => x2 (ix3 0 r l) := key_block arg5 harg5 x2 _
  have hV : blk (kernelRun0_B.sl.r_2 (F := Ideal) c arg6 harg6 x3) = fun r l => x3 (ix3 0 r l) := value_block arg6 harg6 x3 _
  have hw : kernelRun0_B.sl.r (F := Ideal) c i xt0 = BitVec.ofNat 32 e.val := hv
  have s3 : kernelRun0_B.sl.v39 (F := Ideal) c i xt0 = BitVec.ofNat 32 ((i 1).val + 8 * ((e.val + 1 - (i 1).val) / 8)) := by
    rw [show kernelRun0_B.sl.v39 (F := Ideal) c i xt0 = Words.after 8#32 (kernelRun0_B.sl.r (F := Ideal) c i xt0) (BitVec.ofNat 32 (i 1).val) from rfl, hw]
    exact Words.after8 (i 1) e h
  have s5 : kernelRun0_B.sl.v66 (F := Ideal) c i xt0 = BitVec.ofNat 32 ((i 1).val + 4 * ((e.val + 1 - (i 1).val) / 4)) := by
    rw [show kernelRun0_B.sl.v66 (F := Ideal) c i xt0 = Words.after 4#32 (kernelRun0_B.sl.r (F := Ideal) c i xt0) (kernelRun0_B.sl.v39 (F := Ideal) c i xt0) from rfl, hw, s3]
    exact Words.after4 (i 1) e h
  have s7 : kernelRun0_B.sl.v93 (F := Ideal) c i xt0 = BitVec.ofNat 32 ((i 1).val + 2 * ((e.val + 1 - (i 1).val) / 2)) := by
    rw [show kernelRun0_B.sl.v93 (F := Ideal) c i xt0 = Words.after 2#32 (kernelRun0_B.sl.r (F := Ideal) c i xt0) (kernelRun0_B.sl.v66 (F := Ideal) c i xt0) from rfl, hw, s5]
    exact Words.after2 (i 1) e h
  dsimp only
  rw [← hK, ← hV]
  conv => arg 1; rw [← hQ]
  conv => arg 2; rw [← hD]
  refine peel_even arg7 _ _ _ ?i8 _ ?e8 rfl ?_
  case e8 => exact even8 (e := e) (h := h) (hv := hw) ..
  refine peel_odd arg7 _ _ _ _ rfl ?_
  refine loop7 (e := e) (h := h) (hv := hw) (hs := s7) (hG := ?_) ..
  refine peel_even arg7 _ _ _ ?i6 _ ?e6 rfl ?_
  case e6 => exact even6 (e := e) (h := h) (hv := hw) ..
  refine peel_odd arg7 _ _ _ _ rfl ?_
  refine loop5 (e := e) (h := h) (hv := hw) (hs := s5) (hG := ?_) ..
  refine peel_even arg7 _ _ _ ?i4 _ ?e4 rfl ?_
  case e4 => exact even4 (e := e) (h := h) (hv := hw) ..
  refine peel_odd arg7 _ _ _ _ rfl ?_
  refine loop3 (e := e) (h := h) (hv := hw) (hs := s3) (hG := ?_) ..
  refine peel_even arg7 _ _ _ ?i2 _ ?e2 rfl ?_
  case e2 => exact even2 (e := e) (h := h) (hv := hw) ..
  refine loop1 (e := e) (h := h) (hv := hw) (hG := ?_) ..

  exact start_of zero80 zero80 zero81 fun t l => congrFun (harg7.read_unread xo4) (ix3 0 t l)

end Cert.Trips
-- ==== Proof.Table.lean ====
module

public import proofs.«01_k».proof.Defs
public import proofs.«01_k».proof.Proof.Words
public import proofs.«01_k».proof.Proof.Gen.Pre_in_range
public import proofs.«01_k».proof.Proof.Gen.Kernel.Frame
public import proofs.«01_k».proof.Proof.Gen.KernelIdeal.Frame
import Idealize.ShloMosaic.Lib.ReduceAll
import Idealize.ShloMosaic.Lib.Pointwise.ShapeOpsCore

@[expose] public section

set_option maxRecDepth 16384

namespace Cert.Table

open Idealize.ShloMosaic Idealize.ShloMosaic.TcCoe

/-- The table's index of a head and a key block. -/
def cell (a : Fin 16) (j : Fin 32) : Shape.Idx ⟨2, ![16, 32]⟩ := fun d => match d with
  | ⟨0, _⟩ => a
  | ⟨1, _⟩ => j

/-- A table word of a head at a key block: a block number between the key block and 31. -/
def InRange (x : IVec ⟨2, ![16, 32]⟩ 32) : Prop :=
  ∀ (a : Fin 16) (j : Fin 32), ∃ e : Fin 32, j ≤ e ∧ x (cell a j) = BitVec.ofNat 32 e.val

/-- An `and` of two one-element arrays that is one has both of them one. -/
theorem both {s : Shape} {a b : IVec s 1} {i : s.Idx} (h : andi a b i = 1#1) : a i = 1#1 ∧ b i = 1#1 := by
  have : ∀ p q : BitVec 1, p &&& q = 1#1 → p = 1#1 ∧ q = 1#1 := by decide
  exact this _ _ h

/-- The precondition says so of every word. -/
theorem inRange_of_fn {F : FTy → Type} [FloatOps F] (x : IVec ⟨2, ![16, 32]⟩ 32) (a b c d f)
    (h : Cert.Pre_in_range.fn (F := F) x a b c d f = fun _ => 1#1) : InRange x := by
  intro a j
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  haveI : Subsingleton Cert.Pre_in_range.S_.Idx := ⟨fun _ _ => funext fun k => k.elim0⟩
  have e := congrFun h (fun k => k.elim0)
  unfold Cert.Pre_in_range.fn Cert.Pre_in_range.fn_part1 at e
  replace e := (both (both (both (both (both e).1).1).1).1).1
  have e' := Host.reduce_andi_all _ _ _ _ _ e (cell a j)
  simp only [andi, cmpi, broadcastInDim, constantI, iotaInDim, IntOp.cmpi, andi_ofBool, ofBool_eq_one, Bool.and_eq_true, BitVec.sle] at e'
  generalize x (cell a j) = w at e' ⊢
  obtain ⟨h1, h2⟩ := e'
  have hj := j.isLt
  have e1 : (BitVec.ofNat 32 j.val).toInt = (j.val : Int) := by
    rw [BitVec.toInt_eq_toNat_of_lt] <;> simp <;> omega
  have e2 : (31#32).toInt = 31 := by decide
  replace h1 := of_decide_eq_true h1
  replace h2 := of_decide_eq_true h2
  change (BitVec.ofNat 32 j.val).toInt ≤ _ at h1
  change _ ≤ (31#32).toInt at h2
  rw [e1] at h1
  rw [e2] at h2
  have hw : w.toNat < 32 := by
    simp only [BitVec.toInt] at h1 h2
    have := w.isLt
    split at h1 <;> split at h2 <;> omega
  have hw' : w.toInt = w.toNat := BitVec.toInt_eq_toNat_of_lt (by omega)
  rw [hw'] at h1
  refine ⟨⟨w.toNat, hw⟩, ?_, ?_⟩
  · show j.val ≤ w.toNat
    omega
  · simp

/-- A value whose magnitude is below infinity is a real number. -/
theorem real_of_lt {x : EReal} (h : Ideal.cmp .olt (max x (-x)) ⊤ = 1#1) : ∃ r : ℝ, x = (r : EReal) := by
  have h' : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => exact absurd h' (by simp)
  | top => exact absurd h' (by simp)
  | coe r => exact ⟨r, rfl⟩

/-- An array all of whose magnitudes are below infinity has real entries. -/
theorem real_of_all {s : Shape} {axes : List (Fin s.rank)} {u : Shape} (x : FVec Ideal s .f32)
    (hb : Cert.Pre_in_range.S_.BroadcastsInDim s (![] : Fin 0 → Fin s.rank)) (h : s.ReducesTo axes Cert.Pre_in_range.S_) (hu : 0 < u.numel) (i0)
    (e : Host.reduce IntOp.andi (cmpf .olt (Host.absf x) (broadcastInDim s ![] hb (constant Cert.Pre_in_range.S_ .f32 0x7F800000#32)))
      (constantI u 1 1#1) h hu i0 = 1#1) (i : s.Idx) : ∃ r : ℝ, x i = (r : EReal) := by
  haveI : Subsingleton Cert.Pre_in_range.S_.Idx := ⟨fun _ _ => funext fun k => k.elim0⟩
  refine real_of_lt ((congrArg (Ideal.cmp .olt (max (x i) (-(x i)))) ?_).trans (Host.reduce_andi_all _ _ _ _ _ e i))
  exact (show Ideal.ofBits .f32 0x7F800000#32 = ⊤ by simp [Ideal.ofBits, Ideal.ieee]).symm

/-- The precondition says that the five float arrays have real entries. -/
theorem real_of_fn (x : IVec ⟨2, ![16, 32]⟩ 32) (a b c d f)
    (h : Cert.Pre_in_range.fn (F := Ideal) x a b c d f = fun _ => 1#1) :
    (∀ i, ∃ r : ℝ, a i = (r : EReal)) ∧ (∀ i, ∃ r : ℝ, b i = (r : EReal)) ∧ (∀ i, ∃ r : ℝ, c i = (r : EReal))
      ∧ (∀ i, ∃ r : ℝ, d i = (r : EReal)) ∧ ∀ i, ∃ r : ℝ, f i = (r : EReal) := by
  have e := congrFun h (fun k => k.elim0)
  unfold Cert.Pre_in_range.fn Cert.Pre_in_range.fn_part1 at e
  obtain ⟨e, ef⟩ := both e
  obtain ⟨e, ed⟩ := both e
  obtain ⟨e, ec⟩ := both e
  obtain ⟨e, eb⟩ := both e
  exact ⟨real_of_all a _ _ _ _ (both e).2, real_of_all b _ _ _ _ eb, real_of_all c _ _ _ _ ec,
    real_of_all d _ _ _ _ ed, real_of_all f _ _ _ _ ef⟩

/-- The word the body reads at a grid point is the table's there. -/
theorem word_read {F : FTy → Type} [FloatOps F] (i : Cert.KernelIdeal.grid0.Coords) (x : IVec ⟨2, ![16, 32]⟩ 32)
    (h : ∀ a, (Cert.KernelIdeal.k0_off1 i) a + Cert.KernelIdeal.S1x1.size a ≤ Cert.KernelIdeal.S16x32.size a)
    (y : (Rect.unit (s := Cert.KernelIdeal.S16x32) (Cert.KernelIdeal.k0_off1 i) Cert.KernelIdeal.S1x1.size h).shape.Idx) :
    (Memref.whole Cert.KernelIdeal.main_arg0).view.readAt (Elt F)
      (Rect.unit (s := Cert.KernelIdeal.S16x32) (Cert.KernelIdeal.k0_off1 i) Cert.KernelIdeal.S1x1.size h).toLoadRect x y
      = x (cell (i 0) (i 1)) := by
  rw [View.readAt_apply]
  show x ((Rect.unit (s := Cert.KernelIdeal.S16x32) (Cert.KernelIdeal.k0_off1 i) Cert.KernelIdeal.S1x1.size h).idx y) = _
  congr 1
  have hi0 : (i 0).val < 16 := (i 0).isLt
  have hi1 : (i 1).val < 32 := (i 1).isLt
  funext d
  match d with
  | ⟨0, _⟩ =>
    have hy : (y 0).val < 1 := (y 0).isLt
    apply Fin.ext
    show (BitVec.ofNat 32 (i 0).val).toNat + 1 * (y 0).val = (i 0).val
    rw [BitVec.toNat_ofNat]; omega
  | ⟨1, _⟩ =>
    have hy : (y 1).val < 1 := (y 1).isLt
    apply Fin.ext
    show (BitVec.ofNat 32 (i 1).val).toNat + 1 * (y 1).val = (i 1).val
    rw [BitVec.toNat_ofNat]; omega

section Ideal
open Cert.KernelIdeal Cert.KernelIdeal.Gen

/-- The table a memory of the idealized kernel holds. -/
abbrev tab (m : (ℓ : Loc nD τ sig) → Buf (Elt Ideal) ℓ) : IVec ⟨2, ![16, 32]⟩ 32 :=
  m (((0 : Dev nD) : Thread nD τ).loc main_arg0)

theorem inRange_ideal (m : (ℓ : Loc nD τ sig) → Buf (Elt Ideal) ℓ) (h : Cert.Pre_KernelIdeal m) : InRange (tab m) :=
  inRange_of_fn (F := Ideal) _ _ _ _ _ _ (h 0)

/-- No window's place is read off the table. -/
theorem ok (m : (ℓ : Loc nD τ sig) → Buf (Elt Ideal) ℓ) : Ok m := trivial

/-- The word the body reads at a point, by the table. -/
theorem word_ideal (m : (ℓ : Loc nD τ sig) → Buf (Elt Ideal) ℓ) (i : grid0.Coords) :
    tbM0_0.view.readAt (Elt Ideal) (Rect.unit (s := S16x32) (k0_off1 i) S1x1.size (k0_off1_inb i)).toLoadRect (tbl m 0)
      (Shape.Idx.first (numel1_S1x1.symm ▸ Nat.one_pos)) = tab m (cell (i 0) (i 1)) :=
  word_read (F := Ideal) i (tab m) (k0_off1_inb i) _

theorem hyps_ideal (m : (ℓ : Loc nD τ sig) → Buf (Elt Ideal) ℓ) (h : InRange (tab m)) : Hyps m (ok m) := by
  intro c t
  obtain ⟨e, he, hw⟩ := h (grid0.coords t 0) (grid0.coords t 1)
  exact Eq.subst (motive := fun w => k0_chk1 (grid0.coords t) w) ((word_ideal m (grid0.coords t)).trans hw).symm
    (Words.chk (grid0.coords t) e he)

end Ideal

section Bits
open Cert.Kernel Cert.Kernel.Gen

theorem okBits (m : (ℓ : Loc nD τ sig) → Buf (Elt Bits) ℓ) : Ok m := trivial

theorem hyps_bits (m : (ℓ : Loc nD τ sig) → Buf (Elt Bits) ℓ) (h : Cert.Pre_Kernel m) : Hyps m (okBits m) := by
  intro c t
  have hr := inRange_of_fn (F := Bits) _ _ _ _ _ _ (h 0)
  obtain ⟨e, he, hw⟩ := hr (grid0.coords t 0) (grid0.coords t 1)
  have hv := word_read (F := Bits) (grid0.coords t) (m (((0 : Dev nD) : Thread nD τ).loc main_arg0)) (k0_off1_inb (grid0.coords t)) (Shape.Idx.first (numel1_S1x1.symm ▸ Nat.one_pos))
  exact Eq.subst (motive := fun w => Cert.Kernel.k0_chk1 (grid0.coords t) w) (hv.trans hw).symm (Words.chk_kernel _ _ (Words.chk (grid0.coords t) e he))

end Bits

end Cert.Table
-- ==== Proof.Win.lean ====
module

public import proofs.«01_k».proof.Proof.PointB
public import proofs.«01_k».proof.Proof.Table

@[expose] public section

set_option maxRecDepth 16384

noncomputable section

/-! The blocks of the windows, as entries of the arrays. -/

namespace Cert.Win

open Idealize.ShloMosaic Idealize.ShloMosaic.TcCoe Cert.KernelIdeal Cert.KernelIdeal.Gen Cert.Sem Cert.Table

variable (m : (ℓ : Loc nD τ sig) → Buf (Elt Ideal) ℓ)

theorem coords_val : ∀ t : Fin grid0.N, (grid0.coords t 0).val = t.val / 32 ∧ (grid0.coords t 1).val = t.val % 32 := by
  decide +kernel

theorem iblk0 (c : Dev nD) (t : Fin (cfgM m (ok m)).N) (r : Fin 8192) (l : Fin 128) :
    iblk m (ok m) c 0 t (ix3 0 r l) = V m c main_v87 (ix3 (grid0.coords t 0) r l) := by
  show V m c main_v87 ((((cfgM m (ok m)).win 0).blk t).view.emb (ix3 0 r l)) = _
  refine congrArg (V m c main_v87) ?_
  have h0 : (grid0.coords t 0).val < 16 := (grid0.coords t 0).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show 0 * 8192 + 1 * r.val = r.val
    omega
  | ⟨2, _⟩ =>
    apply Fin.ext
    show 0 * 128 + 1 * l.val = l.val
    omega

theorem iblk1 (c : Dev nD) (t : Fin (cfgM m (ok m)).N) (r : Fin 8192) (l : Fin 128) :
    iblk m (ok m) c 1 t (ix3 0 r l) = V m c main_v111 (ix3 (grid0.coords t 0) r l) := by
  show V m c main_v111 ((((cfgM m (ok m)).win 1).blk t).view.emb (ix3 0 r l)) = _
  refine congrArg (V m c main_v111) ?_
  have h0 : (grid0.coords t 0).val < 16 := (grid0.coords t 0).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show 0 * 8192 + 1 * r.val = r.val
    omega
  | ⟨2, _⟩ =>
    apply Fin.ext
    show 0 * 128 + 1 * l.val = l.val
    omega

/-- The key of a column of a key block. -/
abbrev key (j : Fin 32) (r : Fin 256) : Fin 8192 := ⟨256 * j.val + r.val, by omega⟩

theorem iblk2 (c : Dev nD) (t : Fin (cfgM m (ok m)).N) (r : Fin 256) (l : Fin 128) :
    iblk m (ok m) c 2 t (ix3 0 r l) = V m c main_v91 (ix3 (grid0.coords t 0) (key (grid0.coords t 1) r) l) := by
  show V m c main_v91 ((((cfgM m (ok m)).win 2).blk t).view.emb (ix3 0 r l)) = _
  refine congrArg (V m c main_v91) ?_
  have h0 : (grid0.coords t 0).val < 16 := (grid0.coords t 0).isLt
  have h1 : (grid0.coords t 1).val < 32 := (grid0.coords t 1).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show (BitVec.ofNat 32 (grid0.coords t 1).val).toNat * 256 + 1 * r.val = 256 * (grid0.coords t 1).val + r.val
    rw [BitVec.toNat_ofNat]; omega
  | ⟨2, _⟩ =>
    apply Fin.ext
    show 0 * 128 + 1 * l.val = l.val
    omega

theorem iblk3 (c : Dev nD) (t : Fin (cfgM m (ok m)).N) (r : Fin 256) (l : Fin 128) :
    iblk m (ok m) c 3 t (ix3 0 r l) = V m c main_v94 (ix3 (grid0.coords t 0) (key (grid0.coords t 1) r) l) := by
  show V m c main_v94 ((((cfgM m (ok m)).win 3).blk t).view.emb (ix3 0 r l)) = _
  refine congrArg (V m c main_v94) ?_
  have h0 : (grid0.coords t 0).val < 16 := (grid0.coords t 0).isLt
  have h1 : (grid0.coords t 1).val < 32 := (grid0.coords t 1).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show (BitVec.ofNat 32 (grid0.coords t 1).val).toNat * 256 + 1 * r.val = 256 * (grid0.coords t 1).val + r.val
    rw [BitVec.toNat_ofNat]; omega
  | ⟨2, _⟩ =>
    apply Fin.ext
    show 0 * 128 + 1 * l.val = l.val
    omega

end Cert.Win
-- ==== Proof.Final.lean ====
module

public import proofs.«01_k».proof.Proof.Win

@[expose] public section

set_option maxRecDepth 16384

noncomputable section

/-! The four results after the run, entry by entry. -/

namespace Cert.Final

open Idealize.ShloMosaic Idealize.ShloMosaic.TcCoe Cert.KernelIdeal Cert.KernelIdeal.Gen Cert.Sem Cert.Table Cert.Win
open Idealize.ShloMosaic.Pipeline (Dat)

abbrev Arr := Shape.Idx ⟨3, ![16, 8192, 128]⟩ → EReal

section Maths
variable (x : IVec ⟨2, ![16, 32]⟩ 32) (q k v d : Arr)

/-- The rows of a head. -/
def rows (y : Arr) (a : Fin 16) (t : ℕ) (l : Fin 128) : EReal := y (ix3 a ⟨t % 8192, Nat.mod_lt _ (by omega)⟩ l)

/-- The rows of a key block of a head. -/
def keys (y : Arr) (a : Fin 16) (j : Fin 32) (r : Fin 256) (l : Fin 128) : EReal := y (ix3 a (key j r) l)

/-- The key block of a key. -/
abbrev blockOf (n : Fin 8192) : Fin 32 := ⟨n.val / 256, by omega⟩

/-- The row after the last one that meets a key block. -/
def stop (a : Fin 16) (j : Fin 32) : ℕ := 256 * ((x (cell a j)).toNat + 1)

/-- The weight of a query row and a key. -/
def P (a : Fin 16) (t n : Fin 8192) : EReal :=
  Ideal.exp2 (if n.val ≤ t.val ∧ t.val < stop x a (blockOf n) then ∑ l : Fin 128, q (ix3 a t l) * k (ix3 a n l) else ⊥)

/-- Its gradient. -/
def G (a : Fin 16) (t n : Fin 8192) : EReal := P x q k a t n * ∑ l : Fin 128, d (ix3 a t l) * v (ix3 a n l)

theorem rows_lt (y : Arr) (a : Fin 16) (t : Fin 8192) (l : Fin 128) : rows y a t.val l = y (ix3 a t l) := by
  unfold rows
  rw [show (⟨t.val % 8192, Nat.mod_lt _ (by omega)⟩ : Fin 8192) = t from Fin.ext (Nat.mod_eq_of_lt t.isLt)]

theorem blockOf_key (j : Fin 32) (r : Fin 256) : blockOf (key j r) = j := by
  apply Fin.ext
  show (256 * j.val + r.val) / 256 = j.val
  omega

theorem exp2_bot : Ideal.exp2 ⊥ = 0 := by
  rfl

theorem P_in (a : Fin 16) (j : Fin 32) (t : Fin 8192) (r : Fin 256) (h : t.val < stop x a j) :
    P x q k a t (key j r) = pr (rows q a) (keys k a j) j.val t.val r := by
  unfold P pr
  rw [blockOf_key]
  simp only [rows_lt]
  by_cases h1 : 256 * j.val + r.val ≤ t.val
  · rw [if_pos ⟨h1, h⟩, if_pos h1]; rfl
  · rw [if_neg (fun e => h1 e.1), if_neg h1]

theorem P_out (a : Fin 16) (j : Fin 32) (t : Fin 8192) (r : Fin 256) (h : ¬(256 * j.val ≤ t.val ∧ t.val < stop x a j)) :
    P x q k a t (key j r) = 0 := by
  unfold P
  rw [blockOf_key, if_neg, exp2_bot]
  rintro ⟨h1, h2⟩
  have h1' : 256 * j.val + r.val ≤ t.val := h1
  exact h ⟨by omega, h2⟩

theorem G_in (a : Fin 16) (j : Fin 32) (t : Fin 8192) (r : Fin 256) (h : t.val < stop x a j) :
    G x q k v d a t (key j r) = gr (rows q a) (rows d a) (keys k a j) (keys v a j) j.val t.val r := by
  unfold G gr
  rw [P_in x q k a j t r h]
  simp only [rows_lt]
  rfl

theorem G_out (a : Fin 16) (j : Fin 32) (t : Fin 8192) (r : Fin 256) (h : ¬(256 * j.val ≤ t.val ∧ t.val < stop x a j)) :
    G x q k v d a t (key j r) = 0 := by
  unfold G
  rw [P_out x q k a j t r h, zero_mul]

/-- A sum over the rows that meet a key block is a sum over all rows, where the others add nothing. -/
theorem sum_rows (a b : ℕ) (hb : b ≤ 8192) (f : ℕ → EReal) (g : Fin 8192 → EReal)
    (hin : ∀ t : Fin 8192, a ≤ t.val → t.val < b → g t = f t.val) (hout : ∀ t : Fin 8192, ¬(a ≤ t.val ∧ t.val < b) → g t = 0) :
    ∑ t ∈ Finset.Ico a b, f t = ∑ t : Fin 8192, g t := by
  have e : ∀ t : Fin 8192, g t = (fun n => if a ≤ n ∧ n < b then f n else 0) t.val := by
    intro t
    by_cases h : a ≤ t.val ∧ t.val < b
    · rw [hin t h.1 h.2]; exact (if_pos h).symm
    · rw [hout t h]; exact (if_neg h).symm
  rw [Finset.sum_congr rfl fun t _ => e t, Fin.sum_univ_eq_sum_range (fun n => if a ≤ n ∧ n < b then f n else 0) 8192,
    ← Finset.sum_filter]
  refine Finset.sum_congr ?_ fun _ _ => rfl
  ext n
  simp only [Finset.mem_Ico, Finset.mem_filter, Finset.mem_range]
  omega

/-- A sum over the keys, key block by key block. -/
theorem sum_keys (f : Fin 8192 → EReal) : ∑ n : Fin 8192, f n = ∑ j : Fin 32, ∑ r : Fin 256, f (key j r) := by
  rw [← Fintype.sum_prod_type' (f := fun (j : Fin 32) (r : Fin 256) => f (key j r))]
  refine (Fintype.sum_equiv (finProdFinEquiv (m := 32) (n := 256)) _ _ fun p => ?_).symm
  refine congrArg f (Fin.ext ?_)
  show 256 * p.1.val + p.2.val = p.2.val + 256 * p.1.val
  omega

end Maths

variable (m : (ℓ : Loc nD τ sig) → Buf (Elt Ideal) ℓ)

abbrev aQ (c : Dev nD) : Arr := V m c main_v87
abbrev aK (c : Dev nD) : Arr := V m c main_v91
abbrev aV (c : Dev nD) : Arr := V m c main_v94
abbrev aD (c : Dev nD) : Arr := V m c main_v111

theorem stop_le (h : InRange (tab m)) (a : Fin 16) (j : Fin 32) : stop (tab m) a j ≤ 8192 := by
  obtain ⟨e, -, hw⟩ := h a j
  unfold stop
  rw [hw, BitVec.toNat_ofNat]
  omega

/-- What one point leaves in the blocks of the results. -/
theorem point (h : InRange (tab m)) (c : Dev nD) (t : Fin (cfgM m (ok m)).N) :
    ∃ acc : Carry, Good (rows (aQ m c) (grid0.coords t 0)) (rows (aD m c) (grid0.coords t 0))
        (keys (aK m c) (grid0.coords t 0) (grid0.coords t 1)) (keys (aV m c) (grid0.coords t 0) (grid0.coords t 1))
        (grid0.coords t 1).val (stop (tab m) (grid0.coords t 0) (grid0.coords t 1)) acc
        (fun r l => if t.val % 32 = 0 then 0 else (outsAt0 m (ok m) (hyps_ideal m h) c (t.val - 1) (Nat.lt_of_le_of_lt (Nat.sub_le _ _) t.isLt)).1 (ix3 0 r l))
        (fun r l => (outsAt0 m (ok m) (hyps_ideal m h) c t.val t.isLt).1 (ix3 0 r l))
      ∧ (∀ r l, (outsAt0 m (ok m) (hyps_ideal m h) c t.val t.isLt).2.1 (ix3 0 r l) = acc.1 (ix2 r l))
      ∧ (∀ r l, (outsAt0 m (ok m) (hyps_ideal m h) c t.val t.isLt).2.2.1 (ix3 0 r l) = acc.2.1 (ix2 r l))
      ∧ ∀ r, (outsAt0 m (ok m) (hyps_ideal m h) c t.val t.isLt).2.2.2 (ix3 0 0 r) = ∑ b : Fin 8, acc.2.2 (ix2 b r) := by
  obtain ⟨e, he, hw⟩ := h (grid0.coords t 0) (grid0.coords t 1)
  have hv := (word_ideal m (grid0.coords t)).trans hw
  have hs : stop (tab m) (grid0.coords t 0) (grid0.coords t 1) = 256 * (e.val + 1) := by
    unfold stop
    rw [hw, BitVec.toNat_ofNat]
    omega
  have h0 : rows (aQ m c) (grid0.coords t 0) = rowsOf (iblk m (ok m) c 0 t) := funext fun r => funext fun l => (iblk0 m c t _ l).symm
  have h1 : rows (aD m c) (grid0.coords t 0) = rowsOf (iblk m (ok m) c 1 t) := funext fun r => funext fun l => (iblk1 m c t _ l).symm
  have h2 : keys (aK m c) (grid0.coords t 0) (grid0.coords t 1) = fun r l => iblk m (ok m) c 2 t (ix3 0 r l) :=
    funext fun r => funext fun l => (iblk2 m c t r l).symm
  have h3 : keys (aV m c) (grid0.coords t 0) (grid0.coords t 1) = fun r l => iblk m (ok m) c 3 t (ix3 0 r l) :=
    funext fun r => funext fun l => (iblk3 m c t r l).symm
  rw [hs, h0, h1, h2, h3]
  by_cases hz : t.val % 32 = 0
  · rw [outsAt0_A m (ok m) (hyps_ideal m h) c t hz]
    simp only [if_pos hz]
    exact Trips.pointA (e := e) (h := he) (hv := hv) ..
  · rw [outsAt0_B m (ok m) (hyps_ideal m h) c t hz]
    simp only [if_neg hz]
    exact Trips.pointB (e := e) (h := he) (hv := hv) ..

/-- What key block `j` adds to an entry of the first result. -/
def part (c : Dev nD) (a : Fin 16) (j : Fin 32) (r : Fin 8192) (l : Fin 128) : EReal :=
  ∑ b : Fin 256, G (tab m) (aQ m c) (aK m c) (aV m c) (aD m c) a r (key j b) * aK m c (ix3 a (key j b) l)

theorem dq_step (h : InRange (tab m)) (c : Dev nD) (t : Fin (cfgM m (ok m)).N) (r : Fin 8192) (l : Fin 128) :
    (outsAt0 m (ok m) (hyps_ideal m h) c t.val t.isLt).1 (ix3 0 r l)
      = (if t.val % 32 = 0 then 0 else (outsAt0 m (ok m) (hyps_ideal m h) c (t.val - 1) (Nat.lt_of_le_of_lt (Nat.sub_le _ _) t.isLt)).1 (ix3 0 r l))
        + part m c (grid0.coords t 0) (grid0.coords t 1) r l := by
  obtain ⟨acc, hg, -⟩ := point m h c t
  rw [hg.dq r l]
  unfold part
  split
  · rename_i hin
    refine congrArg (_ + ·) (Finset.sum_congr rfl fun b _ => ?_)
    rw [G_in _ _ _ _ _ _ _ _ _ hin.2]
    rfl
  · rename_i hout
    rw [Finset.sum_eq_zero fun b _ => ?_, add_zero]
    rw [G_out _ _ _ _ _ _ _ _ _ hout, zero_mul]

/-- The grid point of a head and a key block. -/
abbrev pnt (a : Fin 16) (j : ℕ) (hj : j < 32) : Fin (cfgM m (ok m)).N :=
  ⟨32 * a.val + j, by have : (cfgM m (ok m)).N = 512 := N_0; omega⟩

theorem pnt0 (a : Fin 16) (j : ℕ) (hj : j < 32) : grid0.coords (pnt m a j hj) 0 = a := by
  apply Fin.ext
  rw [(coords_val (pnt m a j hj)).1]
  show (32 * a.val + j) / 32 = a.val
  omega

theorem pnt1 (a : Fin 16) (j : ℕ) (hj : j < 32) : grid0.coords (pnt m a j hj) 1 = ⟨j, hj⟩ := by
  apply Fin.ext
  rw [(coords_val (pnt m a j hj)).2]
  show (32 * a.val + j) % 32 = j
  omega

theorem dq_upto (h : InRange (tab m)) (c : Dev nD) (a : Fin 16) (r : Fin 8192) (l : Fin 128) (j : ℕ) (hj : j < 32) :
    (outsAt0 m (ok m) (hyps_ideal m h) c (pnt m a j hj).val (pnt m a j hj).isLt).1 (ix3 0 r l)
      = ∑ n ∈ Finset.range (j + 1), part m c a ⟨n % 32, by omega⟩ r l := by
  induction j with
  | zero =>
    rw [dq_step m h c (pnt m a 0 hj) r l, if_pos (by show (32 * a.val + 0) % 32 = 0; omega), zero_add, pnt0, pnt1, Finset.sum_range_one]
    rfl
  | succ j ih =>
    rw [dq_step m h c (pnt m a (j + 1) hj) r l, if_neg (by show ¬(32 * a.val + (j + 1)) % 32 = 0; omega), pnt0, pnt1,
      Finset.sum_range_succ, ← ih (by omega)]
    refine congrArg (_ + part m c a · r l) (Fin.ext ?_)
    show j + 1 = (j + 1) % 32
    omega

theorem dq_last (h : InRange (tab m)) (c : Dev nD) (t : Fin (cfgM m (ok m)).N) (ht : t.val % 32 = 31) (r : Fin 8192) (l : Fin 128) :
    (outsAt0 m (ok m) (hyps_ideal m h) c t.val t.isLt).1 (ix3 0 r l)
      = ∑ n : Fin 8192, G (tab m) (aQ m c) (aK m c) (aV m c) (aD m c) (grid0.coords t 0) r n * aK m c (ix3 (grid0.coords t 0) n l) := by
  have hN : (cfgM m (ok m)).N = 512 := N_0
  have e : t = pnt m (grid0.coords t 0) 31 (by omega) := by
    apply Fin.ext
    show t.val = 32 * (grid0.coords t 0).val + 31
    rw [(coords_val t).1]
    omega
  have e2 := dq_upto m h c (grid0.coords t 0) r l 31 (by omega)
  rw [← e] at e2
  rw [e2, sum_keys, ← Fin.sum_univ_eq_sum_range (fun n => part m c (grid0.coords t 0) ⟨n % 32, by omega⟩ r l) 32]
  refine Finset.sum_congr rfl fun j _ => ?_
  have : (⟨j.val % 32, by omega⟩ : Fin 32) = j := Fin.ext (Nat.mod_eq_of_lt j.isLt)
  rw [this]
  rfl

theorem dk_pnt (h : InRange (tab m)) (c : Dev nD) (t : Fin (cfgM m (ok m)).N) (r : Fin 256) (l : Fin 128) :
    (outsAt0 m (ok m) (hyps_ideal m h) c t.val t.isLt).2.1 (ix3 0 r l)
      = ∑ n : Fin 8192, G (tab m) (aQ m c) (aK m c) (aV m c) (aD m c) (grid0.coords t 0) n (key (grid0.coords t 1) r) * aQ m c (ix3 (grid0.coords t 0) n l) := by
  obtain ⟨acc, hg, h5, -⟩ := point m h c t
  rw [h5, hg.dk]
  refine sum_rows _ _ (stop_le m h _ _) _ _ (fun n h1 h2 => ?_) fun n hn => ?_
  · rw [G_in _ _ _ _ _ _ _ _ _ h2]
    exact congrArg (_ * ·) (rows_lt _ _ n l).symm
  · rw [G_out _ _ _ _ _ _ _ _ _ hn, zero_mul]

theorem dv_pnt (h : InRange (tab m)) (c : Dev nD) (t : Fin (cfgM m (ok m)).N) (r : Fin 256) (l : Fin 128) :
    (outsAt0 m (ok m) (hyps_ideal m h) c t.val t.isLt).2.2.1 (ix3 0 r l)
      = ∑ n : Fin 8192, P (tab m) (aQ m c) (aK m c) (grid0.coords t 0) n (key (grid0.coords t 1) r) * aD m c (ix3 (grid0.coords t 0) n l) := by
  obtain ⟨acc, hg, -, h6, -⟩ := point m h c t
  rw [h6, hg.dv]
  refine sum_rows _ _ (stop_le m h _ _) _ _ (fun n h1 h2 => ?_) fun n hn => ?_
  · rw [P_in _ _ _ _ _ _ _ h2]
    exact congrArg (_ * ·) (rows_lt _ _ n l).symm
  · rw [P_out _ _ _ _ _ _ _ hn, zero_mul]

theorem cs_pnt (h : InRange (tab m)) (c : Dev nD) (t : Fin (cfgM m (ok m)).N) (r : Fin 256) :
    (outsAt0 m (ok m) (hyps_ideal m h) c t.val t.isLt).2.2.2 (ix3 0 0 r)
      = ∑ n : Fin 8192, G (tab m) (aQ m c) (aK m c) (aV m c) (aD m c) (grid0.coords t 0) n (key (grid0.coords t 1) r) := by
  obtain ⟨acc, hg, -, -, h7⟩ := point m h c t
  rw [h7, hg.cs]
  refine sum_rows _ _ (stop_le m h _ _) _ _ (fun n h1 h2 => ?_) fun n hn => ?_
  · rw [G_in _ _ _ _ _ _ _ _ _ h2]
  · rw [G_out _ _ _ _ _ _ _ _ _ hn]

/-! The results' arrays. -/

/-- The first result. -/
def DQ (c : Dev nD) : S16x8192x128.Idx → EReal :=
  fun i : S16x8192x128.Idx => ∑ n : Fin 8192, G (tab m) (aQ m c) (aK m c) (aV m c) (aD m c) (i 0) (i 1) n * aK m c (ix3 (i 0) n (i 2))

/-- The second. -/
def DK (c : Dev nD) : S16x8192x128.Idx → EReal :=
  fun i : S16x8192x128.Idx => ∑ n : Fin 8192, G (tab m) (aQ m c) (aK m c) (aV m c) (aD m c) (i 0) n (i 1) * aQ m c (ix3 (i 0) n (i 2))

/-- The third. -/
def DV (c : Dev nD) : S16x8192x128.Idx → EReal :=
  fun i : S16x8192x128.Idx => ∑ n : Fin 8192, P (tab m) (aQ m c) (aK m c) (i 0) n (i 1) * aD m c (ix3 (i 0) n (i 2))

/-- The fourth. -/
def CS (c : Dev nD) : S16x1x8192.Idx → EReal :=
  fun i : S16x1x8192.Idx => ∑ n : Fin 8192, G (tab m) (aQ m c) (aK m c) (aV m c) (aD m c) (i 0) n (i 2)

theorem ix_of (y : S1x8192x128.Idx) : y = ix3 0 (y 1) (y 2) := by
  funext a
  match a with
  | ⟨0, _⟩ => exact Subsingleton.elim (α := Fin 1) _ _
  | ⟨1, _⟩ => rfl
  | ⟨2, _⟩ => rfl

theorem iy_of (y : S1x256x128.Idx) : y = ix3 0 (y 1) (y 2) := by
  funext a
  match a with
  | ⟨0, _⟩ => exact Subsingleton.elim (α := Fin 1) _ _
  | ⟨1, _⟩ => rfl
  | ⟨2, _⟩ => rfl

theorem iz_of (y : S1x1x256.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

theorem ix3_eta (i : S16x8192x128.Idx) : ix3 (i 0) (i 1) (i 2) = i := by
  funext a
  match a with
  | ⟨0, _⟩ => rfl
  | ⟨1, _⟩ => rfl
  | ⟨2, _⟩ => rfl

theorem ix3_eta' (i : S16x1x8192.Idx) : ix3 (i 0) 0 (i 2) = i := by
  funext a
  match a with
  | ⟨0, _⟩ => rfl
  | ⟨1, _⟩ => exact Subsingleton.elim (α := Fin 1) _ _
  | ⟨2, _⟩ => rfl

theorem key_eta (n : Fin 8192) (h1 h2) : key ⟨n.val / 256, h1⟩ ⟨n.val % 256, h2⟩ = n := by
  apply Fin.ext
  show 256 * (n.val / 256) + n.val % 256 = n.val
  omega

variable (h : InRange (tab m))

theorem emb4 (t : Fin (cfgM m (ok m)).N) (y1 : Fin 8192) (y2 : Fin 128) :
    ((((cfgM m (ok m)).win 4).blk t).view.emb (ix3 0 y1 y2) : S16x8192x128.Idx) = ix3 (grid0.coords t 0) y1 y2 := by
  have h0 : (grid0.coords t 0).val < 16 := (grid0.coords t 0).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show 0 * 8192 + 1 * y1.val = y1.val
    omega
  | ⟨2, _⟩ =>
    apply Fin.ext
    show 0 * 128 + 1 * y2.val = y2.val
    omega

theorem emb5 (t : Fin (cfgM m (ok m)).N) (y1 : Fin 256) (y2 : Fin 128) :
    ((((cfgM m (ok m)).win 5).blk t).view.emb (ix3 0 y1 y2) : S16x8192x128.Idx) = ix3 (grid0.coords t 0) (key (grid0.coords t 1) y1) y2 := by
  have h0 : (grid0.coords t 0).val < 16 := (grid0.coords t 0).isLt
  have h1 : (grid0.coords t 1).val < 32 := (grid0.coords t 1).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show (BitVec.ofNat 32 (grid0.coords t 1).val).toNat * 256 + 1 * y1.val = 256 * (grid0.coords t 1).val + y1.val
    rw [BitVec.toNat_ofNat]; omega
  | ⟨2, _⟩ =>
    apply Fin.ext
    show 0 * 128 + 1 * y2.val = y2.val
    omega

theorem emb6 (t : Fin (cfgM m (ok m)).N) (y1 : Fin 256) (y2 : Fin 128) :
    ((((cfgM m (ok m)).win 6).blk t).view.emb (ix3 0 y1 y2) : S16x8192x128.Idx) = ix3 (grid0.coords t 0) (key (grid0.coords t 1) y1) y2 := by
  have h0 : (grid0.coords t 0).val < 16 := (grid0.coords t 0).isLt
  have h1 : (grid0.coords t 1).val < 32 := (grid0.coords t 1).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ =>
    apply Fin.ext
    show (BitVec.ofNat 32 (grid0.coords t 1).val).toNat * 256 + 1 * y1.val = 256 * (grid0.coords t 1).val + y1.val
    rw [BitVec.toNat_ofNat]; omega
  | ⟨2, _⟩ =>
    apply Fin.ext
    show 0 * 128 + 1 * y2.val = y2.val
    omega

theorem emb7 (t : Fin (cfgM m (ok m)).N) (y2 : Fin 256) :
    ((((cfgM m (ok m)).win 7).blk t).view.emb (ix3 0 0 y2) : S16x1x8192.Idx) = ix3 (grid0.coords t 0) 0 (key (grid0.coords t 1) y2) := by
  have h0 : (grid0.coords t 0).val < 16 := (grid0.coords t 0).isLt
  have h1 : (grid0.coords t 1).val < 32 := (grid0.coords t 1).isLt
  funext a
  match a with
  | ⟨0, _⟩ =>
    apply Fin.ext
    show (BitVec.ofNat 32 (grid0.coords t 0).val).toNat * 1 + 1 * 0 = (grid0.coords t 0).val
    rw [BitVec.toNat_ofNat]; omega
  | ⟨1, _⟩ => rfl
  | ⟨2, _⟩ =>
    apply Fin.ext
    show (BitVec.ofNat 32 (grid0.coords t 1).val).toNat * 256 + 1 * y2.val = 256 * (grid0.coords t 1).val + y2.val
    rw [BitVec.toNat_ofNat]; omega

theorem flushed4 (c : Dev nD) (t : Fin (cfgM m (ok m)).N) (ht : t.val % 32 = 31) :
    (dats m (ok m) (hyps_ideal m h) 0 c).flushed 4 t = (((cfgM m (ok m)).win 4).blk t).view.read (Elt Ideal) (DQ m c) := by
  show ((cfgM m (ok m)).win 4).cut ((cfgM m (ok m)).grid.coords t) ((dats m (ok m) (hyps_ideal m h) 0 c).after 4 t) = _
  rw [after0_4]
  funext (y : S1x8192x128.Idx)
  rw [ix_of y]
  refine (dq_last m h c t ht (y 1) (y 2)).trans ?_
  exact (congrArg (DQ m c) (emb4 m t (y 1) (y 2))).symm

theorem flushed5 (c : Dev nD) (t : Fin (cfgM m (ok m)).N) :
    (dats m (ok m) (hyps_ideal m h) 0 c).flushed 5 t = (((cfgM m (ok m)).win 5).blk t).view.read (Elt Ideal) (DK m c) := by
  show ((cfgM m (ok m)).win 5).cut ((cfgM m (ok m)).grid.coords t) ((dats m (ok m) (hyps_ideal m h) 0 c).after 5 t) = _
  rw [after0_5]
  funext (y : S1x256x128.Idx)
  rw [iy_of y]
  refine (dk_pnt m h c t (y 1) (y 2)).trans ?_
  exact (congrArg (DK m c) (emb5 m t (y 1) (y 2))).symm

theorem flushed6 (c : Dev nD) (t : Fin (cfgM m (ok m)).N) :
    (dats m (ok m) (hyps_ideal m h) 0 c).flushed 6 t = (((cfgM m (ok m)).win 6).blk t).view.read (Elt Ideal) (DV m c) := by
  show ((cfgM m (ok m)).win 6).cut ((cfgM m (ok m)).grid.coords t) ((dats m (ok m) (hyps_ideal m h) 0 c).after 6 t) = _
  rw [after0_6]
  funext (y : S1x256x128.Idx)
  rw [iy_of y]
  refine (dv_pnt m h c t (y 1) (y 2)).trans ?_
  exact (congrArg (DV m c) (emb6 m t (y 1) (y 2))).symm

theorem flushed7 (c : Dev nD) (t : Fin (cfgM m (ok m)).N) :
    (dats m (ok m) (hyps_ideal m h) 0 c).flushed 7 t = (((cfgM m (ok m)).win 7).blk t).view.read (Elt Ideal) (CS m c) := by
  show ((cfgM m (ok m)).win 7).cut ((cfgM m (ok m)).grid.coords t) ((dats m (ok m) (hyps_ideal m h) 0 c).after 7 t) = _
  rw [after0_7]
  funext (y : S1x1x256.Idx)
  rw [iz_of y]
  refine (cs_pnt m h c t (y 2)).trans ?_
  exact (congrArg (CS m c) (emb7 m t (y 2))).symm

theorem mem_of_emb {κ : Kind} {σ : Space} {s : Shape} {e : EltTy} (v : View sig κ σ s e) (y : s.Idx) (i : v.ty.Idx) (he : v.emb y = i) : i ∈ v.set := by
  subst he
  exact View.emb_mem_set _ _

theorem cover4 (i : S16x8192x128.Idx) :
    ∃ t : Fin (cfgM m (ok m)).N, ((cfgM m (ok m)).win 4).flush t = true ∧ i ∈ (((cfgM m (ok m)).win 4).blk t).view.set := by
  have h0 : (i 0).val < 16 := (i 0).isLt
  have hj : 31 < 32 := by omega
  refine ⟨pnt m (i 0) 31 hj, (flush0_4 _ _).mpr (by show (32 * (i 0).val + 31) % 32 = 31; omega), ?_⟩
  have e := emb4 m (pnt m (i 0) 31 hj) (i 1) (i 2)
  have e0 := congrArg (fun a : Fin 16 => (ix3 a (i 1) (i 2) : S16x8192x128.Idx)) (pnt0 m (i 0) 31 hj)
  exact mem_of_emb _ _ _ (e.trans (e0.trans (ix3_eta i)))

theorem cover5 (i : S16x8192x128.Idx) :
    ∃ t : Fin (cfgM m (ok m)).N, ((cfgM m (ok m)).win 5).flush t = true ∧ i ∈ (((cfgM m (ok m)).win 5).blk t).view.set := by
  have h1 : (i 1).val < 8192 := (i 1).isLt
  have hj : (i 1).val / 256 < 32 := by omega
  have hr : (i 1).val % 256 < 256 := by omega
  refine ⟨pnt m (i 0) ((i 1).val / 256) hj, flush0_5 _ _, ?_⟩
  have e := emb5 m (pnt m (i 0) ((i 1).val / 256) hj) ⟨(i 1).val % 256, hr⟩ (i 2)
  have e0 := congrArg (fun p : Fin 16 × Fin 32 => (ix3 p.1 (key p.2 ⟨(i 1).val % 256, hr⟩) (i 2) : S16x8192x128.Idx))
    (Prod.ext (pnt0 m (i 0) _ hj) (pnt1 m (i 0) _ hj) : (_, _) = (_, _))
  have e1 := congrArg (fun n : Fin 8192 => (ix3 (i 0) n (i 2) : S16x8192x128.Idx)) (key_eta (i 1) hj hr)
  exact mem_of_emb _ _ _ (e.trans (e0.trans (e1.trans (ix3_eta i))))

theorem cover6 (i : S16x8192x128.Idx) :
    ∃ t : Fin (cfgM m (ok m)).N, ((cfgM m (ok m)).win 6).flush t = true ∧ i ∈ (((cfgM m (ok m)).win 6).blk t).view.set := by
  have h1 : (i 1).val < 8192 := (i 1).isLt
  have hj : (i 1).val / 256 < 32 := by omega
  have hr : (i 1).val % 256 < 256 := by omega
  refine ⟨pnt m (i 0) ((i 1).val / 256) hj, flush0_6 _ _, ?_⟩
  have e := emb6 m (pnt m (i 0) ((i 1).val / 256) hj) ⟨(i 1).val % 256, hr⟩ (i 2)
  have e0 := congrArg (fun p : Fin 16 × Fin 32 => (ix3 p.1 (key p.2 ⟨(i 1).val % 256, hr⟩) (i 2) : S16x8192x128.Idx))
    (Prod.ext (pnt0 m (i 0) _ hj) (pnt1 m (i 0) _ hj) : (_, _) = (_, _))
  have e1 := congrArg (fun n : Fin 8192 => (ix3 (i 0) n (i 2) : S16x8192x128.Idx)) (key_eta (i 1) hj hr)
  exact mem_of_emb _ _ _ (e.trans (e0.trans (e1.trans (ix3_eta i))))

theorem cover7 (i : S16x1x8192.Idx) :
    ∃ t : Fin (cfgM m (ok m)).N, ((cfgM m (ok m)).win 7).flush t = true ∧ i ∈ (((cfgM m (ok m)).win 7).blk t).view.set := by
  have h1 : (i 2).val < 8192 := (i 2).isLt
  have hj : (i 2).val / 256 < 32 := by omega
  have hr : (i 2).val % 256 < 256 := by omega
  refine ⟨pnt m (i 0) ((i 2).val / 256) hj, flush0_7 _ _, ?_⟩
  have e := emb7 m (pnt m (i 0) ((i 2).val / 256) hj) ⟨(i 2).val % 256, hr⟩
  have e0 := congrArg (fun p : Fin 16 × Fin 32 => (ix3 p.1 0 (key p.2 ⟨(i 2).val % 256, hr⟩) : S16x1x8192.Idx))
    (Prod.ext (pnt0 m (i 0) _ hj) (pnt1 m (i 0) _ hj) : (_, _) = (_, _))
  have e1 := congrArg (fun n : Fin 8192 => (ix3 (i 0) 0 n : S16x1x8192.Idx)) (key_eta (i 2) hj hr)
  exact mem_of_emb _ _ _ (e.trans (e0.trans (e1.trans (ix3_eta' i))))

theorem final4 (c : Dev nD) : (dats m (ok m) (hyps_ideal m h) 0 c).arrAt 4 (cfgM m (ok m)).N = DQ m c :=
  (dats m (ok m) (hyps_ideal m h) 0 c).arrAt_eq_of_cover 4 (DQ m c) (fun t hf => flushed4 m h c t ((flush0_4 _ t).mp hf)) (cover4 m)

theorem final5 (c : Dev nD) : (dats m (ok m) (hyps_ideal m h) 0 c).arrAt 5 (cfgM m (ok m)).N = DK m c :=
  (dats m (ok m) (hyps_ideal m h) 0 c).arrAt_eq_of_cover 5 (DK m c) (fun t _ => flushed5 m h c t) (cover5 m)

theorem final6 (c : Dev nD) : (dats m (ok m) (hyps_ideal m h) 0 c).arrAt 6 (cfgM m (ok m)).N = DV m c :=
  (dats m (ok m) (hyps_ideal m h) 0 c).arrAt_eq_of_cover 6 (DV m c) (fun t _ => flushed6 m h c t) (cover6 m)

theorem final7 (c : Dev nD) : (dats m (ok m) (hyps_ideal m h) 0 c).arrAt 7 (cfgM m (ok m)).N = CS m c :=
  (dats m (ok m) (hyps_ideal m h) 0 c).arrAt_eq_of_cover 7 (CS m c) (fun t _ => flushed7 m h c t) (cover7 m)

end Cert.Final
-- ==== Proof.Model.lean ====
/-
  Attention and its derivative over the real numbers, for one head: queries and keys are numbered by `T`, the entries
  of a head by `D`. Two ways to write the derivative of the scores, one with a saved row sum and one as the chain rule
  gives it, have the same value.
-/
module

public import Mathlib.Analysis.SpecialFunctions.Exp
public import Mathlib.Algebra.BigOperators.Field
public import Mathlib.Tactic.FieldSimp

@[expose] public section

noncomputable section

namespace Cert.Model

variable {T D : Type} [Fintype T] [Fintype D] (q k v ct : T → D → ℝ) (f : T → ℝ) (live : T → T → Prop)
  [∀ t n, Decidable (live t n)]

/-- The score of a query at a key. -/
def score (t n : T) : ℝ := (∑ d, q t d * k n d) * (1 / 8) + (f t - f n)

/-- Its exponential after a shift of the row, zero where the pair is left out. -/
def expo (x : T → ℝ) (t n : T) : ℝ := if live t n then Real.exp (score q k f t n - x t) else 0

/-- The row sum. -/
def total (x : T → ℝ) (t : T) : ℝ := ∑ n, expo q k f live x t n

/-- The softmax. -/
def soft (x : T → ℝ) (t n : T) : ℝ := expo q k f live x t n / total q k f live x t

/-- The derivative of the loss by a weight. -/
def back (t n : T) : ℝ := ∑ d, ct t d * v n d

/-- The derivative of the loss by a score. -/
def ds (x : T → ℝ) (t n : T) : ℝ :=
  soft q k f live x t n * (back v ct t n - ∑ j, soft q k f live x t j * back v ct t j)

theorem expo_nonneg (x : T → ℝ) (t n : T) : 0 ≤ expo q k f live x t n := by
  unfold expo
  split_ifs
  · exact (Real.exp_pos _).le
  · exact le_rfl

/-- A row in which the query's own key takes part has a positive sum. -/
theorem total_pos (x : T → ℝ) {t : T} (h : live t t) : 0 < total q k f live x t :=
  Finset.sum_pos' (fun n _ => expo_nonneg q k f live x t n)
    ⟨t, Finset.mem_univ _, by unfold expo; rw [if_pos h]; exact Real.exp_pos _⟩

theorem expo_shift (x y : T → ℝ) (t n : T) :
    expo q k f live x t n = Real.exp (y t - x t) * expo q k f live y t n := by
  unfold expo
  split_ifs
  · rw [← Real.exp_add]; ring_nf
  · rw [mul_zero]

/-- The softmax does not depend on the shift. -/
theorem soft_shift (x y : T → ℝ) (t n : T) : soft q k f live x t n = soft q k f live y t n := by
  unfold soft total
  simp only [expo_shift q k f live x y]
  rw [← Finset.mul_sum, mul_div_mul_left _ _ (Real.exp_pos _).ne']

theorem ds_shift (x y : T → ℝ) (t n : T) : ds q k v ct f live x t n = ds q k v ct f live y t n := by
  unfold ds
  simp only [soft_shift q k f live x y]

theorem soft_sum (x : T → ℝ) {t : T} (h : live t t) : ∑ n, soft q k f live x t n = 1 := by
  unfold soft
  rw [← Finset.sum_div]
  exact div_self (total_pos q k f live x h).ne'

/-- A row of score derivatives sums to zero. -/
theorem ds_sum (x : T → ℝ) {t : T} (h : live t t) : ∑ n, ds q k v ct f live x t n = 0 := by
  unfold ds
  simp only [mul_sub]
  rw [Finset.sum_sub_distrib, ← Finset.sum_mul, soft_sum q k f live x h, one_mul, sub_self]

/-- A pair that is left out has no derivative. -/
theorem ds_dead (x : T → ℝ) {t n : T} (h : ¬ live t n) : ds q k v ct f live x t n = 0 := by
  unfold ds soft expo
  rw [if_neg h, zero_div, zero_mul]

/-- The chain rule's form. -/
theorem ds_chain (x : T → ℝ) {t : T} (h : live t t) (n : T) :
    (back v ct t n / total q k f live x t
        + -∑ j, back v ct t j * (1 / (total q k f live x t * total q k f live x t)) * expo q k f live x t j)
      * expo q k f live x t n = ds q k v ct f live x t n := by
  have hL := (total_pos q k f live x h).ne'
  have e : ∑ j, back v ct t j * (1 / (total q k f live x t * total q k f live x t)) * expo q k f live x t j
      = (∑ j, soft q k f live x t j * back v ct t j) / total q k f live x t := by
    rw [Finset.sum_div]
    refine Finset.sum_congr rfl fun j _ => ?_
    unfold soft
    field_simp
  rw [e]
  unfold ds
  generalize ∑ j, soft q k f live x t j * back v ct t j = s
  unfold soft
  field_simp
  ring

/-- The form with the scaled output gradient and its saved product with the output. -/
theorem ds_saved (x : T → ℝ) (t n : T) :
    expo q k f live x t n * ((∑ d, ct t d * (1 / total q k f live x t) * v n d)
        + -∑ d, ct t d * (1 / total q k f live x t) * ((∑ j, expo q k f live x t j * v j d) * (1 / total q k f live x t)))
      = ds q k v ct f live x t n := by
  have e1 : ∑ d, ct t d * (1 / total q k f live x t) * v n d = back v ct t n / total q k f live x t := by
    unfold back
    rw [Finset.sum_div]
    exact Finset.sum_congr rfl fun d _ => by ring
  have e2 : ∑ d, ct t d * (1 / total q k f live x t) * ((∑ j, expo q k f live x t j * v j d) * (1 / total q k f live x t))
      = (∑ j, soft q k f live x t j * back v ct t j) / total q k f live x t := by
    unfold back soft
    simp only [Finset.mul_sum, Finset.sum_mul, Finset.sum_div]
    rw [Finset.sum_comm]
    exact Finset.sum_congr rfl fun j _ => Finset.sum_congr rfl fun d _ => by ring
  rw [e1, e2]
  unfold ds
  generalize ∑ j, soft q k f live x t j * back v ct t j = s
  unfold soft
  ring

end Cert.Model
-- ==== Proof.Common.lean ====
module

public import proofs.«01_k».proof.Proof.Final
public import proofs.«01_k».proof.Proof.Model
public import Idealize.ShloMosaic.Lib.Pointwise

@[expose] public section

set_option maxRecDepth 16384

noncomputable section

/-! Real numbers among the extended ones, comparisons of small words, and the maximum of a row. -/

namespace Cert.Common

open Idealize.ShloMosaic Cert.Table

/-! ### Real numbers -/

theorem toReal_of {x : EReal} (h : ∃ r : ℝ, x = (r : EReal)) : x = (x.toReal : EReal) := by
  obtain ⟨r, rfl⟩ := h; rfl

theorem sum_coe {ι : Type} [Fintype ι] (g : ι → ℝ) : ∑ i, (g i : EReal) = ((∑ i, g i : ℝ) : EReal) := by
  classical
  induction (Finset.univ : Finset ι) using Finset.induction_on with
  | empty => simp
  | insert a s ha ih => rw [Finset.sum_insert ha, Finset.sum_insert ha, ih, EReal.coe_add]

/-- A sum of products of reals. -/
theorem dot_coe {ι : Type} [Fintype ι] {x y : ι → EReal} {a b : ι → ℝ} (hx : ∀ i, x i = (a i : EReal))
    (hy : ∀ i, y i = (b i : EReal)) : ∑ i, x i * y i = ((∑ i, a i * b i : ℝ) : EReal) := by
  rw [← sum_coe]
  exact Finset.sum_congr rfl fun i _ => by rw [hx, hy, EReal.coe_mul]

theorem sum_eq {ι : Type} [Fintype ι] {x : ι → EReal} {a : ι → ℝ} (hx : ∀ i, x i = (a i : EReal)) :
    ∑ i, x i = ((∑ i, a i : ℝ) : EReal) := by
  rw [← sum_coe]
  exact Finset.sum_congr rfl fun i _ => hx i

theorem zero : Ideal.ofBits .f32 0x00000000#32 = ((0 : ℝ) : EReal) := by
  simp [Ideal.ofBits, Ideal.ieee]

theorem zero16 : Ideal.ofBits .bf16 0x0000#16 = ((0 : ℝ) : EReal) := by
  simp [Ideal.ofBits, Ideal.ieee]

theorem one : Ideal.ofBits .f32 0x3F800000#32 = ((1 : ℝ) : EReal) := by
  simp [Ideal.ofBits, Ideal.ieee, -EReal.coe_mul]; norm_num

theorem one16 : Ideal.ofBits .bf16 0x3F80#16 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else (Real.log 2 : EReal)) = _
  rw [if_neg (by norm_num)]

theorem log2_pos : 0 < Real.log 2 := Real.log_pos (by norm_num)

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = ((Real.exp a : ℝ) : EReal) := rfl

theorem exp2_coe (a : ℝ) : Ideal.exp2 (a : EReal) = ((Real.exp (a * Real.log 2) : ℝ) : EReal) := by
  show ((Real.rpow 2 a : ℝ) : EReal) = _
  exact congrArg _ ((Real.rpow_def_of_pos (by norm_num) a).trans (by rw [mul_comm]))

/-! ### Maxima -/

/-- A maximum along the last axis, from minus infinity. -/
theorem reduce_max {n0 n1 n2 : ℕ} {u : Shape} (x : (⟨3, ![n0, n1, n2]⟩ : Shape).Idx → EReal) (init : u.Idx → EReal)
    (h : (⟨3, ![n0, n1, n2]⟩ : Shape).ReducesTo [2] ⟨2, ![n0, n1]⟩) (hu : 0 < u.numel) (a : Fin n0) (b : Fin n1) :
    Host.reduce (FloatOps.maximumf (F := Ideal) (φ := .f32)) x init h hu (ix2 a b)
      = Finset.univ.fold max (init (Shape.Idx.first hu)) fun k => x (ix3 a b k) := by
  rw [Ideal.maximumf_eq_max, Host.reduce_eq_fold, h.fold_fiber_r3_a2]
  rfl

/-- The maximum of finitely many values none of which is infinity, one of them real, is real. -/
theorem fold_real {n : ℕ} (g : Fin n → EReal) (hg : ∀ k, g k ≠ ⊤) {k : Fin n} (hk : g k ≠ ⊥) :
    ∃ r : ℝ, Finset.univ.fold max ⊥ g = (r : EReal) := by
  have hb : Finset.univ.fold max ⊥ g ≠ ⊥ := by
    intro e
    have := (Finset.fold_max_le (c := ⊥) (b := (⊥ : EReal)) (f := g) (s := Finset.univ)).1 e.le
    exact hk (le_bot_iff.1 (this.2 k (Finset.mem_univ k)))
  have ht : Finset.univ.fold max ⊥ g ≠ ⊤ := by
    refine ne_of_lt ((Finset.fold_max_lt (c := ⊤)).2 ⟨bot_lt_top, fun k _ => lt_top_iff_ne_top.2 (hg k)⟩)
  exact ⟨_, (EReal.coe_toReal ht hb).symm⟩

theorem ceil_real {x : EReal} (h : ∃ r : ℝ, x = (r : EReal)) : ∃ r : ℝ, Ideal.liftRound Int.ceil x = (r : EReal) := by
  obtain ⟨r, rfl⟩ := h
  exact ⟨_, rfl⟩

theorem ceil_apply {s : Shape} (x : FVec Ideal s .f32) (i : s.Idx) : Host.ceil x i = Ideal.liftRound Int.ceil (x i) := rfl

/-! ### Arrays laid side by side along the last axis -/

section Cat
variable {α : Type} {n0 n1 m N : ℕ} (a : Fin n0) (b : Fin n1) (l : Fin N)

theorem here (x : (⟨3, ![n0, n1, m]⟩ : Shape).Idx → α) (q : (s : Shape) × (s.Idx → α)) (xs : List ((s : Shape) × (s.Idx → α)))
    (hs) (c : ℕ) (hc) (h : c < m) :
    concatenateAt ⟨3, ![n0, n1, N]⟩ 2 (ix3 a b l) (⟨⟨3, ![n0, n1, m]⟩, x⟩ :: q :: xs) hs c hc = x (ix3 a b ⟨c, h⟩) := by
  rw [concatenateAt_cons]
  refine (dif_pos h).trans (congrArg x ?_)
  funext d
  match d with
  | ⟨0, _⟩ => rfl
  | ⟨1, _⟩ => rfl
  | ⟨2, _⟩ => rfl

theorem skip (x : (⟨3, ![n0, n1, m]⟩ : Shape).Idx → α) (q : (s : Shape) × (s.Idx → α)) (xs : List ((s : Shape) × (s.Idx → α)))
    (hs) (c : ℕ) (hc) (h : ¬ c < m) :
    concatenateAt ⟨3, ![n0, n1, N]⟩ 2 (ix3 a b l) (⟨⟨3, ![n0, n1, m]⟩, x⟩ :: q :: xs) hs c hc
      = concatenateAt ⟨3, ![n0, n1, N]⟩ 2 (ix3 a b l) (q :: xs) (fun s' h => hs s' (List.mem_cons_of_mem _ h)) (c - m)
        (by rw [axisSizes_cons _ _ _ (q :: xs) (hs _ List.mem_cons_self), List.sum_cons] at hc
            exact Nat.sub_lt_left_of_lt_add (Nat.le_of_not_lt h) hc) := by
  rw [concatenateAt_cons]
  exact dif_neg h

theorem final (x : (⟨3, ![n0, n1, m]⟩ : Shape).Idx → α) (hs) (c : ℕ) (hc) (h : c < m) :
    concatenateAt ⟨3, ![n0, n1, N]⟩ 2 (ix3 a b l) [⟨⟨3, ![n0, n1, m]⟩, x⟩] hs c hc = x (ix3 a b ⟨c, h⟩) := by
  rw [concatenateAt_singleton]
  refine congrArg x ?_
  funext d
  match d with
  | ⟨0, _⟩ => rfl
  | ⟨1, _⟩ => rfl
  | ⟨2, _⟩ => rfl

end Cat

/-- Three columns: a number and what is left of it twice. -/
theorem triple {n0 n1 : ℕ} (x y z : (⟨3, ![n0, n1, 1]⟩ : Shape).Idx → EReal) (h) (a : Fin n0) (b : Fin n1) (j : Fin 3) {r : ℝ}
    (hx : x (ix3 a b 0) = (r : EReal)) (hy : y (ix3 a b 0) = ((0 : ℝ) : EReal)) (hz : z (ix3 a b 0) = ((0 : ℝ) : EReal)) :
    concatenate ⟨3, ![n0, n1, 3]⟩ 2 [⟨⟨3, ![n0, n1, 1]⟩, x⟩, ⟨⟨3, ![n0, n1, 1]⟩, y⟩, ⟨⟨3, ![n0, n1, 1]⟩, z⟩] h (ix3 a b j)
      = ((if j.val = 0 then r else 0 : ℝ) : EReal) := by
  rw [concatenate_cons_apply]
  match j with
  | ⟨0, _⟩ => exact (here a b _ _ _ _ _ 0 _ (by omega)).trans hx
  | ⟨1, _⟩ => exact (skip a b _ _ _ _ _ 1 _ (by omega)).trans ((here a b _ _ _ _ _ 0 _ (by omega)).trans hy)
  | ⟨2, _⟩ => exact (skip a b _ _ _ _ _ 2 _ (by omega)).trans ((skip a b _ _ _ _ _ 1 _ (by omega)).trans
      ((final a b _ _ _ 0 _ (by omega)).trans hz))

/-- A sum over the lanes: the array's own, nine more, and the rest. -/
theorem sum_lanes {M : Type} [AddCommMonoid M] (y : Fin 128 → M) :
    ∑ l, y l = ∑ d : Fin 64, y ⟨d.val, by omega⟩
      + (∑ j : Fin 9, y ⟨64 + j.val, by omega⟩ + ∑ j : Fin 55, y ⟨64 + (9 + j.val), by omega⟩) := by
  rw [Fin.sum_univ_add (a := 64) (b := 64) y]
  refine congrArg₂ _ rfl ?_
  rw [Fin.sum_univ_add (a := 9) (b := 55)]
  rfl

/-! ### Words -/

theorem andi_dec (p q : Prop) [Decidable p] [Decidable q] :
    IntOp.andi (BitVec.ofBool (decide p)) (BitVec.ofBool (decide q)) = BitVec.ofBool (decide (p ∧ q)) := by
  by_cases hp : p <;> by_cases hq : q <;> simp [hp, hq] <;> decide

theorem toInt_small (n : ℕ) (h : n ≤ 8192) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem sle_small (a b : ℕ) (ha : a ≤ 8192) (hb : b ≤ 8192) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle, toInt_small a ha, toInt_small b hb]
  simp

theorem slt_small (a b : ℕ) (ha : a ≤ 8192) (hb : b ≤ 8192) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt, toInt_small a ha, toInt_small b hb]
  simp

/-! ### The table -/

variable (x : IVec ⟨2, ![16, 32]⟩ 32)

/-- The pairs that take part. -/
def live (h : Fin 16) (t n : Fin 8192) : Prop := n.val ≤ t.val ∧ t.val < Final.stop x h (Final.blockOf n)

instance (h : Fin 16) (t n : Fin 8192) : Decidable (live x h t n) := by unfold live; infer_instance

variable (g : InRange x)
include g

theorem stop_le (a : Fin 16) (j : Fin 32) : Final.stop x a j ≤ 8192 := by
  obtain ⟨e, -, he⟩ := g a j
  have := e.isLt
  unfold Final.stop
  rw [he, BitVec.toNat_ofNat, Nat.mod_eq_of_lt (by omega)]
  omega

/-- A query takes part with its own key. -/
theorem live_self (a : Fin 16) (t : Fin 8192) : live x a t t := by
  refine ⟨le_rfl, ?_⟩
  have ht := t.isLt
  obtain ⟨e, hj, he⟩ := g a (Final.blockOf t)
  have := e.isLt
  have hj' : t.val / 256 ≤ e.val := hj
  unfold Final.stop
  rw [he, BitVec.toNat_ofNat, Nat.mod_eq_of_lt (by omega)]
  omega

/-- The row after the last one, as a word. -/
theorem stop_word (a : Fin 16) (j : Fin 32) :
    IntOp.muli (IntOp.addi (x (cell a j)) 1#32) 256#32 = BitVec.ofNat 32 (Final.stop x a j) := by
  obtain ⟨e, -, he⟩ := g a j
  have hlt := e.isLt
  unfold Final.stop
  rw [he, BitVec.toNat_ofNat, Nat.mod_eq_of_lt (by omega)]
  show (BitVec.ofNat 32 e.val + 1#32) * 256#32 = _
  apply BitVec.eq_of_toNat_eq
  simp only [BitVec.toNat_mul, BitVec.toNat_add, BitVec.toNat_ofNat]
  omega

theorem live_word (a : Fin 16) (t n : Fin 8192) :
    IntOp.andi (IntOp.cmpi .sle (BitVec.ofNat 32 n.val) (BitVec.ofNat 32 t.val))
      (IntOp.cmpi .slt (BitVec.ofNat 32 t.val)
        (IntOp.muli (IntOp.addi (x (cell a (Final.blockOf n))) 1#32) 256#32))
      = BitVec.ofBool (decide (live x a t n)) := by
  have hs := stop_le x g a (Final.blockOf n)
  have ht := t.isLt
  have hn := n.isLt
  rw [stop_word x g, sle_small _ _ (by omega) (by omega), slt_small _ _ (by omega) hs, andi_dec]
  rfl

end Cert.Common
-- ==== Proof.HostValue.lean ====
module

public import proofs.«01_k».proof.Proof.Host
public import proofs.«01_k».proof.Proof.Common

@[expose] public section

set_option maxRecDepth 16384

noncomputable section

/-! The host lines before the call over real arguments: what each array holds, by the real model. -/

namespace Cert.HostValue

open Idealize.ShloMosaic Cert.KernelIdeal Cert.KernelIdeal.Gen Cert.Host Cert.Table Cert.Common

variable (A : Args)

/-- The arguments are real, and the table in range. -/
structure Good : Prop where
  tab : InRange A.tab
  q : ∀ i, ∃ r : ℝ, A.q i = (r : EReal)
  k : ∀ i, ∃ r : ℝ, A.k i = (r : EReal)
  v : ∀ i, ∃ r : ℝ, A.v i = (r : EReal)
  f : ∀ i, ∃ r : ℝ, A.f i = (r : EReal)
  ct : ∀ i, ∃ r : ℝ, A.ct i = (r : EReal)

def rq (h : Fin 16) (t : Fin 8192) (d : Fin 64) : ℝ := (A.q (ix3 h t d)).toReal
def rk (h : Fin 16) (t : Fin 8192) (d : Fin 64) : ℝ := (A.k (ix3 h t d)).toReal
def rv (h : Fin 16) (t : Fin 8192) (d : Fin 64) : ℝ := (A.v (ix3 h t d)).toReal
def rc (h : Fin 16) (t : Fin 8192) (d : Fin 64) : ℝ := (A.ct (ix3 h t d)).toReal
def rf (h : Fin 16) (t : Fin 8192) : ℝ := (A.f (ix2 h t)).toReal
/-- The row's shift, of the host's base two exponent and of the exponential. -/
def rm (h : Fin 16) (t : Fin 8192) : ℝ := (x28 A (ix2 h t)).toReal
def shift (h : Fin 16) (t : Fin 8192) : ℝ := rm A h t * Real.log 2
/-- The row sum, the output row and the scaled cotangent. -/
def tot (h : Fin 16) (t : Fin 8192) : ℝ := Model.total (rq A h) (rk A h) (rf A h) (live A.tab h) (shift A h) t
def ex (h : Fin 16) (t n : Fin 8192) : ℝ := Model.expo (rq A h) (rk A h) (rf A h) (live A.tab h) (shift A h) t n
def ro (h : Fin 16) (t : Fin 8192) (d : Fin 64) : ℝ := (∑ j, ex A h t j * rv A h j d) * (1 / tot A h t)
def ru (h : Fin 16) (t : Fin 8192) (d : Fin 64) : ℝ := rc A h t d * (1 / tot A h t)

theorem ln2 : x0 A ix0 = ((Real.log 2 : ℝ) : EReal) := by
  simp only [x0, cst, pointwise]
  rw [two, log_two]

theorem log2e : x1 A ix0 = ((1 / Real.log 2 : ℝ) : EReal) := by
  simp only [x1, cst_0, pointwise]
  rw [ln2]
  exact div_coe 1 log2_pos.ne'

variable (g : Good A)
include g

theorem q_eq (h : Fin 16) (t : Fin 8192) (d : Fin 64) : A.q (ix3 h t d) = (rq A h t d : EReal) := toReal_of (g.q _)
theorem k_eq (h : Fin 16) (t : Fin 8192) (d : Fin 64) : A.k (ix3 h t d) = (rk A h t d : EReal) := toReal_of (g.k _)
theorem v_eq (h : Fin 16) (t : Fin 8192) (d : Fin 64) : A.v (ix3 h t d) = (rv A h t d : EReal) := toReal_of (g.v _)
theorem c_eq (h : Fin 16) (t : Fin 8192) (d : Fin 64) : A.ct (ix3 h t d) = (rc A h t d : EReal) := toReal_of (g.ct _)
theorem f_eq (h : Fin 16) (t : Fin 8192) : A.f (ix2 h t) = (rf A h t : EReal) := toReal_of (g.f _)

theorem score (h : Fin 16) (t n : Fin 8192) :
    x10 A (ix3 h t n) = ((Model.score (rq A h) (rk A h) (rf A h) t n : ℝ) : EReal) := by
  simp only [x10, x9, x8, x7, x6, x5, x4, x3, cst_1, x2, pointwise]
  change (0 + ∑ k, A.q (ix3 h t k) * A.k (ix3 h n k)) * Ideal.ofBits FTy.f32 1040187392#32
    + (A.f (ix2 h t) - A.f (ix2 h n)) = _
  rw [dot_coe (q_eq A g h t) (k_eq A g h n), f_eq A g, f_eq A g, eighth, zero_add, ← EReal.coe_mul, ← EReal.coe_sub,
    ← EReal.coe_add]
  rfl

theorem mask (h : Fin 16) (t n : Fin 8192) : x23 A (ix3 h t n) = BitVec.ofBool (decide (live A.tab h t n)) := by
  simp only [x23, x22, x21, x20, x19, x18, c_2, x17, c, x16, x15, x14, x13, x12, x11, pointwise]
  have e : ∀ i, i = cell h (Final.blockOf n) → IntOp.andi
      (IntOp.cmpi .sle (BitVec.ofNat 32 n.val) (BitVec.ofNat 32 t.val))
      (IntOp.cmpi .slt (BitVec.ofNat 32 t.val) (IntOp.muli (IntOp.addi (A.tab i) 1#32) 256#32))
      = BitVec.ofBool (decide (live A.tab h t n)) := fun i hi => by rw [hi]; exact live_word A.tab g.tab h t n
  refine e _ ?_
  have hn := n.isLt
  funext d
  match d with
  | ⟨0, _⟩ => exact Fin.ext rfl
  | ⟨1, _⟩ => exact Fin.ext rfl

theorem base (h : Fin 16) (t n : Fin 8192) : x26 A (ix3 h t n) = if live A.tab h t n
    then ((Model.score (rq A h) (rk A h) (rf A h) t n * (1 / Real.log 2) : ℝ) : EReal) else ⊥ := by
  have e : x26 A (ix3 h t n) = Scalar.select (x23 A (ix3 h t n)) (x10 A (ix3 h t n)) (Ideal.ofBits .f32 4286578688#32) * x1 A ix0 := by
    simp only [x26, x25, x24, y1, y0, cst_3, pointwise]
  rw [e, mask A g, Sem.select_ofBool, score A g, log2e, Sem.negInf]
  split_ifs
  · rw [EReal.coe_mul]
  · exact EReal.bot_mul_coe_of_pos (one_div_pos.2 log2_pos)

theorem top (h : Fin 16) (t : Fin 8192) : ∃ r : ℝ, x27 A (ix2 h t) = (r : EReal) := by
  have e : x27 A (ix2 h t) = Finset.univ.fold max ⊥ fun k => x26 A (ix3 h t k) := by
    unfold x27
    refine (reduce_max _ _ _ _ h t).trans ?_
    simp only [cst_4, pointwise, Sem.negInf]
  rw [e]
  refine fold_real _ (fun k => ?_) (k := t) ?_
  · rw [base A g]
    split_ifs
    · exact EReal.coe_ne_top _
    · exact bot_ne_top
  · rw [base A g, if_pos (live_self A.tab g.tab h t)]
    exact EReal.coe_ne_bot _

omit g in
theorem rm_def (h : Fin 16) (t : Fin 8192) : rm A h t = (x28 A (ix2 h t)).toReal := by unfold rm; rfl

omit g in
theorem x28_def : x28 A = Host.ceil (x27 A) := by unfold x28; rfl

theorem m_eq (h : Fin 16) (t : Fin 8192) : x28 A (ix2 h t) = (rm A h t : EReal) := by
  rw [rm_def]
  refine toReal_of ?_
  rw [x28_def, ceil_apply]
  exact ceil_real (top A g h t)

theorem weight (h : Fin 16) (t n : Fin 8192) : x34 A (ix3 h t n) = (ex A h t n : EReal) := by
  have e : x34 A (ix3 h t n) = Ideal.exp ((x26 A (ix3 h t n) - x28 A (ix2 h t)) * x0 A ix0) := by
    simp only [x34, x33, x32, x31, x30, x29, pointwise]
    rfl
  rw [e, base A g, m_eq A g, ln2]
  unfold ex Model.expo
  split_ifs
  · rw [← EReal.coe_sub, ← EReal.coe_mul, exp_coe]
    refine congrArg _ (congrArg _ ?_)
    rw [sub_mul, mul_assoc, one_div_mul_cancel log2_pos.ne', mul_one]
    rfl
  · rw [EReal.bot_sub, EReal.bot_mul_coe_of_pos log2_pos]
    rfl

theorem tot_pos (h : Fin 16) (t : Fin 8192) : 0 < tot A h t :=
  Model.total_pos _ _ _ _ _ (live_self A.tab g.tab h t)

theorem linv (h : Fin 16) (t : Fin 8192) : x37 A (ix2 h t) = ((1 / tot A h t : ℝ) : EReal) := by
  have e : x37 A (ix2 h t) = Ideal.div (Ideal.ofBits .f32 0x3F800000#32) (Ideal.ofBits .f32 0x00000000#32 + ∑ k, x34 A (ix3 h t k)) := by
    simp only [x37, x36, x35, cst_6, cst_5, pointwise]
  rw [e, sum_eq (weight A g h t), zero, one, ← EReal.coe_add, zero_add]
  exact div_coe 1 (tot_pos A g h t).ne'

theorem out (h : Fin 16) (t : Fin 8192) (d : Fin 64) : x41 A (ix3 h t d) = (ro A h t d : EReal) := by
  have e : x41 A (ix3 h t d) = (0 + ∑ k, x34 A (ix3 h t k) * A.v (ix3 h k d)) * x37 A (ix2 h t) := by
    simp only [x41, x40, x39, x38, pointwise]
    rfl
  rw [e, linv A g, dot_coe (weight A g h t) (fun k => v_eq A g h k d), zero_add, ← EReal.coe_mul]
  rfl

theorem cot (h : Fin 16) (t : Fin 8192) (d : Fin 64) : x44 A (ix3 h t d) = (ru A h t d : EReal) := by
  have e : x44 A (ix3 h t d) = A.ct (ix3 h t d) * x37 A (ix2 h t) := by
    simp only [x44, x43, x42, pointwise]
    rfl
  rw [e, linv A g, c_eq A g, ← EReal.coe_mul]
  rfl

theorem delta (h : Fin 16) (t : Fin 8192) : x97 A (ix2 h t) = ((∑ d, ru A h t d * ro A h t d : ℝ) : EReal) := by
  have e : x97 A (ix2 h t) = Ideal.ofBits .f32 0x00000000#32 + ∑ k, x44 A (ix3 h t k) * x41 A (ix3 h t k) := by
    simp only [x97, x96, x95, cst_12, pointwise]
  rw [e, dot_coe (cot A g h t) (out A g h t), zero, ← EReal.coe_add, zero_add]

end Cert.HostValue
-- ==== Proof.Lanes.lean ====
module

public import proofs.«01_k».proof.Proof.HostValue

@[expose] public section

set_option maxRecDepth 16384

noncomputable section

/-! The four arrays the call reads, lane by lane, and the products of their rows. -/

namespace Cert.Lanes

open Idealize.ShloMosaic Cert.KernelIdeal Cert.KernelIdeal.Gen Cert.Host Cert.Table Cert.Common Cert.HostValue

variable (A : Args)

/-- The logarithm of the forget gates, in base two. -/
def rg (h : Fin 16) (t : Fin 8192) : ℝ := rf A h t * (1 / Real.log 2)
/-- The row sum of the scaled cotangent and the output. -/
def rd (h : Fin 16) (t : Fin 8192) : ℝ := ∑ d, ru A h t d * ro A h t d

/-- A number in the first of three lanes. -/
def tri (r : ℝ) (j : ℕ) : ℝ := if j = 0 then r else 0

def lq (h : Fin 16) (t : Fin 8192) (l : Fin 128) : ℝ :=
  if e : l.val < 64 then rq A h t ⟨l.val, e⟩ * (1 / 8 * (1 / Real.log 2))
  else if l.val - 64 < 3 then tri (rg A h t) (l.val - 64)
  else if l.val - 64 - 3 < 3 then 1
  else if l.val - 64 - 3 - 3 < 3 then -tri (rm A h t) (l.val - 64 - 3 - 3)
  else if l.val - 64 - 3 - 3 - 3 < 3 then tri (1 / tot A h t) (l.val - 64 - 3 - 3 - 3)
  else 0

def lk (h : Fin 16) (t : Fin 8192) (l : Fin 128) : ℝ :=
  if e : l.val < 64 then rk A h t ⟨l.val, e⟩
  else if l.val - 64 < 3 then 1
  else if l.val - 64 - 3 < 3 then -tri (rg A h t) (l.val - 64 - 3)
  else if l.val - 64 - 3 - 3 < 3 then 1
  else 0

def lv (h : Fin 16) (t : Fin 8192) (l : Fin 128) : ℝ :=
  if e : l.val < 64 then rv A h t ⟨l.val, e⟩
  else if l.val - 64 < 3 then 1
  else 0

def ld (h : Fin 16) (t : Fin 8192) (l : Fin 128) : ℝ :=
  if e : l.val < 64 then ru A h t ⟨l.val, e⟩
  else if l.val - 64 < 3 then -tri (rd A h t) (l.val - 64)
  else 0

/-- A query row against a key row. -/
theorem dot_qk (h : Fin 16) (t n : Fin 8192) : ∑ l, lq A h t l * lk A h n l
    = Model.score (rq A h) (rk A h) (rf A h) t n * (1 / Real.log 2) - rm A h t := by
  rw [sum_lanes]
  have e0 : ∑ d : Fin 64, lq A h t ⟨d.val, by omega⟩ * lk A h n ⟨d.val, by omega⟩
      = (∑ d, rq A h t d * rk A h n d) * (1 / 8 * (1 / Real.log 2)) := by
    rw [Finset.sum_mul]
    refine Finset.sum_congr rfl fun d _ => ?_
    unfold lq lk
    rw [dif_pos d.isLt, dif_pos d.isLt]
    ring
  have e2 : ∑ j : Fin 55, lq A h t ⟨64 + (9 + j.val), by omega⟩ * lk A h n ⟨64 + (9 + j.val), by omega⟩ = 0 := by
    refine Finset.sum_eq_zero fun j _ => ?_
    unfold lk
    rw [dif_neg (by simp), if_neg (by simp; omega), if_neg (by simp; omega), if_neg (by simp; omega), mul_zero]
  have e1 : ∑ j : Fin 9, lq A h t ⟨64 + j.val, by omega⟩ * lk A h n ⟨64 + j.val, by omega⟩
      = rg A h t - rg A h n - rm A h t := by
    simp [Fin.sum_univ_succ, lq, lk, tri]
    ring
  rw [e0, e1, e2]
  unfold Model.score rg
  ring

/-- A cotangent row against a value row. -/
theorem dot_dv (h : Fin 16) (t n : Fin 8192) : ∑ l, ld A h t l * lv A h n l
    = ∑ d, ru A h t d * rv A h n d + -rd A h t := by
  rw [sum_lanes]
  have e0 : ∑ d : Fin 64, ld A h t ⟨d.val, by omega⟩ * lv A h n ⟨d.val, by omega⟩ = ∑ d, ru A h t d * rv A h n d := by
    refine Finset.sum_congr rfl fun d _ => ?_
    unfold ld lv
    rw [dif_pos d.isLt, dif_pos d.isLt]
  have e2 : ∑ j : Fin 55, ld A h t ⟨64 + (9 + j.val), by omega⟩ * lv A h n ⟨64 + (9 + j.val), by omega⟩ = 0 := by
    refine Finset.sum_eq_zero fun j _ => ?_
    unfold lv
    rw [dif_neg (by simp), if_neg (by simp; omega), mul_zero]
  have e1 : ∑ j : Fin 9, ld A h t ⟨64 + j.val, by omega⟩ * lv A h n ⟨64 + j.val, by omega⟩ = -rd A h t := by
    simp [Fin.sum_univ_succ, ld, lv, tri]
  rw [e0, e1, e2, add_zero]

/-- A number and what is left of it after rounding, in three columns. -/
theorem pieces (X : FVec Ideal S16x8192 .f32) (hc) (h : Fin 16) (t : Fin 8192) (j : Fin 3) {r : ℝ} (hX : X (ix2 h t) = (r : EReal)) :
    concatenate S16x8192x3 2
      [⟨S16x8192x1, broadcastInDim S16x8192x1 ![0, 1] bcast_S16x8192_S16x8192x1_0_1 (truncf .bf16 X bitsLt_bf16_f32)⟩,
       ⟨S16x8192x1, broadcastInDim S16x8192x1 ![0, 1] bcast_S16x8192_S16x8192x1_0_1
          (truncf .bf16 (subf X (extf .f32 (truncf .bf16 X bitsLt_bf16_f32) bitsLt_bf16_f32)) bitsLt_bf16_f32)⟩,
       ⟨S16x8192x1, broadcastInDim S16x8192x1 ![0, 1] bcast_S16x8192_S16x8192x1_0_1
          (truncf .bf16 (subf (subf X (extf .f32 (truncf .bf16 X bitsLt_bf16_f32) bitsLt_bf16_f32))
            (extf .f32 (truncf .bf16 (subf X (extf .f32 (truncf .bf16 X bitsLt_bf16_f32) bitsLt_bf16_f32)) bitsLt_bf16_f32)
              bitsLt_bf16_f32)) bitsLt_bf16_f32)⟩] hc (ix3 h t j) = (tri r j.val : EReal) := by
  have e : (r : EReal) - (r : EReal) = ((0 : ℝ) : EReal) := by rw [← EReal.coe_sub, sub_self]
  refine triple _ _ _ _ h t j ?_ ?_ ?_
  · simp only [pointwise]
    exact hX
  · simp only [pointwise]
    refine Eq.trans (b := X (ix2 h t) - X (ix2 h t)) rfl ?_
    rw [hX, e]
  · simp only [pointwise]
    refine Eq.trans (b := X (ix2 h t) - X (ix2 h t) - (X (ix2 h t) - X (ix2 h t))) rfl ?_
    rw [hX, e, ← EReal.coe_sub, sub_self]

variable (g : Good A)
include g

theorem gate (h : Fin 16) (t : Fin 8192) : x46 A (ix2 h t) = (rg A h t : EReal) := by
  have e : x46 A (ix2 h t) = A.f (ix2 h t) * x1 A ix0 := by
    simp only [x46, x45, pointwise]
  rw [e, f_eq A g, log2e, ← EReal.coe_mul]
  rfl

theorem gates (h : Fin 16) (t : Fin 8192) (j : Fin 3) : x57 A (ix3 h t j) = (tri (rg A h t) j.val : EReal) := by
  unfold x57 x56 x55 x54 x53 x52 x51 x50 x49 x48 x47
  exact pieces (x46 A) _ h t j (gate A g h t)

theorem shifts (h : Fin 16) (t : Fin 8192) (j : Fin 3) : x73 A (ix3 h t j) = (tri (rm A h t) j.val : EReal) := by
  unfold x73 x72 x71 x70 x69 x68 x67 x66 x65 x64 x63
  exact pieces (x28 A) _ h t j (m_eq A g h t)

theorem inverses (h : Fin 16) (t : Fin 8192) (j : Fin 3) : x85 A (ix3 h t j) = (tri (1 / tot A h t) j.val : EReal) := by
  unfold x85 x84 x83 x82 x81 x80 x79 x78 x77 x76 x75
  exact pieces (x37 A) _ h t j (linv A g h t)

theorem deltas (h : Fin 16) (t : Fin 8192) (j : Fin 3) : x108 A (ix3 h t j) = (tri (rd A h t) j.val : EReal) := by
  unfold x108 x107 x106 x105 x104 x103 x102 x101 x100 x99 x98
  exact pieces (x97 A) _ h t j (delta A g h t)

theorem ones (h : Fin 16) (t : Fin 8192) (j : Fin 3) : x58 A (ix3 h t j) = ((1 : ℝ) : EReal) := by
  simp only [x58, cst_7, pointwise]
  rfl

theorem a87 (h : Fin 16) (t : Fin 8192) (l : Fin 128) : x87 A (ix3 h t l) = (lq A h t l : EReal) := by
  have hl := l.isLt
  unfold x87
  rw [concatenate_cons_apply]
  unfold lq
  by_cases h1 : l.val < 64
  · rw [dif_pos h1]
    refine (here h t l (x62 A) _ _ _ l.val _ h1).trans ?_
    have e : x62 A (ix3 h t ⟨l.val, h1⟩) = A.q (ix3 h t ⟨l.val, h1⟩) * (Ideal.ofBits .f32 0x3E000000#32 * x1 A ix0) := by
      simp only [x62, x61, x60, x59, cst_8, pointwise]
    rw [e, q_eq A g, eighth, log2e, ← EReal.coe_mul, ← EReal.coe_mul]
  rw [dif_neg h1]
  refine (skip h t l (x62 A) _ _ _ l.val _ h1).trans ?_
  by_cases h2 : l.val - 64 < 3
  · rw [if_pos h2]
    exact (here h t l (x57 A) _ _ _ (l.val - 64) _ h2).trans (gates A g h t _)
  rw [if_neg h2]
  refine (skip h t l (x57 A) _ _ _ (l.val - 64) _ h2).trans ?_
  by_cases h3 : l.val - 64 - 3 < 3
  · rw [if_pos h3]
    exact (here h t l (x58 A) _ _ _ (l.val - 64 - 3) _ h3).trans (ones A g h t _)
  rw [if_neg h3]
  refine (skip h t l (x58 A) _ _ _ (l.val - 64 - 3) _ h3).trans ?_
  by_cases h4 : l.val - 64 - 3 - 3 < 3
  · rw [if_pos h4]
    refine (here h t l (x74 A) _ _ _ (l.val - 64 - 3 - 3) _ h4).trans ?_
    simp only [x74, pointwise]
    exact (congrArg (- ·) (shifts A g h t _)).trans (EReal.coe_neg _).symm
  rw [if_neg h4]
  refine (skip h t l (x74 A) _ _ _ (l.val - 64 - 3 - 3) _ h4).trans ?_
  by_cases h5 : l.val - 64 - 3 - 3 - 3 < 3
  · rw [if_pos h5]
    exact (here h t l (x85 A) _ _ _ (l.val - 64 - 3 - 3 - 3) _ h5).trans (inverses A g h t _)
  rw [if_neg h5]
  refine (skip h t l (x85 A) _ _ _ (l.val - 64 - 3 - 3 - 3) _ h5).trans ?_
  refine (final h t l (x86 A) _ (l.val - 64 - 3 - 3 - 3 - 3) _ (by omega)).trans ?_
  simp only [x86, cst_9, pointwise]
  rfl

theorem a91 (h : Fin 16) (t : Fin 8192) (l : Fin 128) : x91 A (ix3 h t l) = (lk A h t l : EReal) := by
  have hl := l.isLt
  unfold x91
  rw [concatenate_cons_apply]
  unfold lk
  by_cases h1 : l.val < 64
  · rw [dif_pos h1]
    refine (here h t l (x88 A) _ _ _ l.val _ h1).trans ?_
    simp only [x88, pointwise]
    exact k_eq A g h t _
  rw [dif_neg h1]
  refine (skip h t l (x88 A) _ _ _ l.val _ h1).trans ?_
  by_cases h2 : l.val - 64 < 3
  · rw [if_pos h2]
    exact (here h t l (x58 A) _ _ _ (l.val - 64) _ h2).trans (ones A g h t _)
  rw [if_neg h2]
  refine (skip h t l (x58 A) _ _ _ (l.val - 64) _ h2).trans ?_
  by_cases h3 : l.val - 64 - 3 < 3
  · rw [if_pos h3]
    refine (here h t l (x89 A) _ _ _ (l.val - 64 - 3) _ h3).trans ?_
    simp only [x89, pointwise]
    exact (congrArg (- ·) (gates A g h t _)).trans (EReal.coe_neg _).symm
  rw [if_neg h3]
  refine (skip h t l (x89 A) _ _ _ (l.val - 64 - 3) _ h3).trans ?_
  by_cases h4 : l.val - 64 - 3 - 3 < 3
  · rw [if_pos h4]
    exact (here h t l (x58 A) _ _ _ (l.val - 64 - 3 - 3) _ h4).trans (ones A g h t _)
  rw [if_neg h4]
  refine (skip h t l (x58 A) _ _ _ (l.val - 64 - 3 - 3) _ h4).trans ?_
  refine (final h t l (x90 A) _ (l.val - 64 - 3 - 3 - 3) _ (by omega)).trans ?_
  simp only [x90, cst_10, pointwise]
  rfl

theorem a94 (h : Fin 16) (t : Fin 8192) (l : Fin 128) : x94 A (ix3 h t l) = (lv A h t l : EReal) := by
  have hl := l.isLt
  unfold x94
  rw [concatenate_cons_apply]
  unfold lv
  by_cases h1 : l.val < 64
  · rw [dif_pos h1]
    refine (here h t l (x92 A) _ _ _ l.val _ h1).trans ?_
    simp only [x92, pointwise]
    exact v_eq A g h t _
  rw [dif_neg h1]
  refine (skip h t l (x92 A) _ _ _ l.val _ h1).trans ?_
  by_cases h2 : l.val - 64 < 3
  · rw [if_pos h2]
    exact (here h t l (x58 A) _ _ _ (l.val - 64) _ h2).trans (ones A g h t _)
  rw [if_neg h2]
  refine (skip h t l (x58 A) _ _ _ (l.val - 64) _ h2).trans ?_
  refine (final h t l (x93 A) _ (l.val - 64 - 3) _ (by omega)).trans ?_
  simp only [x93, cst_11, pointwise]
  rfl

theorem a111 (h : Fin 16) (t : Fin 8192) (l : Fin 128) : x111 A (ix3 h t l) = (ld A h t l : EReal) := by
  have hl := l.isLt
  unfold x111
  rw [concatenate_cons_apply]
  unfold ld
  by_cases h1 : l.val < 64
  · rw [dif_pos h1]
    refine (here h t l (x95 A) _ _ _ l.val _ h1).trans ?_
    simp only [x95, pointwise]
    exact cot A g h t _
  rw [dif_neg h1]
  refine (skip h t l (x95 A) _ _ _ l.val _ h1).trans ?_
  by_cases h2 : l.val - 64 < 3
  · rw [if_pos h2]
    refine (here h t l (x109 A) _ _ _ (l.val - 64) _ h2).trans ?_
    simp only [x109, pointwise]
    exact (congrArg (- ·) (deltas A g h t _)).trans (EReal.coe_neg _).symm
  rw [if_neg h2]
  refine (skip h t l (x109 A) _ _ _ (l.val - 64) _ h2).trans ?_
  refine (final h t l (x110 A) _ (l.val - 64 - 3) _ (by omega)).trans ?_
  simp only [x110, cst_13, pointwise]
  rfl

/-- The call's weights and their gradients. -/
theorem weight (h : Fin 16) (t n : Fin 8192) : Final.P A.tab (x87 A) (x91 A) h t n = (ex A h t n : EReal) := by
  unfold Final.P
  rw [dot_coe (a87 A g h t) (a91 A g h n), dot_qk]
  unfold ex Model.expo
  by_cases e : live A.tab h t n
  · rw [if_pos (show _ ∧ _ from e), if_pos e, exp2_coe]
    refine congrArg _ (congrArg _ ?_)
    rw [sub_mul, mul_assoc, one_div_mul_cancel log2_pos.ne', mul_one]
    rfl
  · rw [if_neg (show ¬ (_ ∧ _) from e), if_neg e]
    rfl

/-- The derivative of the loss by a score. -/
def rs (h : Fin 16) (t n : Fin 8192) : ℝ :=
  Model.ds (rq A h) (rk A h) (rv A h) (rc A h) (rf A h) (live A.tab h) (shift A h) t n

theorem grad (h : Fin 16) (t n : Fin 8192) : Final.G A.tab (x87 A) (x91 A) (x94 A) (x111 A) h t n = (rs A h t n : EReal) := by
  unfold Final.G
  rw [weight A g, dot_coe (a111 A g h t) (a94 A g h n), dot_dv, ← EReal.coe_mul]
  exact congrArg _ (Model.ds_saved (rq A h) (rk A h) (rv A h) (rc A h) (rf A h) (live A.tab h) (shift A h) t n)

end Cert.Lanes
-- ==== Proof.Bridge.lean ====
/-
  What the kernel's call finds in memory: the host lines before it, read one line at a time.
-/
module

public import Idealize.ShloMosaic.Lib.StableHlo.RunRead
public import proofs.«01_k».proof.Proof.Host
public import proofs.«01_k».proof.Proof.Gen.KernelIdeal.Frame

@[expose] public section

noncomputable section

namespace Cert.Bridge

open Cert.KernelIdeal Cert.KernelIdeal.Gen Cert.Host Idealize.ShloMosaic Idealize.ShloMosaic.TcCoe Idealize.ShloMosaic.StableHlo

/-- The lines. -/
abbrev lines : List (HloOp τ sig (Elt Ideal)) := List.flatten [hostOps0, hostOps0_1, hostOps0_2]

/-- What they write, in order. -/
def wrote : List (Ref sig .tc) :=
  [main_cst, main_v0, main_cst_0, main_v1, main_v2, main_cst_1, main_v3, main_v4, main_v5, main_v6,
   main_v7, main_v8, main_v9, main_v10, main_v11, main_v12, main_v13, main_v14, main_v15, main_v16,
   main_c, main_v17, main_v18, main_c_2, main_v19, main_v20, main_v21, main_v22, main_v23, main_cst_3,
   main_call0_v0, main_call0_v1, main_v24, main_v25, main_v26, main_cst_4, main_v27, main_v28, main_v29, main_v30,
   main_v31, main_v32, main_v33, main_v34, main_cst_5, main_v35, main_cst_6, main_v36, main_v37, main_v38,
   main_v39, main_v40, main_v41, main_v42, main_v43, main_v44, main_v45, main_v46, main_v47, main_v48,
   main_v49, main_v50, main_v51, main_v52, main_v53, main_v54, main_v55, main_v56, main_v57, main_cst_7,
   main_v58, main_cst_8, main_v59, main_v60, main_v61, main_v62, main_v63, main_v64, main_v65, main_v66,
   main_v67, main_v68, main_v69, main_v70, main_v71, main_v72, main_v73, main_v74, main_v75, main_v76,
   main_v77, main_v78, main_v79, main_v80, main_v81, main_v82, main_v83, main_v84, main_v85, main_cst_9,
   main_v86, main_v87, main_v88, main_v89, main_cst_10, main_v90, main_v91, main_v92, main_cst_11, main_v93,
   main_v94, main_v95, main_v96, main_cst_12, main_v97, main_v98, main_v99, main_v100, main_v101, main_v102,
   main_v103, main_v104, main_v105, main_v106, main_v107, main_v108, main_v109, main_cst_13, main_v110, main_v111]

theorem wrote_eq : lines.map HloOp.writes = wrote.map fun w => {Proc.devRef (τ := τ) .tc w} := rfl

variable (V : Valuation τ sig (Elt Ideal))

/-- A reference that no line from `i` on writes holds, before line `i`, what it holds at the end. -/
theorem keep (i : ℕ) {x : Ref sig .tc} (hx : x ∉ wrote.drop i) :
    upto lines V i (Proc.devRef .tc x) = after lines V (Proc.devRef .tc x) := by
  rw [upto]
  conv_rhs => rw [← List.take_append_drop i lines, after_append]
  refine (after_unwritten (wrote.drop i) ?_ hx _).symm
  rw [List.map_drop, wrote_eq, List.map_drop]

/-- A reference that line `i` writes, and none after it, holds at the end what the line leaves there. -/
theorem last (i : ℕ) {op : HloOp τ sig (Elt Ideal)} (h : lines.drop i = op :: lines.drop (i + 1)) {y : Ref sig .tc}
    (hy : y ∉ wrote.drop (i + 1)) :
    after lines V (Proc.devRef .tc y) = op.result (upto lines V i) (Proc.devRef .tc y) :=
  after_last_write (wrote.drop (i + 1)) h (by rw [List.map_drop, wrote_eq, List.map_drop]) hy V

theorem line0 (i : ℕ) {y : Ref sig .tc} {f : y.ty.Contents (Elt Ideal)} {h2}
    (h : lines.drop i = nullary y f h2 :: lines.drop (i + 1)) (hy : y ∉ wrote.drop (i + 1)) :
    after lines V (Proc.devRef .tc y) = f := (last V i h hy).trans (nullary_result' _ _ _)

theorem line1 (i : ℕ) {a y : Ref sig .tc} {f : a.ty.Contents (Elt Ideal) → y.ty.Contents (Elt Ideal)} {h1 h2}
    (h : lines.drop i = unary a y f h1 h2 :: lines.drop (i + 1)) (hy : y ∉ wrote.drop (i + 1)) (ha : a ∉ wrote.drop i)
    {xa : a.ty.Contents (Elt Ideal)} (ea : after lines V (Proc.devRef .tc a) = xa) :
    after lines V (Proc.devRef .tc y) = f xa :=
  (last V i h hy).trans ((unary_result' _ _ _ _).trans (congrArg f ((keep V i ha).trans ea)))

theorem lineR (i : ℕ) {a y : Ref sig .tc} {he hn h1 h2}
    (h : lines.drop i = reshape a y he hn h1 h2 :: lines.drop (i + 1)) (hy : y ∉ wrote.drop (i + 1)) (ha : a ∉ wrote.drop i)
    {xa : a.ty.Contents (Elt Ideal)} (ea : after lines V (Proc.devRef .tc a) = xa) :
    after lines V (Proc.devRef .tc y) = fun i => he ▸ shapeCast y.ty.shape xa hn i :=
  (last V i h hy).trans ((reshape_result' _ _ _ _ _).trans (by rw [(keep V i ha).trans ea]))

theorem line2 (i : ℕ) {a b y : Ref sig .tc}
    {f : a.ty.Contents (Elt Ideal) → b.ty.Contents (Elt Ideal) → y.ty.Contents (Elt Ideal)} {h1 h2 h3}
    (h : lines.drop i = binary a b y f h1 h2 h3 :: lines.drop (i + 1)) (hy : y ∉ wrote.drop (i + 1))
    (ha : a ∉ wrote.drop i) (hb : b ∉ wrote.drop i) {xa : a.ty.Contents (Elt Ideal)} {xb : b.ty.Contents (Elt Ideal)}
    (ea : after lines V (Proc.devRef .tc a) = xa) (eb : after lines V (Proc.devRef .tc b) = xb) :
    after lines V (Proc.devRef .tc y) = f xa xb :=
  (last V i h hy).trans ((binary_result' _ _ _ _ _).trans
    (congr (congrArg f ((keep V i ha).trans ea)) ((keep V i hb).trans eb)))

theorem line3 (i : ℕ) {c a b y : Ref sig .tc}
    {f : c.ty.Contents (Elt Ideal) → a.ty.Contents (Elt Ideal) → b.ty.Contents (Elt Ideal) → y.ty.Contents (Elt Ideal)}
    {h0 h1 h2 h3} (h : lines.drop i = ternary c a b y f h0 h1 h2 h3 :: lines.drop (i + 1)) (hy : y ∉ wrote.drop (i + 1))
    (hc : c ∉ wrote.drop i) (ha : a ∉ wrote.drop i) (hb : b ∉ wrote.drop i)
    {xc : c.ty.Contents (Elt Ideal)} {xa : a.ty.Contents (Elt Ideal)} {xb : b.ty.Contents (Elt Ideal)}
    (ec : after lines V (Proc.devRef .tc c) = xc) (ea : after lines V (Proc.devRef .tc a) = xa)
    (eb : after lines V (Proc.devRef .tc b) = xb) :
    after lines V (Proc.devRef .tc y) = f xc xa xb :=
  (last V i h hy).trans ((ternary_result' _ _ _ _ _ _).trans
    (congr (congr (congrArg f ((keep V i hc).trans ec)) ((keep V i ha).trans ea)) ((keep V i hb).trans eb)))

theorem lineN (i : ℕ) {n : ℕ} {xs : Fin n → Ref sig .tc} {y : Ref sig .tc}
    {f : ((k : Fin n) → (xs k).ty.Contents (Elt Ideal)) → y.ty.Contents (Elt Ideal)} {h1 h2}
    (h : lines.drop i = nary xs y f h1 h2 :: lines.drop (i + 1)) (hy : y ∉ wrote.drop (i + 1))
    (hx : ∀ k, xs k ∉ wrote.drop i) :
    after lines V (Proc.devRef .tc y) = f fun k => after lines V (Proc.devRef .tc (xs k)) :=
  (last V i h hy).trans ((nary_result' _ _ _ _ _).trans (congrArg f (funext fun k => keep V i (hx k))))

/-- The six arguments as they lie in memory before the lines. -/
def args : Args :=
  ⟨V (Proc.devRef .tc main_arg0), V (Proc.devRef .tc main_arg1), V (Proc.devRef .tc main_arg2),
    V (Proc.devRef .tc main_arg3), V (Proc.devRef .tc main_arg4), V (Proc.devRef .tc main_arg5)⟩

theorem arg (x : Ref sig .tc) (hx : x ∉ wrote) : after lines V (Proc.devRef .tc x) = V (Proc.devRef .tc x) :=
  after_unwritten wrote wrote_eq hx V

theorem e_arg0 : after lines V (Proc.devRef .tc main_arg0) = (args V).tab := arg V main_arg0 (by decide)
theorem e_arg1 : after lines V (Proc.devRef .tc main_arg1) = (args V).q := arg V main_arg1 (by decide)
theorem e_arg2 : after lines V (Proc.devRef .tc main_arg2) = (args V).k := arg V main_arg2 (by decide)
theorem e_arg3 : after lines V (Proc.devRef .tc main_arg3) = (args V).v := arg V main_arg3 (by decide)
theorem e_arg4 : after lines V (Proc.devRef .tc main_arg4) = (args V).f := arg V main_arg4 (by decide)
theorem e_arg5 : after lines V (Proc.devRef .tc main_arg5) = (args V).ct := arg V main_arg5 (by decide)
theorem e_cst : after lines V (Proc.devRef .tc main_cst) = cst (args V) := by
  have h := line0 V 0 rfl (by decide)
  exact h
theorem e_v0 : after lines V (Proc.devRef .tc main_v0) = x0 (args V) := by
  have h := line1 V 1 rfl (by decide) (by decide) (e_cst V)
  exact h
theorem e_cst_0 : after lines V (Proc.devRef .tc main_cst_0) = cst_0 (args V) := by
  have h := line0 V 2 rfl (by decide)
  exact h
theorem e_v1 : after lines V (Proc.devRef .tc main_v1) = x1 (args V) := by
  have h := line2 V 3 rfl (by decide) (by decide) (by decide) (e_cst_0 V) (e_v0 V)
  exact h
theorem e_v2 : after lines V (Proc.devRef .tc main_v2) = x2 (args V) := by
  have h := line2 V 4 rfl (by decide) (by decide) (by decide) (e_arg1 V) (e_arg2 V)
  exact h
theorem e_cst_1 : after lines V (Proc.devRef .tc main_cst_1) = cst_1 (args V) := by
  have h := line0 V 5 rfl (by decide)
  exact h
theorem e_v3 : after lines V (Proc.devRef .tc main_v3) = x3 (args V) := by
  have h := line1 V 6 rfl (by decide) (by decide) (e_cst_1 V)
  exact h
theorem e_v4 : after lines V (Proc.devRef .tc main_v4) = x4 (args V) := by
  have h := line2 V 7 rfl (by decide) (by decide) (by decide) (e_v2 V) (e_v3 V)
  exact h
theorem e_v5 : after lines V (Proc.devRef .tc main_v5) = x5 (args V) := by
  have h := line1 V 8 rfl (by decide) (by decide) (e_arg4 V)
  exact h
theorem e_v6 : after lines V (Proc.devRef .tc main_v6) = x6 (args V) := by
  have h := line1 V 9 rfl (by decide) (by decide) (e_arg4 V)
  exact h
theorem e_v7 : after lines V (Proc.devRef .tc main_v7) = x7 (args V) := by
  have h := line1 V 10 rfl (by decide) (by decide) (e_v5 V)
  exact h
theorem e_v8 : after lines V (Proc.devRef .tc main_v8) = x8 (args V) := by
  have h := line1 V 11 rfl (by decide) (by decide) (e_v6 V)
  exact h
theorem e_v9 : after lines V (Proc.devRef .tc main_v9) = x9 (args V) := by
  have h := line2 V 12 rfl (by decide) (by decide) (by decide) (e_v7 V) (e_v8 V)
  exact h
theorem e_v10 : after lines V (Proc.devRef .tc main_v10) = x10 (args V) := by
  have h := line2 V 13 rfl (by decide) (by decide) (by decide) (e_v4 V) (e_v9 V)
  exact h
theorem e_v11 : after lines V (Proc.devRef .tc main_v11) = x11 (args V) := by
  have h := line0 V 14 rfl (by decide)
  exact h
theorem e_v12 : after lines V (Proc.devRef .tc main_v12) = x12 (args V) := by
  have h := line0 V 15 rfl (by decide)
  exact h
theorem e_v13 : after lines V (Proc.devRef .tc main_v13) = x13 (args V) := by
  have h := line1 V 16 rfl (by decide) (by decide) (e_arg0 V)
  exact h
theorem e_v14 : after lines V (Proc.devRef .tc main_v14) = x14 (args V) := by
  have h := line1 V 17 rfl (by decide) (by decide) (e_v13 V)
  exact h
theorem e_v15 : after lines V (Proc.devRef .tc main_v15) = x15 (args V) := by
  have h := lineR V 18 rfl (by decide) (by decide) (e_v14 V)
  exact h
theorem e_v16 : after lines V (Proc.devRef .tc main_v16) = x16 (args V) := by
  have h := line2 V 19 rfl (by decide) (by decide) (by decide) (e_v12 V) (e_v11 V)
  exact h
theorem e_c : after lines V (Proc.devRef .tc main_c) = c (args V) := by
  have h := line0 V 20 rfl (by decide)
  exact h
theorem e_v17 : after lines V (Proc.devRef .tc main_v17) = x17 (args V) := by
  have h := line1 V 21 rfl (by decide) (by decide) (e_c V)
  exact h
theorem e_v18 : after lines V (Proc.devRef .tc main_v18) = x18 (args V) := by
  have h := line2 V 22 rfl (by decide) (by decide) (by decide) (e_v15 V) (e_v17 V)
  exact h
theorem e_c_2 : after lines V (Proc.devRef .tc main_c_2) = c_2 (args V) := by
  have h := line0 V 23 rfl (by decide)
  exact h
theorem e_v19 : after lines V (Proc.devRef .tc main_v19) = x19 (args V) := by
  have h := line1 V 24 rfl (by decide) (by decide) (e_c_2 V)
  exact h
theorem e_v20 : after lines V (Proc.devRef .tc main_v20) = x20 (args V) := by
  have h := line2 V 25 rfl (by decide) (by decide) (by decide) (e_v18 V) (e_v19 V)
  exact h
theorem e_v21 : after lines V (Proc.devRef .tc main_v21) = x21 (args V) := by
  have h := line1 V 26 rfl (by decide) (by decide) (e_v20 V)
  exact h
theorem e_v22 : after lines V (Proc.devRef .tc main_v22) = x22 (args V) := by
  have h := line2 V 27 rfl (by decide) (by decide) (by decide) (e_v11 V) (e_v21 V)
  exact h
theorem e_v23 : after lines V (Proc.devRef .tc main_v23) = x23 (args V) := by
  have h := line2 V 28 rfl (by decide) (by decide) (by decide) (e_v16 V) (e_v22 V)
  exact h
theorem e_cst_3 : after lines V (Proc.devRef .tc main_cst_3) = cst_3 (args V) := by
  have h := line0 V 29 rfl (by decide)
  exact h
theorem e_call0_v0 : after lines V (Proc.devRef .tc main_call0_v0) = y0 (args V) := by
  have h := line1 V 30 rfl (by decide) (by decide) (e_cst_3 V)
  exact h
theorem e_call0_v1 : after lines V (Proc.devRef .tc main_call0_v1) = y1 (args V) := by
  have h := line1 V 31 rfl (by decide) (by decide) (e_call0_v0 V)
  exact h
theorem e_v24 : after lines V (Proc.devRef .tc main_v24) = x24 (args V) := by
  have h := line3 V 32 rfl (by decide) (by decide) (by decide) (by decide) (e_v23 V) (e_v10 V) (e_call0_v1 V)
  exact h
theorem e_v25 : after lines V (Proc.devRef .tc main_v25) = x25 (args V) := by
  have h := line1 V 33 rfl (by decide) (by decide) (e_v1 V)
  exact h
theorem e_v26 : after lines V (Proc.devRef .tc main_v26) = x26 (args V) := by
  have h := line2 V 34 rfl (by decide) (by decide) (by decide) (e_v24 V) (e_v25 V)
  exact h
theorem e_cst_4 : after lines V (Proc.devRef .tc main_cst_4) = cst_4 (args V) := by
  have h := line0 V 35 rfl (by decide)
  exact h
theorem e_v27 : after lines V (Proc.devRef .tc main_v27) = x27 (args V) := by
  have h := line2 V 36 rfl (by decide) (by decide) (by decide) (e_v26 V) (e_cst_4 V)
  exact h
theorem e_v28 : after lines V (Proc.devRef .tc main_v28) = x28 (args V) := by
  have h := line1 V 37 rfl (by decide) (by decide) (e_v27 V)
  exact h
theorem e_v29 : after lines V (Proc.devRef .tc main_v29) = x29 (args V) := by
  have h := line1 V 38 rfl (by decide) (by decide) (e_v28 V)
  exact h
theorem e_v30 : after lines V (Proc.devRef .tc main_v30) = x30 (args V) := by
  have h := line1 V 39 rfl (by decide) (by decide) (e_v29 V)
  exact h
theorem e_v31 : after lines V (Proc.devRef .tc main_v31) = x31 (args V) := by
  have h := line2 V 40 rfl (by decide) (by decide) (by decide) (e_v26 V) (e_v30 V)
  exact h
theorem e_v32 : after lines V (Proc.devRef .tc main_v32) = x32 (args V) := by
  have h := line1 V 41 rfl (by decide) (by decide) (e_v0 V)
  exact h
theorem e_v33 : after lines V (Proc.devRef .tc main_v33) = x33 (args V) := by
  have h := line2 V 42 rfl (by decide) (by decide) (by decide) (e_v31 V) (e_v32 V)
  exact h
theorem e_v34 : after lines V (Proc.devRef .tc main_v34) = x34 (args V) := by
  have h := line1 V 43 rfl (by decide) (by decide) (e_v33 V)
  exact h
theorem e_cst_5 : after lines V (Proc.devRef .tc main_cst_5) = cst_5 (args V) := by
  have h := line0 V 44 rfl (by decide)
  exact h
theorem e_v35 : after lines V (Proc.devRef .tc main_v35) = x35 (args V) := by
  have h := line2 V 45 rfl (by decide) (by decide) (by decide) (e_v34 V) (e_cst_5 V)
  exact h
theorem e_cst_6 : after lines V (Proc.devRef .tc main_cst_6) = cst_6 (args V) := by
  have h := line0 V 46 rfl (by decide)
  exact h
theorem e_v36 : after lines V (Proc.devRef .tc main_v36) = x36 (args V) := by
  have h := line1 V 47 rfl (by decide) (by decide) (e_cst_6 V)
  exact h
theorem e_v37 : after lines V (Proc.devRef .tc main_v37) = x37 (args V) := by
  have h := line2 V 48 rfl (by decide) (by decide) (by decide) (e_v36 V) (e_v35 V)
  exact h
theorem e_v38 : after lines V (Proc.devRef .tc main_v38) = x38 (args V) := by
  have h := line2 V 49 rfl (by decide) (by decide) (by decide) (e_v34 V) (e_arg3 V)
  exact h
theorem e_v39 : after lines V (Proc.devRef .tc main_v39) = x39 (args V) := by
  have h := line1 V 50 rfl (by decide) (by decide) (e_v37 V)
  exact h
theorem e_v40 : after lines V (Proc.devRef .tc main_v40) = x40 (args V) := by
  have h := line1 V 51 rfl (by decide) (by decide) (e_v39 V)
  exact h
theorem e_v41 : after lines V (Proc.devRef .tc main_v41) = x41 (args V) := by
  have h := line2 V 52 rfl (by decide) (by decide) (by decide) (e_v38 V) (e_v40 V)
  exact h
theorem e_v42 : after lines V (Proc.devRef .tc main_v42) = x42 (args V) := by
  have h := line1 V 53 rfl (by decide) (by decide) (e_v37 V)
  exact h
theorem e_v43 : after lines V (Proc.devRef .tc main_v43) = x43 (args V) := by
  have h := line1 V 54 rfl (by decide) (by decide) (e_v42 V)
  exact h
theorem e_v44 : after lines V (Proc.devRef .tc main_v44) = x44 (args V) := by
  have h := line2 V 55 rfl (by decide) (by decide) (by decide) (e_arg5 V) (e_v43 V)
  exact h
theorem e_v45 : after lines V (Proc.devRef .tc main_v45) = x45 (args V) := by
  have h := line1 V 56 rfl (by decide) (by decide) (e_v1 V)
  exact h
theorem e_v46 : after lines V (Proc.devRef .tc main_v46) = x46 (args V) := by
  have h := line2 V 57 rfl (by decide) (by decide) (by decide) (e_arg4 V) (e_v45 V)
  exact h
theorem e_v47 : after lines V (Proc.devRef .tc main_v47) = x47 (args V) := by
  have h := line1 V 58 rfl (by decide) (by decide) (e_v46 V)
  exact h
theorem e_v48 : after lines V (Proc.devRef .tc main_v48) = x48 (args V) := by
  have h := line1 V 59 rfl (by decide) (by decide) (e_v47 V)
  exact h
theorem e_v49 : after lines V (Proc.devRef .tc main_v49) = x49 (args V) := by
  have h := line2 V 60 rfl (by decide) (by decide) (by decide) (e_v46 V) (e_v48 V)
  exact h
theorem e_v50 : after lines V (Proc.devRef .tc main_v50) = x50 (args V) := by
  have h := line1 V 61 rfl (by decide) (by decide) (e_v49 V)
  exact h
theorem e_v51 : after lines V (Proc.devRef .tc main_v51) = x51 (args V) := by
  have h := line1 V 62 rfl (by decide) (by decide) (e_v50 V)
  exact h
theorem e_v52 : after lines V (Proc.devRef .tc main_v52) = x52 (args V) := by
  have h := line2 V 63 rfl (by decide) (by decide) (by decide) (e_v49 V) (e_v51 V)
  exact h
theorem e_v53 : after lines V (Proc.devRef .tc main_v53) = x53 (args V) := by
  have h := line1 V 64 rfl (by decide) (by decide) (e_v52 V)
  exact h
theorem e_v54 : after lines V (Proc.devRef .tc main_v54) = x54 (args V) := by
  have h := line1 V 65 rfl (by decide) (by decide) (e_v47 V)
  exact h
theorem e_v55 : after lines V (Proc.devRef .tc main_v55) = x55 (args V) := by
  have h := line1 V 66 rfl (by decide) (by decide) (e_v50 V)
  exact h
theorem e_v56 : after lines V (Proc.devRef .tc main_v56) = x56 (args V) := by
  have h := line1 V 67 rfl (by decide) (by decide) (e_v53 V)
  exact h
theorem e_v57 : after lines V (Proc.devRef .tc main_v57) = x57 (args V) := by
  refine (lineN V 68 rfl (by decide) (by decide)).trans ?_
  show concatenate S16x8192x3 2 [⟨S16x8192x1, (after lines V (Proc.devRef .tc main_v54))⟩, ⟨S16x8192x1, (after lines V (Proc.devRef .tc main_v55))⟩, ⟨S16x8192x1, (after lines V (Proc.devRef .tc main_v56))⟩] concatenates_S16x8192x1_S16x8192x1_S16x8192x1_S16x8192x3_d2 = _
  rw [e_v54 V, e_v55 V, e_v56 V]
  rfl
theorem e_cst_7 : after lines V (Proc.devRef .tc main_cst_7) = cst_7 (args V) := by
  have h := line0 V 69 rfl (by decide)
  exact h
theorem e_v58 : after lines V (Proc.devRef .tc main_v58) = x58 (args V) := by
  have h := line1 V 70 rfl (by decide) (by decide) (e_cst_7 V)
  exact h
theorem e_cst_8 : after lines V (Proc.devRef .tc main_cst_8) = cst_8 (args V) := by
  have h := line0 V 71 rfl (by decide)
  exact h
theorem e_v59 : after lines V (Proc.devRef .tc main_v59) = x59 (args V) := by
  have h := line2 V 72 rfl (by decide) (by decide) (by decide) (e_cst_8 V) (e_v1 V)
  exact h
theorem e_v60 : after lines V (Proc.devRef .tc main_v60) = x60 (args V) := by
  have h := line1 V 73 rfl (by decide) (by decide) (e_v59 V)
  exact h
theorem e_v61 : after lines V (Proc.devRef .tc main_v61) = x61 (args V) := by
  have h := line2 V 74 rfl (by decide) (by decide) (by decide) (e_arg1 V) (e_v60 V)
  exact h
theorem e_v62 : after lines V (Proc.devRef .tc main_v62) = x62 (args V) := by
  have h := line1 V 75 rfl (by decide) (by decide) (e_v61 V)
  exact h
theorem e_v63 : after lines V (Proc.devRef .tc main_v63) = x63 (args V) := by
  have h := line1 V 76 rfl (by decide) (by decide) (e_v28 V)
  exact h
theorem e_v64 : after lines V (Proc.devRef .tc main_v64) = x64 (args V) := by
  have h := line1 V 77 rfl (by decide) (by decide) (e_v63 V)
  exact h
theorem e_v65 : after lines V (Proc.devRef .tc main_v65) = x65 (args V) := by
  have h := line2 V 78 rfl (by decide) (by decide) (by decide) (e_v28 V) (e_v64 V)
  exact h
theorem e_v66 : after lines V (Proc.devRef .tc main_v66) = x66 (args V) := by
  have h := line1 V 79 rfl (by decide) (by decide) (e_v65 V)
  exact h
theorem e_v67 : after lines V (Proc.devRef .tc main_v67) = x67 (args V) := by
  have h := line1 V 80 rfl (by decide) (by decide) (e_v66 V)
  exact h
theorem e_v68 : after lines V (Proc.devRef .tc main_v68) = x68 (args V) := by
  have h := line2 V 81 rfl (by decide) (by decide) (by decide) (e_v65 V) (e_v67 V)
  exact h
theorem e_v69 : after lines V (Proc.devRef .tc main_v69) = x69 (args V) := by
  have h := line1 V 82 rfl (by decide) (by decide) (e_v68 V)
  exact h
theorem e_v70 : after lines V (Proc.devRef .tc main_v70) = x70 (args V) := by
  have h := line1 V 83 rfl (by decide) (by decide) (e_v63 V)
  exact h
theorem e_v71 : after lines V (Proc.devRef .tc main_v71) = x71 (args V) := by
  have h := line1 V 84 rfl (by decide) (by decide) (e_v66 V)
  exact h
theorem e_v72 : after lines V (Proc.devRef .tc main_v72) = x72 (args V) := by
  have h := line1 V 85 rfl (by decide) (by decide) (e_v69 V)
  exact h
theorem e_v73 : after lines V (Proc.devRef .tc main_v73) = x73 (args V) := by
  refine (lineN V 86 rfl (by decide) (by decide)).trans ?_
  show concatenate S16x8192x3 2 [⟨S16x8192x1, (after lines V (Proc.devRef .tc main_v70))⟩, ⟨S16x8192x1, (after lines V (Proc.devRef .tc main_v71))⟩, ⟨S16x8192x1, (after lines V (Proc.devRef .tc main_v72))⟩] concatenates_S16x8192x1_S16x8192x1_S16x8192x1_S16x8192x3_d2 = _
  rw [e_v70 V, e_v71 V, e_v72 V]
  rfl
theorem e_v74 : after lines V (Proc.devRef .tc main_v74) = x74 (args V) := by
  have h := line1 V 87 rfl (by decide) (by decide) (e_v73 V)
  exact h
theorem e_v75 : after lines V (Proc.devRef .tc main_v75) = x75 (args V) := by
  have h := line1 V 88 rfl (by decide) (by decide) (e_v37 V)
  exact h
theorem e_v76 : after lines V (Proc.devRef .tc main_v76) = x76 (args V) := by
  have h := line1 V 89 rfl (by decide) (by decide) (e_v75 V)
  exact h
theorem e_v77 : after lines V (Proc.devRef .tc main_v77) = x77 (args V) := by
  have h := line2 V 90 rfl (by decide) (by decide) (by decide) (e_v37 V) (e_v76 V)
  exact h
theorem e_v78 : after lines V (Proc.devRef .tc main_v78) = x78 (args V) := by
  have h := line1 V 91 rfl (by decide) (by decide) (e_v77 V)
  exact h
theorem e_v79 : after lines V (Proc.devRef .tc main_v79) = x79 (args V) := by
  have h := line1 V 92 rfl (by decide) (by decide) (e_v78 V)
  exact h
theorem e_v80 : after lines V (Proc.devRef .tc main_v80) = x80 (args V) := by
  have h := line2 V 93 rfl (by decide) (by decide) (by decide) (e_v77 V) (e_v79 V)
  exact h
theorem e_v81 : after lines V (Proc.devRef .tc main_v81) = x81 (args V) := by
  have h := line1 V 94 rfl (by decide) (by decide) (e_v80 V)
  exact h
theorem e_v82 : after lines V (Proc.devRef .tc main_v82) = x82 (args V) := by
  have h := line1 V 95 rfl (by decide) (by decide) (e_v75 V)
  exact h
theorem e_v83 : after lines V (Proc.devRef .tc main_v83) = x83 (args V) := by
  have h := line1 V 96 rfl (by decide) (by decide) (e_v78 V)
  exact h
theorem e_v84 : after lines V (Proc.devRef .tc main_v84) = x84 (args V) := by
  have h := line1 V 97 rfl (by decide) (by decide) (e_v81 V)
  exact h
theorem e_v85 : after lines V (Proc.devRef .tc main_v85) = x85 (args V) := by
  refine (lineN V 98 rfl (by decide) (by decide)).trans ?_
  show concatenate S16x8192x3 2 [⟨S16x8192x1, (after lines V (Proc.devRef .tc main_v82))⟩, ⟨S16x8192x1, (after lines V (Proc.devRef .tc main_v83))⟩, ⟨S16x8192x1, (after lines V (Proc.devRef .tc main_v84))⟩] concatenates_S16x8192x1_S16x8192x1_S16x8192x1_S16x8192x3_d2 = _
  rw [e_v82 V, e_v83 V, e_v84 V]
  rfl
theorem e_cst_9 : after lines V (Proc.devRef .tc main_cst_9) = cst_9 (args V) := by
  have h := line0 V 99 rfl (by decide)
  exact h
theorem e_v86 : after lines V (Proc.devRef .tc main_v86) = x86 (args V) := by
  have h := line1 V 100 rfl (by decide) (by decide) (e_cst_9 V)
  exact h
theorem e_v87 : after lines V (Proc.devRef .tc main_v87) = x87 (args V) := by
  refine (lineN V 101 rfl (by decide) (by decide)).trans ?_
  show concatenate S16x8192x128 2 [⟨S16x8192x64, (after lines V (Proc.devRef .tc main_v62))⟩, ⟨S16x8192x3, (after lines V (Proc.devRef .tc main_v57))⟩, ⟨S16x8192x3, (after lines V (Proc.devRef .tc main_v58))⟩, ⟨S16x8192x3, (after lines V (Proc.devRef .tc main_v74))⟩, ⟨S16x8192x3, (after lines V (Proc.devRef .tc main_v85))⟩, ⟨S16x8192x52, (after lines V (Proc.devRef .tc main_v86))⟩] concatenates_S16x8192x64_S16x8192x3_S16x8192x3_S16x8192x3_S16x8192x3_S16x8192x52_S16x8192x128_d2 = _
  rw [e_v62 V, e_v57 V, e_v58 V, e_v74 V, e_v85 V, e_v86 V]
  rfl
theorem e_v88 : after lines V (Proc.devRef .tc main_v88) = x88 (args V) := by
  have h := line1 V 102 rfl (by decide) (by decide) (e_arg2 V)
  exact h
theorem e_v89 : after lines V (Proc.devRef .tc main_v89) = x89 (args V) := by
  have h := line1 V 103 rfl (by decide) (by decide) (e_v57 V)
  exact h
theorem e_cst_10 : after lines V (Proc.devRef .tc main_cst_10) = cst_10 (args V) := by
  have h := line0 V 104 rfl (by decide)
  exact h
theorem e_v90 : after lines V (Proc.devRef .tc main_v90) = x90 (args V) := by
  have h := line1 V 105 rfl (by decide) (by decide) (e_cst_10 V)
  exact h
theorem e_v91 : after lines V (Proc.devRef .tc main_v91) = x91 (args V) := by
  refine (lineN V 106 rfl (by decide) (by decide)).trans ?_
  show concatenate S16x8192x128 2 [⟨S16x8192x64, (after lines V (Proc.devRef .tc main_v88))⟩, ⟨S16x8192x3, (after lines V (Proc.devRef .tc main_v58))⟩, ⟨S16x8192x3, (after lines V (Proc.devRef .tc main_v89))⟩, ⟨S16x8192x3, (after lines V (Proc.devRef .tc main_v58))⟩, ⟨S16x8192x55, (after lines V (Proc.devRef .tc main_v90))⟩] concatenates_S16x8192x64_S16x8192x3_S16x8192x3_S16x8192x3_S16x8192x55_S16x8192x128_d2 = _
  rw [e_v88 V, e_v58 V, e_v89 V, e_v90 V]
  rfl
theorem e_v92 : after lines V (Proc.devRef .tc main_v92) = x92 (args V) := by
  have h := line1 V 107 rfl (by decide) (by decide) (e_arg3 V)
  exact h
theorem e_cst_11 : after lines V (Proc.devRef .tc main_cst_11) = cst_11 (args V) := by
  have h := line0 V 108 rfl (by decide)
  exact h
theorem e_v93 : after lines V (Proc.devRef .tc main_v93) = x93 (args V) := by
  have h := line1 V 109 rfl (by decide) (by decide) (e_cst_11 V)
  exact h
theorem e_v94 : after lines V (Proc.devRef .tc main_v94) = x94 (args V) := by
  refine (lineN V 110 rfl (by decide) (by decide)).trans ?_
  show concatenate S16x8192x128 2 [⟨S16x8192x64, (after lines V (Proc.devRef .tc main_v92))⟩, ⟨S16x8192x3, (after lines V (Proc.devRef .tc main_v58))⟩, ⟨S16x8192x61, (after lines V (Proc.devRef .tc main_v93))⟩] concatenates_S16x8192x64_S16x8192x3_S16x8192x61_S16x8192x128_d2 = _
  rw [e_v92 V, e_v58 V, e_v93 V]
  rfl
theorem e_v95 : after lines V (Proc.devRef .tc main_v95) = x95 (args V) := by
  have h := line1 V 111 rfl (by decide) (by decide) (e_v44 V)
  exact h
theorem e_v96 : after lines V (Proc.devRef .tc main_v96) = x96 (args V) := by
  have h := line2 V 112 rfl (by decide) (by decide) (by decide) (e_v44 V) (e_v41 V)
  exact h
theorem e_cst_12 : after lines V (Proc.devRef .tc main_cst_12) = cst_12 (args V) := by
  have h := line0 V 113 rfl (by decide)
  exact h
theorem e_v97 : after lines V (Proc.devRef .tc main_v97) = x97 (args V) := by
  have h := line2 V 114 rfl (by decide) (by decide) (by decide) (e_v96 V) (e_cst_12 V)
  exact h
theorem e_v98 : after lines V (Proc.devRef .tc main_v98) = x98 (args V) := by
  have h := line1 V 115 rfl (by decide) (by decide) (e_v97 V)
  exact h
theorem e_v99 : after lines V (Proc.devRef .tc main_v99) = x99 (args V) := by
  have h := line1 V 116 rfl (by decide) (by decide) (e_v98 V)
  exact h
theorem e_v100 : after lines V (Proc.devRef .tc main_v100) = x100 (args V) := by
  have h := line2 V 117 rfl (by decide) (by decide) (by decide) (e_v97 V) (e_v99 V)
  exact h
theorem e_v101 : after lines V (Proc.devRef .tc main_v101) = x101 (args V) := by
  have h := line1 V 118 rfl (by decide) (by decide) (e_v100 V)
  exact h
theorem e_v102 : after lines V (Proc.devRef .tc main_v102) = x102 (args V) := by
  have h := line1 V 119 rfl (by decide) (by decide) (e_v101 V)
  exact h
theorem e_v103 : after lines V (Proc.devRef .tc main_v103) = x103 (args V) := by
  have h := line2 V 120 rfl (by decide) (by decide) (by decide) (e_v100 V) (e_v102 V)
  exact h
theorem e_v104 : after lines V (Proc.devRef .tc main_v104) = x104 (args V) := by
  have h := line1 V 121 rfl (by decide) (by decide) (e_v103 V)
  exact h
theorem e_v105 : after lines V (Proc.devRef .tc main_v105) = x105 (args V) := by
  have h := line1 V 122 rfl (by decide) (by decide) (e_v98 V)
  exact h
theorem e_v106 : after lines V (Proc.devRef .tc main_v106) = x106 (args V) := by
  have h := line1 V 123 rfl (by decide) (by decide) (e_v101 V)
  exact h
theorem e_v107 : after lines V (Proc.devRef .tc main_v107) = x107 (args V) := by
  have h := line1 V 124 rfl (by decide) (by decide) (e_v104 V)
  exact h
theorem e_v108 : after lines V (Proc.devRef .tc main_v108) = x108 (args V) := by
  refine (lineN V 125 rfl (by decide) (by decide)).trans ?_
  show concatenate S16x8192x3 2 [⟨S16x8192x1, (after lines V (Proc.devRef .tc main_v105))⟩, ⟨S16x8192x1, (after lines V (Proc.devRef .tc main_v106))⟩, ⟨S16x8192x1, (after lines V (Proc.devRef .tc main_v107))⟩] concatenates_S16x8192x1_S16x8192x1_S16x8192x1_S16x8192x3_d2 = _
  rw [e_v105 V, e_v106 V, e_v107 V]
  rfl
theorem e_v109 : after lines V (Proc.devRef .tc main_v109) = x109 (args V) := by
  have h := line1 V 126 rfl (by decide) (by decide) (e_v108 V)
  exact h
theorem e_cst_13 : after lines V (Proc.devRef .tc main_cst_13) = cst_13 (args V) := by
  have h := line0 V 127 rfl (by decide)
  exact h
theorem e_v110 : after lines V (Proc.devRef .tc main_v110) = x110 (args V) := by
  have h := line1 V 128 rfl (by decide) (by decide) (e_cst_13 V)
  exact h
theorem e_v111 : after lines V (Proc.devRef .tc main_v111) = x111 (args V) := by
  refine (lineN V 129 rfl (by decide) (by decide)).trans ?_
  show concatenate S16x8192x128 2 [⟨S16x8192x64, (after lines V (Proc.devRef .tc main_v95))⟩, ⟨S16x8192x3, (after lines V (Proc.devRef .tc main_v109))⟩, ⟨S16x8192x61, (after lines V (Proc.devRef .tc main_v110))⟩] concatenates_S16x8192x64_S16x8192x3_S16x8192x61_S16x8192x128_d2 = _
  rw [e_v95 V, e_v109 V, e_v110 V]
  rfl

end Cert.Bridge
-- ==== Proof.Tail.lean ====
module

public import Idealize.ShloMosaic.Lib.StableHlo.RunRead
public import Idealize.ShloMosaic.Lib.Pointwise
public import proofs.«01_k».proof.Proof.Gen.KernelIdeal.Frame

@[expose] public section

set_option maxRecDepth 16384

noncomputable section

/-! The host lines after the call: each result from the call's arrays. -/

namespace Cert.Tail

open Cert.KernelIdeal Cert.KernelIdeal.Gen Idealize.ShloMosaic Idealize.ShloMosaic.TcCoe Idealize.ShloMosaic.StableHlo

/-- The lines. -/
abbrev lines : List (HloOp τ sig (Elt Ideal)) := List.flatten [hostOps1]

/-- What they write, in order. -/
def wrote : List (Ref sig .tc) :=
  [main_v113, main_cst_14, main_v114, main_v115, main_v116, main_v117, main_v118, main_v119, main_v120, main_v121]

theorem wrote_eq : lines.map HloOp.writes = wrote.map fun w => {Proc.devRef (τ := τ) .tc w} := rfl

variable (V : Valuation τ sig (Elt Ideal))

theorem keep (i : ℕ) {x : Ref sig .tc} (hx : x ∉ wrote.drop i) :
    upto lines V i (Proc.devRef .tc x) = after lines V (Proc.devRef .tc x) := by
  rw [upto]
  conv_rhs => rw [← List.take_append_drop i lines, after_append]
  refine (after_unwritten (wrote.drop i) ?_ hx _).symm
  rw [List.map_drop, wrote_eq, List.map_drop]

theorem last (i : ℕ) {op : HloOp τ sig (Elt Ideal)} (h : lines.drop i = op :: lines.drop (i + 1)) {y : Ref sig .tc}
    (hy : y ∉ wrote.drop (i + 1)) :
    after lines V (Proc.devRef .tc y) = op.result (upto lines V i) (Proc.devRef .tc y) :=
  after_last_write (wrote.drop (i + 1)) h (by rw [List.map_drop, wrote_eq, List.map_drop]) hy V

theorem line0 (i : ℕ) {y : Ref sig .tc} {f : y.ty.Contents (Elt Ideal)} {h2}
    (h : lines.drop i = nullary y f h2 :: lines.drop (i + 1)) (hy : y ∉ wrote.drop (i + 1)) :
    after lines V (Proc.devRef .tc y) = f := (last V i h hy).trans (nullary_result' _ _ _)

theorem line1 (i : ℕ) {a y : Ref sig .tc} {f : a.ty.Contents (Elt Ideal) → y.ty.Contents (Elt Ideal)} {h1 h2}
    (h : lines.drop i = unary a y f h1 h2 :: lines.drop (i + 1)) (hy : y ∉ wrote.drop (i + 1)) (ha : a ∉ wrote.drop i)
    {xa : a.ty.Contents (Elt Ideal)} (ea : after lines V (Proc.devRef .tc a) = xa) :
    after lines V (Proc.devRef .tc y) = f xa :=
  (last V i h hy).trans ((unary_result' _ _ _ _).trans (congrArg f ((keep V i ha).trans ea)))

theorem lineR (i : ℕ) {a y : Ref sig .tc} {he hn h1 h2}
    (h : lines.drop i = reshape a y he hn h1 h2 :: lines.drop (i + 1)) (hy : y ∉ wrote.drop (i + 1)) (ha : a ∉ wrote.drop i)
    {xa : a.ty.Contents (Elt Ideal)} (ea : after lines V (Proc.devRef .tc a) = xa) :
    after lines V (Proc.devRef .tc y) = fun i => he ▸ shapeCast y.ty.shape xa hn i :=
  (last V i h hy).trans ((reshape_result' _ _ _ _ _).trans (by rw [(keep V i ha).trans ea]))

theorem line2 (i : ℕ) {a b y : Ref sig .tc}
    {f : a.ty.Contents (Elt Ideal) → b.ty.Contents (Elt Ideal) → y.ty.Contents (Elt Ideal)} {h1 h2 h3}
    (h : lines.drop i = binary a b y f h1 h2 h3 :: lines.drop (i + 1)) (hy : y ∉ wrote.drop (i + 1))
    (ha : a ∉ wrote.drop i) (hb : b ∉ wrote.drop i) {xa : a.ty.Contents (Elt Ideal)} {xb : b.ty.Contents (Elt Ideal)}
    (ea : after lines V (Proc.devRef .tc a) = xa) (eb : after lines V (Proc.devRef .tc b) = xb) :
    after lines V (Proc.devRef .tc y) = f xa xb :=
  (last V i h hy).trans ((binary_result' _ _ _ _ _).trans
    (congr (congrArg f ((keep V i ha).trans ea)) ((keep V i hb).trans eb)))

theorem same (x : Ref sig .tc) (hx : x ∉ wrote) : after lines V (Proc.devRef .tc x) = V (Proc.devRef .tc x) :=
  after_unwritten wrote wrote_eq hx V

/-- The first 64 lanes of a call's array. -/
abbrev low (x : FVec Ideal S16x8192x128 .f32) : FVec Ideal S16x8192x64 .f32 :=
  extractStridedSlice S16x8192x64 ![0, 0, 0] x slices_S16x8192x128_S16x8192x64_0_0_0

theorem e_v115 : after lines V (Proc.devRef .tc main_v115)
    = mulf (low (V (Proc.devRef .tc main_v112_0))) (broadcastInDim S16x8192x64 ![] bcast_S_S16x8192x64 (constant S_ .f32 0x3E000000#32)) := by
  have h0 := line1 V 0 rfl (by decide) (by decide) (same V main_v112_0 (by decide))
  have h1 := line0 V 1 (y := main_cst_14) rfl (by decide)
  have h2 := line1 V 2 rfl (by decide) (by decide) h1
  exact line2 V 3 rfl (by decide) (by decide) (by decide) h0 h2

theorem e_v118 : after lines V (Proc.devRef .tc main_v118)
    = mulf (low (V (Proc.devRef .tc main_v112_1)))
      (broadcastInDim S16x8192x64 ![] bcast_S_S16x8192x64 (V (Proc.devRef .tc main_v0) : FVec Ideal S_ .f32)) := by
  have h0 := line1 V 4 rfl (by decide) (by decide) (same V main_v112_1 (by decide))
  have h1 := line1 V 5 rfl (by decide) (by decide) (same V main_v0 (by decide))
  exact line2 V 6 rfl (by decide) (by decide) (by decide) h0 h1

theorem e_v119 : after lines V (Proc.devRef .tc main_v119) = low (V (Proc.devRef .tc main_v112_2)) :=
  line1 V 7 rfl (by decide) (by decide) (same V main_v112_2 (by decide))

theorem e_v121 : after lines V (Proc.devRef .tc main_v121)
    = (Host.negf (shapeCast S16x8192 (V (Proc.devRef .tc main_v112_3) : FVec Ideal S16x1x8192 .f32) (by decide)) : FVec Ideal S16x8192 .f32) := by
  have h0 := lineR V 8 rfl (by decide) (by decide) (same V main_v112_3 (by decide))
  have h1 := line1 V 9 rfl (by decide) (by decide) h0
  exact h1

/-! ### Entry by entry -/

theorem low_apply (x : FVec Ideal S16x8192x128 .f32) (h : Fin 16) (t : Fin 8192) (d : Fin 64) :
    low x (ix3 h t d) = x (ix3 h t ⟨d.val, by omega⟩) := by
  simp only [low, pointwise]
  refine congrArg x (funext fun e => ?_)
  match e with
  | ⟨0, _⟩ => exact Fin.ext (by show _ = h.val; simp)
  | ⟨1, _⟩ => exact Fin.ext (by show _ = t.val; simp)
  | ⟨2, _⟩ => exact Fin.ext (by show _ = d.val; simp)

theorem scaled_apply (x : FVec Ideal S16x8192x128 .f32) (y : FVec Ideal S_ .f32) (h : Fin 16) (t : Fin 8192) (d : Fin 64) :
    mulf (low x) (broadcastInDim S16x8192x64 ![] bcast_S_S16x8192x64 y) (ix3 h t d)
      = x (ix3 h t ⟨d.val, by omega⟩) * y ix0 := by
  rw [← low_apply x h t d]
  generalize low x = z
  simp only [pointwise]

theorem sum_apply (x : FVec Ideal S16x1x8192 .f32) (hn) (h : Fin 16) (n : Fin 8192) :
    (Host.negf (shapeCast S16x8192 x hn) : FVec Ideal S16x8192 .f32) (ix2 h n) = -x (ix3 h 0 n) := by
  simp only [pointwise]

end Cert.Tail
-- ==== Proof.Spec.lean ====
module

public import proofs.«01_k».proof.Proof.Common

@[expose] public section

set_option maxRecDepth 16384

noncomputable section

/-! The four derivatives over the reals. -/

namespace Cert.Spec

open Idealize.ShloMosaic Cert.Table Cert.Common

abbrev Arr3 : Type := (⟨3, ![16, 8192, 64]⟩ : Shape).Idx → EReal
abbrev Arr2 : Type := (⟨2, ![16, 8192]⟩ : Shape).Idx → EReal

def real3 (y : Arr3) (h : Fin 16) (t : Fin 8192) (d : Fin 64) : ℝ := (y (ix3 h t d)).toReal
def real2 (y : Arr2) (h : Fin 16) (t : Fin 8192) : ℝ := (y (ix2 h t)).toReal

variable (x : IVec ⟨2, ![16, 32]⟩ 32) (q k v : Arr3) (f : Arr2) (ct : Arr3)

def soft (h : Fin 16) (t n : Fin 8192) : ℝ :=
  Model.soft (real3 q h) (real3 k h) (real2 f h) (live x h) (fun _ => 0) t n

def ds (h : Fin 16) (t n : Fin 8192) : ℝ :=
  Model.ds (real3 q h) (real3 k h) (real3 v h) (real3 ct h) (real2 f h) (live x h) (fun _ => 0) t n

def dq : Arr3 := fun i : (⟨3, ![16, 8192, 64]⟩ : Shape).Idx =>
  ((∑ n, ds x q k v f ct (i 0) (i 1) n * (1 / 8) * real3 k (i 0) n (i 2) : ℝ) : EReal)

def dk : Arr3 := fun i : (⟨3, ![16, 8192, 64]⟩ : Shape).Idx =>
  ((∑ t, ds x q k v f ct (i 0) t (i 1) * (1 / 8) * real3 q (i 0) t (i 2) : ℝ) : EReal)

def dv : Arr3 := fun i : (⟨3, ![16, 8192, 64]⟩ : Shape).Idx =>
  ((∑ t, soft x q k f (i 0) t (i 1) * real3 ct (i 0) t (i 2) : ℝ) : EReal)

def df : Arr2 := fun i : (⟨2, ![16, 8192]⟩ : Shape).Idx =>
  ((-∑ t, ds x q k v f ct (i 0) t (i 1) : ℝ) : EReal)

end Cert.Spec
-- ==== Proof.Result.lean ====
module

public import proofs.«01_k».proof.Proof.Lanes
public import proofs.«01_k».proof.Proof.Bridge
public import proofs.«01_k».proof.Proof.Tail
public import proofs.«01_k».proof.Proof.Spec

@[expose] public section

set_option maxRecDepth 16384

noncomputable section

/-! The kernel's four results: the derivatives. -/

namespace Cert.Result

open Idealize.ShloMosaic Cert.KernelIdeal Cert.KernelIdeal.Gen Cert.Host Cert.Table Cert.Common Cert.HostValue Cert.Lanes

section Args
variable (A : Args) (g : Good A)
include g

theorem rs_eq (h : Fin 16) (t n : Fin 8192) : rs A h t n = Spec.ds A.tab A.q A.k A.v A.f A.ct h t n :=
  Model.ds_shift _ _ _ _ _ _ _ _ t n

theorem soft_eq (h : Fin 16) (t n : Fin 8192) : ex A h t n * (1 / tot A h t) = Spec.soft A.tab A.q A.k A.f h t n := by
  rw [mul_one_div]
  exact Model.soft_shift (rq A h) (rk A h) (rf A h) (live A.tab h) (shift A h) (fun _ => 0) t n

theorem dq (h : Fin 16) (t : Fin 8192) (d : Fin 64) :
    (∑ n, Final.G A.tab (x87 A) (x91 A) (x94 A) (x111 A) h t n * x91 A (ix3 h n ⟨d.val, by omega⟩)) * Ideal.ofBits .f32 0x3E000000#32
      = Spec.dq A.tab A.q A.k A.v A.f A.ct (ix3 h t d) := by
  rw [dot_coe (grad A g h t) (fun n => a91 A g h n _), eighth, ← EReal.coe_mul, Finset.sum_mul]
  refine congrArg _ (Finset.sum_congr rfl fun n _ => ?_)
  rw [rs_eq A g]
  unfold lk
  rw [dif_pos d.isLt]
  show _ * rk A h n d * _ = Spec.ds A.tab A.q A.k A.v A.f A.ct h t n * _ * rk A h n d
  ring

theorem dk (h : Fin 16) (n : Fin 8192) (d : Fin 64) :
    (∑ t, Final.G A.tab (x87 A) (x91 A) (x94 A) (x111 A) h t n * x87 A (ix3 h t ⟨d.val, by omega⟩)) * x0 A ix0
      = Spec.dk A.tab A.q A.k A.v A.f A.ct (ix3 h n d) := by
  rw [dot_coe (fun t => grad A g h t n) (fun t => a87 A g h t _), ln2, ← EReal.coe_mul, Finset.sum_mul]
  refine congrArg _ (Finset.sum_congr rfl fun t _ => ?_)
  rw [rs_eq A g]
  unfold lq
  rw [dif_pos d.isLt]
  show _ * (rq A h t d * _) * _ = Spec.ds A.tab A.q A.k A.v A.f A.ct h t n * _ * rq A h t d
  have := log2_pos.ne'
  field_simp

theorem dv (h : Fin 16) (n : Fin 8192) (d : Fin 64) :
    ∑ t, Final.P A.tab (x87 A) (x91 A) h t n * x111 A (ix3 h t ⟨d.val, by omega⟩)
      = Spec.dv A.tab A.q A.k A.f A.ct (ix3 h n d) := by
  rw [dot_coe (fun t => Lanes.weight A g h t n) (fun t => a111 A g h t _)]
  refine congrArg _ (Finset.sum_congr rfl fun t _ => ?_)
  show _ = Spec.soft A.tab A.q A.k A.f h t n * rc A h t d
  rw [← soft_eq A g]
  unfold ld
  rw [dif_pos d.isLt]
  unfold ru
  ring

theorem df (h : Fin 16) (n : Fin 8192) :
    -∑ t, Final.G A.tab (x87 A) (x91 A) (x94 A) (x111 A) h t n = Spec.df A.tab A.q A.k A.v A.f A.ct (ix2 h n) := by
  rw [sum_eq (fun t => grad A g h t n), ← EReal.coe_neg]
  refine congrArg _ (congrArg _ (Finset.sum_congr rfl fun t _ => rs_eq A g h t n))

end Args

variable (m : (ℓ : Loc nD τ sig) → Buf (Elt Ideal) ℓ)

/-- The arguments a core holds at launch. -/
abbrev A (c : Dev nD) : Args := Bridge.args (fun b => m (c, b))

/-- What the lines after the call start from. -/
abbrev W (h : InRange (tab m)) (c : Dev nD) : Valuation τ sig (Elt Ideal) :=
  Pipeline.withArrays (Pipeline.pin pcfgs (fun _ => adm m (ok m)) 0).spec c (V0 m c)
    fun w => (dats m (ok m) (hyps_ideal m h) 0 c).arrAt w (Pipeline.pin pcfgs (fun _ => adm m (ok m)) 0).N

theorem w0 (h : InRange (tab m)) (c : Dev nD) : W m h c (Proc.devRef .tc main_v112_0) = Final.DQ m c :=
  (Pipeline.withArrays_arr spec0 (by decide) c (V0 m c) _ 4).trans (Final.final4 m h c)
theorem w1 (h : InRange (tab m)) (c : Dev nD) : W m h c (Proc.devRef .tc main_v112_1) = Final.DK m c :=
  (Pipeline.withArrays_arr spec0 (by decide) c (V0 m c) _ 5).trans (Final.final5 m h c)
theorem w2 (h : InRange (tab m)) (c : Dev nD) : W m h c (Proc.devRef .tc main_v112_2) = Final.DV m c :=
  (Pipeline.withArrays_arr spec0 (by decide) c (V0 m c) _ 6).trans (Final.final6 m h c)
theorem w3 (h : InRange (tab m)) (c : Dev nD) : W m h c (Proc.devRef .tc main_v112_3) = Final.CS m c :=
  (Pipeline.withArrays_arr spec0 (by decide) c (V0 m c) _ 7).trans (Final.final7 m h c)
theorem wl (h : InRange (tab m)) (c : Dev nD) : W m h c (Proc.devRef .tc main_v0) = x0 (A m c) :=
  (Pipeline.withArrays_of_ne spec0 c (V0 m c) _ main_v0 (by decide)).trans (Bridge.e_v0 _)

theorem aQ (c : Dev nD) : Final.aQ m c = x87 (A m c) := Bridge.e_v87 _
theorem aK (c : Dev nD) : Final.aK m c = x91 (A m c) := Bridge.e_v91 _
theorem aV (c : Dev nD) : Final.aV m c = x94 (A m c) := Bridge.e_v94 _
theorem aD (c : Dev nD) : Final.aD m c = x111 (A m c) := Bridge.e_v111 _

variable (h : InRange (tab m)) (c : Dev nD) (g : Good (A m c)) (ht : (A m c).tab = tab m)
include g ht

/-- The buffer's contents after the lines that follow the call. -/
abbrev at_ (b : Ref sig .tc) : Buf (Elt Ideal) ((c.tc : Thread nD τ).loc b) :=
  Pipeline.afterTail pcfgs (fun _ => adm m (ok m)) (dats m (ok m) (hyps_ideal m h)) 0 (V0 m) [hostOps1] c b

theorem out0 : at_ m h c main_v115
    = Spec.dq (A m c).tab (A m c).q (A m c).k (A m c).v (A m c).f (A m c).ct := by
  refine (Tail.e_v115 (W m h c)).trans ?_
  rw [w0]
  refine funext fun i => ?_
  obtain ⟨a, t, d, rfl⟩ : ∃ (a : Fin 16) (t : Fin 8192) (d : Fin 64), i = ix3 a t d := ⟨i 0, i 1, i 2, eq_ix3 i⟩
  rw [Tail.scaled_apply]
  refine Eq.trans ?_ (dq (A m c) g a t d)
  rw [ht, ← aQ, ← aK, ← aV, ← aD]
  rfl

theorem out1 : at_ m h c main_v118
    = Spec.dk (A m c).tab (A m c).q (A m c).k (A m c).v (A m c).f (A m c).ct := by
  refine (Tail.e_v118 (W m h c)).trans ?_
  rw [w1, wl]
  refine funext fun i => ?_
  obtain ⟨a, t, d, rfl⟩ : ∃ (a : Fin 16) (t : Fin 8192) (d : Fin 64), i = ix3 a t d := ⟨i 0, i 1, i 2, eq_ix3 i⟩
  rw [Tail.scaled_apply]
  refine Eq.trans ?_ (dk (A m c) g a t d)
  rw [ht, ← aQ, ← aK, ← aV, ← aD]
  rfl

theorem out2 : at_ m h c main_v119
    = Spec.dv (A m c).tab (A m c).q (A m c).k (A m c).f (A m c).ct := by
  refine (Tail.e_v119 (W m h c)).trans ?_
  rw [w2]
  refine funext fun i => ?_
  obtain ⟨a, t, d, rfl⟩ : ∃ (a : Fin 16) (t : Fin 8192) (d : Fin 64), i = ix3 a t d := ⟨i 0, i 1, i 2, eq_ix3 i⟩
  rw [Tail.low_apply]
  refine Eq.trans ?_ (dv (A m c) g a t d)
  rw [ht, ← aQ, ← aK, ← aD]
  rfl

theorem out3 : at_ m h c main_v121
    = Spec.df (A m c).tab (A m c).q (A m c).k (A m c).v (A m c).f (A m c).ct := by
  refine (Tail.e_v121 (W m h c)).trans ?_
  rw [w3]
  refine funext fun i => ?_
  obtain ⟨a, t, rfl⟩ : ∃ (a : Fin 16) (t : Fin 8192), i = ix2 a t := ⟨i 0, i 1, eq_ix2 i⟩
  rw [Tail.sum_apply]
  refine Eq.trans ?_ (df (A m c) g a t)
  rw [ht, ← aQ, ← aK, ← aV, ← aD]
  rfl

end Cert.Result
-- ==== Proof.RefValue.lean ====
module

public import proofs.«01_k».proof.Proof.Spec
public import proofs.«01_k».proof.Proof.Gen.ReferenceIdeal.Read

@[expose] public section

set_option maxRecDepth 16384

noncomputable section

/-! The reference's lines over real arguments, and its four results: the derivatives. -/

namespace Cert.RefValue

open Idealize.ShloMosaic Cert.ReferenceIdeal Cert.ReferenceIdeal.Read Cert.Table Cert.Common

/-! ### Operations on reals -/

section Ops
variable {x y : EReal} {a b : ℝ} (hx : x = (a : EReal)) (hy : y = (b : EReal))
include hx

theorem neg_c : FloatOps.hostNegf (F := Ideal) (φ := .f32) x = ((-a : ℝ) : EReal) := by
  rw [hx, EReal.coe_neg]; rfl

theorem exp_c : FloatOps.hostUnary (F := Ideal) (φ := .f32) .exp x = ((Real.exp a : ℝ) : EReal) := by
  rw [hx]; rfl

include hy

theorem mul_c : FloatOps.mulf (F := Ideal) (φ := .f32) x y = ((a * b : ℝ) : EReal) := by
  rw [hx, hy, EReal.coe_mul]; rfl

theorem add_c : FloatOps.addf (F := Ideal) (φ := .f32) x y = ((a + b : ℝ) : EReal) := by
  rw [hx, hy, EReal.coe_add]; rfl

theorem sub_c : FloatOps.subf (F := Ideal) (φ := .f32) x y = ((a - b : ℝ) : EReal) := by
  rw [hx, hy, EReal.coe_sub]; rfl

theorem div_c (hb : b ≠ 0) : FloatOps.hostDivf (F := Ideal) (φ := .f32) x y = ((a / b : ℝ) : EReal) := by
  rw [hx, hy]; exact div_coe a hb

end Ops

theorem zeroE : Ideal.ofBits .f32 0x00000000#32 = 0 := zero.trans rfl

theorem sum_c {ι : Type} [Fintype ι] {z : EReal} {x : ι → EReal} {a : ι → ℝ} (hz : z = 0) (hx : ∀ i, x i = (a i : EReal)) :
    z + ∑ i, x i = ((∑ i, a i : ℝ) : EReal) := by
  rw [hz, zero_add, sum_eq hx]

variable (x0 : IVec S16x32 32) (x1 x2 x3 : FVec Ideal S16x8192x64 .f32) (x4 : FVec Ideal S16x8192 .f32) (x5 : FVec Ideal S16x8192x64 .f32)

/-- The arguments are real, and the table in range. -/
structure Good : Prop where
  tab : InRange x0
  q : ∀ i, ∃ r : ℝ, x1 i = (r : EReal)
  k : ∀ i, ∃ r : ℝ, x2 i = (r : EReal)
  v : ∀ i, ∃ r : ℝ, x3 i = (r : EReal)
  f : ∀ i, ∃ r : ℝ, x4 i = (r : EReal)
  ct : ∀ i, ∃ r : ℝ, x5 i = (r : EReal)

/-- The score, the row's shift, the exponential, the row sum and the derivative by a weight. -/
abbrev sc (h : Fin 16) (t n : Fin 8192) : ℝ := Model.score (Spec.real3 x1 h) (Spec.real3 x2 h) (Spec.real2 x4 h) t n
def mx (h : Fin 16) (t : Fin 8192) : ℝ := (val_main_v30 (F := Ideal) x0 x1 x2 x4 (ix2 h t)).toReal
abbrev ex (h : Fin 16) (t n : Fin 8192) : ℝ :=
  Model.expo (Spec.real3 x1 h) (Spec.real3 x2 h) (Spec.real2 x4 h) (live x0 h) (mx x0 x1 x2 x4 h) t n
abbrev tot (h : Fin 16) (t : Fin 8192) : ℝ :=
  Model.total (Spec.real3 x1 h) (Spec.real3 x2 h) (Spec.real2 x4 h) (live x0 h) (mx x0 x1 x2 x4 h) t
abbrev bk (h : Fin 16) (t n : Fin 8192) : ℝ := Model.back (Spec.real3 x3 h) (Spec.real3 x5 h) t n
abbrev inner (h : Fin 16) (t : Fin 8192) : ℝ :=
  ∑ j, bk x3 x5 h t j * (1 / (tot x0 x1 x2 x4 h t * tot x0 x1 x2 x4 h t)) * ex x0 x1 x2 x4 h t j
abbrev ds (h : Fin 16) (t n : Fin 8192) : ℝ := Spec.ds x0 x1 x2 x3 x4 x5 h t n

theorem read3 {y : FVec Ideal S16x8192x64 .f32} (hy : ∀ i, ∃ r : ℝ, y i = (r : EReal)) (i : S16x8192x64.Idx) :
    y i = (Spec.real3 y (i 0) (i 1) (i 2) : EReal) :=
  (toReal_of (hy i)).trans (congrArg (fun j => ((y j).toReal : EReal)) (eq_ix3 i))

theorem read2 {y : FVec Ideal S16x8192 .f32} (hy : ∀ i, ∃ r : ℝ, y i = (r : EReal)) (i : S16x8192.Idx) :
    y i = (Spec.real2 y (i 0) (i 1) : EReal) :=
  (toReal_of (hy i)).trans (congrArg (fun j => ((y j).toReal : EReal)) (eq_ix2 i))

variable (g : Good x0 x1 x2 x3 x4 x5)
include g

theorem mask (h : Fin 16) (t n : Fin 8192) :
    val_main_v12 (F := Ideal) x0 (ix3 h t n) = BitVec.ofBool (decide (live x0 h t n)) := by
  have hh : h.val < 16 := h.isLt
  have hn : n.val < 8192 := n.isLt
  have e0 : idx_main_v2 (idx_main_v3 (idx_main_v4 (idx_main_v10 (ix3 h t n)))) = cell h (Final.blockOf n) :=
    funext fun d => match d with
      | ⟨0, _⟩ => Fin.ext (show ((h.val * 1 + 0) * 8192 + n.val) / 8192 = h.val by omega)
      | ⟨1, _⟩ => Fin.ext (show ((h.val * 1 + 0) * 8192 + n.val) / 256 % 32 = n.val / 256 by omega)
  rw [val_main_v12_apply, val_main_v5_apply, val_main_v11_apply, val_main_v10_apply, val_main_v9_apply, val_main_v7_apply,
    val_main_v4_apply, val_main_v3_apply, val_main_v2_apply, e0]
  exact live_word x0 g.tab h t n

theorem score (i : S16x8192x8192.Idx) : val_main_v21 (F := Ideal) x1 x2 x4 i = (sc x1 x2 x4 (i 0) (i 1) (i 2) : EReal) := by
  rw [val_main_v21_apply, val_main_v15_apply, val_main_v13_apply, val_main_v20_apply, val_main_v18_apply, val_main_v16_apply,
    val_main_v19_apply, val_main_v17_apply]
  exact add_c (mul_c (dot_coe (fun k => read3 g.q _) fun k => read3 g.k _) eighth) (sub_c (read2 g.f _) (read2 g.f _))

theorem masked (h : Fin 16) (t n : Fin 8192) : val_main_v22_0 (F := Ideal) x0 x1 x2 x4 (ix3 h t n)
    = if live x0 h t n then (sc x1 x2 x4 h t n : EReal) else ⊥ := by
  have em : val_main_v12 (F := Ideal) x0 (ix3 h t n) = BitVec.ofBool (decide (live x0 h t n)) := mask x0 x1 x2 x3 x4 x5 g h t n
  have es : val_main_v21 (F := Ideal) x1 x2 x4 (ix3 h t n) = (sc x1 x2 x4 h t n : EReal) := score x0 x1 x2 x3 x4 x5 g _
  have eb : val_main_call0_v1 (F := Ideal) (ix3 h t n) = ⊥ := Sem.negInf
  rw [val_main_v22_0_apply, em, Sem.select_ofBool, es, eb]

theorem top (h : Fin 16) (t : Fin 8192) : ∃ r : ℝ, val_main_v23 (F := Ideal) x0 x1 x2 x4 (ix2 h t) = (r : EReal) := by
  have e : val_main_v23 (F := Ideal) x0 x1 x2 x4 (ix2 h t)
      = Finset.univ.fold max ⊥ fun k => val_main_v22_0 (F := Ideal) x0 x1 x2 x4 (ix3 h t k) := by
    unfold val_main_v23
    refine (reduce_max _ _ _ _ h t).trans ?_
    rw [show val_main_cst_2 (F := Ideal) (Shape.Idx.first Cert.ReferenceIdeal.Gen.h_S_) = ⊥ from Sem.negInf]
  rw [e]
  refine fold_real _ (fun k => ?_) (k := t) ?_
  · rw [masked x0 x1 x2 x3 x4 x5 g]
    split_ifs
    · exact EReal.coe_ne_top _
    · exact bot_ne_top
  · rw [masked x0 x1 x2 x3 x4 x5 g, if_pos (show live x0 h t t from live_self x0 g.tab h t)]
    exact EReal.coe_ne_bot _

theorem shift (i : S16x8192.Idx) : val_main_v30 (F := Ideal) x0 x1 x2 x4 i = (mx x0 x1 x2 x4 (i 0) (i 1) : EReal) := by
  obtain ⟨h, t, rfl⟩ : ∃ (h : Fin 16) (t : Fin 8192), i = ix2 h t := ⟨i 0, i 1, eq_ix2 i⟩
  show _ = (mx x0 x1 x2 x4 h t : EReal)
  unfold mx
  refine toReal_of ?_
  obtain ⟨r, hr⟩ := top x0 x1 x2 x3 x4 x5 g h t
  refine ⟨r, ?_⟩
  rw [val_main_v30_apply, hr, show val_main_v29 (F := Ideal) (ix2 h t) = ⊥ from Sem.negInf, Ideal.maximumf_eq_max]
  exact max_eq_right bot_le

theorem expo (i : S16x8192x8192.Idx) : val_main_v43 (F := Ideal) x0 x1 x2 x4 i = (ex x0 x1 x2 x4 (i 0) (i 1) (i 2) : EReal) := by
  obtain ⟨h, t, n, rfl⟩ : ∃ (h : Fin 16) (t n : Fin 8192), i = ix3 h t n := ⟨i 0, i 1, i 2, eq_ix3 i⟩
  show _ = (ex x0 x1 x2 x4 h t n : EReal)
  have e : val_main_v41 (F := Ideal) x0 x1 x2 x4 (ix3 h t n) = (mx x0 x1 x2 x4 h t : EReal) := by
    rw [val_main_v41_apply, val_main_v40_apply]
    exact shift x0 x1 x2 x3 x4 x5 g _
  rw [val_main_v43_apply, val_main_v42_apply, e, masked x0 x1 x2 x3 x4 x5 g]
  unfold ex Model.expo
  split_ifs
  · exact exp_c (sub_c rfl rfl)
  · exact congrArg (FloatOps.hostUnary (F := Ideal) (φ := .f32) .exp) (EReal.bot_sub _)

theorem tot_ne (h : Fin 16) (t : Fin 8192) : tot x0 x1 x2 x4 h t ≠ 0 :=
  (Model.total_pos _ _ _ _ _ (live_self x0 g.tab h t)).ne'

theorem total (i : S16x8192x1.Idx) : val_main_v45 (F := Ideal) x0 x1 x2 x4 i = (tot x0 x1 x2 x4 (i 0) (i 1) : EReal) := by
  rw [val_main_v45_apply, val_main_v44_apply]
  exact sum_c zeroE fun k => expo x0 x1 x2 x3 x4 x5 g _

theorem weight (h : Fin 16) (t n : Fin 8192) : ex x0 x1 x2 x4 h t n / tot x0 x1 x2 x4 h t = Spec.soft x0 x1 x2 x4 h t n :=
  Model.soft_shift _ _ _ _ _ _ _ _

theorem chain {h : Fin 16} {t : Fin 8192} (n : Fin 8192) :
    (bk x3 x5 h t n / tot x0 x1 x2 x4 h t + -inner x0 x1 x2 x3 x4 x5 h t) * ex x0 x1 x2 x4 h t n
      = ds x0 x1 x2 x3 x4 x5 h t n :=
  (Model.ds_chain (Spec.real3 x1 h) (Spec.real3 x2 h) (Spec.real3 x3 h) (Spec.real3 x5 h) (Spec.real2 x4 h) (live x0 h)
    (mx x0 x1 x2 x4 h) (live_self x0 g.tab h t) n).trans (Model.ds_shift _ _ _ _ _ _ _ _ _ _)

theorem rowSum (h : Fin 16) (t : Fin 8192) : ∑ n, ds x0 x1 x2 x3 x4 x5 h t n = 0 :=
  Model.ds_sum _ _ _ _ _ _ _ (live_self x0 g.tab h t)

omit g in
theorem dead {h : Fin 16} {t n : Fin 8192} (hd : ¬live x0 h t n) : ds x0 x1 x2 x3 x4 x5 h t n = 0 :=
  Model.ds_dead _ _ _ _ _ _ _ hd

theorem soft (i : S16x8192x8192.Idx) : val_main_v47 (F := Ideal) x0 x1 x2 x4 i = (Spec.soft x0 x1 x2 x4 (i 0) (i 1) (i 2) : EReal) := by
  rw [val_main_v47_apply, val_main_v46_apply]
  refine (div_c (expo x0 x1 x2 x3 x4 x5 g i) (total x0 x1 x2 x3 x4 x5 g _) (tot_ne x0 x1 x2 x3 x4 x5 g _ _)).trans ?_
  exact congrArg _ (weight x0 x1 x2 x3 x4 x5 g _ _ _)

theorem dv (i : S16x8192x64.Idx) : val_main_v53 (F := Ideal) x0 x1 x2 x4 x5 i = Spec.dv x0 x1 x2 x4 x5 i := by
  rw [val_main_v53_apply, val_main_v52_apply]
  refine (dot_coe (fun k => read3 g.ct _) fun k => soft x0 x1 x2 x3 x4 x5 g _).trans ?_
  exact congrArg _ (Finset.sum_congr rfl fun k _ => mul_comm _ _)

theorem back (i : S16x8192x8192.Idx) : val_main_v54 (F := Ideal) x3 x5 i = (bk x3 x5 (i 0) (i 1) (i 2) : EReal) := by
  rw [val_main_v54_apply]
  exact dot_coe (fun k => read3 g.ct _) fun k => read3 g.v _

theorem inverse (i : S16x8192x1.Idx) : val_main_v50 (F := Ideal) x0 x1 x2 x4 i
    = ((1 / (tot x0 x1 x2 x4 (i 0) (i 1) * tot x0 x1 x2 x4 (i 0) (i 1)) : ℝ) : EReal) := by
  have e := total x0 x1 x2 x3 x4 x5 g i
  have h := tot_ne x0 x1 x2 x3 x4 x5 g (i 0) (i 1)
  rw [val_main_v50_apply, val_main_v48_apply]
  exact div_c one (mul_c e e) (mul_ne_zero h h)

theorem within (i : S16x8192.Idx) : val_main_v63 (F := Ideal) x0 x1 x2 x3 x4 x5 i
    = ((-inner x0 x1 x2 x3 x4 x5 (i 0) (i 1) : ℝ) : EReal) := by
  rw [val_main_v63_apply]
  have e : ∀ j : S16x8192x1.Idx, val_main_v60 (F := Ideal) x0 x1 x2 x3 x4 x5 j
      = ((-inner x0 x1 x2 x3 x4 x5 (j 0) (j 1) : ℝ) : EReal) := by
    intro j
    have h0 : (j 0).val < 16 := (j 0).isLt
    have h1 : (j 1).val < 8192 := (j 1).isLt
    have h2 : (j 2).val < 1 := (j 2).isLt
    have ej : idx_main_v59 j = @ix2 16 8192 (j 0) (j 1) := funext fun d => match d with
      | ⟨0, _⟩ => Fin.ext (show (((j 0).val * 8192 + (j 1).val) * 1 + (j 2).val) / 8192 = (j 0).val by omega)
      | ⟨1, _⟩ => Fin.ext (show (((j 0).val * 8192 + (j 1).val) * 1 + (j 2).val) % 8192 = (j 1).val by omega)
    rw [val_main_v60_apply, val_main_v59_apply, ej, val_main_v58_apply]
    refine neg_c (sum_c zeroE fun k => ?_)
    rw [val_main_v57_apply, val_main_v56_apply, val_main_v55_apply]
    exact mul_c (mul_c (back x0 x1 x2 x3 x4 x5 g _) (inverse x0 x1 x2 x3 x4 x5 g _)) (expo x0 x1 x2 x3 x4 x5 g _)
  exact (sum_c zeroE fun k => e _).trans (congrArg _ (Fin.sum_univ_one _))

theorem grad (i : S16x8192x8192.Idx) : val_main_v67 (F := Ideal) x0 x1 x2 x3 x4 x5 i
    = (ds x0 x1 x2 x3 x4 x5 (i 0) (i 1) (i 2) : EReal) := by
  have e : val_main_v66 (F := Ideal) x0 x1 x2 x3 x4 x5 i = (ds x0 x1 x2 x3 x4 x5 (i 0) (i 1) (i 2) : EReal) := by
    rw [val_main_v66_apply, val_main_v65_apply, val_main_v64_apply, val_main_v62_apply, val_main_v61_apply]
    refine (mul_c (add_c (div_c (back x0 x1 x2 x3 x4 x5 g i) (total x0 x1 x2 x3 x4 x5 g _) (tot_ne x0 x1 x2 x3 x4 x5 g _ _))
      (within x0 x1 x2 x3 x4 x5 g _)) (expo x0 x1 x2 x3 x4 x5 g i)).trans ?_
    exact congrArg _ (chain x0 x1 x2 x3 x4 x5 g _)
  obtain ⟨h, t, n, rfl⟩ : ∃ (h : Fin 16) (t n : Fin 8192), i = ix3 h t n := ⟨i 0, i 1, i 2, eq_ix3 i⟩
  show _ = (ds x0 x1 x2 x3 x4 x5 h t n : EReal)
  have e' : val_main_v66 (F := Ideal) x0 x1 x2 x3 x4 x5 (ix3 h t n) = (ds x0 x1 x2 x3 x4 x5 h t n : EReal) := e
  rw [val_main_v67_apply, mask x0 x1 x2 x3 x4 x5 g, Sem.select_ofBool, e']
  by_cases hl : live x0 h t n
  · rw [if_pos hl]
  · rw [if_neg hl, dead x0 x1 x2 x3 x4 x5 hl]
    exact zeroE

theorem df (i : S16x8192.Idx) : val_main_v75 (F := Ideal) x0 x1 x2 x3 x4 x5 i = Spec.df x0 x1 x2 x3 x4 x5 i := by
  have e1 : ∀ j : S16x1x8192.Idx, val_main_v72 (F := Ideal) x0 x1 x2 x3 x4 x5 j
      = ((∑ t, -ds x0 x1 x2 x3 x4 x5 (j 0) t (j 2) : ℝ) : EReal) := by
    intro j
    have h0 : (j 0).val < 16 := (j 0).isLt
    have h1 : (j 1).val < 1 := (j 1).isLt
    have h2 : (j 2).val < 8192 := (j 2).isLt
    have ej : idx_main_v72 j = @ix2 16 8192 (j 0) (j 2) := funext fun d => match d with
      | ⟨0, _⟩ => Fin.ext (show (((j 0).val * 1 + (j 1).val) * 8192 + (j 2).val) / 8192 = (j 0).val by omega)
      | ⟨1, _⟩ => Fin.ext (show (((j 0).val * 1 + (j 1).val) * 8192 + (j 2).val) % 8192 = (j 2).val by omega)
    rw [val_main_v72_apply, ej, val_main_v71_apply]
    refine sum_c zeroE fun k => ?_
    rw [val_main_v70_apply]
    exact neg_c (grad x0 x1 x2 x3 x4 x5 g _)
  have e2 : ∀ j : S16x8192x1.Idx, val_main_v69 (F := Ideal) x0 x1 x2 x3 x4 x5 j = ((0 : ℝ) : EReal) := by
    intro j
    have h0 : (j 0).val < 16 := (j 0).isLt
    have h1 : (j 1).val < 8192 := (j 1).isLt
    have h2 : (j 2).val < 1 := (j 2).isLt
    have ej : idx_main_v69 j = @ix2 16 8192 (j 0) (j 1) := funext fun d => match d with
      | ⟨0, _⟩ => Fin.ext (show (((j 0).val * 8192 + (j 1).val) * 1 + (j 2).val) / 8192 = (j 0).val by omega)
      | ⟨1, _⟩ => Fin.ext (show (((j 0).val * 8192 + (j 1).val) * 1 + (j 2).val) % 8192 = (j 1).val by omega)
    rw [val_main_v69_apply, ej, val_main_v68_apply]
    refine (sum_c zeroE fun k => grad x0 x1 x2 x3 x4 x5 g _).trans ?_
    exact congrArg _ (rowSum x0 x1 x2 x3 x4 x5 g _ _)
  rw [val_main_v75_apply, val_main_v73_apply, val_main_v74_apply]
  refine (add_c (sum_c zeroE fun k => e1 _) (sum_c zeroE fun k => e2 _)).trans ?_
  refine congrArg _ ((congrArg₂ (· + ·) (Fin.sum_univ_one _) (Fin.sum_univ_one _)).trans ((add_zero _).trans ?_))
  exact Finset.sum_neg_distrib _

theorem scaled (i : S16x8192x8192.Idx) : val_main_v77 (F := Ideal) x0 x1 x2 x3 x4 x5 i
    = ((ds x0 x1 x2 x3 x4 x5 (i 0) (i 1) (i 2) * (1 / 8) : ℝ) : EReal) := by
  rw [val_main_v77_apply]
  exact mul_c (grad x0 x1 x2 x3 x4 x5 g i) eighth

theorem dk (i : S16x8192x64.Idx) : val_main_v78 (F := Ideal) x0 x1 x2 x3 x4 x5 i = Spec.dk x0 x1 x2 x3 x4 x5 i := by
  rw [val_main_v78_apply]
  exact dot_coe (fun k => scaled x0 x1 x2 x3 x4 x5 g _) fun k => read3 g.q _

theorem dq (i : S16x8192x64.Idx) : val_main_v79 (F := Ideal) x0 x1 x2 x3 x4 x5 i = Spec.dq x0 x1 x2 x3 x4 x5 i := by
  rw [val_main_v79_apply]
  exact dot_coe (fun k => scaled x0 x1 x2 x3 x4 x5 g _) fun k => read3 g.k _

end Cert.RefValue
-- ==== Proof.Down.lean ====
/-
  The down-projection's backward call: what one grid point leaves in its three output blocks.
-/
module

public import proofs.«01_k».proof.Proof.Sem
public import proofs.«01_k».proof.Proof.Gen.Kernel2Ideal.Frame

@[expose] public section

set_option maxRecDepth 16384

noncomputable section

namespace Cert.Down

open Idealize.ShloMosaic Idealize.ShloMosaic.TcCoe Cert.Kernel2Ideal Cert.Kernel2Ideal.Gen

/-- A block stored whole over anything reads back as what was stored. -/
theorem stored {κ : Kind} {σ : Space} {e : EltTy} {a b : ℕ} (v : View sig κ σ ⟨2, ![a, b]⟩ e) (f) (inb)
    (X : Shape.Idx ⟨2, ![a, b]⟩ → Elt Ideal e) (ps) (y : Shape.Idx ⟨2, ![a, b]⟩) :
    v.read (Elt Ideal) (v.writes (Elt Ideal) f (⟨Rect.unit (s := ⟨2, ![a, b]⟩) ![0, 0] ![a, b] inb, X⟩ :: ps)) y = X y := by
  refine View.read_writes_cons_unit_of_mem v f inb _ ps y y rfl fun k => ?_
  match k with
  | ⟨0, _⟩ => exact (Nat.zero_add _).symm
  | ⟨1, _⟩ => exact (Nat.zero_add _).symm

/-- A block loaded whole. -/
theorem loaded {κ : Kind} {σ : Space} {e : EltTy} {a b : ℕ} (v : View sig κ σ ⟨2, ![a, b]⟩ e) (f) (inb) (y : Shape.Idx ⟨2, ![a, b]⟩) :
    v.readAt (Elt Ideal) (Rect.unit (s := ⟨2, ![a, b]⟩) ![0, 0] ![a, b] inb).toLoadRect f y = v.read (Elt Ideal) f y := by
  rw [View.readAt_apply]
  refine congrArg (v.read (Elt Ideal) f) ?_
  funext k
  match k with
  | ⟨0, _⟩ => exact Fin.ext (by first | (show 0 + 1 * (y 0).val = (y 0).val; omega) | (show 0 + (y 0).val * 1 = (y 0).val; omega))
  | ⟨1, _⟩ => exact Fin.ext (by first | (show 0 + 1 * (y 1).val = (y 1).val; omega) | (show 0 + (y 1).val * 1 = (y 1).val; omega))

theorem pay1 (d : Fin 1024) : (k0_pay1 : FVec Ideal S1x1024 .f32) (ix2 0 d) = 0 := by
  unfold k0_pay1
  pointwise

theorem pay2 (x : Vec Ideal S512x1024 .f32) (g : Vec Ideal S1x1024 .f32) (r : Fin 512) (d : Fin 1024) :
    k0_pay2 x g (ix2 r d) = x (ix2 r d) * g (ix2 0 d) := by
  unfold k0_pay2
  pointwise

theorem pay3 (x : Vec Ideal S512x1024 .f32) (g : Vec Ideal S1x1024 .f32) (r : Fin 512) (d : Fin 1024) :
    k0_pay3 x g (ix2 r d) = x (ix2 r d) * g (ix2 0 d) := by
  unfold k0_pay3
  pointwise
  exact pay2 x g r d

theorem pay4 (x : Vec Ideal S512x1024 .f32) (o : Vec Ideal S1x1024 .f32) (y : Vec Ideal S512x1024 .bf16) (d : Fin 1024) :
    k0_pay4 x o y (ix2 0 d) = o (ix2 0 d) + ∑ r : Fin 512, x (ix2 r d) * y (ix2 r d) := by
  unfold k0_pay4
  pointwise

theorem two : Ideal.ofBits .f32 0x40000000#32 = 2 := by
  refine Eq.trans (b := ((2 : ℝ) : EReal)) ?_ rfl
  simp [Ideal.ofBits, Ideal.ieee, -EReal.coe_mul]; norm_num

theorem pay5 (u : Vec Ideal S512x1024 .bf16) (w : Vec Ideal S4096x1024 .bf16) (a : Vec Ideal S512x4096 .bf16) (r : Fin 512) (n : Fin 4096) :
    k0_pay5 u w a (ix2 r n) = (∑ d : Fin 1024, u (ix2 r d) * w (ix2 n d)) * (2 * a (ix2 r n)) := by
  unfold k0_pay5
  pointwise
  rw [two]

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S4096x1024 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S512x1024 .bf16) (harg10 : arg10.IsWhole)
    (x0 : Vec Ideal S512x1024 .f32) (x1 : Vec Ideal S1x1024 .f32) (x2 : Vec Ideal S512x1024 .bf16) (x3 : Vec Ideal S4096x1024 .bf16) (x4 : Vec Ideal S512x4096 .bf16)

theorem dzA (hc0 : cond0_0 i) (hc1 : cond0_1 i) (r : Fin 512) (n : Fin 4096) :
    out0_A_5 c i arg2 harg2 arg3 harg3 arg4 harg4 arg5 harg5 arg6 harg6 arg7 harg7 arg8 harg8 arg9 harg9 arg10 harg10 hc0 hc1 x0 x1 x2 x3 x4 (ix2 r n) = (∑ d : Fin 1024, (x0 (ix2 r d) * x1 (ix2 0 d)) * x3 (ix2 n d)) * (2 * x4 (ix2 r n)) := by
  unfold out0_A_5 kernelRun0_A
  refine (stored VO0_5 _ _ _ [] _).trans ((pay5 _ _ _ r n).trans ?_)
  have e (d : Fin 1024) : kernelRun0_A.sl.v8 c arg2 harg2 arg3 harg3 arg10 x0 x1 (ix2 r d) = x0 (ix2 r d) * x1 (ix2 0 d) := by
    unfold kernelRun0_A.sl.v8
    refine (loaded _ _ _ _).trans ((stored _ _ _ _ [] _).trans ((pay3 _ _ r d).trans ?_))
    exact congrArg₂ (· * ·) ((loaded _ _ _ _).trans (congrFun (harg2.read_unread x0) _)) ((loaded _ _ _ _).trans (congrFun (harg3.read_unread x1) _))
  refine congrArg₂ (· * ·) (Finset.sum_congr rfl fun d _ => congrArg₂ (· * ·) (e d) ?_) (congrArg (2 * ·) ?_)
  · exact (loaded _ _ _ _).trans (congrFun (harg5.read_unread x3) _)
  · exact (loaded _ _ _ _).trans (congrFun (harg6.read_unread x4) _)

theorem dmA (hc0 : cond0_0 i) (hc1 : cond0_1 i) (r : Fin 512) (d : Fin 1024) :
    out0_A_6 c i arg2 harg2 arg3 harg3 arg4 harg4 arg5 harg5 arg6 harg6 arg7 harg7 arg8 harg8 arg9 harg9 arg10 harg10 hc0 hc1 x0 x1 x2 x3 x4 (ix2 r d) = x0 (ix2 r d) * x1 (ix2 0 d) := by
  unfold out0_A_6 kernelRun0_A
  refine (stored VO0_6 _ _ _ [] _).trans ((pay2 _ _ r d).trans ?_)
  exact congrArg₂ (· * ·) ((loaded _ _ _ _).trans (congrFun (harg2.read_unread x0) _)) ((loaded _ _ _ _).trans (congrFun (harg3.read_unread x1) _))

theorem dgA (hc0 : cond0_0 i) (hc1 : cond0_1 i) (d : Fin 1024) :
    out0_A_7 c i arg2 harg2 arg3 harg3 arg4 harg4 arg5 harg5 arg6 harg6 arg7 harg7 arg8 harg8 arg9 harg9 arg10 harg10 hc0 hc1 x0 x1 x2 x3 x4 (ix2 0 d) = 0 + ∑ r : Fin 512, x0 (ix2 r d) * x2 (ix2 r d) := by
  unfold out0_A_7 kernelRun0_A
  refine (stored VO0_7 _ _ _ _ _).trans ((pay4 _ _ _ d).trans ?_)
  refine congrArg₂ (· + ·) ?_ (Finset.sum_congr rfl fun r _ => congrArg₂ (· * ·) ?_ ?_)
  · unfold kernelRun0_A.sl.v29 kernelRun0_A.sl.H7_1
    exact (loaded _ _ _ _).trans ((stored _ _ _ _ [] _).trans (pay1 d))
  · exact (loaded _ _ _ _).trans (congrFun (harg2.read_unread x0) _)
  · exact (loaded _ _ _ _).trans (congrFun (harg4.read_unread x2) _)

theorem dzB (hc0 : ¬cond0_0 i) (hc1 : cond0_1 i) (xo : Vec Ideal S1x1024 .f32) (r : Fin 512) (n : Fin 4096) :
    out0_B_5 c i arg2 harg2 arg3 harg3 arg4 harg4 arg5 harg5 arg6 harg6 arg7 harg7 arg8 harg8 arg9 harg9 arg10 harg10 hc0 hc1 x0 x1 x2 x3 x4 xo (ix2 r n) = (∑ d : Fin 1024, (x0 (ix2 r d) * x1 (ix2 0 d)) * x3 (ix2 n d)) * (2 * x4 (ix2 r n)) := by
  unfold out0_B_5 kernelRun0_B
  refine (stored VO0_5 _ _ _ [] _).trans ((pay5 _ _ _ r n).trans ?_)
  have e (d : Fin 1024) : kernelRun0_B.sl.v8 c arg2 harg2 arg3 harg3 arg10 x0 x1 (ix2 r d) = x0 (ix2 r d) * x1 (ix2 0 d) := by
    unfold kernelRun0_B.sl.v8
    refine (loaded _ _ _ _).trans ((stored _ _ _ _ [] _).trans ((pay3 _ _ r d).trans ?_))
    exact congrArg₂ (· * ·) ((loaded _ _ _ _).trans (congrFun (harg2.read_unread x0) _)) ((loaded _ _ _ _).trans (congrFun (harg3.read_unread x1) _))
  refine congrArg₂ (· * ·) (Finset.sum_congr rfl fun d _ => congrArg₂ (· * ·) (e d) ?_) (congrArg (2 * ·) ?_)
  · exact (loaded _ _ _ _).trans (congrFun (harg5.read_unread x3) _)
  · exact (loaded _ _ _ _).trans (congrFun (harg6.read_unread x4) _)

theorem dmB (hc0 : ¬cond0_0 i) (hc1 : cond0_1 i) (xo : Vec Ideal S1x1024 .f32) (r : Fin 512) (d : Fin 1024) :
    out0_B_6 c i arg2 harg2 arg3 harg3 arg4 harg4 arg5 harg5 arg6 harg6 arg7 harg7 arg8 harg8 arg9 harg9 arg10 harg10 hc0 hc1 x0 x1 x2 x3 x4 xo (ix2 r d) = x0 (ix2 r d) * x1 (ix2 0 d) := by
  unfold out0_B_6 kernelRun0_B
  refine (stored VO0_6 _ _ _ [] _).trans ((pay2 _ _ r d).trans ?_)
  exact congrArg₂ (· * ·) ((loaded _ _ _ _).trans (congrFun (harg2.read_unread x0) _)) ((loaded _ _ _ _).trans (congrFun (harg3.read_unread x1) _))

theorem dgB (hc0 : ¬cond0_0 i) (hc1 : cond0_1 i) (xo : Vec Ideal S1x1024 .f32) (d : Fin 1024) :
    out0_B_7 c i arg2 harg2 arg3 harg3 arg4 harg4 arg5 harg5 arg6 harg6 arg7 harg7 arg8 harg8 arg9 harg9 arg10 harg10 hc0 hc1 x0 x1 x2 x3 x4 xo (ix2 0 d) = xo (ix2 0 d) + ∑ r : Fin 512, x0 (ix2 r d) * x2 (ix2 r d) := by
  unfold out0_B_7 kernelRun0_B
  refine (stored VO0_7 _ _ _ _ _).trans ((pay4 _ _ _ d).trans ?_)
  refine congrArg₂ (· + ·) ?_ (Finset.sum_congr rfl fun r _ => congrArg₂ (· * ·) ?_ ?_)
  · exact (loaded _ _ _ _).trans (congrFun (harg9.read_unread xo) _)
  · exact (loaded _ _ _ _).trans (congrFun (harg2.read_unread x0) _)
  · exact (loaded _ _ _ _).trans (congrFun (harg4.read_unread x2) _)

end Cert.Down
-- ==== Proof.DownFinal.lean ====
/-
  The down-projection's backward call: what its three arrays hold when it ends.
-/
module

public import proofs.«01_k».proof.Proof.Down

@[expose] public section

set_option maxRecDepth 16384

noncomputable section

namespace Cert.Down

open Idealize.ShloMosaic Idealize.ShloMosaic.TcCoe Cert.Kernel2Ideal Cert.Kernel2Ideal.Gen

variable (m : (ℓ : Loc nD τ sig) → Buf (Elt Ideal) ℓ)

/-- The row of the arrays at row `r` of block `t`. -/
abbrev row (t : Fin 16) (r : Fin 512) : Fin 8192 := ⟨512 * t.val + r.val, by omega⟩

/-- The cotangent, the gate, the ungated output, the weights and the activation as the call finds them. -/
abbrev aC (c : Dev nD) : Shape.Idx ⟨2, ![8192, 1024]⟩ → EReal := V m c main_arg3
abbrev aG (c : Dev nD) : Shape.Idx ⟨2, ![1, 1024]⟩ → EReal := V m c main_arg2
abbrev aY (c : Dev nD) : Shape.Idx ⟨2, ![8192, 1024]⟩ → EReal := V m c main_v6
abbrev aW (c : Dev nD) : Shape.Idx ⟨2, ![4096, 1024]⟩ → EReal := V m c main_v2
abbrev aA (c : Dev nD) : Shape.Idx ⟨2, ![8192, 4096]⟩ → EReal := V m c main_v7

theorem coords_val : ∀ t : Fin grid0.N, (grid0.coords t 0).val = t.val := by
  decide +kernel

theorem iblk0 (c : Dev nD) (t : Fin cfg0.N) (r : Fin 512) (d : Fin 1024) :
    iblk m c 0 t (ix2 r d) = aC m c (ix2 (row (grid0.coords t 0) r) d) := by
  show V m c main_arg3 (((cfg0.win 0).blk t).view.emb (ix2 r d)) = _
  refine congrArg (V m c main_arg3) ?_
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem iblk1 (c : Dev nD) (t : Fin cfg0.N) (d : Fin 1024) :
    iblk m c 1 t (ix2 0 d) = aG m c (ix2 0 d) := by
  show V m c main_arg2 (((cfg0.win 1).blk t).view.emb (ix2 0 d)) = _
  refine congrArg (V m c main_arg2) ?_
  funext a
  match a with
  | ⟨0, _⟩ => rfl
  | ⟨1, _⟩ =>
    apply Fin.ext
    show 0 * 1024 + 1 * d.val = d.val
    omega

theorem iblk2 (c : Dev nD) (t : Fin cfg0.N) (r : Fin 512) (d : Fin 1024) :
    iblk m c 2 t (ix2 r d) = aY m c (ix2 (row (grid0.coords t 0) r) d) := by
  show V m c main_v6 (((cfg0.win 2).blk t).view.emb (ix2 r d)) = _
  refine congrArg (V m c main_v6) ?_
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem iblk3 (c : Dev nD) (t : Fin cfg0.N) (n : Fin 4096) (d : Fin 1024) :
    iblk m c 3 t (ix2 n d) = aW m c (ix2 n d) := by
  show V m c main_v2 (((cfg0.win 3).blk t).view.emb (ix2 n d)) = _
  refine congrArg (V m c main_v2) ?_
  have h1 : (grid0.coords t 1).val < 1 := (grid0.coords t 1).isLt
  funext a
  match a with
  | ⟨0, _⟩ =>
    apply Fin.ext
    show (BitVec.ofNat 32 (grid0.coords t 1).val).toNat * 4096 + 1 * n.val = n.val
    rw [BitVec.toNat_ofNat]; omega
  | ⟨1, _⟩ =>
    apply Fin.ext
    show 0 * 1024 + 1 * d.val = d.val
    omega

theorem iblk4 (c : Dev nD) (t : Fin cfg0.N) (r : Fin 512) (n : Fin 4096) :
    iblk m c 4 t (ix2 r n) = aA m c (ix2 (row (grid0.coords t 0) r) n) := by
  show V m c main_v7 (((cfg0.win 4).blk t).view.emb (ix2 r n)) = _
  refine congrArg (V m c main_v7) ?_
  have h0 : (grid0.coords t 0).val < 16 := (grid0.coords t 0).isLt
  have h1 : (grid0.coords t 1).val < 1 := (grid0.coords t 1).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show (BitVec.ofNat 32 (grid0.coords t 1).val).toNat * 4096 + 1 * n.val = n.val
    rw [BitVec.toNat_ofNat]; omega

section Arrays
variable (ct y : Shape.Idx ⟨2, ![8192, 1024]⟩ → EReal) (g : Shape.Idx ⟨2, ![1, 1024]⟩ → EReal)
  (w : Shape.Idx ⟨2, ![4096, 1024]⟩ → EReal) (a : Shape.Idx ⟨2, ![8192, 4096]⟩ → EReal)

/-- The derivative of the pre-activation. -/
def DZ (r : Fin 8192) (n : Fin 4096) : EReal :=
  (∑ d : Fin 1024, (ct (ix2 r d) * g (ix2 0 d)) * w (ix2 n d)) * (2 * a (ix2 r n))

/-- The derivative of the ungated output. -/
def DM (r : Fin 8192) (d : Fin 1024) : EReal := ct (ix2 r d) * g (ix2 0 d)

/-- What one block of rows adds to the gate's derivative. -/
def part (t : Fin 16) (d : Fin 1024) : EReal := ∑ r : Fin 512, ct (ix2 (row t r) d) * y (ix2 (row t r) d)

/-- The gate's derivative. -/
def DG (d : Fin 1024) : EReal := ∑ r : Fin 8192, ct (ix2 r d) * y (ix2 r d)

theorem sum_blocks (f : Fin 8192 → EReal) : ∑ n : Fin 8192, f n = ∑ t : Fin 16, ∑ r : Fin 512, f (row t r) := by
  rw [← Fintype.sum_prod_type' (fun (t : Fin 16) (r : Fin 512) => f (row t r))]
  refine (Fintype.sum_equiv ⟨fun p : Fin 16 × Fin 512 => row p.1 p.2,
    fun n => (⟨n.val / 512, by omega⟩, ⟨n.val % 512, by omega⟩), fun p => ?_, fun n => ?_⟩ _ _ fun p => rfl).symm
  · exact Prod.ext (Fin.ext (by show (512 * p.1.val + p.2.val) / 512 = p.1.val; omega))
      (Fin.ext (by show (512 * p.1.val + p.2.val) % 512 = p.2.val; omega))
  · exact Fin.ext (by show 512 * (n.val / 512) + n.val % 512 = n.val; omega)

theorem DG_eq (d : Fin 1024) : DG ct y d = ∑ t ∈ Finset.range 16, part ct y ⟨t % 16, by omega⟩ d := by
  unfold DG
  rw [sum_blocks, ← Fin.sum_univ_eq_sum_range (fun t => part ct y ⟨t % 16, by omega⟩ d) 16]
  refine Finset.sum_congr rfl fun t _ => ?_
  rw [show (⟨t.val % 16, by omega⟩ : Fin 16) = t from Fin.ext (Nat.mod_eq_of_lt t.isLt)]
  rfl

end Arrays

theorem dz_pnt (c : Dev nD) (t : Fin cfg0.N) (r : Fin 512) (n : Fin 4096) :
    (outsAt0 m c t.val t.isLt).1 (ix2 r n) = DZ (aC m c) (aG m c) (aW m c) (aA m c) (row (grid0.coords t 0) r) n := by
  unfold DZ
  simp only [← iblk0 m c t, ← iblk1 m c t, ← iblk3 m c t, ← iblk4 m c t]
  by_cases h0 : t.val % 16 = 0
  · rw [outsAt0_A m c t h0]; dsimp only; exact dzA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (hcond0_1 t) r n
  · rw [outsAt0_B m c t h0]; dsimp only; exact dzB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (hcond0_1 t) (outsAt0 m c (t.val - 1) (Nat.lt_of_le_of_lt (Nat.sub_le _ _) t.isLt)).2.2 r n

theorem dm_pnt (c : Dev nD) (t : Fin cfg0.N) (r : Fin 512) (d : Fin 1024) :
    (outsAt0 m c t.val t.isLt).2.1 (ix2 r d) = DM (aC m c) (aG m c) (row (grid0.coords t 0) r) d := by
  unfold DM
  simp only [← iblk0 m c t, ← iblk1 m c t]
  by_cases h0 : t.val % 16 = 0
  · rw [outsAt0_A m c t h0]; dsimp only; exact dmA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (hcond0_1 t) r d
  · rw [outsAt0_B m c t h0]; dsimp only; exact dmB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (hcond0_1 t) (outsAt0 m c (t.val - 1) (Nat.lt_of_le_of_lt (Nat.sub_le _ _) t.isLt)).2.2 r d

theorem dg_step (c : Dev nD) (t : Fin cfg0.N) (d : Fin 1024) :
    (outsAt0 m c t.val t.isLt).2.2 (ix2 0 d)
      = (if t.val % 16 = 0 then 0 else (outsAt0 m c (t.val - 1) (Nat.lt_of_le_of_lt (Nat.sub_le _ _) t.isLt)).2.2 (ix2 0 d))
        + part (aC m c) (aY m c) (grid0.coords t 0) d := by
  unfold part
  simp only [← iblk0 m c t, ← iblk2 m c t]
  by_cases h0 : t.val % 16 = 0
  · rw [outsAt0_A m c t h0, if_pos h0]; dsimp only; exact dgA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (hcond0_1 t) d
  · rw [outsAt0_B m c t h0, if_neg h0]; dsimp only; exact dgB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (hcond0_1 t) (outsAt0 m c (t.val - 1) (Nat.lt_of_le_of_lt (Nat.sub_le _ _) t.isLt)).2.2 d

theorem dg_upto (c : Dev nD) (d : Fin 1024) (j : ℕ) (hj : j < cfg0.N) :
    (outsAt0 m c j hj).2.2 (ix2 0 d) = ∑ t ∈ Finset.range (j + 1), part (aC m c) (aY m c) ⟨t % 16, by omega⟩ d := by
  have hN : cfg0.N = 16 := N_0
  have e (k : ℕ) (hk : k < cfg0.N) : grid0.coords ⟨k, hk⟩ 0 = (⟨k % 16, Nat.mod_lt _ (by omega)⟩ : Fin 16) :=
    Fin.ext ((coords_val ⟨k, hk⟩).trans (Nat.mod_eq_of_lt (show k < 16 by omega)).symm)
  induction j with
  | zero =>
    rw [dg_step m c ⟨0, hj⟩ d, if_pos (Nat.zero_mod _), zero_add, e, Finset.sum_range_one]
  | succ j ih =>
    rw [dg_step m c ⟨j + 1, hj⟩ d, if_neg (by show ¬(j + 1) % 16 = 0; omega), e, Finset.sum_range_succ, ← ih (by omega) e]
    rfl

/-- The three results as arrays. -/
def RZ (c : Dev nD) : S8192x4096.Idx → EReal := fun i => DZ (aC m c) (aG m c) (aW m c) (aA m c) (i 0) (i 1)
def RM (c : Dev nD) : S8192x1024.Idx → EReal := fun i => DM (aC m c) (aG m c) (i 0) (i 1)
def RG (c : Dev nD) : S1x1024.Idx → EReal := fun i => DG (aC m c) (aY m c) (i 1)

theorem ix_eta {a b : ℕ} (i : Shape.Idx ⟨2, ![a, b]⟩) : @ix2 a b (i 0) (i 1) = i := by
  funext k
  match k with
  | ⟨0, _⟩ => rfl
  | ⟨1, _⟩ => rfl

theorem row_eta (n : Fin 8192) (h1 h2) : row ⟨n.val / 512, h1⟩ ⟨n.val % 512, h2⟩ = n :=
  Fin.ext (by show 512 * (n.val / 512) + n.val % 512 = n.val; omega)

theorem emb5 (t : Fin cfg0.N) (r : Fin 512) (n : Fin 4096) :
    (((cfg0.win 5).blk t).view.emb (ix2 r n) : S8192x4096.Idx) = ix2 (row (grid0.coords t 0) r) n := by
  have h0 : (grid0.coords t 0).val < 16 := (grid0.coords t 0).isLt
  have h1 : (grid0.coords t 1).val < 1 := (grid0.coords t 1).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show (BitVec.ofNat 32 (grid0.coords t 1).val).toNat * 4096 + 1 * n.val = n.val
    rw [BitVec.toNat_ofNat]; omega

theorem emb6 (t : Fin cfg0.N) (r : Fin 512) (d : Fin 1024) :
    (((cfg0.win 6).blk t).view.emb (ix2 r d) : S8192x1024.Idx) = ix2 (row (grid0.coords t 0) r) d := by
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem emb7 (t : Fin cfg0.N) (d : Fin 1024) :
    (((cfg0.win 7).blk t).view.emb (ix2 0 d) : S1x1024.Idx) = ix2 0 d := by
  funext a
  match a with
  | ⟨0, _⟩ => rfl
  | ⟨1, _⟩ =>
    apply Fin.ext
    show 0 * 1024 + 1 * d.val = d.val
    omega

theorem flushed5 (c : Dev nD) (t : Fin cfg0.N) :
    (dats m 0 c).flushed 5 t = ((cfg0.win 5).blk t).view.read (Elt Ideal) (RZ m c) := by
  show (cfg0.win 5).cut (cfg0.grid.coords t) ((dats m 0 c).after 5 t) = _
  rw [after0_5]
  funext (y : S512x4096.Idx)
  rw [← ix_eta y]
  refine (dz_pnt m c t (y 0) (y 1)).trans ?_
  exact (congrArg (RZ m c) (emb5 t (y 0) (y 1))).symm

theorem flushed6 (c : Dev nD) (t : Fin cfg0.N) :
    (dats m 0 c).flushed 6 t = ((cfg0.win 6).blk t).view.read (Elt Ideal) (RM m c) := by
  show (cfg0.win 6).cut (cfg0.grid.coords t) ((dats m 0 c).after 6 t) = _
  rw [after0_6]
  funext (y : S512x1024.Idx)
  rw [← ix_eta y]
  refine (dm_pnt m c t (y 0) (y 1)).trans ?_
  exact (congrArg (RM m c) (emb6 t (y 0) (y 1))).symm

theorem ix_one (y : S1x1024.Idx) : y = ix2 0 (y 1) := by
  funext k
  match k with
  | ⟨0, _⟩ => exact Subsingleton.elim (α := Fin 1) _ _
  | ⟨1, _⟩ => rfl

theorem flushed7 (c : Dev nD) (t : Fin cfg0.N) (ht : t.val % 16 = 15) :
    (dats m 0 c).flushed 7 t = ((cfg0.win 7).blk t).view.read (Elt Ideal) (RG m c) := by
  show (cfg0.win 7).cut (cfg0.grid.coords t) ((dats m 0 c).after 7 t) = _
  rw [after0_7]
  funext (y : S1x1024.Idx)
  rw [ix_one y]
  have hN : cfg0.N = 16 := N_0
  have hv : t.val + 1 = 16 := by have := t.isLt; omega
  refine ((dg_upto m c (y 1) t.val t.isLt).trans ?_).trans (congrArg (RG m c) (emb7 t (y 1))).symm
  rw [hv]
  exact (DG_eq (aC m c) (aY m c) (y 1)).symm

theorem mem_of_emb {κ : Kind} {σ : Space} {s : Shape} {e : EltTy} (v : View sig κ σ s e) (y : s.Idx) (i : v.ty.Idx) (he : v.emb y = i) : i ∈ v.set := by
  subst he
  exact View.emb_mem_set _ _

theorem cover5 (i : S8192x4096.Idx) : ∃ t : Fin cfg0.N, (cfg0.win 5).flush t = true ∧ i ∈ ((cfg0.win 5).blk t).view.set := by
  have h0 : (i 0).val < 8192 := (i 0).isLt
  have hN : cfg0.N = 16 := N_0
  have ht : (i 0).val / 512 < cfg0.N := by omega
  have hr : (i 0).val % 512 < 512 := by omega
  refine ⟨⟨(i 0).val / 512, ht⟩, flush0_5 _, ?_⟩
  have e := emb5 ⟨(i 0).val / 512, ht⟩ ⟨(i 0).val % 512, hr⟩ (i 1)
  have e0 : grid0.coords ⟨(i 0).val / 512, ht⟩ 0 = (⟨(i 0).val / 512, by omega⟩ : Fin 16) := Fin.ext (coords_val _)
  have e1 := congrArg (fun t : Fin 16 => (ix2 (row t ⟨(i 0).val % 512, hr⟩) (i 1) : S8192x4096.Idx)) e0
  have e2 := congrArg (fun n : Fin 8192 => (ix2 n (i 1) : S8192x4096.Idx)) (row_eta (i 0) (by omega) hr)
  exact mem_of_emb _ _ _ (e.trans (e1.trans (e2.trans (ix_eta i))))

theorem cover6 (i : S8192x1024.Idx) : ∃ t : Fin cfg0.N, (cfg0.win 6).flush t = true ∧ i ∈ ((cfg0.win 6).blk t).view.set := by
  have h0 : (i 0).val < 8192 := (i 0).isLt
  have hN : cfg0.N = 16 := N_0
  have ht : (i 0).val / 512 < cfg0.N := by omega
  have hr : (i 0).val % 512 < 512 := by omega
  refine ⟨⟨(i 0).val / 512, ht⟩, flush0_6 _, ?_⟩
  have e := emb6 ⟨(i 0).val / 512, ht⟩ ⟨(i 0).val % 512, hr⟩ (i 1)
  have e0 : grid0.coords ⟨(i 0).val / 512, ht⟩ 0 = (⟨(i 0).val / 512, by omega⟩ : Fin 16) := Fin.ext (coords_val _)
  have e1 := congrArg (fun t : Fin 16 => (ix2 (row t ⟨(i 0).val % 512, hr⟩) (i 1) : S8192x1024.Idx)) e0
  have e2 := congrArg (fun n : Fin 8192 => (ix2 n (i 1) : S8192x1024.Idx)) (row_eta (i 0) (by omega) hr)
  exact mem_of_emb _ _ _ (e.trans (e1.trans (e2.trans (ix_eta i))))

theorem cover7 (i : S1x1024.Idx) : ∃ t : Fin cfg0.N, (cfg0.win 7).flush t = true ∧ i ∈ ((cfg0.win 7).blk t).view.set := by
  have hN : cfg0.N = 16 := N_0
  refine ⟨⟨15, by omega⟩, (flush0_7 _).mpr rfl, ?_⟩
  exact mem_of_emb _ _ _ ((emb7 ⟨15, by omega⟩ (i 1)).trans (ix_one i).symm)

theorem final5 (c : Dev nD) : (dats m 0 c).arrAt 5 cfg0.N = RZ m c :=
  (dats m 0 c).arrAt_eq_of_cover 5 (RZ m c) (fun t _ => flushed5 m c t) cover5

theorem final6 (c : Dev nD) : (dats m 0 c).arrAt 6 cfg0.N = RM m c :=
  (dats m 0 c).arrAt_eq_of_cover 6 (RM m c) (fun t _ => flushed6 m c t) cover6

theorem final7 (c : Dev nD) : (dats m 0 c).arrAt 7 cfg0.N = RG m c :=
  (dats m 0 c).arrAt_eq_of_cover 7 (RG m c) (fun t hf => flushed7 m c t ((flush0_7 t).mp hf)) cover7

end Cert.Down
-- ==== Proof.DownValue.lean ====
/-
  The down-projection's backward call: its three results are the reference's.
-/
module

public import Idealize.ShloMosaic.Lib.StableHlo.RunRead
public import proofs.«01_k».proof.Proof.DownFinal
public import proofs.«01_k».proof.Proof.Gen.Reference2Ideal.Read

@[expose] public section

set_option maxRecDepth 16384

noncomputable section

namespace Cert.Down

open Idealize.ShloMosaic Idealize.ShloMosaic.TcCoe Idealize.ShloMosaic.StableHlo Cert.Kernel2Ideal Cert.Kernel2Ideal.Gen Cert.Reference2Ideal.Read

variable (m : (ℓ : Loc nD τ sig) → Buf (Elt Ideal) ℓ) (c : Dev nD)

/-- The pre-activation, the weights, the gate and the cotangent a core holds at launch. -/
abbrev iZ : (⟨Cert.Reference2Ideal.S8192x4096, .f32⟩ : BufTy).Contents (Elt Ideal) := m ((c.tc : Thread nD τ).loc main_arg0)
abbrev iW : (⟨Cert.Reference2Ideal.S4096x1024, .f32⟩ : BufTy).Contents (Elt Ideal) := m ((c.tc : Thread nD τ).loc main_arg1)
abbrev iG : (⟨Cert.Reference2Ideal.S1x1024, .f32⟩ : BufTy).Contents (Elt Ideal) := m ((c.tc : Thread nD τ).loc main_arg2)
abbrev iC : (⟨Cert.Reference2Ideal.S8192x1024, .f32⟩ : BufTy).Contents (Elt Ideal) := m ((c.tc : Thread nD τ).loc main_arg3)

theorem hC : aC m c = iC m c := by
  show after hostOps0 (fun b => m (c, b)) (Proc.devRef .tc main_arg3) = _
  simp only [hostOps0]
  after_results <;> rfl

theorem hG : aG m c = iG m c := by
  show after hostOps0 (fun b => m (c, b)) (Proc.devRef .tc main_arg2) = _
  simp only [hostOps0]
  after_results <;> rfl

theorem hW : aW m c = iW m c := by
  show after hostOps0 (fun b => m (c, b)) (Proc.devRef .tc main_v2) = _
  simp only [hostOps0]
  after_results <;> rfl

theorem hA : aA m c = val_main_v0 (iZ m c) := by
  show after hostOps0 (fun b => m (c, b)) (Proc.devRef .tc main_v7) = _
  simp only [hostOps0]
  after_results <;> rfl

theorem hY : aY m c = val_main_v5 (iZ m c) (iW m c) := by
  show after hostOps0 (fun b => m (c, b)) (Proc.devRef .tc main_v6) = _
  simp only [hostOps0]
  after_results <;> rfl

section Ref
variable (x0 : (⟨Cert.Reference2Ideal.S8192x4096, .f32⟩ : BufTy).Contents (Elt Ideal))
  (x1 : (⟨Cert.Reference2Ideal.S4096x1024, .f32⟩ : BufTy).Contents (Elt Ideal))
  (x2 : (⟨Cert.Reference2Ideal.S1x1024, .f32⟩ : BufTy).Contents (Elt Ideal))
  (x3 : (⟨Cert.Reference2Ideal.S8192x1024, .f32⟩ : BufTy).Contents (Elt Ideal))

theorem v9 (i : Cert.Reference2Ideal.S8192x1024.Idx) : val_main_v9 (F := Ideal) x2 x3 i = x3 i * x2 (@ix2 1 1024 0 (i 1)) := by
  rw [val_main_v9_apply, val_main_v8_apply]
  refine (mul_comm (x2 _) (x3 i)).trans (congrArg (x3 i * x2 ·) ?_)
  funext k
  match k with
  | ⟨0, _⟩ => rfl
  | ⟨1, _⟩ => rfl

theorem ref_dm (i : Cert.Reference2Ideal.S8192x1024.Idx) : DM x3 x2 (i 0) (i 1) = val_main_v20 (F := Ideal) x2 x3 i := by
  refine Eq.trans ?_ (v9 x2 x3 i).symm
  exact congrArg (fun j => x3 j * x2 (@ix2 1 1024 0 (i 1))) (ix_eta i)

theorem ref_dg (i : Cert.Reference2Ideal.S1x1024.Idx) : DG x3 (val_main_v5 (F := Ideal) x0 x1) (i 1) = val_main_v12 (F := Ideal) x0 x1 x3 i := by
  rw [val_main_v12_apply, val_main_v11_apply, val_main_cst_1_apply]
  have hi : (i 0).val < 1 := (i 0).isLt
  refine Eq.trans ?_ (congrArg (· + _) Ideal.ofBits_zero_f32).symm
  rw [zero_add]
  unfold DG
  refine Finset.sum_congr rfl fun k _ => ?_
  rw [val_main_v10_apply]
  refine congrArg (fun j => x3 j * val_main_v5 (F := Ideal) x0 x1 j) ?_
  funext a
  match a with
  | ⟨0, _⟩ => rfl
  | ⟨1, _⟩ => exact Fin.ext (by show (i 1).val = (i 0).val * 1024 + (i 1).val; omega)

theorem v0 (i : Cert.Reference2Ideal.S8192x4096.Idx) : val_main_v0 (F := Ideal) x0 i = max (x0 i) 0 := by
  rw [val_main_v0_apply, val_main_call0_v0_apply, val_main_call0_cst_apply]
  exact congrArg (max (x0 i)) Ideal.ofBits_zero_f32

theorem v2 (i : Cert.Reference2Ideal.S8192x4096.Idx) : val_main_v2 (F := Ideal) x0 i = BitVec.ofBool (decide (0 < x0 i)) := by
  rw [val_main_v2_apply, val_main_v1_apply, val_main_cst_apply]
  exact congrArg (fun z : EReal => BitVec.ofBool (decide (z < x0 i))) Ideal.ofBits_zero_f32

/-- Twice the rectified entry against the rectified entry's two factors. -/
theorem twice (s z : EReal) : s * (2 * max z 0) = if 0 < z then max z 0 * s + s * max z 0 else 0 := by
  split
  · rename_i h
    rw [max_eq_left h.le, mul_comm z s, ← one_add_one_eq_two, EReal.right_distrib_of_nonneg zero_le_one zero_le_one, one_mul,
      EReal.left_distrib_of_nonneg h.le h.le]
  · rename_i h
    rw [max_eq_right (not_lt.mp h), mul_zero, mul_zero]

theorem v13 (i : Cert.Reference2Ideal.S8192x4096.Idx) : val_main_v13 (F := Ideal) x1 x2 x3 i
    = ∑ d : Fin 1024, (x3 (@ix2 8192 1024 (i 0) d) * x2 (@ix2 1 1024 0 d)) * x1 (@ix2 4096 1024 (i 1) d) := by
  rw [val_main_v13_apply]
  refine Finset.sum_congr rfl fun d _ => ?_
  rw [v9]
  refine congrArg₂ (· * ·) (congrArg₂ (· * ·) (congrArg x3 ?_) (congrArg x2 ?_)) (congrArg x1 ?_) <;>
    · funext k
      match k with
      | ⟨0, _⟩ => rfl
      | ⟨1, _⟩ => rfl

theorem v17 (i : Cert.Reference2Ideal.S8192x4096.Idx) : val_main_v17 (F := Ideal) i = 0 := by
  rw [val_main_v17_apply, val_main_cst_2_apply]
  exact Ideal.ofBits_zero_f32

theorem v16 (i : Cert.Reference2Ideal.S8192x4096.Idx) : val_main_v16 (F := Ideal) x0 x1 x2 x3 i
    = max (x0 i) 0 * val_main_v13 (F := Ideal) x1 x2 x3 i + val_main_v13 (F := Ideal) x1 x2 x3 i * max (x0 i) 0 := by
  rw [val_main_v16_apply, val_main_v14_apply, val_main_v15_apply, v0]
  rfl

theorem ref_dz (i : Cert.Reference2Ideal.S8192x4096.Idx) :
    DZ x3 x2 x1 (val_main_v0 (F := Ideal) x0) (i 0) (i 1) = val_main_v19 (F := Ideal) x0 x1 x2 x3 i := by
  have e : val_main_v19 (F := Ideal) x0 x1 x2 x3 i = val_main_v18 (F := Ideal) x0 x1 x2 x3 i := rfl
  rw [e, val_main_v18_apply, v2, Sem.select_ofBool, v16, v17, ← twice, v13]
  unfold DZ
  refine congrArg (_ * ·) (congrArg (2 * ·) ?_)
  exact (congrArg (val_main_v0 (F := Ideal) x0) (ix_eta i)).trans (v0 x0 i)

end Ref

theorem out0 : (dats m 0 c).arrAt 5 cfg0.N = val_main_v19 (F := Ideal) (iZ m c) (iW m c) (iG m c) (iC m c) := by
  rw [final5]
  unfold RZ
  rw [hC, hG, hW, hA]
  exact funext fun i => ref_dz _ _ _ _ i

theorem out1 : (dats m 0 c).arrAt 6 cfg0.N = val_main_v20 (F := Ideal) (iG m c) (iC m c) := by
  rw [final6]
  unfold RM
  rw [hC, hG]
  exact funext fun i => ref_dm _ _ i

theorem out2 : (dats m 0 c).arrAt 7 cfg0.N = val_main_v12 (F := Ideal) (iZ m c) (iW m c) (iC m c) := by
  rw [final7]
  unfold RG
  rw [hC, hY]
  exact funext fun i => ref_dg _ _ _ i

end Cert.Down
-- ==== Proof.Blocks.lean ====
/-
  Blocks stored and loaded whole, at any rank, and a sum over the rows taken by blocks of 1024.
-/
module

public import proofs.«01_k».proof.Proof.Sem

@[expose] public section

noncomputable section

namespace Cert.Blocks

open Idealize.ShloMosaic

/-- A block stored whole over anything reads back as what was stored. -/
theorem stored {sig : RefSig} {κ : Kind} {σ : Space} {s : Shape} {e : EltTy} (v : View sig κ σ s e) (f) (off : Fin s.rank → ℕ) (h0 : ∀ k, off k = 0)
    (inb) (X : s.Idx → Elt Ideal e) (ps) (y : s.Idx) :
    v.read (Elt Ideal) (v.writes (Elt Ideal) f (⟨Rect.unit (s := s) off s.size inb, X⟩ :: ps)) y = X y := by
  refine View.read_writes_cons_unit_of_mem v f inb _ ps y y rfl fun k => ?_
  show (y k).val = off k + (y k).val
  rw [h0 k, Nat.zero_add]

/-- A block loaded whole. -/
theorem loaded {sig : RefSig} {κ : Kind} {σ : Space} {s : Shape} {e : EltTy} (v : View sig κ σ s e) (f) (off : Fin s.rank → ℕ) (h0 : ∀ k, off k = 0)
    (inb) (y : s.Idx) :
    v.readAt (Elt Ideal) (Rect.unit (s := s) off s.size inb).toLoadRect f y = v.read (Elt Ideal) f y := by
  rw [View.readAt_apply]
  refine congrArg (v.read (Elt Ideal) f) ?_
  funext k
  apply Fin.ext
  show off k + 1 * (y k).val = (y k).val
  rw [h0 k]; omega

theorem zero2 : ∀ k : Fin 2, (![0, 0] : Fin 2 → ℕ) k = 0 := by decide
theorem zero3 : ∀ k : Fin 3, (![0, 0, 0] : Fin 3 → ℕ) k = 0 := by decide
theorem zero4 : ∀ k : Fin 4, (![0, 0, 0, 0] : Fin 4 → ℕ) k = 0 := by decide

theorem mem_of_emb {sig : RefSig} {κ : Kind} {σ : Space} {s : Shape} {e : EltTy} (v : View sig κ σ s e) (y : s.Idx) (i : v.ty.Idx) (he : v.emb y = i) :
    i ∈ v.set := by
  subst he
  exact View.emb_mem_set _ _

/-- Row `r` of row block `s`. -/
abbrev row (s : Fin 8) (r : Fin 1024) : Fin 8192 := ⟨1024 * s.val + r.val, by omega⟩

theorem sum_blocks (f : Fin 8192 → EReal) : ∑ n : Fin 8192, f n = ∑ s : Fin 8, ∑ r : Fin 1024, f (row s r) := by
  rw [← Fintype.sum_prod_type' (fun (s : Fin 8) (r : Fin 1024) => f (row s r))]
  refine (Fintype.sum_equiv ⟨fun p : Fin 8 × Fin 1024 => row p.1 p.2,
    fun n => (⟨n.val / 1024, by omega⟩, ⟨n.val % 1024, by omega⟩), fun p => ?_, fun n => ?_⟩ _ _ fun p => rfl).symm
  · exact Prod.ext (Fin.ext (by show (1024 * p.1.val + p.2.val) / 1024 = p.1.val; omega))
      (Fin.ext (by show (1024 * p.1.val + p.2.val) % 1024 = p.2.val; omega))
  · exact Fin.ext (by show 1024 * (n.val / 1024) + n.val % 1024 = n.val; omega)

/-- The eight blocks' sums, added in order from zero, are the sum over all rows. -/
theorem sum_range (f : Fin 8192 → EReal) :
    ∑ s ∈ Finset.range 8, ∑ r : Fin 1024, f (row ⟨s % 8, Nat.mod_lt _ (by omega)⟩ r) = ∑ n : Fin 8192, f n := by
  rw [sum_blocks, ← Fin.sum_univ_eq_sum_range (fun s => ∑ r : Fin 1024, f (row ⟨s % 8, Nat.mod_lt _ (by omega)⟩ r)) 8]
  refine Finset.sum_congr rfl fun s _ => ?_
  rw [show (⟨s.val % 8, Nat.mod_lt _ (by omega)⟩ : Fin 8) = s from Fin.ext (Nat.mod_eq_of_lt s.isLt)]

end Cert.Blocks
-- ==== Proof.GradIn.lean ====
/-
  The gradient of the MLP's first weights: what the call leaves in its part of the slab.
-/
module

public import proofs.«01_k».proof.Proof.Blocks
public import proofs.«01_k».proof.Proof.Gen.Kernel3Ideal.Frame

@[expose] public section

set_option maxRecDepth 16384

noncomputable section

namespace Cert.GradIn

open Idealize.ShloMosaic Idealize.ShloMosaic.TcCoe Cert.Kernel3Ideal Cert.Kernel3Ideal.Gen Cert.Blocks

theorem pay1 (k n : Fin 1024) : (k0_pay1 : FVec Ideal S1024x1024 .f32) (ix2 k n) = 0 := by
  unfold k0_pay1
  pointwise

theorem pay2 (o : Vec Ideal S1024x1024 .f32) (a : Vec Ideal S1024x1024 .bf16) (b : Vec Ideal S1x1024x1024 .bf16) (k n : Fin 1024) :
    k0_pay2 o a b (ix2 k n) = o (ix2 k n) + ∑ r : Fin 1024, a (ix2 r k) * b (ix3 0 r n) := by
  unfold k0_pay2
  pointwise

theorem pay3 (o : Vec Ideal S1024x1024 .f32) (k n : Fin 1024) : k0_pay3 o (ix4 0 0 k n) = o (ix2 k n) := by
  unfold k0_pay3
  pointwise

variable (c : Dev nD) (i : grid0.Coords) (arg3 : Memref sig .tc .vmem S1024x1024 .bf16) (harg3 : arg3.IsWhole) (arg4 : Memref sig .tc .vmem S1x1024x1024 .bf16) (harg4 : arg4.IsWhole) (arg6 : Memref sig .tc .vmem S1x1x1024x1024 .f32) (harg6 : arg6.IsWhole) (arg7 : Memref sig .tc .vmem S1024x1024 .f32) (harg7 : arg7.IsWhole)
    (x0 : Vec Ideal S1024x1024 .bf16) (x1 : Vec Ideal S1x1024x1024 .bf16) (xs : Vec Ideal S1024x1024 .f32)

theorem accA (hc0 : cond0_0 i) (hc1 : ¬cond0_1 i) (k n : Fin 1024) :
    sout0_A_0 c i arg3 harg3 arg4 harg4 arg6 harg6 arg7 harg7 hc0 hc1 x0 x1 (ix2 k n) = 0 + ∑ r : Fin 1024, x0 (ix2 r k) * x1 (ix3 0 r n) := by
  unfold sout0_A_0 kernelRun0_A
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans ((stored _ _ _ zero2 _ _ [] _).trans (pay1 k n))
  · exact (loaded _ _ _ zero2 _ _).trans (congrFun (harg3.read_unread x0) _)
  · exact (loaded _ _ _ zero3 _ _).trans (congrFun (harg4.read_unread x1) _)

theorem accB (hc0 : ¬cond0_0 i) (hc1 : ¬cond0_1 i) (k n : Fin 1024) :
    sout0_B_0 c i arg3 harg3 arg4 harg4 arg6 harg6 arg7 harg7 hc0 hc1 x0 x1 xs (ix2 k n) = xs (ix2 k n) + ∑ r : Fin 1024, x0 (ix2 r k) * x1 (ix3 0 r n) := by
  unfold sout0_B_0 kernelRun0_B
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

theorem accC (hc0 : ¬cond0_0 i) (hc1 : cond0_1 i) (k n : Fin 1024) :
    sout0_C_0 c i arg3 harg3 arg4 harg4 arg6 harg6 arg7 harg7 hc0 hc1 x0 x1 xs (ix2 k n) = xs (ix2 k n) + ∑ r : Fin 1024, x0 (ix2 r k) * x1 (ix3 0 r n) := by
  unfold sout0_C_0 kernelRun0_C
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

theorem outC (hc0 : ¬cond0_0 i) (hc1 : cond0_1 i) (k n : Fin 1024) :
    out0_C_2 c i arg3 harg3 arg4 harg4 arg6 harg6 arg7 harg7 hc0 hc1 x0 x1 xs (ix4 0 0 k n) = xs (ix2 k n) + ∑ r : Fin 1024, x0 (ix2 r k) * x1 (ix3 0 r n) := by
  unfold out0_C_2 kernelRun0_C
  refine (stored VO0_2 _ _ zero4 _ _ _ _).trans ((pay3 _ k n).trans ?_)
  refine (loaded _ _ _ zero2 _ _).trans ((stored _ _ _ zero2 _ _ _ _).trans ((pay2 _ _ _ k n).trans ?_))
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

section Points
variable (m : (ℓ : Loc nD τ sig) → Buf (Elt Ideal) ℓ)

/-- The two factors as the call finds them. -/
abbrev aA (c : Dev nD) : Shape.Idx ⟨2, ![8192, 1024]⟩ → EReal := V m c main_v1
abbrev aB (c : Dev nD) : Shape.Idx ⟨3, ![1, 8192, 4096]⟩ → EReal := V m c main_v3

/-- The entries of the factors that meet in an entry of block `j` of the result. -/
abbrev ia (j : Fin 4) (q : Fin 8192) (k : Fin 1024) : Shape.Idx ⟨2, ![8192, 1024]⟩ := ix2 q k
abbrev ib (j : Fin 4) (q : Fin 8192) (n : Fin 1024) : Shape.Idx ⟨3, ![1, 8192, 4096]⟩ := ix3 0 q ⟨1024 * j.val + n.val, by omega⟩
abbrev ir (j : Fin 4) (k n : Fin 1024) : S4x2x3088x1024.Idx := ix4 j 0 ⟨1024 + k.val, by omega⟩ n

/-- What row block `s` adds to an entry of block `j`, and the entry. -/
def part (c : Dev nD) (j : Fin 4) (s : Fin 8) (k n : Fin 1024) : EReal :=
  ∑ r : Fin 1024, aA m c (ia j (row s r) k) * aB m c (ib j (row s r) n)
def full (c : Dev nD) (j : Fin 4) (k n : Fin 1024) : EReal := ∑ q : Fin 8192, aA m c (ia j q k) * aB m c (ib j q n)

theorem lt_N (t : Fin cfg0.N) : t.val < 32 := lt_of_lt_of_eq t.isLt N_0

/-- The result block and the row block of a grid point. -/
abbrev jb (t : Fin cfg0.N) : Fin 4 := ⟨t.val / 8, by have := lt_N t; omega⟩
abbrev sb (t : Fin cfg0.N) : Fin 8 := ⟨t.val % 8, by omega⟩

theorem tr0 : ∀ t : Fin grid0.N, cc0_transform_0 (grid0.coords t) 0 = t.val % 8 ∧ cc0_transform_0 (grid0.coords t) 1 = 0 := by
  decide +kernel
theorem tr1 : ∀ t : Fin grid0.N, cc0_transform_1 (grid0.coords t) 0 = 0 ∧ cc0_transform_1 (grid0.coords t) 1 = t.val % 8
    ∧ cc0_transform_1 (grid0.coords t) 2 = t.val / 8 := by
  decide +kernel
theorem tr2 : ∀ t : Fin grid0.N, cc0_transform_3 (grid0.coords t) 0 = t.val / 8 ∧ cc0_transform_3 (grid0.coords t) 1 = 0 ∧ cc0_transform_3 (grid0.coords t) 2 = 1 ∧ cc0_transform_3 (grid0.coords t) 3 = 0 := by
  decide +kernel

theorem iblk0 (c : Dev nD) (t : Fin cfg0.N) (r k : Fin 1024) : iblk m c 0 t (ix2 r k) = aA m c (ia (jb t) (row (sb t) r) k) := by
  show V m c main_v1 (((cfg0.win 0).blk t).view.emb (ix2 r k)) = _
  refine congrArg (V m c main_v1) ?_
  obtain ⟨h0, h1⟩ := tr0 t
  funext a
  match a with
  | ⟨0, _⟩ =>
    apply Fin.ext
    show cc0_transform_0 (grid0.coords t) 0 * 1024 + 1 * r.val = 1024 * (t.val % 8) + r.val
    rw [h0]; omega
  | ⟨1, _⟩ =>
    apply Fin.ext
    show cc0_transform_0 (grid0.coords t) 1 * 1024 + 1 * k.val = k.val
    rw [h1]; omega

theorem iblk1 (c : Dev nD) (t : Fin cfg0.N) (r n : Fin 1024) : iblk m c 1 t (ix3 0 r n) = aB m c (ib (jb t) (row (sb t) r) n) := by
  show V m c main_v3 (((cfg0.win 1).blk t).view.emb (ix3 0 r n)) = _
  refine congrArg (V m c main_v3) ?_
  obtain ⟨h0, h1, h2⟩ := tr1 t
  funext a
  match a with
  | ⟨0, _⟩ =>
    apply Fin.ext
    show cc0_transform_1 (grid0.coords t) 0 * 1 + 1 * 0 = 0
    rw [h0]
  | ⟨1, _⟩ =>
    apply Fin.ext
    show cc0_transform_1 (grid0.coords t) 1 * 1024 + 1 * r.val = 1024 * (t.val % 8) + r.val
    rw [h1]; omega
  | ⟨2, _⟩ =>
    apply Fin.ext
    show cc0_transform_1 (grid0.coords t) 2 * 1024 + 1 * n.val = 1024 * (t.val / 8) + n.val
    rw [h2]; omega

theorem step (c : Dev nD) (t : Fin cfg0.N) (k n : Fin 1024) :
    (outsAt0 m c t.val t.isLt).2 (ix2 k n)
      = (if t.val % 8 = 0 then 0 else (outsAt0 m c (t.val - 1) (Nat.lt_of_le_of_lt (Nat.sub_le _ _) t.isLt)).2 (ix2 k n))
        + part m c (jb t) (sb t) k n := by
  unfold part
  simp only [← iblk0 m c t, ← iblk1 m c t]
  by_cases h0 : t.val % 8 = 0
  · have h1 : ¬t.val % 8 = 7 := by omega
    rw [outsAt0_A m c t h0 h1, if_pos h0]; dsimp only
    exact accA c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) k n
  · by_cases h1 : t.val % 8 = 7
    · rw [outsAt0_C m c t h0 h1, if_neg h0]; dsimp only
      exact accC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n
    · rw [outsAt0_B m c t h0 h1, if_neg h0]; dsimp only
      exact accB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) (fun h => h1 ((hcond0_1 t).mp h)) k n

/-- At a result block's last row block the stored entry is the accumulated one. -/
theorem out_acc (c : Dev nD) (t : Fin cfg0.N) (h1 : t.val % 8 = 7) (k n : Fin 1024) :
    (outsAt0 m c t.val t.isLt).1 (ix4 0 0 k n) = (outsAt0 m c t.val t.isLt).2 (ix2 k n) := by
  have h0 : ¬t.val % 8 = 0 := by omega
  rw [outsAt0_C m c t h0 h1]; dsimp only
  refine (outC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n).trans ?_
  exact (accC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n).symm

theorem upto (c : Dev nD) (j : Fin 4) (k n : Fin 1024) (s : ℕ) (hs : s < 8) (h : 8 * j.val + s < cfg0.N) :
    (outsAt0 m c (8 * j.val + s) h).2 (ix2 k n) = ∑ u ∈ Finset.range (s + 1), part m c j ⟨u % 8, Nat.mod_lt _ (by omega)⟩ k n := by
  have ej : jb ⟨8 * j.val + s, h⟩ = j := Fin.ext (by show (8 * j.val + s) / 8 = j.val; omega)
  have es : sb ⟨8 * j.val + s, h⟩ = ⟨s % 8, Nat.mod_lt _ (by omega)⟩ := Fin.ext (by show (8 * j.val + s) % 8 = s % 8; omega)
  induction s with
  | zero =>
    rw [step m c ⟨8 * j.val + 0, h⟩ k n, if_pos (by show (8 * j.val + 0) % 8 = 0; omega), zero_add, ej, es, Finset.sum_range_one]
  | succ s ih =>
    rw [step m c ⟨8 * j.val + (s + 1), h⟩ k n, if_neg (by show ¬(8 * j.val + (s + 1)) % 8 = 0; omega), ej, es, Finset.sum_range_succ,
      ← ih (by omega) (by omega) (Fin.ext (by show (8 * j.val + s) / 8 = j.val; omega)) (Fin.ext (by show (8 * j.val + s) % 8 = s % 8; omega))]
    rfl

theorem pnt (c : Dev nD) (t : Fin cfg0.N) (h1 : t.val % 8 = 7) (k n : Fin 1024) :
    (outsAt0 m c t.val t.isLt).1 (ix4 0 0 k n) = full m c (jb t) k n := by
  rw [out_acc m c t h1 k n]
  have e (x : ℕ) (hx : x < cfg0.N) (ex : t.val = x) : (outsAt0 m c t.val t.isLt).2 (ix2 k n) = (outsAt0 m c x hx).2 (ix2 k n) := by
    subst ex; rfl
  have hv : t.val = 8 * (jb t).val + 7 := by show t.val = 8 * (t.val / 8) + 7; omega
  refine (e (8 * (jb t).val + 7) (hv ▸ t.isLt) hv).trans ((upto m c (jb t) k n 7 (by omega) _).trans ?_)
  exact sum_range fun q => aA m c (ia (jb t) q k) * aB m c (ib (jb t) q n)

/-- The result where the call writes it. -/
def R (c : Dev nD) : S4x2x3088x1024.Idx → EReal := fun i => full m c (i 0) ⟨((i 2).val - 1024) % 1024, by omega⟩ (i 3)

/-- A grid point's block of the result lies inside the array: nothing of it is cut off. -/
theorem whole : ∀ t : Fin grid0.N, ∀ a, win0_2.xsize (grid0.coords t) a = S1x1x1024x1024.size a := by
  decide +kernel

abbrev blockIdx (t : Fin cfg0.N) (y : ((cfg0.win 2).xblock (cfg0.grid.coords t)).Idx) : S1x1x1024x1024.Idx := (cfg0.win 2).xinj (cfg0.grid.coords t) y

theorem emb (t : Fin cfg0.N) (y : ((cfg0.win 2).xblock (cfg0.grid.coords t)).Idx) :
    (((cfg0.win 2).blk t).view.emb y : S4x2x3088x1024.Idx) = ir (jb t) (blockIdx t y 2) (blockIdx t y 3) := by
  obtain ⟨h0, h1, h2, h3⟩ := tr2 t
  have hz := fun a => (blockIdx t y a).isLt
  funext a
  match a with
  | ⟨0, _⟩ =>
    apply Fin.ext
    show cc0_transform_3 (grid0.coords t) 0 * 1 + 1 * (y 0).val = t.val / 8
    have : (y 0).val < 1 := hz 0
    rw [h0]; omega
  | ⟨1, _⟩ =>
    apply Fin.ext
    show cc0_transform_3 (grid0.coords t) 1 * 1 + 1 * (y 1).val = 0
    have : (y 1).val < 1 := hz 1
    rw [h1]; omega
  | ⟨2, _⟩ =>
    apply Fin.ext
    show cc0_transform_3 (grid0.coords t) 2 * 1024 + 1 * (y 2).val = 1024 + (y 2).val
    rw [h2]; omega
  | ⟨3, _⟩ =>
    apply Fin.ext
    show cc0_transform_3 (grid0.coords t) 3 * 1024 + 1 * (y 3).val = (y 3).val
    rw [h3]; omega

theorem o_eta (y : S1x1x1024x1024.Idx) : y = ix4 0 0 (y 2) (y 3) := by
  funext k
  match k with
  | ⟨0, _⟩ => exact Subsingleton.elim (α := Fin 1) _ _
  | ⟨1, _⟩ => exact Subsingleton.elim (α := Fin 1) _ _
  | ⟨2, _⟩ => rfl
  | ⟨3, _⟩ => rfl

theorem R_at (c : Dev nD) (j : Fin 4) (k n : Fin 1024) : R m c (ir j k n) = full m c j k n := by
  show full m c j ⟨(1024 + k.val - 1024) % 1024, _⟩ n = full m c j k n
  exact congrArg (fun k => full m c j k n) (Fin.ext (by show (1024 + k.val - 1024) % 1024 = k.val; omega))

theorem flushed (c : Dev nD) (t : Fin cfg0.N) (ht : t.val % 8 = 7) :
    (dats m 0 c).flushed 2 t = ((cfg0.win 2).blk t).view.read (Elt Ideal) (R m c) := by
  show (cfg0.win 2).cut (cfg0.grid.coords t) ((dats m 0 c).after 2 t) = _
  rw [after0_2]
  funext y
  show (outsAt0 m c t.val t.isLt).1 (blockIdx t y) = R m c (((cfg0.win 2).blk t).view.emb y)
  rw [o_eta (blockIdx t y)]
  refine (pnt m c t ht _ _).trans ?_
  exact ((R_at m c (jb t) _ _).symm).trans (congrArg (R m c) (emb t y)).symm

/-- The cell of a grid point's block in row `k` and column `n`. -/
def cell (t : Fin cfg0.N) (k n : Fin 1024) : ((cfg0.win 2).xblock (cfg0.grid.coords t)).Idx :=
  fun a => ⟨((ix4 0 0 k n : S1x1x1024x1024.Idx) a).val, by
    have h : (win0_2.xblock (grid0.coords t)).size a = S1x1x1024x1024.size a := whole t a
    exact lt_of_lt_of_eq ((ix4 0 0 k n : S1x1x1024x1024.Idx) a).isLt h.symm⟩

theorem final (c : Dev nD) (j : Fin 4) (k n : Fin 1024) : (dats m 0 c).arrAt 2 cfg0.N (ir j k n) = full m c j k n := by
  have hN : cfg0.N = 32 := N_0
  have ht : 8 * j.val + 7 < cfg0.N := by omega
  refine Eq.trans ?_ (R_at m c j k n)
  refine (dats m 0 c).arrAt_apply_of_mem 2 (R m c) (fun t hf => flushed m c t ((flush0_2 t).mp hf)) cfg0.N ⟨8 * j.val + 7, ht⟩ (ir j k n) ht
    ((flush0_2 _).mpr (by show (8 * j.val + 7) % 8 = 7; omega)) ?_
  refine mem_of_emb _ (cell ⟨8 * j.val + 7, ht⟩ k n) _ ((emb ⟨8 * j.val + 7, ht⟩ (cell ⟨8 * j.val + 7, ht⟩ k n)).trans ?_)
  exact congrArg (fun j => ir j k n) (Fin.ext (by show (8 * j.val + 7) / 8 = j.val; omega))

end Points

end Cert.GradIn
-- ==== Proof.GradInValue.lean ====
/-
  The gradient of the MLP's first weights: the host lines after the call take the layer's rows out of the slab, and they are
  the reference's.
-/
module

public import Idealize.ShloMosaic.Lib.StableHlo.RunRead
public import proofs.«01_k».proof.Proof.GradIn
public import proofs.«01_k».proof.Proof.Gen.Reference3Ideal.Read

@[expose] public section

set_option maxRecDepth 16384

noncomputable section

namespace Cert.GradIn

open Idealize.ShloMosaic Idealize.ShloMosaic.TcCoe Idealize.ShloMosaic.StableHlo Cert.Kernel3Ideal Cert.Kernel3Ideal.Gen Cert.Reference3Ideal.Read

variable (m : (ℓ : Loc nD τ sig) → Buf (Elt Ideal) ℓ) (c : Dev nD)

/-- The normalised input and the cotangent of the pre-activation a core holds at launch. -/
abbrev iH : (⟨Cert.Reference3Ideal.S8192x1024, .f32⟩ : BufTy).Contents (Elt Ideal) := m ((c.tc : Thread nD τ).loc main_arg0)
abbrev iZ : (⟨Cert.Reference3Ideal.S8192x4096, .f32⟩ : BufTy).Contents (Elt Ideal) := m ((c.tc : Thread nD τ).loc main_arg1)

theorem hA : aA m c = iH m c := by
  show after hostOps0 (fun b => m (c, b)) (Proc.devRef .tc main_v1) = _
  simp only [hostOps0]
  after_results <;> rfl

theorem hB : aB m c = broadcastInDim (s := S8192x4096) S1x8192x4096 ![1, 2] bcast_S8192x4096_S1x8192x4096_1_2 (iZ m c) := by
  show after hostOps0 (fun b => m (c, b)) (Proc.devRef .tc main_v3) = _
  simp only [hostOps0]
  after_results <;> rfl

theorem hB_at (q : Fin 8192) (n : Fin 4096) : aB m c (ix3 0 q n) = iZ m c (@ix2 8192 4096 q n) := by
  rw [hB]
  refine broadcastInDim_apply _ _ _ _ _ fun a => ?_
  match a with
  | ⟨0, _⟩ => rfl
  | ⟨1, _⟩ => rfl

/-- The lines after the call, on the slab. -/
def taken (x : S4x2x3088x1024.Idx → EReal) : S1024x4096.Idx → EReal :=
  shapeCast S1024x4096 (transpose S1024x4x1024 [1, 0, 2] (shapeCast S4x1024x1024 (extractStridedSlice S4x1x1024x1024 ![0, 0, 1024, 0] x
    slices_S4x2x3088x1024_S4x1x1024x1024_0_0_1024_0) shapeCasts_S4x1x1024x1024_S4x1024x1024) transposes_S4x1024x1024_S1024x4x1024_1_0_2) shapeCasts_S1024x4x1024_S1024x4096

theorem tail (V : Valuation τ sig (Elt Ideal)) :
    after (List.flatten [hostOps1]) V (Proc.devRef .tc main_v8) = taken (V (Proc.devRef .tc main_v4)) := by
  show after hostOps1 V (Proc.devRef .tc main_v8) = _
  simp only [hostOps1]
  after_results <;> rfl

theorem taken_at (x : S4x2x3088x1024.Idx → EReal) (j : Fin 4) (k n : Fin 1024) :
    taken x (@ix2 1024 4096 k ⟨1024 * j.val + n.val, by omega⟩) = x (ir j k n) := by
  unfold taken
  refine (shapeCast_apply _ _ _ (@ix3 1024 4 1024 k j n) ?_).trans ?_
  · rw [Shape.rowMajor_val_three, Shape.rowMajor_val_two]
    show (k.val * 4 + j.val) * 1024 + n.val = k.val * 4096 + (1024 * j.val + n.val)
    omega
  refine (transpose_apply _ _ _ _ (@ix3 4 1024 1024 j k n) fun b => ?_).trans ?_
  · match b with
    | ⟨0, _⟩ => rfl
    | ⟨1, _⟩ => rfl
    | ⟨2, _⟩ => rfl
  refine (shapeCast_apply _ _ _ (@ix4 4 1 1024 1024 j 0 k n) ?_).trans ?_
  · rw [Shape.rowMajor_val_four, Shape.rowMajor_val_three]
    show ((j.val * 1 + 0) * 1024 + k.val) * 1024 + n.val = (j.val * 1024 + k.val) * 1024 + n.val
    omega
  refine extractStridedSlice_apply _ _ _ _ _ fun a => ?_
  match a with
  | ⟨0, _⟩ => exact (Nat.zero_add _).symm
  | ⟨1, _⟩ => rfl
  | ⟨2, _⟩ => rfl
  | ⟨3, _⟩ => exact (Nat.zero_add _).symm

theorem ref_at (x0 : (⟨Cert.Reference3Ideal.S8192x1024, .f32⟩ : BufTy).Contents (Elt Ideal))
    (x1 : (⟨Cert.Reference3Ideal.S8192x4096, .f32⟩ : BufTy).Contents (Elt Ideal)) (k : Fin 1024) (n : Fin 4096) :
    val_main_v3 (F := Ideal) x0 x1 (@ix2 1024 4096 k n) = ∑ q : Fin 8192, x0 (@ix2 8192 1024 q k) * x1 (@ix2 8192 4096 q n) := by
  rw [val_main_v3_apply, val_main_v2_apply]
  refine Finset.sum_congr rfl fun q _ => (mul_comm _ _).trans (congrArg₂ (· * ·) (congrArg x0 ?_) (congrArg x1 ?_)) <;>
    · funext a
      match a with
      | ⟨0, _⟩ => rfl
      | ⟨1, _⟩ => rfl

/-- The result after the last line is the reference's gradient. -/
theorem out : Pipeline.afterTail₀ cfgs (dats m) 0 (V0 m) [hostOps1] c main_v8 = val_main_v3 (F := Ideal) (iH m c) (iZ m c) := by
  refine (tail (Pipeline.withArrays spec0 c (V0 m c) fun w => (dats m 0 c).arrAt w cfg0.N)).trans ?_
  rw [show Pipeline.withArrays spec0 c (V0 m c) (fun w => (dats m 0 c).arrAt w cfg0.N) (Proc.devRef .tc main_v4) = (dats m 0 c).arrAt 2 cfg0.N from
    Pipeline.withArrays_arr spec0 (by decide) c (V0 m c) _ 2]
  funext i
  obtain ⟨k, p, rfl⟩ : ∃ (k : Fin 1024) (p : Fin 4096), i = ix2 k p := ⟨i 0, i 1, eq_ix2 i⟩
  obtain ⟨j, n, rfl⟩ : ∃ (j : Fin 4) (n : Fin 1024), p = ⟨1024 * j.val + n.val, by omega⟩ :=
    ⟨⟨p.val / 1024, by omega⟩, ⟨p.val % 1024, by omega⟩, Fin.ext (by show p.val = 1024 * (p.val / 1024) + p.val % 1024; omega)⟩
  rw [taken_at]
  refine Eq.trans (α := EReal) (final m c j k n) ?_
  rw [ref_at]
  unfold full
  rw [hA]
  exact Finset.sum_congr rfl fun q _ => congrArg (_ * ·) (hB_at m c q _)

end Cert.GradIn
-- ==== Proof.GradOut.lean ====
/-
  The gradient of the MLP's second weights: what the call leaves in its part of the slab.
-/
module

public import proofs.«01_k».proof.Proof.Blocks
public import proofs.«01_k».proof.Proof.Gen.Kernel4Ideal.Frame

@[expose] public section

set_option maxRecDepth 16384

noncomputable section

namespace Cert.GradOut

open Idealize.ShloMosaic Idealize.ShloMosaic.TcCoe Cert.Kernel4Ideal Cert.Kernel4Ideal.Gen Cert.Blocks

theorem pay1 (k n : Fin 1024) : (k0_pay1 : FVec Ideal S1024x1024 .f32) (ix2 k n) = 0 := by
  unfold k0_pay1
  pointwise

theorem pay2 (o : Vec Ideal S1024x1024 .f32) (a : Vec Ideal S1024x1024 .bf16) (b : Vec Ideal S1x1024x1024 .bf16) (k n : Fin 1024) :
    k0_pay2 o a b (ix2 k n) = o (ix2 k n) + ∑ r : Fin 1024, a (ix2 r k) * b (ix3 0 r n) := by
  unfold k0_pay2
  pointwise

theorem pay3 (o : Vec Ideal S1024x1024 .f32) (k n : Fin 1024) : k0_pay3 o (ix4 0 0 k n) = o (ix2 k n) := by
  unfold k0_pay3
  pointwise

variable (c : Dev nD) (i : grid0.Coords) (arg3 : Memref sig .tc .vmem S1024x1024 .bf16) (harg3 : arg3.IsWhole) (arg4 : Memref sig .tc .vmem S1x1024x1024 .bf16) (harg4 : arg4.IsWhole) (arg6 : Memref sig .tc .vmem S1x1x1024x1024 .f32) (harg6 : arg6.IsWhole) (arg7 : Memref sig .tc .vmem S1024x1024 .f32) (harg7 : arg7.IsWhole)
    (x0 : Vec Ideal S1024x1024 .bf16) (x1 : Vec Ideal S1x1024x1024 .bf16) (xs : Vec Ideal S1024x1024 .f32)

theorem accA (hc0 : cond0_0 i) (hc1 : ¬cond0_1 i) (k n : Fin 1024) :
    sout0_A_0 c i arg3 harg3 arg4 harg4 arg6 harg6 arg7 harg7 hc0 hc1 x0 x1 (ix2 k n) = 0 + ∑ r : Fin 1024, x0 (ix2 r k) * x1 (ix3 0 r n) := by
  unfold sout0_A_0 kernelRun0_A
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans ((stored _ _ _ zero2 _ _ [] _).trans (pay1 k n))
  · exact (loaded _ _ _ zero2 _ _).trans (congrFun (harg3.read_unread x0) _)
  · exact (loaded _ _ _ zero3 _ _).trans (congrFun (harg4.read_unread x1) _)

theorem accB (hc0 : ¬cond0_0 i) (hc1 : ¬cond0_1 i) (k n : Fin 1024) :
    sout0_B_0 c i arg3 harg3 arg4 harg4 arg6 harg6 arg7 harg7 hc0 hc1 x0 x1 xs (ix2 k n) = xs (ix2 k n) + ∑ r : Fin 1024, x0 (ix2 r k) * x1 (ix3 0 r n) := by
  unfold sout0_B_0 kernelRun0_B
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

theorem accC (hc0 : ¬cond0_0 i) (hc1 : cond0_1 i) (k n : Fin 1024) :
    sout0_C_0 c i arg3 harg3 arg4 harg4 arg6 harg6 arg7 harg7 hc0 hc1 x0 x1 xs (ix2 k n) = xs (ix2 k n) + ∑ r : Fin 1024, x0 (ix2 r k) * x1 (ix3 0 r n) := by
  unfold sout0_C_0 kernelRun0_C
  refine (stored VS0_0 _ _ zero2 _ _ _ _).trans ((pay2 _ _ _ k n).trans ?_)
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

theorem outC (hc0 : ¬cond0_0 i) (hc1 : cond0_1 i) (k n : Fin 1024) :
    out0_C_2 c i arg3 harg3 arg4 harg4 arg6 harg6 arg7 harg7 hc0 hc1 x0 x1 xs (ix4 0 0 k n) = xs (ix2 k n) + ∑ r : Fin 1024, x0 (ix2 r k) * x1 (ix3 0 r n) := by
  unfold out0_C_2 kernelRun0_C
  refine (stored VO0_2 _ _ zero4 _ _ _ _).trans ((pay3 _ k n).trans ?_)
  refine (loaded _ _ _ zero2 _ _).trans ((stored _ _ _ zero2 _ _ _ _).trans ((pay2 _ _ _ k n).trans ?_))
  refine congrArg₂ (· + ·) ?_ (Finset.sum_congr rfl fun r _ => congrArg₂ (· * ·) ?_ ?_)
  · exact (loaded _ _ _ zero2 _ _).trans (congrFun (harg7.read_unread xs) _)
  · exact (loaded _ _ _ zero2 _ _).trans (congrFun (harg3.read_unread x0) _)
  · exact (loaded _ _ _ zero3 _ _).trans (congrFun (harg4.read_unread x1) _)

section Points
variable (m : (ℓ : Loc nD τ sig) → Buf (Elt Ideal) ℓ)

/-- The two factors as the call finds them. -/
abbrev aA (c : Dev nD) : Shape.Idx ⟨2, ![8192, 4096]⟩ → EReal := V m c main_v4
abbrev aB (c : Dev nD) : Shape.Idx ⟨3, ![1, 8192, 1024]⟩ → EReal := V m c main_v6

/-- The entries of the factors that meet in an entry of block `j` of the result. -/
abbrev ia (j : Fin 4) (q : Fin 8192) (k : Fin 1024) : Shape.Idx ⟨2, ![8192, 4096]⟩ := ix2 q ⟨1024 * j.val + k.val, by omega⟩
abbrev ib (j : Fin 4) (q : Fin 8192) (n : Fin 1024) : Shape.Idx ⟨3, ![1, 8192, 1024]⟩ := ix3 0 q n
abbrev ir (j : Fin 4) (k n : Fin 1024) : S4x2x3088x1024.Idx := ix4 j 1 ⟨1024 + k.val, by omega⟩ n

/-- What row block `s` adds to an entry of block `j`, and the entry. -/
def part (c : Dev nD) (j : Fin 4) (s : Fin 8) (k n : Fin 1024) : EReal :=
  ∑ r : Fin 1024, aA m c (ia j (row s r) k) * aB m c (ib j (row s r) n)
def full (c : Dev nD) (j : Fin 4) (k n : Fin 1024) : EReal := ∑ q : Fin 8192, aA m c (ia j q k) * aB m c (ib j q n)

theorem lt_N (t : Fin cfg0.N) : t.val < 32 := lt_of_lt_of_eq t.isLt N_0

/-- The result block and the row block of a grid point. -/
abbrev jb (t : Fin cfg0.N) : Fin 4 := ⟨t.val / 8, by have := lt_N t; omega⟩
abbrev sb (t : Fin cfg0.N) : Fin 8 := ⟨t.val % 8, by omega⟩

theorem tr0 : ∀ t : Fin grid0.N, cc0_transform_0 (grid0.coords t) 0 = t.val % 8 ∧ cc0_transform_0 (grid0.coords t) 1 = t.val / 8 := by
  decide +kernel
theorem tr1 : ∀ t : Fin grid0.N, cc0_transform_1 (grid0.coords t) 0 = 0 ∧ cc0_transform_1 (grid0.coords t) 1 = t.val % 8
    ∧ cc0_transform_1 (grid0.coords t) 2 = 0 := by
  decide +kernel
theorem tr2 : ∀ t : Fin grid0.N, cc0_transform_3 (grid0.coords t) 0 = t.val / 8 ∧ cc0_transform_3 (grid0.coords t) 1 = 1 ∧ cc0_transform_3 (grid0.coords t) 2 = 1 ∧ cc0_transform_3 (grid0.coords t) 3 = 0 := by
  decide +kernel

theorem iblk0 (c : Dev nD) (t : Fin cfg0.N) (r k : Fin 1024) : iblk m c 0 t (ix2 r k) = aA m c (ia (jb t) (row (sb t) r) k) := by
  show V m c main_v4 (((cfg0.win 0).blk t).view.emb (ix2 r k)) = _
  refine congrArg (V m c main_v4) ?_
  obtain ⟨h0, h1⟩ := tr0 t
  funext a
  match a with
  | ⟨0, _⟩ =>
    apply Fin.ext
    show cc0_transform_0 (grid0.coords t) 0 * 1024 + 1 * r.val = 1024 * (t.val % 8) + r.val
    rw [h0]; omega
  | ⟨1, _⟩ =>
    apply Fin.ext
    show cc0_transform_0 (grid0.coords t) 1 * 1024 + 1 * k.val = 1024 * (t.val / 8) + k.val
    rw [h1]; omega

theorem iblk1 (c : Dev nD) (t : Fin cfg0.N) (r n : Fin 1024) : iblk m c 1 t (ix3 0 r n) = aB m c (ib (jb t) (row (sb t) r) n) := by
  show V m c main_v6 (((cfg0.win 1).blk t).view.emb (ix3 0 r n)) = _
  refine congrArg (V m c main_v6) ?_
  obtain ⟨h0, h1, h2⟩ := tr1 t
  funext a
  match a with
  | ⟨0, _⟩ =>
    apply Fin.ext
    show cc0_transform_1 (grid0.coords t) 0 * 1 + 1 * 0 = 0
    rw [h0]
  | ⟨1, _⟩ =>
    apply Fin.ext
    show cc0_transform_1 (grid0.coords t) 1 * 1024 + 1 * r.val = 1024 * (t.val % 8) + r.val
    rw [h1]; omega
  | ⟨2, _⟩ =>
    apply Fin.ext
    show cc0_transform_1 (grid0.coords t) 2 * 1024 + 1 * n.val = n.val
    rw [h2]; omega

theorem step (c : Dev nD) (t : Fin cfg0.N) (k n : Fin 1024) :
    (outsAt0 m c t.val t.isLt).2 (ix2 k n)
      = (if t.val % 8 = 0 then 0 else (outsAt0 m c (t.val - 1) (Nat.lt_of_le_of_lt (Nat.sub_le _ _) t.isLt)).2 (ix2 k n))
        + part m c (jb t) (sb t) k n := by
  unfold part
  simp only [← iblk0 m c t, ← iblk1 m c t]
  by_cases h0 : t.val % 8 = 0
  · have h1 : ¬t.val % 8 = 7 := by omega
    rw [outsAt0_A m c t h0 h1, if_pos h0]; dsimp only
    exact accA c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) k n
  · by_cases h1 : t.val % 8 = 7
    · rw [outsAt0_C m c t h0 h1, if_neg h0]; dsimp only
      exact accC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n
    · rw [outsAt0_B m c t h0 h1, if_neg h0]; dsimp only
      exact accB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) (fun h => h1 ((hcond0_1 t).mp h)) k n

/-- At a result block's last row block the stored entry is the accumulated one. -/
theorem out_acc (c : Dev nD) (t : Fin cfg0.N) (h1 : t.val % 8 = 7) (k n : Fin 1024) :
    (outsAt0 m c t.val t.isLt).1 (ix4 0 0 k n) = (outsAt0 m c t.val t.isLt).2 (ix2 k n) := by
  have h0 : ¬t.val % 8 = 0 := by omega
  rw [outsAt0_C m c t h0 h1]; dsimp only
  refine (outC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n).trans ?_
  exact (accC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) k n).symm

theorem upto (c : Dev nD) (j : Fin 4) (k n : Fin 1024) (s : ℕ) (hs : s < 8) (h : 8 * j.val + s < cfg0.N) :
    (outsAt0 m c (8 * j.val + s) h).2 (ix2 k n) = ∑ u ∈ Finset.range (s + 1), part m c j ⟨u % 8, Nat.mod_lt _ (by omega)⟩ k n := by
  have ej : jb ⟨8 * j.val + s, h⟩ = j := Fin.ext (by show (8 * j.val + s) / 8 = j.val; omega)
  have es : sb ⟨8 * j.val + s, h⟩ = ⟨s % 8, Nat.mod_lt _ (by omega)⟩ := Fin.ext (by show (8 * j.val + s) % 8 = s % 8; omega)
  induction s with
  | zero =>
    rw [step m c ⟨8 * j.val + 0, h⟩ k n, if_pos (by show (8 * j.val + 0) % 8 = 0; omega), zero_add, ej, es, Finset.sum_range_one]
  | succ s ih =>
    rw [step m c ⟨8 * j.val + (s + 1), h⟩ k n, if_neg (by show ¬(8 * j.val + (s + 1)) % 8 = 0; omega), ej, es, Finset.sum_range_succ,
      ← ih (by omega) (by omega) (Fin.ext (by show (8 * j.val + s) / 8 = j.val; omega)) (Fin.ext (by show (8 * j.val + s) % 8 = s % 8; omega))]
    rfl

theorem pnt (c : Dev nD) (t : Fin cfg0.N) (h1 : t.val % 8 = 7) (k n : Fin 1024) :
    (outsAt0 m c t.val t.isLt).1 (ix4 0 0 k n) = full m c (jb t) k n := by
  rw [out_acc m c t h1 k n]
  have e (x : ℕ) (hx : x < cfg0.N) (ex : t.val = x) : (outsAt0 m c t.val t.isLt).2 (ix2 k n) = (outsAt0 m c x hx).2 (ix2 k n) := by
    subst ex; rfl
  have hv : t.val = 8 * (jb t).val + 7 := by show t.val = 8 * (t.val / 8) + 7; omega
  refine (e (8 * (jb t).val + 7) (hv ▸ t.isLt) hv).trans ((upto m c (jb t) k n 7 (by omega) _).trans ?_)
  exact sum_range fun q => aA m c (ia (jb t) q k) * aB m c (ib (jb t) q n)

/-- The result where the call writes it. -/
def R (c : Dev nD) : S4x2x3088x1024.Idx → EReal := fun i => full m c (i 0) ⟨((i 2).val - 1024) % 1024, by omega⟩ (i 3)

/-- A grid point's block of the result lies inside the array: nothing of it is cut off. -/
theorem whole : ∀ t : Fin grid0.N, ∀ a, win0_2.xsize (grid0.coords t) a = S1x1x1024x1024.size a := by
  decide +kernel

abbrev blockIdx (t : Fin cfg0.N) (y : ((cfg0.win 2).xblock (cfg0.grid.coords t)).Idx) : S1x1x1024x1024.Idx := (cfg0.win 2).xinj (cfg0.grid.coords t) y

theorem emb (t : Fin cfg0.N) (y : ((cfg0.win 2).xblock (cfg0.grid.coords t)).Idx) :
    (((cfg0.win 2).blk t).view.emb y : S4x2x3088x1024.Idx) = ir (jb t) (blockIdx t y 2) (blockIdx t y 3) := by
  obtain ⟨h0, h1, h2, h3⟩ := tr2 t
  have hz := fun a => (blockIdx t y a).isLt
  funext a
  match a with
  | ⟨0, _⟩ =>
    apply Fin.ext
    show cc0_transform_3 (grid0.coords t) 0 * 1 + 1 * (y 0).val = t.val / 8
    have : (y 0).val < 1 := hz 0
    rw [h0]; omega
  | ⟨1, _⟩ =>
    apply Fin.ext
    show cc0_transform_3 (grid0.coords t) 1 * 1 + 1 * (y 1).val = 1
    have : (y 1).val < 1 := hz 1
    rw [h1]; omega
  | ⟨2, _⟩ =>
    apply Fin.ext
    show cc0_transform_3 (grid0.coords t) 2 * 1024 + 1 * (y 2).val = 1024 + (y 2).val
    rw [h2]; omega
  | ⟨3, _⟩ =>
    apply Fin.ext
    show cc0_transform_3 (grid0.coords t) 3 * 1024 + 1 * (y 3).val = (y 3).val
    rw [h3]; omega

theorem o_eta (y : S1x1x1024x1024.Idx) : y = ix4 0 0 (y 2) (y 3) := by
  funext k
  match k with
  | ⟨0, _⟩ => exact Subsingleton.elim (α := Fin 1) _ _
  | ⟨1, _⟩ => exact Subsingleton.elim (α := Fin 1) _ _
  | ⟨2, _⟩ => rfl
  | ⟨3, _⟩ => rfl

theorem R_at (c : Dev nD) (j : Fin 4) (k n : Fin 1024) : R m c (ir j k n) = full m c j k n := by
  show full m c j ⟨(1024 + k.val - 1024) % 1024, _⟩ n = full m c j k n
  exact congrArg (fun k => full m c j k n) (Fin.ext (by show (1024 + k.val - 1024) % 1024 = k.val; omega))

theorem flushed (c : Dev nD) (t : Fin cfg0.N) (ht : t.val % 8 = 7) :
    (dats m 0 c).flushed 2 t = ((cfg0.win 2).blk t).view.read (Elt Ideal) (R m c) := by
  show (cfg0.win 2).cut (cfg0.grid.coords t) ((dats m 0 c).after 2 t) = _
  rw [after0_2]
  funext y
  show (outsAt0 m c t.val t.isLt).1 (blockIdx t y) = R m c (((cfg0.win 2).blk t).view.emb y)
  rw [o_eta (blockIdx t y)]
  refine (pnt m c t ht _ _).trans ?_
  exact ((R_at m c (jb t) _ _).symm).trans (congrArg (R m c) (emb t y)).symm

/-- The cell of a grid point's block in row `k` and column `n`. -/
def cell (t : Fin cfg0.N) (k n : Fin 1024) : ((cfg0.win 2).xblock (cfg0.grid.coords t)).Idx :=
  fun a => ⟨((ix4 0 0 k n : S1x1x1024x1024.Idx) a).val, by
    have h : (win0_2.xblock (grid0.coords t)).size a = S1x1x1024x1024.size a := whole t a
    exact lt_of_lt_of_eq ((ix4 0 0 k n : S1x1x1024x1024.Idx) a).isLt h.symm⟩

theorem final (c : Dev nD) (j : Fin 4) (k n : Fin 1024) : (dats m 0 c).arrAt 2 cfg0.N (ir j k n) = full m c j k n := by
  have hN : cfg0.N = 32 := N_0
  have ht : 8 * j.val + 7 < cfg0.N := by omega
  refine Eq.trans ?_ (R_at m c j k n)
  refine (dats m 0 c).arrAt_apply_of_mem 2 (R m c) (fun t hf => flushed m c t ((flush0_2 t).mp hf)) cfg0.N ⟨8 * j.val + 7, ht⟩ (ir j k n) ht
    ((flush0_2 _).mpr (by show (8 * j.val + 7) % 8 = 7; omega)) ?_
  refine mem_of_emb _ (cell ⟨8 * j.val + 7, ht⟩ k n) _ ((emb ⟨8 * j.val + 7, ht⟩ (cell ⟨8 * j.val + 7, ht⟩ k n)).trans ?_)
  exact congrArg (fun j => ir j k n) (Fin.ext (by show (8 * j.val + 7) / 8 = j.val; omega))

end Points

end Cert.GradOut
-- ==== Proof.GradOutValue.lean ====
/-
  The gradient of the MLP's second weights: the host lines after the call take the layer's rows out of the slab, and they are
  the reference's.
-/
module

public import Idealize.ShloMosaic.Lib.StableHlo.RunRead
public import proofs.«01_k».proof.Proof.GradOut
public import proofs.«01_k».proof.Proof.Gen.Reference4Ideal.Read

@[expose] public section

set_option maxRecDepth 16384

noncomputable section

namespace Cert.GradOut

open Idealize.ShloMosaic Idealize.ShloMosaic.TcCoe Idealize.ShloMosaic.StableHlo Cert.Kernel4Ideal Cert.Kernel4Ideal.Gen Cert.Reference4Ideal.Read

variable (m : (ℓ : Loc nD τ sig) → Buf (Elt Ideal) ℓ) (c : Dev nD)

/-- The pre-activation and the cotangent of the layer's output a core holds at launch. -/
abbrev iZ : (⟨Cert.Reference4Ideal.S8192x4096, .f32⟩ : BufTy).Contents (Elt Ideal) := m ((c.tc : Thread nD τ).loc main_arg0)
abbrev iY : (⟨Cert.Reference4Ideal.S8192x1024, .f32⟩ : BufTy).Contents (Elt Ideal) := m ((c.tc : Thread nD τ).loc main_arg1)

theorem hA : aA m c = val_main_v2 (F := Ideal) (iZ m c) := by
  show after hostOps0 (fun b => m (c, b)) (Proc.devRef .tc main_v4) = _
  simp only [hostOps0]
  after_results <;> rfl

theorem hB : aB m c = broadcastInDim (s := S8192x1024) S1x8192x1024 ![1, 2] bcast_S8192x1024_S1x8192x1024_1_2 (iY m c) := by
  show after hostOps0 (fun b => m (c, b)) (Proc.devRef .tc main_v6) = _
  simp only [hostOps0]
  after_results <;> rfl

theorem hB_at (q : Fin 8192) (n : Fin 1024) : aB m c (ix3 0 q n) = iY m c (@ix2 8192 1024 q n) := by
  rw [hB]
  refine broadcastInDim_apply _ _ _ _ _ fun a => ?_
  match a with
  | ⟨0, _⟩ => rfl
  | ⟨1, _⟩ => rfl

/-- The lines after the call, on the slab. -/
def taken (x : S4x2x3088x1024.Idx → EReal) : S4096x1024.Idx → EReal :=
  shapeCast S4096x1024 (shapeCast S4x1024x1024 (extractStridedSlice S4x1x1024x1024 ![0, 1, 1024, 0] x
    slices_S4x2x3088x1024_S4x1x1024x1024_0_1_1024_0) shapeCasts_S4x1x1024x1024_S4x1024x1024) shapeCasts_S4x1024x1024_S4096x1024

theorem tail (V : Valuation τ sig (Elt Ideal)) :
    after (List.flatten [hostOps1]) V (Proc.devRef .tc main_v10) = taken (V (Proc.devRef .tc main_v7)) := by
  show after hostOps1 V (Proc.devRef .tc main_v10) = _
  simp only [hostOps1]
  after_results <;> rfl

theorem taken_at (x : S4x2x3088x1024.Idx → EReal) (j : Fin 4) (k n : Fin 1024) :
    taken x (@ix2 4096 1024 ⟨1024 * j.val + k.val, by omega⟩ n) = x (ir j k n) := by
  unfold taken
  refine (shapeCast_apply _ _ _ (@ix3 4 1024 1024 j k n) ?_).trans ?_
  · rw [Shape.rowMajor_val_three, Shape.rowMajor_val_two]
    show (j.val * 1024 + k.val) * 1024 + n.val = (1024 * j.val + k.val) * 1024 + n.val
    omega
  refine (shapeCast_apply _ _ _ (@ix4 4 1 1024 1024 j 0 k n) ?_).trans ?_
  · rw [Shape.rowMajor_val_four, Shape.rowMajor_val_three]
    show ((j.val * 1 + 0) * 1024 + k.val) * 1024 + n.val = (j.val * 1024 + k.val) * 1024 + n.val
    omega
  refine extractStridedSlice_apply _ _ _ _ _ fun a => ?_
  match a with
  | ⟨0, _⟩ => exact (Nat.zero_add _).symm
  | ⟨1, _⟩ => rfl
  | ⟨2, _⟩ => rfl
  | ⟨3, _⟩ => exact (Nat.zero_add _).symm

theorem ref_at (x0 : (⟨Cert.Reference4Ideal.S8192x4096, .f32⟩ : BufTy).Contents (Elt Ideal))
    (x1 : (⟨Cert.Reference4Ideal.S8192x1024, .f32⟩ : BufTy).Contents (Elt Ideal)) (k : Fin 4096) (n : Fin 1024) :
    val_main_v5 (F := Ideal) x0 x1 (@ix2 4096 1024 k n) = ∑ q : Fin 8192, val_main_v2 (F := Ideal) x0 (@ix2 8192 4096 q k) * x1 (@ix2 8192 1024 q n) := by
  rw [val_main_v5_apply, val_main_v4_apply]
  refine Finset.sum_congr rfl fun q _ => (mul_comm _ _).trans (congrArg₂ (· * ·) (congrArg (val_main_v2 (F := Ideal) x0) ?_) (congrArg x1 ?_)) <;>
    · funext a
      match a with
      | ⟨0, _⟩ => rfl
      | ⟨1, _⟩ => rfl

/-- The result after the last line is the reference's gradient. -/
theorem out : Pipeline.afterTail₀ cfgs (dats m) 0 (V0 m) [hostOps1] c main_v10 = val_main_v5 (F := Ideal) (iZ m c) (iY m c) := by
  refine (tail (Pipeline.withArrays spec0 c (V0 m c) fun w => (dats m 0 c).arrAt w cfg0.N)).trans ?_
  rw [show Pipeline.withArrays spec0 c (V0 m c) (fun w => (dats m 0 c).arrAt w cfg0.N) (Proc.devRef .tc main_v7) = (dats m 0 c).arrAt 2 cfg0.N from
    Pipeline.withArrays_arr spec0 (by decide) c (V0 m c) _ 2]
  funext i
  obtain ⟨p, n, rfl⟩ : ∃ (p : Fin 4096) (n : Fin 1024), i = ix2 p n := ⟨i 0, i 1, eq_ix2 i⟩
  obtain ⟨j, k, rfl⟩ : ∃ (j : Fin 4) (k : Fin 1024), p = ⟨1024 * j.val + k.val, by omega⟩ :=
    ⟨⟨p.val / 1024, by omega⟩, ⟨p.val % 1024, by omega⟩, Fin.ext (by show p.val = 1024 * (p.val / 1024) + p.val % 1024; omega)⟩
  rw [taken_at]
  refine Eq.trans (α := EReal) (final m c j k n) ?_
  rw [ref_at]
  unfold full
  rw [hA]
  exact Finset.sum_congr rfl fun q _ => congrArg (_ * ·) (hB_at m c q _)

end Cert.GradOut
-- ==== Proof.Up.lean ====
/-
  The up-projection's backward call: what one grid point leaves in its four output blocks.
-/
module

public import proofs.«01_k».proof.Proof.Blocks
public import proofs.«01_k».proof.Proof.Gen.Kernel5Ideal.Frame

@[expose] public section

set_option maxRecDepth 16384

noncomputable section

namespace Cert.Up

open Idealize.ShloMosaic Idealize.ShloMosaic.TcCoe Cert.Kernel5Ideal Cert.Kernel5Ideal.Gen Cert.Blocks

/-- The two constants of the mean and of the root: the row's length, and what keeps the root off zero. -/
abbrev cK : EReal := Ideal.ofBits .f32 0x44800000#32
abbrev cE : EReal := Ideal.ofBits .f32 0x358637BD#32
abbrev c1 : EReal := Ideal.ofBits .f32 0x3F800000#32

theorem pay4 (d : Fin 1024) : (k0_pay4 : FVec Ideal S1x1024 .f32) (ix2 0 d) = 0 := by
  unfold k0_pay4
  pointwise

theorem pay5 (d : Fin 1024) : (k0_pay5 : FVec Ideal S1x1024 .f32) (ix2 0 d) = 0 := by
  unfold k0_pay5
  pointwise

theorem pay6 (d : Fin 1024) : (k0_pay6 : FVec Ideal S1x1024 .f32) (ix2 0 d) = 0 := by
  unfold k0_pay6
  pointwise

theorem pay7 (z : Vec Ideal S1x512x4096 .bf16) (w : Vec Ideal S1024x4096 .bf16) (r : Fin 512) (d : Fin 1024) :
    k0_pay7 z w (ix2 r d) = ∑ n : Fin 4096, z (ix3 0 r n) * w (ix2 d n) := by
  unfold k0_pay7
  pointwise

theorem pay8 (x : Vec Ideal S512x1024 .f32) (r : Fin 512) :
    k0_pay8 x (ix2 r 0) = Ideal.rsqrt (Ideal.div (∑ d : Fin 1024, x (ix2 r d) * x (ix2 r d)) cK + cE) := by
  unfold k0_pay8
  pointwise

theorem pay9 (x : Vec Ideal S512x1024 .f32) (r : Fin 512) (d : Fin 1024) :
    k0_pay9 x (ix2 r d) = x (ix2 r d) * k0_pay8 x (ix2 r 0) := by
  unfold k0_pay9
  generalize k0_pay8 x = y
  pointwise

theorem pay10 (z : Vec Ideal S1x512x4096 .bf16) (w : Vec Ideal S1024x4096 .bf16) (s : Vec Ideal S1x1024 .f32) (r : Fin 512) (d : Fin 1024) :
    k0_pay10 z w s (ix2 r d) = k0_pay7 z w (ix2 r d) * (c1 + s (ix2 0 d)) := by
  unfold k0_pay10
  generalize k0_pay7 z w = y
  pointwise

theorem pay11 (z : Vec Ideal S1x512x4096 .bf16) (w : Vec Ideal S1024x4096 .bf16) (x : Vec Ideal S512x1024 .f32) (n o : Vec Ideal S1x1024 .f32) (d : Fin 1024) :
    k0_pay11 z w x n o (ix2 0 d) = o (ix2 0 d) + ∑ r : Fin 512, k0_pay7 z w (ix2 r d) * (k0_pay9 x (ix2 r d) * n (ix2 0 d)) := by
  unfold k0_pay11
  generalize k0_pay7 z w = y
  generalize k0_pay9 x = u
  pointwise

theorem pay1 (y : FVec Ideal S512x1024 .f32) (o : Vec Ideal S1x1024 .f32) (d : Fin 1024) :
    k0_pay1 y o (ix2 0 d) = o (ix2 0 d) + ∑ r : Fin 512, y (ix2 r d) := by
  unfold k0_pay1
  pointwise

theorem pay2 (u y : FVec Ideal S512x1024 .f32) (o : Vec Ideal S1x1024 .f32) (d : Fin 1024) :
    k0_pay2 u y o (ix2 0 d) = o (ix2 0 d) + ∑ r : Fin 512, y (ix2 r d) * u (ix2 r d) := by
  unfold k0_pay2
  pointwise

theorem pay3 (n : Vec Ideal S1x1024 .f32) (s : FVec Ideal S512x1 .f32) (u y : FVec Ideal S512x1024 .f32) (o : Vec Ideal S512x1024 .f32) (r : Fin 512) (d : Fin 1024) :
    k0_pay3 n s u y o (ix2 r d) = o (ix2 r d) + s (ix2 r 0) * (y (ix2 r d) * n (ix2 0 d)
      - u (ix2 r d) * Ideal.div (∑ e : Fin 1024, y (ix2 r e) * n (ix2 0 e) * u (ix2 r e)) cK) := by
  unfold k0_pay3
  pointwise

/-- A block loaded whole from what holds it. -/
theorem load2 {sig : RefSig} {e : EltTy} {a b : ℕ} (v : Memref sig .tc .vmem ⟨2, ![a, b]⟩ e) (hv : v.IsWhole) (inb) (x : Shape.Idx ⟨2, ![a, b]⟩ → Elt Ideal e) :
    v.view.readAt (Elt Ideal) (Rect.unit (s := ⟨2, ![a, b]⟩) ![0, 0] ![a, b] inb).toLoadRect (hv.unread x) = x :=
  funext fun y => (loaded _ _ _ zero2 _ _).trans (congrFun (hv.read_unread x) y)

theorem load3 {sig : RefSig} {e : EltTy} {a b d : ℕ} (v : Memref sig .tc .vmem ⟨3, ![a, b, d]⟩ e) (hv : v.IsWhole) (inb) (x : Shape.Idx ⟨3, ![a, b, d]⟩ → Elt Ideal e) :
    v.view.readAt (Elt Ideal) (Rect.unit (s := ⟨3, ![a, b, d]⟩) ![0, 0, 0] ![a, b, d] inb).toLoadRect (hv.unread x) = x :=
  funext fun y => (loaded _ _ _ zero3 _ _).trans (congrFun (hv.read_unread x) y)

variable (c : Dev nD) (i : grid0.Coords)
  (arg1 : Memref sig .tc .vmem S1x512x4096 .bf16) (harg1 : arg1.IsWhole) (arg2 : Memref sig .tc .vmem S1024x4096 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (x0 : Vec Ideal S1x512x4096 .bf16) (x1 : Vec Ideal S1024x4096 .bf16) (x2 : Vec Ideal S512x1024 .f32) (x3 x4 : Vec Ideal S1x1024 .f32) (x5 : Vec Ideal S512x1024 .f32)

theorem dxA (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5
      = k0_pay3 x3 (k0_pay8 x2) (k0_pay9 x2) (k0_pay10 x0 x1 x4) x5 := by
  unfold out0_A_6 kernelRun0_A
  refine (funext fun y => stored VO0_6 _ _ zero2 _ _ [] y).trans ?_
  unfold kernelRun0_A.sl.r_1 kernelRun0_A.sl.r_2 kernelRun0_A.sl.r_3 kernelRun0_A.sl.r_4
  simp only [load2, load3]

theorem dscA (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5
      = k0_pay11 x0 x1 x2 x3 (k0_pay4 (F := Ideal)) := by
  unfold out0_A_7 kernelRun0_A
  refine (funext fun y => stored VO0_7 _ _ zero2 _ _ _ y).trans ?_
  have e : kernelRun0_A.sl.v25 (F := Ideal) c arg8 = (k0_pay4 (F := Ideal) : S1x1024.Idx → Elt Ideal .f32) := by
    unfold kernelRun0_A.sl.v25 kernelRun0_A.sl.H7_1
    exact funext fun y => (loaded _ _ _ zero2 _ _).trans (stored _ _ _ zero2 _ _ [] y)
  simp only [load2, load3, e]

theorem dshA (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5
      = k0_pay1 (k0_pay7 x0 x1) (k0_pay5 (F := Ideal)) := by
  unfold out0_A_8 kernelRun0_A
  refine (funext fun y => stored VO0_8 _ _ zero2 _ _ _ y).trans ?_
  have e : kernelRun0_A.sl.v34 (F := Ideal) c arg9 = (k0_pay5 (F := Ideal) : S1x1024.Idx → Elt Ideal .f32) := by
    unfold kernelRun0_A.sl.v34 kernelRun0_A.sl.H8_1
    exact funext fun y => (loaded _ _ _ zero2 _ _).trans (stored _ _ _ zero2 _ _ [] y)
  unfold kernelRun0_A.sl.r
  simp only [load2, load3, e]

theorem dnwA (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5
      = k0_pay2 (k0_pay9 x2) (k0_pay10 x0 x1 x4) (k0_pay6 (F := Ideal)) := by
  unfold out0_A_9 kernelRun0_A
  refine (funext fun y => stored VO0_9 _ _ zero2 _ _ _ y).trans ?_
  have e : kernelRun0_A.sl.v40 (F := Ideal) c arg10 = (k0_pay6 (F := Ideal) : S1x1024.Idx → Elt Ideal .f32) := by
    unfold kernelRun0_A.sl.v40 kernelRun0_A.sl.H9_1
    exact funext fun y => (loaded _ _ _ zero2 _ _).trans (stored _ _ _ zero2 _ _ [] y)
  unfold kernelRun0_A.sl.r_3 kernelRun0_A.sl.r_4
  simp only [load2, load3, e]

theorem dxB (hc0 : ¬cond0_0 i) (xo7 xo8 xo9 : Vec Ideal S1x1024 .f32) :
    out0_B_6 c i arg1 harg1 arg2 harg2 arg3 harg3 arg4 harg4 arg5 harg5 arg6 harg6 arg7 harg7 arg8 harg8 arg9 harg9 arg10 harg10 hc0 x0 x1 x2 x3 x4 x5 xo7 xo8 xo9
      = k0_pay3 x3 (k0_pay8 x2) (k0_pay9 x2) (k0_pay10 x0 x1 x4) x5 := by
  unfold out0_B_6 kernelRun0_B
  refine (funext fun y => stored VO0_6 _ _ zero2 _ _ _ y).trans ?_
  unfold kernelRun0_B.sl.r_1 kernelRun0_B.sl.r_2 kernelRun0_B.sl.r_3 kernelRun0_B.sl.r_4
  simp only [load2, load3]

theorem dscB (hc0 : ¬cond0_0 i) (xo7 xo8 xo9 : Vec Ideal S1x1024 .f32) :
    out0_B_7 c i arg1 harg1 arg2 harg2 arg3 harg3 arg4 harg4 arg5 harg5 arg6 harg6 arg7 harg7 arg8 harg8 arg9 harg9 arg10 harg10 hc0 x0 x1 x2 x3 x4 x5 xo7 xo8 xo9
      = k0_pay11 x0 x1 x2 x3 xo7 := by
  unfold out0_B_7 kernelRun0_B
  refine (funext fun y => stored VO0_7 _ _ zero2 _ _ _ y).trans ?_
  simp only [load2, load3]

theorem dshB (hc0 : ¬cond0_0 i) (xo7 xo8 xo9 : Vec Ideal S1x1024 .f32) :
    out0_B_8 c i arg1 harg1 arg2 harg2 arg3 harg3 arg4 harg4 arg5 harg5 arg6 harg6 arg7 harg7 arg8 harg8 arg9 harg9 arg10 harg10 hc0 x0 x1 x2 x3 x4 x5 xo7 xo8 xo9
      = k0_pay1 (k0_pay7 x0 x1) xo8 := by
  unfold out0_B_8 kernelRun0_B
  refine (funext fun y => stored VO0_8 _ _ zero2 _ _ _ y).trans ?_
  unfold kernelRun0_B.sl.r
  simp only [load2, load3]

theorem dnwB (hc0 : ¬cond0_0 i) (xo7 xo8 xo9 : Vec Ideal S1x1024 .f32) :
    out0_B_9 c i arg1 harg1 arg2 harg2 arg3 harg3 arg4 harg4 arg5 harg5 arg6 harg6 arg7 harg7 arg8 harg8 arg9 harg9 arg10 harg10 hc0 x0 x1 x2 x3 x4 x5 xo7 xo8 xo9
      = k0_pay2 (k0_pay9 x2) (k0_pay10 x0 x1 x4) xo9 := by
  unfold out0_B_9 kernelRun0_B
  refine (funext fun y => stored VO0_9 _ _ zero2 _ _ _ y).trans ?_
  unfold kernelRun0_B.sl.r_3 kernelRun0_B.sl.r_4
  simp only [load2, load3]

end Cert.Up
-- ==== Proof.UpFinal.lean ====
/-
  The up-projection's backward call: what its four arrays hold when it ends.
-/
module

public import proofs.«01_k».proof.Proof.Up
public import proofs.«01_k».proof.Proof.DownFinal

@[expose] public section

set_option maxRecDepth 16384

noncomputable section

namespace Cert.Up

open Idealize.ShloMosaic Idealize.ShloMosaic.TcCoe Cert.Kernel5Ideal Cert.Kernel5Ideal.Gen

variable (m : (ℓ : Loc nD τ sig) → Buf (Elt Ideal) ℓ)

/-- The cotangent, the weights, the residual stream, the norm's weight, the scale and the residual's cotangent as the call finds them. -/
abbrev aZ (c : Dev nD) : Shape.Idx ⟨3, ![1, 8192, 4096]⟩ → EReal := V m c main_v1
abbrev aW (c : Dev nD) : Shape.Idx ⟨2, ![1024, 4096]⟩ → EReal := V m c main_v2
abbrev aX (c : Dev nD) : Shape.Idx ⟨2, ![8192, 1024]⟩ → EReal := V m c main_arg2
abbrev aN (c : Dev nD) : Shape.Idx ⟨2, ![1, 1024]⟩ → EReal := V m c main_arg3
abbrev aS (c : Dev nD) : Shape.Idx ⟨2, ![1, 1024]⟩ → EReal := V m c main_arg4
abbrev aO (c : Dev nD) : Shape.Idx ⟨2, ![8192, 1024]⟩ → EReal := V m c main_arg5

theorem coords_val : ∀ t : Fin grid0.N, (grid0.coords t 0).val = t.val := by
  decide +kernel

theorem iblk0 (c : Dev nD) (t : Fin cfg0.N) (r : Fin 512) (n : Fin 4096) :
    iblk m c 0 t (ix3 0 r n) = aZ m c (ix3 0 (Down.row (grid0.coords t 0) r) n) := by
  show V m c main_v1 (((cfg0.win 0).blk t).view.emb (ix3 0 r n)) = _
  refine congrArg (V m c main_v1) ?_
  have h0 : (grid0.coords t 0).val < 16 := (grid0.coords t 0).isLt
  funext a
  match a with
  | ⟨0, _⟩ => rfl
  | ⟨1, _⟩ =>
    apply Fin.ext
    show (BitVec.ofNat 32 (grid0.coords t 0).val).toNat * 512 + 1 * r.val = 512 * (grid0.coords t 0).val + r.val
    rw [BitVec.toNat_ofNat]; omega
  | ⟨2, _⟩ =>
    apply Fin.ext
    show 0 * 4096 + 1 * n.val = n.val
    omega

theorem iblk1 (c : Dev nD) (t : Fin cfg0.N) (d : Fin 1024) (n : Fin 4096) :
    iblk m c 1 t (ix2 d n) = aW m c (ix2 d n) := by
  show V m c main_v2 (((cfg0.win 1).blk t).view.emb (ix2 d n)) = _
  refine congrArg (V m c main_v2) ?_
  funext a
  match a with
  | ⟨0, _⟩ =>
    apply Fin.ext
    show 0 * 1024 + 1 * d.val = d.val
    omega
  | ⟨1, _⟩ =>
    apply Fin.ext
    show 0 * 4096 + 1 * n.val = n.val
    omega

theorem iblk2 (c : Dev nD) (t : Fin cfg0.N) (r : Fin 512) (d : Fin 1024) :
    iblk m c 2 t (ix2 r d) = aX m c (ix2 (Down.row (grid0.coords t 0) r) d) := by
  show V m c main_arg2 (((cfg0.win 2).blk t).view.emb (ix2 r d)) = _
  refine congrArg (V m c main_arg2) ?_
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem iblk5 (c : Dev nD) (t : Fin cfg0.N) (r : Fin 512) (d : Fin 1024) :
    iblk m c 5 t (ix2 r d) = aO m c (ix2 (Down.row (grid0.coords t 0) r) d) := by
  show V m c main_arg5 (((cfg0.win 5).blk t).view.emb (ix2 r d)) = _
  refine congrArg (V m c main_arg5) ?_
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem iblk3 (c : Dev nD) (t : Fin cfg0.N) (d : Fin 1024) :
    iblk m c 3 t (ix2 0 d) = aN m c (ix2 0 d) := by
  show V m c main_arg3 (((cfg0.win 3).blk t).view.emb (ix2 0 d)) = _
  refine congrArg (V m c main_arg3) ?_
  funext a
  match a with
  | ⟨0, _⟩ => rfl
  | ⟨1, _⟩ =>
    apply Fin.ext
    show 0 * 1024 + 1 * d.val = d.val
    omega

theorem iblk4 (c : Dev nD) (t : Fin cfg0.N) (d : Fin 1024) :
    iblk m c 4 t (ix2 0 d) = aS m c (ix2 0 d) := by
  show V m c main_arg4 (((cfg0.win 4).blk t).view.emb (ix2 0 d)) = _
  refine congrArg (V m c main_arg4) ?_
  funext a
  match a with
  | ⟨0, _⟩ => rfl
  | ⟨1, _⟩ =>
    apply Fin.ext
    show 0 * 1024 + 1 * d.val = d.val
    omega

section Arrays
variable (z : Shape.Idx ⟨3, ![1, 8192, 4096]⟩ → EReal) (w : Shape.Idx ⟨2, ![1024, 4096]⟩ → EReal)
  (x : Shape.Idx ⟨2, ![8192, 1024]⟩ → EReal) (n s : Shape.Idx ⟨2, ![1, 1024]⟩ → EReal) (o : Shape.Idx ⟨2, ![8192, 1024]⟩ → EReal)

/-- The derivative of the modulated rows, the reciprocal root of a row, the normalized rows, and the derivative of the normed rows. -/
def H (r : Fin 8192) (d : Fin 1024) : EReal := ∑ k : Fin 4096, z (ix3 0 r k) * w (ix2 d k)
def R (r : Fin 8192) : EReal := Ideal.rsqrt (Ideal.div (∑ d : Fin 1024, x (ix2 r d) * x (ix2 r d)) cK + cE)
def X (r : Fin 8192) (d : Fin 1024) : EReal := x (ix2 r d) * R x r
def DN (r : Fin 8192) (d : Fin 1024) : EReal := H z w r d * (c1 + s (ix2 0 d))

/-- The four derivatives. -/
def DX (r : Fin 8192) (d : Fin 1024) : EReal :=
  o (ix2 r d) + R x r * (DN z w s r d * n (ix2 0 d)
    - X x r d * Ideal.div (∑ e : Fin 1024, DN z w s r e * n (ix2 0 e) * X x r e) cK)
def fsc (d : Fin 1024) (r : Fin 8192) : EReal := H z w r d * (X x r d * n (ix2 0 d))
def fsh (d : Fin 1024) (r : Fin 8192) : EReal := H z w r d
def fnw (d : Fin 1024) (r : Fin 8192) : EReal := DN z w s r d * X x r d

end Arrays

/-- What one block of rows adds to a sum over the rows. -/
def part (f : Fin 8192 → EReal) (t : Fin 16) : EReal := ∑ r : Fin 512, f (Down.row t r)

theorem sum_parts (f : Fin 8192 → EReal) : ∑ r : Fin 8192, f r = ∑ t ∈ Finset.range 16, part f ⟨t % 16, by omega⟩ := by
  rw [Down.sum_blocks, ← Fin.sum_univ_eq_sum_range (fun t => part f ⟨t % 16, by omega⟩) 16]
  refine Finset.sum_congr rfl fun t _ => ?_
  rw [show (⟨t.val % 16, by omega⟩ : Fin 16) = t from Fin.ext (Nat.mod_eq_of_lt t.isLt)]
  rfl

/-- A block set at the first point and added to at the others holds the sum of the points' shares. -/
theorem runs {N : ℕ} (hN : N = 16) (f : Fin 8192 → EReal) (S : (j : ℕ) → j < N → EReal)
    (h : ∀ (j : ℕ) (hj : j < N), S j hj
      = (if j % 16 = 0 then 0 else S (j - 1) (Nat.lt_of_le_of_lt (Nat.sub_le _ _) hj)) + part f ⟨j % 16, by omega⟩)
    (j : ℕ) (hj : j < N) : S j hj = ∑ t ∈ Finset.range (j + 1), part f ⟨t % 16, by omega⟩ := by
  induction j with
  | zero => rw [h 0 hj, if_pos (Nat.zero_mod _), zero_add, Finset.sum_range_one]
  | succ j ih =>
    rw [h (j + 1) hj, if_neg (by omega), Finset.sum_range_succ, ← ih (by omega)]
    rfl

theorem upto (f : Fin 8192 → EReal) (S : (j : ℕ) → j < cfg0.N → EReal)
    (h : ∀ t : Fin cfg0.N, S t.val t.isLt
      = (if t.val % 16 = 0 then 0 else S (t.val - 1) (Nat.lt_of_le_of_lt (Nat.sub_le _ _) t.isLt)) + part f (grid0.coords t 0))
    (j : ℕ) (hj : j < cfg0.N) : S j hj = ∑ t ∈ Finset.range (j + 1), part f ⟨t % 16, by omega⟩ := by
  refine runs N_0 f S (fun k hk => ?_) j hj
  have hN : cfg0.N = 16 := N_0
  have e : grid0.coords ⟨k, hk⟩ 0 = (⟨k % 16, Nat.mod_lt _ (by omega)⟩ : Fin 16) :=
    Fin.ext ((coords_val ⟨k, hk⟩).trans (Nat.mod_eq_of_lt (lt_of_lt_of_eq hk N_0)).symm)
  rw [← e]
  exact h ⟨k, hk⟩

section Block
variable (c : Dev nD) (t : Fin cfg0.N)

theorem blkH (r : Fin 512) (d : Fin 1024) :
    k0_pay7 (iblk m c 0 t) (iblk m c 1 t) (ix2 r d) = H (aZ m c) (aW m c) (Down.row (grid0.coords t 0) r) d := by
  unfold H
  simp only [← iblk0 m c t, ← iblk1 m c t]
  exact pay7 (iblk m c 0 t) (iblk m c 1 t) r d

theorem blkR (r : Fin 512) :
    k0_pay8 (iblk m c 2 t) (ix2 r 0) = R (aX m c) (Down.row (grid0.coords t 0) r) := by
  unfold R
  simp only [← iblk2 m c t]
  exact pay8 (iblk m c 2 t) r

theorem blkX (r : Fin 512) (d : Fin 1024) :
    k0_pay9 (iblk m c 2 t) (ix2 r d) = X (aX m c) (Down.row (grid0.coords t 0) r) d := by
  unfold X
  rw [← iblk2 m c t, ← blkR]
  exact pay9 (iblk m c 2 t) r d

theorem blkN (r : Fin 512) (d : Fin 1024) :
    k0_pay10 (iblk m c 0 t) (iblk m c 1 t) (iblk m c 4 t) (ix2 r d) = DN (aZ m c) (aW m c) (aS m c) (Down.row (grid0.coords t 0) r) d := by
  unfold DN
  rw [← iblk4 m c t, ← blkH]
  exact pay10 (iblk m c 0 t) (iblk m c 1 t) (iblk m c 4 t) r d

theorem blkDX (r : Fin 512) (d : Fin 1024) :
    k0_pay3 (iblk m c 3 t) (k0_pay8 (iblk m c 2 t)) (k0_pay9 (iblk m c 2 t)) (k0_pay10 (iblk m c 0 t) (iblk m c 1 t) (iblk m c 4 t)) (iblk m c 5 t) (ix2 r d)
      = DX (aZ m c) (aW m c) (aX m c) (aN m c) (aS m c) (aO m c) (Down.row (grid0.coords t 0) r) d := by
  unfold DX
  simp only [← iblk5 m c t, ← iblk3 m c t, ← blkR m c t, ← blkX m c t, ← blkN m c t]
  exact pay3 (iblk m c 3 t) _ _ _ (iblk m c 5 t) r d

theorem blkSC (o : Vec Ideal S1x1024 .f32) (d : Fin 1024) :
    k0_pay11 (iblk m c 0 t) (iblk m c 1 t) (iblk m c 2 t) (iblk m c 3 t) o (ix2 0 d)
      = o (ix2 0 d) + part (fsc (aZ m c) (aW m c) (aX m c) (aN m c) d) (grid0.coords t 0) := by
  unfold part fsc
  simp only [← iblk3 m c t, ← blkX m c t, ← blkH m c t]
  exact pay11 (iblk m c 0 t) (iblk m c 1 t) (iblk m c 2 t) (iblk m c 3 t) o d

theorem blkSH (o : Vec Ideal S1x1024 .f32) (d : Fin 1024) :
    k0_pay1 (k0_pay7 (iblk m c 0 t) (iblk m c 1 t)) o (ix2 0 d) = o (ix2 0 d) + part (fsh (aZ m c) (aW m c) d) (grid0.coords t 0) := by
  unfold part fsh
  simp only [← blkH m c t]
  exact pay1 _ o d

theorem blkNW (o : Vec Ideal S1x1024 .f32) (d : Fin 1024) :
    k0_pay2 (k0_pay9 (iblk m c 2 t)) (k0_pay10 (iblk m c 0 t) (iblk m c 1 t) (iblk m c 4 t)) o (ix2 0 d)
      = o (ix2 0 d) + part (fnw (aZ m c) (aW m c) (aX m c) (aS m c) d) (grid0.coords t 0) := by
  unfold part fnw
  simp only [← blkX m c t, ← blkN m c t]
  exact pay2 _ _ o d

end Block

theorem dx_pnt (c : Dev nD) (t : Fin cfg0.N) (r : Fin 512) (d : Fin 1024) :
    (outsAt0 m c t.val t.isLt).1 (ix2 r d) = DX (aZ m c) (aW m c) (aX m c) (aN m c) (aS m c) (aO m c) (Down.row (grid0.coords t 0) r) d := by
  refine Eq.trans ?_ (blkDX m c t r d)
  by_cases h0 : t.val % 16 = 0
  · rw [outsAt0_A m c t h0]; dsimp only; exact congrFun (dxA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)) (ix2 r d)
  · rw [outsAt0_B m c t h0]; dsimp only; exact congrFun (dxB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r d)

theorem sc_upto (c : Dev nD) (d : Fin 1024) (j : ℕ) (hj : j < cfg0.N) :
    (outsAt0 m c j hj).2.1 (ix2 0 d) = ∑ t ∈ Finset.range (j + 1), part (fsc (aZ m c) (aW m c) (aX m c) (aN m c) d) ⟨t % 16, by omega⟩ := by
  refine upto (fsc (aZ m c) (aW m c) (aX m c) (aN m c) d) (fun j hj => (outsAt0 m c j hj).2.1 (ix2 0 d)) (fun t => ?_) j hj
  by_cases h0 : t.val % 16 = 0
  · rw [if_pos h0]
    refine Eq.trans ?_ ((blkSC m c t (k0_pay4 (F := Ideal)) d).trans (congrArg (· + _) (pay4 d)))
    show (outsAt0 m c t.val t.isLt).2.1 (ix2 0 d) = _
    rw [outsAt0_A m c t h0]; dsimp only; exact congrFun (dscA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)) (ix2 0 d)
  · rw [if_neg h0]
    refine Eq.trans ?_ (blkSC m c t (outsAt0 m c (t.val - 1) (Nat.lt_of_le_of_lt (Nat.sub_le _ _) t.isLt)).2.1 d)
    show (outsAt0 m c t.val t.isLt).2.1 (ix2 0 d) = _
    rw [outsAt0_B m c t h0]; dsimp only; exact congrFun (dscB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 d)

theorem sh_upto (c : Dev nD) (d : Fin 1024) (j : ℕ) (hj : j < cfg0.N) :
    (outsAt0 m c j hj).2.2.1 (ix2 0 d) = ∑ t ∈ Finset.range (j + 1), part (fsh (aZ m c) (aW m c) d) ⟨t % 16, by omega⟩ := by
  refine upto (fsh (aZ m c) (aW m c) d) (fun j hj => (outsAt0 m c j hj).2.2.1 (ix2 0 d)) (fun t => ?_) j hj
  by_cases h0 : t.val % 16 = 0
  · rw [if_pos h0]
    refine Eq.trans ?_ ((blkSH m c t (k0_pay5 (F := Ideal)) d).trans (congrArg (· + _) (pay5 d)))
    show (outsAt0 m c t.val t.isLt).2.2.1 (ix2 0 d) = _
    rw [outsAt0_A m c t h0]; dsimp only; exact congrFun (dshA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)) (ix2 0 d)
  · rw [if_neg h0]
    refine Eq.trans ?_ (blkSH m c t (outsAt0 m c (t.val - 1) (Nat.lt_of_le_of_lt (Nat.sub_le _ _) t.isLt)).2.2.1 d)
    show (outsAt0 m c t.val t.isLt).2.2.1 (ix2 0 d) = _
    rw [outsAt0_B m c t h0]; dsimp only; exact congrFun (dshB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 d)

theorem nw_upto (c : Dev nD) (d : Fin 1024) (j : ℕ) (hj : j < cfg0.N) :
    (outsAt0 m c j hj).2.2.2 (ix2 0 d) = ∑ t ∈ Finset.range (j + 1), part (fnw (aZ m c) (aW m c) (aX m c) (aS m c) d) ⟨t % 16, by omega⟩ := by
  refine upto (fnw (aZ m c) (aW m c) (aX m c) (aS m c) d) (fun j hj => (outsAt0 m c j hj).2.2.2 (ix2 0 d)) (fun t => ?_) j hj
  by_cases h0 : t.val % 16 = 0
  · rw [if_pos h0]
    refine Eq.trans ?_ ((blkNW m c t (k0_pay6 (F := Ideal)) d).trans (congrArg (· + _) (pay6 d)))
    show (outsAt0 m c t.val t.isLt).2.2.2 (ix2 0 d) = _
    rw [outsAt0_A m c t h0]; dsimp only; exact congrFun (dnwA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0)) (ix2 0 d)
  · rw [if_neg h0]
    refine Eq.trans ?_ (blkNW m c t (outsAt0 m c (t.val - 1) (Nat.lt_of_le_of_lt (Nat.sub_le _ _) t.isLt)).2.2.2 d)
    show (outsAt0 m c t.val t.isLt).2.2.2 (ix2 0 d) = _
    rw [outsAt0_B m c t h0]; dsimp only; exact congrFun (dnwB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 0 d)

/-- The four results as arrays. -/
def RX (c : Dev nD) : S8192x1024.Idx → EReal := fun i => DX (aZ m c) (aW m c) (aX m c) (aN m c) (aS m c) (aO m c) (i 0) (i 1)
def RSC (c : Dev nD) : S1x1024.Idx → EReal := fun i => ∑ r : Fin 8192, fsc (aZ m c) (aW m c) (aX m c) (aN m c) (i 1) r
def RSH (c : Dev nD) : S1x1024.Idx → EReal := fun i => ∑ r : Fin 8192, fsh (aZ m c) (aW m c) (i 1) r
def RNW (c : Dev nD) : S1x1024.Idx → EReal := fun i => ∑ r : Fin 8192, fnw (aZ m c) (aW m c) (aX m c) (aS m c) (i 1) r

theorem ix_one (y : S1x1024.Idx) : y = ix2 0 (y 1) := by
  funext k
  match k with
  | ⟨0, _⟩ => exact Subsingleton.elim (α := Fin 1) _ _
  | ⟨1, _⟩ => rfl

theorem emb6 (t : Fin cfg0.N) (r : Fin 512) (d : Fin 1024) :
    (((cfg0.win 6).blk t).view.emb (ix2 r d) : S8192x1024.Idx) = ix2 (Down.row (grid0.coords t 0) r) d := by
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem flushed6 (c : Dev nD) (t : Fin cfg0.N) :
    (dats m 0 c).flushed 6 t = ((cfg0.win 6).blk t).view.read (Elt Ideal) (RX m c) := by
  show (cfg0.win 6).cut (cfg0.grid.coords t) ((dats m 0 c).after 6 t) = _
  rw [after0_6]
  funext (y : S512x1024.Idx)
  rw [← Down.ix_eta y]
  refine (dx_pnt m c t (y 0) (y 1)).trans ?_
  exact (congrArg (RX m c) (emb6 t (y 0) (y 1))).symm

theorem cover6 (i : S8192x1024.Idx) : ∃ t : Fin cfg0.N, (cfg0.win 6).flush t = true ∧ i ∈ ((cfg0.win 6).blk t).view.set := by
  have h0 : (i 0).val < 8192 := (i 0).isLt
  have hN : cfg0.N = 16 := N_0
  have ht : (i 0).val / 512 < cfg0.N := by omega
  have hr : (i 0).val % 512 < 512 := by omega
  refine ⟨⟨(i 0).val / 512, ht⟩, flush0_6 _, ?_⟩
  have e := emb6 ⟨(i 0).val / 512, ht⟩ ⟨(i 0).val % 512, hr⟩ (i 1)
  have e0 : grid0.coords ⟨(i 0).val / 512, ht⟩ 0 = (⟨(i 0).val / 512, by omega⟩ : Fin 16) := Fin.ext (coords_val _)
  have e1 := congrArg (fun t : Fin 16 => (ix2 (Down.row t ⟨(i 0).val % 512, hr⟩) (i 1) : S8192x1024.Idx)) e0
  have e2 := congrArg (fun n : Fin 8192 => (ix2 n (i 1) : S8192x1024.Idx)) (Down.row_eta (i 0) (by omega) hr)
  exact Blocks.mem_of_emb _ _ _ (e.trans (e1.trans (e2.trans (Down.ix_eta i))))

theorem final6 (c : Dev nD) : (dats m 0 c).arrAt 6 cfg0.N = RX m c :=
  (dats m 0 c).arrAt_eq_of_cover 6 (RX m c) (fun t _ => flushed6 m c t) cover6

theorem emb7 (t : Fin cfg0.N) (d : Fin 1024) :
    (((cfg0.win 7).blk t).view.emb (ix2 0 d) : S1x1024.Idx) = ix2 0 d := by
  funext a
  match a with
  | ⟨0, _⟩ => rfl
  | ⟨1, _⟩ =>
    apply Fin.ext
    show 0 * 1024 + 1 * d.val = d.val
    omega

theorem flushed7 (c : Dev nD) (t : Fin cfg0.N) (ht : t.val % 16 = 15) :
    (dats m 0 c).flushed 7 t = ((cfg0.win 7).blk t).view.read (Elt Ideal) (RSC m c) := by
  show (cfg0.win 7).cut (cfg0.grid.coords t) ((dats m 0 c).after 7 t) = _
  rw [after0_7]
  funext (y : S1x1024.Idx)
  rw [ix_one y]
  have hN : cfg0.N = 16 := N_0
  have hv : t.val + 1 = 16 := by have := t.isLt; omega
  refine ((sc_upto m c (y 1) t.val t.isLt).trans ?_).trans (congrArg (RSC m c) (emb7 t (y 1))).symm
  rw [hv]
  exact (sum_parts _).symm

theorem emb8 (t : Fin cfg0.N) (d : Fin 1024) :
    (((cfg0.win 8).blk t).view.emb (ix2 0 d) : S1x1024.Idx) = ix2 0 d := by
  funext a
  match a with
  | ⟨0, _⟩ => rfl
  | ⟨1, _⟩ =>
    apply Fin.ext
    show 0 * 1024 + 1 * d.val = d.val
    omega

theorem flushed8 (c : Dev nD) (t : Fin cfg0.N) (ht : t.val % 16 = 15) :
    (dats m 0 c).flushed 8 t = ((cfg0.win 8).blk t).view.read (Elt Ideal) (RSH m c) := by
  show (cfg0.win 8).cut (cfg0.grid.coords t) ((dats m 0 c).after 8 t) = _
  rw [after0_8]
  funext (y : S1x1024.Idx)
  rw [ix_one y]
  have hN : cfg0.N = 16 := N_0
  have hv : t.val + 1 = 16 := by have := t.isLt; omega
  refine ((sh_upto m c (y 1) t.val t.isLt).trans ?_).trans (congrArg (RSH m c) (emb8 t (y 1))).symm
  rw [hv]
  exact (sum_parts _).symm

theorem emb9 (t : Fin cfg0.N) (d : Fin 1024) :
    (((cfg0.win 9).blk t).view.emb (ix2 0 d) : S1x1024.Idx) = ix2 0 d := by
  funext a
  match a with
  | ⟨0, _⟩ => rfl
  | ⟨1, _⟩ =>
    apply Fin.ext
    show 0 * 1024 + 1 * d.val = d.val
    omega

theorem flushed9 (c : Dev nD) (t : Fin cfg0.N) (ht : t.val % 16 = 15) :
    (dats m 0 c).flushed 9 t = ((cfg0.win 9).blk t).view.read (Elt Ideal) (RNW m c) := by
  show (cfg0.win 9).cut (cfg0.grid.coords t) ((dats m 0 c).after 9 t) = _
  rw [after0_9]
  funext (y : S1x1024.Idx)
  rw [ix_one y]
  have hN : cfg0.N = 16 := N_0
  have hv : t.val + 1 = 16 := by have := t.isLt; omega
  refine ((nw_upto m c (y 1) t.val t.isLt).trans ?_).trans (congrArg (RNW m c) (emb9 t (y 1))).symm
  rw [hv]
  exact (sum_parts _).symm

theorem cover7 (i : S1x1024.Idx) : ∃ t : Fin cfg0.N, (cfg0.win 7).flush t = true ∧ i ∈ ((cfg0.win 7).blk t).view.set := by
  have hN : cfg0.N = 16 := N_0
  refine ⟨⟨15, by omega⟩, (flush0_7 _).mpr rfl, ?_⟩
  exact Blocks.mem_of_emb _ _ _ ((emb7 ⟨15, by omega⟩ (i 1)).trans (ix_one i).symm)

theorem final7 (c : Dev nD) : (dats m 0 c).arrAt 7 cfg0.N = RSC m c :=
  (dats m 0 c).arrAt_eq_of_cover 7 (RSC m c) (fun t hf => flushed7 m c t ((flush0_7 t).mp hf)) cover7

theorem cover8 (i : S1x1024.Idx) : ∃ t : Fin cfg0.N, (cfg0.win 8).flush t = true ∧ i ∈ ((cfg0.win 8).blk t).view.set := by
  have hN : cfg0.N = 16 := N_0
  refine ⟨⟨15, by omega⟩, (flush0_8 _).mpr rfl, ?_⟩
  exact Blocks.mem_of_emb _ _ _ ((emb8 ⟨15, by omega⟩ (i 1)).trans (ix_one i).symm)

theorem final8 (c : Dev nD) : (dats m 0 c).arrAt 8 cfg0.N = RSH m c :=
  (dats m 0 c).arrAt_eq_of_cover 8 (RSH m c) (fun t hf => flushed8 m c t ((flush0_8 t).mp hf)) cover8

theorem cover9 (i : S1x1024.Idx) : ∃ t : Fin cfg0.N, (cfg0.win 9).flush t = true ∧ i ∈ ((cfg0.win 9).blk t).view.set := by
  have hN : cfg0.N = 16 := N_0
  refine ⟨⟨15, by omega⟩, (flush0_9 _).mpr rfl, ?_⟩
  exact Blocks.mem_of_emb _ _ _ ((emb9 ⟨15, by omega⟩ (i 1)).trans (ix_one i).symm)

theorem final9 (c : Dev nD) : (dats m 0 c).arrAt 9 cfg0.N = RNW m c :=
  (dats m 0 c).arrAt_eq_of_cover 9 (RNW m c) (fun t hf => flushed9 m c t ((flush0_9 t).mp hf)) cover9

end Cert.Up
-- ==== Proof.UpNorm.lean ====
/-
  The norm's derivative along a row, over the extended reals: the form with the normalized row in it is the form with the
  root's derivative in it. The mean of the squares is either infinite, where both forms lose what they add, or a real number.
-/
module

public import proofs.«01_k».proof.Proof.Up

@[expose] public section

noncomputable section

namespace Cert.Up

open Idealize.ShloMosaic

/-- Minus one half. -/
abbrev cH : EReal := Ideal.ofBits .f32 0xBF000000#32

theorem cK_eq : cK = ((1024 : ℝ) : EReal) := by
  simp [cK, Ideal.ofBits, Ideal.ieee, -EReal.coe_mul]; norm_num

theorem cH_eq : cH = ((-(1 / 2) : ℝ) : EReal) := by
  simp [cH, Ideal.ofBits, Ideal.ieee, -EReal.coe_mul]; norm_num

theorem cE_pos : ∃ e : ℝ, 0 < e ∧ cE = (e : EReal) := by
  refine ⟨_, ?_, by simp [cE, Ideal.ofBits, Ideal.ieee, -EReal.coe_mul]; rfl⟩
  norm_num

theorem square (a : EReal) : 0 ≤ a * a := by
  rcases le_total 0 a with h | h
  · exact mul_nonneg h h
  · rw [← neg_mul_neg]
    exact mul_nonneg (by simpa using h) (by simpa using h)

theorem divK (y : EReal) : Ideal.div y cK = y * ((1 / 1024 : ℝ) : EReal) := by
  unfold Ideal.div
  rw [cK_eq, if_neg (by exact_mod_cast (by norm_num : (1024 : ℝ) ≠ 0)), ← EReal.coe_inv]
  norm_num

/-- A factor that is a nonnegative real leaves a sum. -/
theorem sum_scale {n : ℕ} (x u : Fin n → EReal) (ρ : ℝ) (hρ : 0 ≤ ρ) :
    ∑ e : Fin n, u e * (x e * (ρ : EReal)) = (∑ e : Fin n, x e * u e) * (ρ : EReal) := by
  have h : ∀ s : Finset (Fin n), ∑ e ∈ s, u e * (x e * (ρ : EReal)) = (∑ e ∈ s, x e * u e) * (ρ : EReal) := by
    intro s
    induction s using Finset.induction_on with
    | empty => simp
    | insert a s ha ih =>
      rw [Finset.sum_insert ha, Finset.sum_insert ha, ih,
        EReal.right_distrib_of_nonneg_of_ne_top (EReal.coe_nonneg.mpr hρ) (EReal.coe_ne_top ρ)]
      refine congrArg (· + _) ?_
      rw [mul_comm (x a) (u a), mul_assoc]
  exact h Finset.univ

/-- Twice a negative real multiple. -/
theorem twice_neg (a : ℝ) (ha : 0 ≤ a) (y : EReal) : y * ((-a : ℝ) : EReal) + ((-a : ℝ) : EReal) * y = -(y * ((a + a : ℝ) : EReal)) := by
  have h0 : (0 : EReal) ≤ (a : EReal) := EReal.coe_nonneg.mpr ha
  rw [mul_comm y ((-a : ℝ) : EReal), EReal.coe_neg, neg_mul, ← mul_neg, EReal.coe_add, mul_comm y, ← mul_neg,
    EReal.right_distrib_of_nonneg h0 h0]

/-- The norm's derivative at one entry of a row. -/
theorem norm (x u : Fin 1024 → EReal) (o : EReal) (d : Fin 1024) (v R T : EReal)
    (hv : v = Ideal.div (∑ e : Fin 1024, x e * x e) cK + cE) (hR : R = Ideal.rsqrt v) (hT : T = ∑ e : Fin 1024, x e * u e) :
    o + R * (u d - x d * R * Ideal.div (∑ e : Fin 1024, u e * (x e * R)) cK)
      = o + u d * R + x d * Ideal.div (T * (cH * Ideal.div R v)) cK + Ideal.div (T * (cH * Ideal.div R v)) cK * x d := by
  obtain ⟨ε, hε, eε⟩ := cE_pos
  have hS : 0 ≤ ∑ e : Fin 1024, x e * x e := Finset.sum_nonneg fun e _ => square (x e)
  generalize ∑ e : Fin 1024, x e * x e = S at hv hS
  rw [divK, eε] at hv
  induction S with
  | bot => exact absurd hS (by simp)
  | top =>
    rw [EReal.top_mul_coe_of_pos (by norm_num), EReal.top_add_coe] at hv
    rw [hv, Ideal.rsqrt_top] at hR
    have h0 : Ideal.div 0 ⊤ = 0 := by
      unfold Ideal.div
      rw [if_neg EReal.top_ne_zero, zero_mul]
    rw [hv, hR, h0, divK, divK]
    simp only [mul_zero, zero_mul, add_zero]
  | coe s =>
    have hs : 0 ≤ s := EReal.coe_nonneg.mp hS
    rw [← EReal.coe_mul, ← EReal.coe_add] at hv
    have hw : 0 < s * (1 / 1024) + ε := by positivity
    generalize s * (1 / 1024) + ε = w at hv hw
    rw [hv, Ideal.rsqrt_coe, if_neg (not_lt.mpr hw.le), if_neg hw.ne'] at hR
    have hρ : 0 < (√w)⁻¹ := by positivity
    have hsq : (√w)⁻¹ * (√w)⁻¹ = w⁻¹ := by rw [← mul_inv, Real.mul_self_sqrt hw.le]
    generalize (√w)⁻¹ = ρ at hR hρ hsq
    have hdiv : Ideal.div R v = ((ρ * (ρ * ρ) : ℝ) : EReal) := by
      unfold Ideal.div
      rw [hv, hR, if_neg (by exact_mod_cast hw.ne'), ← EReal.coe_inv, ← EReal.coe_mul, hsq]
    rw [hdiv, hR, sum_scale x u ρ hρ.le, ← hT, cH_eq, divK, divK, sub_eq_add_neg,
      EReal.left_distrib_of_nonneg_of_ne_top (EReal.coe_nonneg.mpr hρ.le) (EReal.coe_ne_top ρ), mul_comm (ρ : EReal) (u d), add_assoc o,
      add_assoc o, add_assoc (u d * _)]
    refine congrArg (o + ·) ?_
    have ha : 0 ≤ 1 / 2 * (ρ * (ρ * ρ)) * (1 / 1024) := by positivity
    have eg : T * (((-(1 / 2) : ℝ) : EReal) * ((ρ * (ρ * ρ) : ℝ) : EReal)) * ((1 / 1024 : ℝ) : EReal)
        = T * ((-(1 / 2 * (ρ * (ρ * ρ)) * (1 / 1024)) : ℝ) : EReal) := by
      rw [← EReal.coe_mul, mul_assoc, ← EReal.coe_mul]
      congr 2; ring
    have e1 (b : EReal) : x d * (T * b) + T * b * x d = (x d * T) * b + b * (x d * T) := by
      rw [mul_comm (T * b) (x d), ← mul_assoc (x d), mul_comm b]
    rw [eg, e1, twice_neg _ ha]
    refine congrArg (u d * (ρ : EReal) + ·) ?_
    rw [mul_neg]
    refine congrArg Neg.neg ?_
    have e2 : (1 / 2 * (ρ * (ρ * ρ)) * (1 / 1024) + 1 / 2 * (ρ * (ρ * ρ)) * (1 / 1024)) = ρ * (ρ * ρ) * (1 / 1024) := by ring
    rw [e2, EReal.coe_mul, EReal.coe_mul, EReal.coe_mul]
    ac_rfl

end Cert.Up
-- ==== Proof.UpValue.lean ====
/-
  The up-projection's backward call: its four results are the reference's.
-/
module

public import Idealize.ShloMosaic.Lib.StableHlo.RunRead
public import proofs.«01_k».proof.Proof.UpFinal
public import proofs.«01_k».proof.Proof.UpNorm
public import proofs.«01_k».proof.Proof.Gen.Reference5Ideal.Read

@[expose] public section

set_option maxRecDepth 16384

noncomputable section

namespace Cert.Up

open Idealize.ShloMosaic Idealize.ShloMosaic.TcCoe Idealize.ShloMosaic.StableHlo Cert.Kernel5Ideal Cert.Kernel5Ideal.Gen Cert.Reference5Ideal.Read

variable (m : (ℓ : Loc nD τ sig) → Buf (Elt Ideal) ℓ) (c : Dev nD)

/-- The cotangent, the weights, the residual stream, the norm's weight, the scale and the residual's cotangent a core holds at launch. -/
abbrev iZ : (⟨Cert.Reference5Ideal.S8192x4096, .f32⟩ : BufTy).Contents (Elt Ideal) := m ((c.tc : Thread nD τ).loc main_arg0)
abbrev iW : (⟨Cert.Reference5Ideal.S1024x4096, .f32⟩ : BufTy).Contents (Elt Ideal) := m ((c.tc : Thread nD τ).loc main_arg1)
abbrev iX : (⟨Cert.Reference5Ideal.S8192x1024, .f32⟩ : BufTy).Contents (Elt Ideal) := m ((c.tc : Thread nD τ).loc main_arg2)
abbrev iN : (⟨Cert.Reference5Ideal.S1x1024, .f32⟩ : BufTy).Contents (Elt Ideal) := m ((c.tc : Thread nD τ).loc main_arg3)
abbrev iS : (⟨Cert.Reference5Ideal.S1x1024, .f32⟩ : BufTy).Contents (Elt Ideal) := m ((c.tc : Thread nD τ).loc main_arg4)
abbrev iO : (⟨Cert.Reference5Ideal.S8192x1024, .f32⟩ : BufTy).Contents (Elt Ideal) := m ((c.tc : Thread nD τ).loc main_arg5)

/-- A rank-2 array under a leading axis of length one. -/
def lift (x : Shape.Idx ⟨2, ![8192, 4096]⟩ → EReal) : Shape.Idx ⟨3, ![1, 8192, 4096]⟩ → EReal := fun i => x (@ix2 8192 4096 (i 1) (i 2))

theorem hZ : aZ m c = lift (iZ m c) := by
  have h : aZ m c = broadcastInDim S1x8192x4096 ![1, 2] bcast_S8192x4096_S1x8192x4096_1_2 (iZ m c : S8192x4096.Idx → EReal) := by
    show after hostOps0 (fun b => m (c, b)) (Proc.devRef .tc main_v1) = _
    simp only [hostOps0]
    after_results <;> rfl
  rw [h]
  funext i
  exact broadcastInDim_apply _ _ _ _ _ fun a => match a with
    | ⟨0, _⟩ => rfl
    | ⟨1, _⟩ => rfl

theorem hW : aW m c = iW m c := by
  show after hostOps0 (fun b => m (c, b)) (Proc.devRef .tc main_v2) = _
  simp only [hostOps0]
  after_results <;> rfl

theorem hX : aX m c = iX m c := by
  show after hostOps0 (fun b => m (c, b)) (Proc.devRef .tc main_arg2) = _
  simp only [hostOps0]
  after_results <;> rfl

theorem hN : aN m c = iN m c := by
  show after hostOps0 (fun b => m (c, b)) (Proc.devRef .tc main_arg3) = _
  simp only [hostOps0]
  after_results <;> rfl

theorem hS : aS m c = iS m c := by
  show after hostOps0 (fun b => m (c, b)) (Proc.devRef .tc main_arg4) = _
  simp only [hostOps0]
  after_results <;> rfl

theorem hO : aO m c = iO m c := by
  show after hostOps0 (fun b => m (c, b)) (Proc.devRef .tc main_arg5) = _
  simp only [hostOps0]
  after_results <;> rfl

section Ref
variable (x0 : (⟨Cert.Reference5Ideal.S8192x4096, .f32⟩ : BufTy).Contents (Elt Ideal))
  (x1 : (⟨Cert.Reference5Ideal.S1024x4096, .f32⟩ : BufTy).Contents (Elt Ideal))
  (x2 : (⟨Cert.Reference5Ideal.S8192x1024, .f32⟩ : BufTy).Contents (Elt Ideal))
  (x3 x4 : (⟨Cert.Reference5Ideal.S1x1024, .f32⟩ : BufTy).Contents (Elt Ideal))
  (x5 : (⟨Cert.Reference5Ideal.S8192x1024, .f32⟩ : BufTy).Contents (Elt Ideal))

/-- Two positions of one array with the same coordinates. -/
theorem at2 {a b : ℕ} {f : Shape.Idx ⟨2, ![a, b]⟩ → EReal} {i j : Shape.Idx ⟨2, ![a, b]⟩} (h0 : i 0 = j 0) (h1 : i 1 = j 1) : f i = f j := by
  refine congrArg f ?_
  funext k
  match k with
  | ⟨0, _⟩ => exact h0
  | ⟨1, _⟩ => exact h1

theorem v7 (r : Fin 8192) (q : Fin 1) : val_main_v7 (F := Ideal) x2 (@ix2 8192 1 r q)
    = Ideal.div (∑ d : Fin 1024, x2 (@ix2 8192 1024 r d) * x2 (@ix2 8192 1024 r d)) cK + cE := by
  rw [val_main_v7_apply, val_main_v5_apply, val_main_v6_apply, val_main_v4_apply, val_main_v3_apply, val_main_v2_apply]
  refine congrArg (fun y : EReal => Ideal.div y cK + cE) ?_
  refine (congrArg (· + _) Ideal.ofBits_zero_f32).trans ((zero_add _).trans ?_)
  refine Finset.sum_congr rfl fun d _ => ?_
  rw [val_main_v1_apply]
  exact congrArg₂ (fun a b : EReal => a * b) (at2 rfl rfl) (at2 rfl rfl)

theorem v8 (r : Fin 8192) (q : Fin 1) : val_main_v8 (F := Ideal) x2 (@ix2 8192 1 r q) = R x2 r := by
  rw [val_main_v8_apply, v7]
  rfl

theorem v11 (r : Fin 8192) (q : Fin 1) : val_main_v11 (F := Ideal) x2 (@ix2 8192 1 r q)
    = cH * Ideal.div (R x2 r) (Ideal.div (∑ d : Fin 1024, x2 (@ix2 8192 1024 r d) * x2 (@ix2 8192 1024 r d)) cK + cE) := by
  rw [val_main_v11_apply, val_main_v10_apply, val_main_v9_apply, v8, v7]
  rfl

theorem v13 (r : Fin 8192) (d : Fin 1024) : val_main_v13 (F := Ideal) x2 (@ix2 8192 1024 r d) = X x2 r d := by
  rw [val_main_v13_apply, val_main_v12_apply]
  refine congrArg (fun y : EReal => x2 (@ix2 8192 1024 r d) * y) (Eq.trans ?_ (v8 x2 r 0))
  exact at2 rfl rfl

theorem v23 (r : Fin 8192) (d : Fin 1024) : val_main_v23 (F := Ideal) x0 x1 (@ix2 8192 1024 r d) = H (lift x0) x1 r d := by
  rw [val_main_v23_apply]
  unfold H lift
  refine Finset.sum_congr rfl fun k _ => ?_
  exact congrArg₂ (fun a b : EReal => a * b) (at2 rfl rfl) (at2 rfl rfl)

theorem v17 (d : Fin 1024) : val_main_v17 (F := Ideal) x4 (@ix2 1 1024 0 d) = c1 + x4 (@ix2 1 1024 0 d) := by
  rw [val_main_v17_apply, val_main_v16_apply]
  rfl

theorem v30 (r : Fin 8192) (d : Fin 1024) : val_main_v30 (F := Ideal) x0 x1 x4 (@ix2 8192 1024 r d) = DN (lift x0) x1 x4 r d := by
  rw [val_main_v30_apply, val_main_v29_apply, v23]
  refine congrArg (fun y : EReal => H (lift x0) x1 r d * y) (Eq.trans ?_ (v17 x4 d))
  exact at2 rfl rfl

theorem v35 (r : Fin 8192) (d : Fin 1024) : val_main_v35 (F := Ideal) x0 x1 x3 x4 (@ix2 8192 1024 r d)
    = DN (lift x0) x1 x4 r d * x3 (@ix2 1 1024 0 d) := by
  rw [val_main_v35_apply, val_main_v34_apply, v30]
  exact congrArg (fun y : EReal => DN (lift x0) x1 x4 r d * y) (at2 rfl rfl)

theorem v38 (r : Fin 8192) (q : Fin 1) : val_main_v38 (F := Ideal) x0 x1 x2 x3 x4 (@ix2 8192 1 r q)
    = ∑ e : Fin 1024, x2 (@ix2 8192 1024 r e) * (DN (lift x0) x1 x4 r e * x3 (@ix2 1 1024 0 e)) := by
  rw [val_main_v38_apply, val_main_v37_apply]
  refine (congrArg (· + _) Ideal.ofBits_zero_f32).trans ((zero_add _).trans ?_)
  refine Finset.sum_congr rfl fun e _ => ?_
  rw [← v35]
  have hq : q = 0 := Subsingleton.elim _ _
  subst hq
  refine Eq.trans (b := val_main_v36 (F := Ideal) x0 x1 x2 x3 x4 (@ix2 8192 1024 r e)) (at2 ?_ rfl) rfl
  exact Fin.ext (by show r.val * 1 + 0 = r.val; omega)

theorem v46 (r : Fin 8192) (d : Fin 1024) : val_main_v46 (F := Ideal) x0 x1 x2 x3 x4 (@ix2 8192 1024 r d)
    = Ideal.div ((∑ e : Fin 1024, x2 (@ix2 8192 1024 r e) * (DN (lift x0) x1 x4 r e * x3 (@ix2 1 1024 0 e)))
      * (cH * Ideal.div (R x2 r) (Ideal.div (∑ d : Fin 1024, x2 (@ix2 8192 1024 r d) * x2 (@ix2 8192 1024 r d)) cK + cE))) cK := by
  rw [val_main_v46_apply, val_main_v45_apply, Fin.sum_univ_one, ← v38 x0 x1 x2 x3 x4 r 0, ← v11 x2 r 0]
  refine (congrArg (· + _) Ideal.ofBits_zero_f32).trans ((zero_add _).trans ?_)
  refine Eq.trans (b := val_main_v44 (F := Ideal) x0 x1 x2 x3 x4 (@ix2 8192 1 r 0)) (at2 rfl rfl) ?_
  rw [val_main_v44_apply, val_main_v43_apply]
  rfl

theorem ref_dx (i : Cert.Reference5Ideal.S8192x1024.Idx) :
    DX (lift x0) x1 x2 x3 x4 x5 (i 0) (i 1) = val_main_v50 (F := Ideal) x0 x1 x2 x3 x4 x5 i := by
  obtain ⟨r, d, rfl⟩ : ∃ (r : Fin 8192) (d : Fin 1024), i = @ix2 8192 1024 r d := ⟨i 0, i 1, (Down.ix_eta i).symm⟩
  rw [val_main_v50_apply, val_main_v48_apply, val_main_v41_apply, val_main_v40_apply, val_main_v39_apply, val_main_v47_apply,
    val_main_v49_apply, v46, v35]
  refine (norm (fun e => x2 (@ix2 8192 1024 r e)) (fun e => DN (lift x0) x1 x4 r e * x3 (@ix2 1 1024 0 e)) (x5 (@ix2 8192 1024 r d)) d
    _ (R x2 r) _ rfl rfl rfl).trans ?_
  have e8 : val_main_v8 (F := Ideal) x2 (idx_main_v39 (@ix2 8192 1024 r d)) = R x2 r :=
    Eq.trans (b := val_main_v8 (F := Ideal) x2 (@ix2 8192 1 r 0)) (at2 rfl rfl) (v8 x2 r 0)
  rw [e8]
  rfl

theorem col (d : Fin 1024) (h) : (⟨(0 : Fin 1).val * 1024 + d.val, h⟩ : Fin 1024) = d :=
  Fin.ext (by show 0 * 1024 + d.val = d.val; omega)

theorem ref_sh (i : Cert.Reference5Ideal.S1x1024.Idx) :
    (∑ r : Fin 8192, fsh (lift x0) x1 (i 1) r) = val_main_v25 (F := Ideal) x0 x1 i := by
  obtain ⟨d, rfl⟩ : ∃ d : Fin 1024, i = @ix2 1 1024 0 d := ⟨i 1, ix_one i⟩
  rw [val_main_v25_apply, val_main_v24_apply]
  refine Eq.symm ((congrArg (· + _) Ideal.ofBits_zero_f32).trans ((zero_add _).trans ?_))
  refine Finset.sum_congr rfl fun r _ => ?_
  exact Eq.trans (b := val_main_v23 (F := Ideal) x0 x1 (@ix2 8192 1024 r d)) (at2 rfl (col d _)) (v23 x0 x1 r d)

theorem ref_sc (i : Cert.Reference5Ideal.S1x1024.Idx) :
    (∑ r : Fin 8192, fsc (lift x0) x1 x2 x3 (i 1) r) = val_main_v28 (F := Ideal) x0 x1 x2 x3 i := by
  obtain ⟨d, rfl⟩ : ∃ d : Fin 1024, i = @ix2 1 1024 0 d := ⟨i 1, ix_one i⟩
  rw [val_main_v28_apply, val_main_v27_apply]
  refine Eq.symm ((congrArg (· + _) Ideal.ofBits_zero_f32).trans ((zero_add _).trans ?_))
  refine Finset.sum_congr rfl fun r _ => ?_
  refine Eq.trans (b := val_main_v26 (F := Ideal) x0 x1 x2 x3 (@ix2 8192 1024 r d)) (at2 rfl (col d _)) ?_
  rw [val_main_v26_apply, val_main_v15_apply, val_main_v14_apply, v23, v13]
  refine (mul_comm (_ : EReal) _).trans ?_
  exact congrArg (fun y : EReal => H (lift x0) x1 r d * (X x2 r d * y)) (at2 rfl rfl)

theorem ref_nw (i : Cert.Reference5Ideal.S1x1024.Idx) :
    (∑ r : Fin 8192, fnw (lift x0) x1 x2 x4 (i 1) r) = val_main_v33 (F := Ideal) x0 x1 x2 x4 i := by
  obtain ⟨d, rfl⟩ : ∃ d : Fin 1024, i = @ix2 1 1024 0 d := ⟨i 1, ix_one i⟩
  rw [val_main_v33_apply, val_main_v32_apply]
  refine Eq.symm ((congrArg (· + _) Ideal.ofBits_zero_f32).trans ((zero_add _).trans ?_))
  refine Finset.sum_congr rfl fun r _ => ?_
  refine Eq.trans (b := val_main_v31 (F := Ideal) x0 x1 x2 x4 (@ix2 8192 1024 r d)) (at2 rfl (col d _)) ?_
  rw [val_main_v31_apply, v30, v13]
  exact mul_comm (_ : EReal) _

end Ref

theorem out0 : (dats m 0 c).arrAt 6 cfg0.N = val_main_v50 (F := Ideal) (iZ m c) (iW m c) (iX m c) (iN m c) (iS m c) (iO m c) := by
  rw [final6]
  unfold RX
  rw [hZ, hW, hX, hN, hS, hO]
  exact funext fun i => ref_dx _ _ _ _ _ _ i

theorem out1 : (dats m 0 c).arrAt 7 cfg0.N = val_main_v28 (F := Ideal) (iZ m c) (iW m c) (iX m c) (iN m c) := by
  rw [final7]
  unfold RSC
  rw [hZ, hW, hX, hN]
  exact funext fun i => ref_sc _ _ _ _ i

theorem out2 : (dats m 0 c).arrAt 8 cfg0.N = val_main_v25 (F := Ideal) (iZ m c) (iW m c) := by
  rw [final8]
  unfold RSH
  rw [hZ, hW]
  exact funext fun i => ref_sh _ _ i

theorem out3 : (dats m 0 c).arrAt 9 cfg0.N = val_main_v33 (F := Ideal) (iZ m c) (iW m c) (iX m c) (iS m c) := by
  rw [final9]
  unfold RNW
  rw [hZ, hW, hX, hS]
  exact funext fun i => ref_nw _ _ _ _ i

end Cert.Up
-- ==== Proof.FoxIn.lean ====
/-
  The mixer's input projection backward: what one grid point leaves in its four output blocks.
-/
module

public import proofs.«01_k».proof.Proof.UpValue
public import proofs.«01_k».proof.Proof.Gen.Kernel6Ideal.Frame

@[expose] public section

set_option maxRecDepth 16384

noncomputable section

namespace Cert.FoxIn

open Idealize.ShloMosaic Idealize.ShloMosaic.TcCoe Cert.Kernel6Ideal Cert.Kernel6Ideal.Gen Cert.Blocks
open Cert.Up (cK cE c1 load2)

/-- The `p`-th 1024 columns of the cotangent's rows and of the weights. -/
def zp (x : S5x512x1024.Idx → EReal) (p : Fin 5) : S1x512x1024.Idx → EReal := fun y => x (@ix3 5 512 1024 p (y 1) (y 2))
def col (p : Fin 5) (n : Fin 1024) : Fin 5120 := ⟨1024 * p.val + n.val, by omega⟩
def wp (x : S1024x5120.Idx → EReal) (p : Fin 5) : S1024x1024.Idx → EReal := fun y => x (@ix2 1024 5120 (y 0) (col p (y 1)))

theorem loadz (v : Memref sig .tc .vmem S5x512x1024 .bf16) (hv : v.IsWhole) (x : Vec Ideal S5x512x1024 .bf16) (o : ℕ) (p : Fin 5) (h : o = p.val) (inb) :
    v.view.readAt (Elt Ideal) (Rect.unit (s := S5x512x1024) ![o, 0, 0] S1x512x1024.size inb).toLoadRect (hv.unread x) = zp x p := by
  subst h
  funext y
  refine (congrFun (hv.read_unread x) _).trans (congrArg x ?_)
  funext k
  match k with
  | ⟨0, _⟩ =>
    apply Fin.ext
    have h1 : (y 0).val < 1 := (y 0).isLt
    show p.val + 1 * (y 0).val = p.val
    omega
  | ⟨1, _⟩ => exact Fin.ext (by show 0 + 1 * (y 1).val = (y 1).val; omega)
  | ⟨2, _⟩ => exact Fin.ext (by show 0 + 1 * (y 2).val = (y 2).val; omega)

theorem loadw (v : Memref sig .tc .vmem S1024x5120 .bf16) (hv : v.IsWhole) (x : Vec Ideal S1024x5120 .bf16) (o : ℕ) (p : Fin 5) (h : o = 1024 * p.val) (inb) :
    v.view.readAt (Elt Ideal) (Rect.unit (s := S1024x5120) ![0, o] S1024x1024.size inb).toLoadRect (hv.unread x) = wp x p := by
  subst h
  funext y
  refine (congrFun (hv.read_unread x) _).trans (congrArg x ?_)
  funext k
  match k with
  | ⟨0, _⟩ => exact Fin.ext (by show 0 + 1 * (y 0).val = (y 0).val; omega)
  | ⟨1, _⟩ => exact Fin.ext (by show 1024 * p.val + 1 * (y 1).val = 1024 * p.val + (y 1).val; omega)

/-- The product of a block's rows with the weights: four parts, then the fifth. -/
def four (x0 : Vec Ideal S5x512x1024 .bf16) (x1 : Vec Ideal S1024x5120 .bf16) : FVec Ideal S512x1024 .f32 :=
  k0_pay6 (zp x0 0) (wp x1 0) (zp x0 1) (wp x1 1) (zp x0 2) (wp x1 2) (zp x0 3) (wp x1 3)
def prod (x0 : Vec Ideal S5x512x1024 .bf16) (x1 : Vec Ideal S1024x5120 .bf16) : FVec Ideal S512x1024 .f32 :=
  k0_pay8 (four x0 x1) (k0_pay7 (zp x0 4)) (wp x1 4)
/-- The derivative of the normed rows. -/
def normed (x0 : Vec Ideal S5x512x1024 .bf16) (x1 : Vec Ideal S1024x5120 .bf16) (s : Vec Ideal S1x1024 .f32) : FVec Ideal S512x1024 .f32 :=
  k0_pay11 (four x0 x1) (k0_pay7 (zp x0 4)) (wp x1 4) s

theorem one (z : Vec Ideal S1x512x1024 .bf16) (w : Vec Ideal S1024x1024 .bf16) (u : FVec Ideal S512x1024 .f32) (r : Fin 512) (d : Fin 1024) :
    k0_pay8 u (k0_pay7 z) w (ix2 r d) = u (ix2 r d) + ∑ n : Fin 1024, z (ix3 0 r n) * w (ix2 d n) := by
  unfold k0_pay8 k0_pay7
  pointwise

theorem pay6 (z0 z1 z2 z3 : Vec Ideal S1x512x1024 .bf16) (w0 w1 w2 w3 : Vec Ideal S1024x1024 .bf16) (r : Fin 512) (d : Fin 1024) :
    k0_pay6 z0 w0 z1 w1 z2 w2 z3 w3 (ix2 r d)
      = (∑ n : Fin 1024, z0 (ix3 0 r n) * w0 (ix2 d n)) + (∑ n : Fin 1024, z1 (ix3 0 r n) * w1 (ix2 d n))
        + (∑ n : Fin 1024, z2 (ix3 0 r n) * w2 (ix2 d n)) + (∑ n : Fin 1024, z3 (ix3 0 r n) * w3 (ix2 d n)) := by
  unfold k0_pay6
  pointwise

theorem prod_apply (x0 : Vec Ideal S5x512x1024 .bf16) (x1 : Vec Ideal S1024x5120 .bf16) (r : Fin 512) (d : Fin 1024) :
    prod x0 x1 (ix2 r d) = ∑ p : Fin 5, ∑ n : Fin 1024, x0 (ix3 p r n) * x1 (ix2 d (col p n)) := by
  refine (one _ _ _ r d).trans ((congrArg (fun u : EReal => u + _) (pay6 _ _ _ _ _ _ _ _ r d)).trans ?_)
  rw [Fin.sum_univ_five]
  rfl

theorem normed_apply (x0 : Vec Ideal S5x512x1024 .bf16) (x1 : Vec Ideal S1024x5120 .bf16) (s : Vec Ideal S1x1024 .f32) (r : Fin 512) (d : Fin 1024) :
    normed x0 x1 s (ix2 r d) = prod x0 x1 (ix2 r d) * (c1 + s (ix2 0 d)) := by
  unfold normed prod
  generalize four x0 x1 = a
  generalize k0_pay7 (F := Ideal) (zp x0 4) = b
  generalize wp x1 4 = w
  unfold k0_pay11
  generalize k0_pay8 a b w = y
  pointwise

theorem pay12 (x0 : Vec Ideal S5x512x1024 .bf16) (x1 : Vec Ideal S1024x5120 .bf16) (x : Vec Ideal S512x1024 .f32) (n o : Vec Ideal S1x1024 .f32) (d : Fin 1024) :
    k0_pay12 (four x0 x1) (k0_pay7 (F := Ideal) (zp x0 4)) (wp x1 4) x n o (ix2 0 d)
      = o (ix2 0 d) + ∑ r : Fin 512, prod x0 x1 (ix2 r d) * (k0_pay10 x (ix2 r d) * n (ix2 0 d)) := by
  unfold prod
  generalize four x0 x1 = a
  generalize k0_pay7 (F := Ideal) (zp x0 4) = b
  generalize wp x1 4 = w
  unfold k0_pay12
  generalize k0_pay8 a b w = y
  generalize k0_pay10 x = u
  pointwise

variable (c : Dev nD) (i : grid0.Coords)
  (arg1 : Memref sig .tc .vmem S5x512x1024 .bf16) (harg1 : arg1.IsWhole) (arg2 : Memref sig .tc .vmem S1024x5120 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (x0 : Vec Ideal S5x512x1024 .bf16) (x1 : Vec Ideal S1024x5120 .bf16) (x2 : Vec Ideal S512x1024 .f32) (x3 x4 : Vec Ideal S1x1024 .f32) (x5 : Vec Ideal S512x1024 .f32)

theorem fourA : kernelRun0_A.sl.r c arg1 harg1 arg2 harg2 x0 x1 = four x0 x1 := by
  unfold kernelRun0_A.sl.r four
  simp only [loadz _ _ _ 0 0 rfl, loadz _ _ _ 1 1 rfl, loadz _ _ _ 2 2 rfl, loadz _ _ _ 3 3 rfl, loadw _ _ _ 0 0 rfl, loadw _ _ _ 1024 1 rfl, loadw _ _ _ 2048 2 rfl,
    loadw _ _ _ 3072 3 rfl]

theorem fifthA : kernelRun0_A.sl.r_1 c arg1 harg1 x0 = k0_pay7 (zp x0 4) := by
  unfold kernelRun0_A.sl.r_1
  rw [loadz _ _ _ 4 4 rfl]

theorem normedA : kernelRun0_A.sl.r_5 c arg1 harg1 arg2 harg2 arg5 harg5 x0 x1 x4 = normed x0 x1 x4 := by
  unfold kernelRun0_A.sl.r_5 normed
  rw [fourA, fifthA, loadw _ _ _ 4096 4 rfl, load2]

theorem dxA (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5
      = k0_pay2 x3 (k0_pay9 x2) (k0_pay10 x2) (normed x0 x1 x4) x5 := by
  unfold out0_A_6 kernelRun0_A
  refine (funext fun y => stored VO0_6 _ _ zero2 _ _ _ y).trans ?_
  unfold kernelRun0_A.sl.r_2 kernelRun0_A.sl.r_3 kernelRun0_A.sl.r_4
  simp only [normedA, load2]

theorem dscA (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5
      = k0_pay12 (four x0 x1) (k0_pay7 (F := Ideal) (zp x0 4)) (wp x1 4) x2 x3 (k0_pay3 (F := Ideal)) := by
  unfold out0_A_7 kernelRun0_A
  refine (funext fun y => stored VO0_7 _ _ zero2 _ _ _ y).trans ?_
  have e : kernelRun0_A.sl.v49 (F := Ideal) c arg8 = (k0_pay3 (F := Ideal) : S1x1024.Idx → Elt Ideal .f32) := by
    unfold kernelRun0_A.sl.v49 kernelRun0_A.sl.H7_1
    exact funext fun y => (loaded _ _ _ zero2 _ _).trans (stored _ _ _ zero2 _ _ [] y)
  simp only [fourA, fifthA, loadw _ _ _ 4096 4 rfl, load2, e]

theorem dshA (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5
      = k0_pay13 (four x0 x1) (k0_pay7 (zp x0 4)) (wp x1 4) (k0_pay4 (F := Ideal)) := by
  unfold out0_A_8 kernelRun0_A
  refine (funext fun y => stored VO0_8 _ _ zero2 _ _ _ y).trans ?_
  have e : kernelRun0_A.sl.v58 (F := Ideal) c arg9 = (k0_pay4 (F := Ideal) : S1x1024.Idx → Elt Ideal .f32) := by
    unfold kernelRun0_A.sl.v58 kernelRun0_A.sl.H8_1
    exact funext fun y => (loaded _ _ _ zero2 _ _).trans (stored _ _ _ zero2 _ _ [] y)
  simp only [fourA, fifthA, loadw _ _ _ 4096 4 rfl, load2, e]

theorem dnwA (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5
      = k0_pay1 (k0_pay10 x2) (normed x0 x1 x4) (k0_pay5 (F := Ideal)) := by
  unfold out0_A_9 kernelRun0_A
  refine (funext fun y => stored VO0_9 _ _ zero2 _ _ _ y).trans ?_
  have e : kernelRun0_A.sl.v64 (F := Ideal) c arg10 = (k0_pay5 (F := Ideal) : S1x1024.Idx → Elt Ideal .f32) := by
    unfold kernelRun0_A.sl.v64 kernelRun0_A.sl.H9_1
    exact funext fun y => (loaded _ _ _ zero2 _ _).trans (stored _ _ _ zero2 _ _ [] y)
  unfold kernelRun0_A.sl.r_4
  simp only [normedA, load2, e]

theorem fourB : kernelRun0_B.sl.r c arg1 harg1 arg2 harg2 x0 x1 = four x0 x1 := by
  unfold kernelRun0_B.sl.r four
  simp only [loadz _ _ _ 0 0 rfl, loadz _ _ _ 1 1 rfl, loadz _ _ _ 2 2 rfl, loadz _ _ _ 3 3 rfl, loadw _ _ _ 0 0 rfl, loadw _ _ _ 1024 1 rfl, loadw _ _ _ 2048 2 rfl,
    loadw _ _ _ 3072 3 rfl]

theorem fifthB : kernelRun0_B.sl.r_1 c arg1 harg1 x0 = k0_pay7 (zp x0 4) := by
  unfold kernelRun0_B.sl.r_1
  rw [loadz _ _ _ 4 4 rfl]

theorem normedB : kernelRun0_B.sl.r_5 c arg1 harg1 arg2 harg2 arg5 harg5 x0 x1 x4 = normed x0 x1 x4 := by
  unfold kernelRun0_B.sl.r_5 normed
  rw [fourB, fifthB, loadw _ _ _ 4096 4 rfl, load2]

theorem dxB (hc0 : ¬cond0_0 i) (xo7 xo8 xo9 : Vec Ideal S1x1024 .f32) :
    out0_B_6 c i arg1 harg1 arg2 harg2 arg3 harg3 arg4 harg4 arg5 harg5 arg6 harg6 arg7 harg7 arg8 harg8 arg9 harg9 arg10 harg10 hc0 x0 x1 x2 x3 x4 x5 xo7 xo8 xo9
      = k0_pay2 x3 (k0_pay9 x2) (k0_pay10 x2) (normed x0 x1 x4) x5 := by
  unfold out0_B_6 kernelRun0_B
  refine (funext fun y => stored VO0_6 _ _ zero2 _ _ _ y).trans ?_
  unfold kernelRun0_B.sl.r_2 kernelRun0_B.sl.r_3 kernelRun0_B.sl.r_4
  simp only [normedB, load2]

theorem dscB (hc0 : ¬cond0_0 i) (xo7 xo8 xo9 : Vec Ideal S1x1024 .f32) :
    out0_B_7 c i arg1 harg1 arg2 harg2 arg3 harg3 arg4 harg4 arg5 harg5 arg6 harg6 arg7 harg7 arg8 harg8 arg9 harg9 arg10 harg10 hc0 x0 x1 x2 x3 x4 x5 xo7 xo8 xo9
      = k0_pay12 (four x0 x1) (k0_pay7 (F := Ideal) (zp x0 4)) (wp x1 4) x2 x3 xo7 := by
  unfold out0_B_7 kernelRun0_B
  refine (funext fun y => stored VO0_7 _ _ zero2 _ _ _ y).trans ?_
  simp only [fourB, fifthB, loadw _ _ _ 4096 4 rfl, load2]

theorem dshB (hc0 : ¬cond0_0 i) (xo7 xo8 xo9 : Vec Ideal S1x1024 .f32) :
    out0_B_8 c i arg1 harg1 arg2 harg2 arg3 harg3 arg4 harg4 arg5 harg5 arg6 harg6 arg7 harg7 arg8 harg8 arg9 harg9 arg10 harg10 hc0 x0 x1 x2 x3 x4 x5 xo7 xo8 xo9
      = k0_pay13 (four x0 x1) (k0_pay7 (zp x0 4)) (wp x1 4) xo8 := by
  unfold out0_B_8 kernelRun0_B
  refine (funext fun y => stored VO0_8 _ _ zero2 _ _ _ y).trans ?_
  simp only [fourB, fifthB, loadw _ _ _ 4096 4 rfl, load2]

theorem dnwB (hc0 : ¬cond0_0 i) (xo7 xo8 xo9 : Vec Ideal S1x1024 .f32) :
    out0_B_9 c i arg1 harg1 arg2 harg2 arg3 harg3 arg4 harg4 arg5 harg5 arg6 harg6 arg7 harg7 arg8 harg8 arg9 harg9 arg10 harg10 hc0 x0 x1 x2 x3 x4 x5 xo7 xo8 xo9
      = k0_pay1 (k0_pay10 x2) (normed x0 x1 x4) xo9 := by
  unfold out0_B_9 kernelRun0_B
  refine (funext fun y => stored VO0_9 _ _ zero2 _ _ _ y).trans ?_
  unfold kernelRun0_B.sl.r_4
  simp only [normedB, load2]

end Cert.FoxIn
-- ==== Proof.FoxInValue.lean ====
/-
  The mixer's input projection backward: its four results are the reference's.
-/
module

public import Idealize.ShloMosaic.Lib.StableHlo.RunRead
public import Idealize.ShloMosaic.Lib.KernelVsHost
public import proofs.«01_k».proof.Proof.FoxIn
public import proofs.«01_k».proof.Proof.Gen.Reference6Ideal.Read

@[expose] public section

set_option maxRecDepth 16384

noncomputable section

namespace Cert.FoxIn

open Idealize.ShloMosaic Idealize.ShloMosaic.TcCoe Idealize.ShloMosaic.StableHlo Cert.Kernel6Ideal Cert.Kernel6Ideal.Gen
open Cert.Up (R X DN DX H fsc fsh fnw part lift at2 ix_one)

variable (m : (ℓ : Loc nD τ sig) → Buf (Elt Ideal) ℓ)

/-- The cotangent by parts, the weights, the residual stream, the norm's weight, the scale and the residual's cotangent as the call finds them. -/
abbrev aZ (c : Dev nD) : Shape.Idx ⟨3, ![5, 8192, 1024]⟩ → EReal := V m c main_v4
abbrev aW (c : Dev nD) : Shape.Idx ⟨2, ![1024, 5120]⟩ → EReal := V m c main_v5
abbrev aX (c : Dev nD) : Shape.Idx ⟨2, ![8192, 1024]⟩ → EReal := V m c main_arg2
abbrev aN (c : Dev nD) : Shape.Idx ⟨2, ![1, 1024]⟩ → EReal := V m c main_arg3
abbrev aS (c : Dev nD) : Shape.Idx ⟨2, ![1, 1024]⟩ → EReal := V m c main_arg4
abbrev aO (c : Dev nD) : Shape.Idx ⟨2, ![8192, 1024]⟩ → EReal := V m c main_arg5

theorem coords_val : ∀ t : Fin grid0.N, (grid0.coords t 0).val = t.val := by
  decide +kernel

/-- Where a block of rows and a vector's one block lie. -/
theorem at_rows (t : Fin cfg0.N) (r : Fin 512) (d : Fin 1024) :
    (((cfg0.win 6).blk t).view.emb (ix2 r d) : S8192x1024.Idx) = ix2 (Down.row (grid0.coords t 0) r) d := by
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ => exact Fin.ext (by show 0 * 1024 + 1 * d.val = d.val; omega)

theorem at_vec (t : Fin cfg0.N) (d : Fin 1024) : (((cfg0.win 7).blk t).view.emb (ix2 0 d) : S1x1024.Idx) = ix2 0 d := by
  funext a
  match a with
  | ⟨0, _⟩ => rfl
  | ⟨1, _⟩ => exact Fin.ext (by show 0 * 1024 + 1 * d.val = d.val; omega)

variable (c : Dev nD) (t : Fin cfg0.N)

theorem iblk0 (p : Fin 5) (r : Fin 512) (n : Fin 1024) : iblk m c 0 t (ix3 p r n) = aZ m c (ix3 p (Down.row (grid0.coords t 0) r) n) := by
  show V m c main_v4 (((cfg0.win 0).blk t).view.emb (ix3 p r n)) = _
  refine congrArg (V m c main_v4) ?_
  have h0 : (grid0.coords t 0).val < 16 := (grid0.coords t 0).isLt
  funext a
  match a with
  | ⟨0, _⟩ => exact Fin.ext (by show 0 * 5 + 1 * p.val = p.val; omega)
  | ⟨1, _⟩ =>
    apply Fin.ext
    show (BitVec.ofNat 32 (grid0.coords t 0).val).toNat * 512 + 1 * r.val = 512 * (grid0.coords t 0).val + r.val
    rw [BitVec.toNat_ofNat]; omega
  | ⟨2, _⟩ => exact Fin.ext (by show 0 * 1024 + 1 * n.val = n.val; omega)

theorem iblk1 (d : Fin 1024) (n : Fin 5120) : iblk m c 1 t (ix2 d n) = aW m c (ix2 d n) := by
  show V m c main_v5 (((cfg0.win 1).blk t).view.emb (ix2 d n)) = _
  refine congrArg (V m c main_v5) ?_
  funext a
  match a with
  | ⟨0, _⟩ => exact Fin.ext (by show 0 * 1024 + 1 * d.val = d.val; omega)
  | ⟨1, _⟩ => exact Fin.ext (by show 0 * 5120 + 1 * n.val = n.val; omega)

theorem iblk2 (r : Fin 512) (d : Fin 1024) : iblk m c 2 t (ix2 r d) = aX m c (ix2 (Down.row (grid0.coords t 0) r) d) :=
  congrArg (V m c main_arg2) (at_rows t r d)
theorem iblk5 (r : Fin 512) (d : Fin 1024) : iblk m c 5 t (ix2 r d) = aO m c (ix2 (Down.row (grid0.coords t 0) r) d) :=
  congrArg (V m c main_arg5) (at_rows t r d)
theorem iblk3 (d : Fin 1024) : iblk m c 3 t (ix2 0 d) = aN m c (ix2 0 d) := congrArg (V m c main_arg3) (at_vec t d)
theorem iblk4 (d : Fin 1024) : iblk m c 4 t (ix2 0 d) = aS m c (ix2 0 d) := congrArg (V m c main_arg4) (at_vec t d)

/-- The derivative of the modulated rows. -/
def K (r : Fin 8192) (d : Fin 1024) : EReal := ∑ p : Fin 5, ∑ n : Fin 1024, aZ m c (ix3 p r n) * aW m c (ix2 d (col p n))

/-- Any derivative of the modulated rows is a product of the up-projection's shape: itself, in the first columns, with the identity.
    What is proved of the up-projection's derivatives then holds of these. -/
def eZ (h : Fin 8192 → Fin 1024 → EReal) : Shape.Idx ⟨2, ![8192, 4096]⟩ → EReal :=
  fun i => if hi : (i 1).val < 1024 then h (i 0) ⟨(i 1).val, hi⟩ else 0
def eW : Shape.Idx ⟨2, ![1024, 4096]⟩ → EReal := fun i => if (i 1).val = (i 0).val then 1 else 0

theorem H_e (h : Fin 8192 → Fin 1024 → EReal) (r : Fin 8192) (d : Fin 1024) : H (lift (eZ h)) eW r d = h r d := by
  unfold H
  rw [Finset.sum_eq_single (⟨d.val, by omega⟩ : Fin 4096)]
  · show (if hi : d.val < 1024 then h r ⟨d.val, hi⟩ else 0) * (if d.val = d.val then (1 : EReal) else 0) = h r d
    rw [dif_pos d.isLt, if_pos rfl, mul_one]
  · intro k _ hk
    show _ * (if k.val = d.val then (1 : EReal) else 0) = 0
    rw [if_neg fun e => hk (Fin.ext e), mul_zero]
  · exact fun hk => absurd (Finset.mem_univ _) hk

abbrev Z : Shape.Idx ⟨3, ![1, 8192, 4096]⟩ → EReal := lift (eZ (K m c))

theorem blkH (r : Fin 512) (d : Fin 1024) :
    prod (iblk m c 0 t) (iblk m c 1 t) (ix2 r d) = H (Z m c) eW (Down.row (grid0.coords t 0) r) d := by
  rw [H_e]
  unfold K
  simp only [← iblk0 m c t, ← iblk1 m c t]
  exact prod_apply (iblk m c 0 t) (iblk m c 1 t) r d

theorem blkR (r : Fin 512) : k0_pay9 (iblk m c 2 t) (ix2 r 0) = R (aX m c) (Down.row (grid0.coords t 0) r) := by
  unfold R
  simp only [← iblk2 m c t]
  exact Up.pay8 (iblk m c 2 t) r

theorem blkX (r : Fin 512) (d : Fin 1024) : k0_pay10 (iblk m c 2 t) (ix2 r d) = X (aX m c) (Down.row (grid0.coords t 0) r) d := by
  unfold X
  rw [← iblk2 m c t, ← blkR]
  exact Up.pay9 (iblk m c 2 t) r d

theorem blkN (r : Fin 512) (d : Fin 1024) :
    normed (iblk m c 0 t) (iblk m c 1 t) (iblk m c 4 t) (ix2 r d) = DN (Z m c) eW (aS m c) (Down.row (grid0.coords t 0) r) d := by
  unfold DN
  rw [← iblk4 m c t, ← blkH]
  exact normed_apply (iblk m c 0 t) (iblk m c 1 t) (iblk m c 4 t) r d

theorem blkDX (r : Fin 512) (d : Fin 1024) :
    k0_pay2 (iblk m c 3 t) (k0_pay9 (iblk m c 2 t)) (k0_pay10 (iblk m c 2 t)) (normed (iblk m c 0 t) (iblk m c 1 t) (iblk m c 4 t)) (iblk m c 5 t) (ix2 r d)
      = DX (Z m c) eW (aX m c) (aN m c) (aS m c) (aO m c) (Down.row (grid0.coords t 0) r) d := by
  unfold DX
  simp only [← iblk5 m c t, ← iblk3 m c t, ← blkR m c t, ← blkX m c t, ← blkN m c t]
  exact Up.pay3 (iblk m c 3 t) _ _ _ (iblk m c 5 t) r d

/-- What a point leaves in the three vectors' blocks, over what they held. -/
def scale (o : Vec Ideal S1x1024 .f32) : Vec Ideal S1x1024 .f32 :=
  k0_pay12 (four (iblk m c 0 t) (iblk m c 1 t)) (k0_pay7 (F := Ideal) (zp (iblk m c 0 t) 4)) (wp (iblk m c 1 t) 4) (iblk m c 2 t) (iblk m c 3 t) o
def shift (o : Vec Ideal S1x1024 .f32) : Vec Ideal S1x1024 .f32 :=
  k0_pay13 (four (iblk m c 0 t) (iblk m c 1 t)) (k0_pay7 (F := Ideal) (zp (iblk m c 0 t) 4)) (wp (iblk m c 1 t) 4) o
def weight (o : Vec Ideal S1x1024 .f32) : Vec Ideal S1x1024 .f32 :=
  k0_pay1 (k0_pay10 (iblk m c 2 t)) (normed (iblk m c 0 t) (iblk m c 1 t) (iblk m c 4 t)) o

theorem blkSC (o : Vec Ideal S1x1024 .f32) (d : Fin 1024) :
    scale m c t o (ix2 0 d) = o (ix2 0 d) + part (fsc (Z m c) eW (aX m c) (aN m c) d) (grid0.coords t 0) := by
  unfold part fsc
  simp only [← iblk3 m c t, ← blkX m c t, ← blkH m c t]
  exact pay12 (iblk m c 0 t) (iblk m c 1 t) (iblk m c 2 t) (iblk m c 3 t) o d

theorem blkSH (o : Vec Ideal S1x1024 .f32) (d : Fin 1024) :
    shift m c t o (ix2 0 d) = o (ix2 0 d) + part (fsh (Z m c) eW d) (grid0.coords t 0) := by
  unfold part fsh
  simp only [← blkH m c t]
  exact Up.pay1 _ o d

theorem blkNW (o : Vec Ideal S1x1024 .f32) (d : Fin 1024) :
    weight m c t o (ix2 0 d) = o (ix2 0 d) + part (fnw (Z m c) eW (aX m c) (aS m c) d) (grid0.coords t 0) := by
  unfold part fnw
  simp only [← blkX m c t, ← blkN m c t]
  exact Up.pay2 _ _ o d

theorem leftA (h0 : t.val % 16 = 0) : outsAt0 m c t.val t.isLt
    = (k0_pay2 (iblk m c 3 t) (k0_pay9 (iblk m c 2 t)) (k0_pay10 (iblk m c 2 t)) (normed (iblk m c 0 t) (iblk m c 1 t) (iblk m c 4 t)) (iblk m c 5 t),
      scale m c t (k0_pay3 (F := Ideal)),
      shift m c t (k0_pay4 (F := Ideal)),
      weight m c t (k0_pay5 (F := Ideal))) := by
  rw [outsAt0_A m c t h0]
  exact congrArg₂ Prod.mk (dxA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0))
    (congrArg₂ Prod.mk (dscA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0))
    (congrArg₂ Prod.mk (dshA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0))
      (dnwA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) ((hcond0_0 t).mpr h0))))

theorem leftB (h0 : ¬t.val % 16 = 0) : outsAt0 m c t.val t.isLt
    = (k0_pay2 (iblk m c 3 t) (k0_pay9 (iblk m c 2 t)) (k0_pay10 (iblk m c 2 t)) (normed (iblk m c 0 t) (iblk m c 1 t) (iblk m c 4 t)) (iblk m c 5 t),
      scale m c t (outsAt0 m c (t.val - 1) (Nat.lt_of_le_of_lt (Nat.sub_le _ _) t.isLt)).2.1,
      shift m c t (outsAt0 m c (t.val - 1) (Nat.lt_of_le_of_lt (Nat.sub_le _ _) t.isLt)).2.2.1,
      weight m c t (outsAt0 m c (t.val - 1) (Nat.lt_of_le_of_lt (Nat.sub_le _ _) t.isLt)).2.2.2) := by
  rw [outsAt0_B m c t h0]
  exact congrArg₂ Prod.mk (dxB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
    (congrArg₂ Prod.mk (dscB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
    (congrArg₂ Prod.mk (dshB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (dnwB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)))

/-- A vector set at the first point and added to at the others holds, at the last, the sum over all rows. -/
theorem sums (f : Fin 8192 → EReal) (d : Fin 1024)
    (g : Vec Ideal S512x1024 .f32 × Vec Ideal S1x1024 .f32 × Vec Ideal S1x1024 .f32 × Vec Ideal S1x1024 .f32 → Vec Ideal S1x1024 .f32)
    (s : Fin cfg0.N → Vec Ideal S1x1024 .f32 → Vec Ideal S1x1024 .f32) (z : Vec Ideal S1x1024 .f32) (hz : z (ix2 0 d) = 0)
    (hs : ∀ t o, s t o (ix2 0 d) = o (ix2 0 d) + part f (grid0.coords t 0))
    (hA : ∀ t : Fin cfg0.N, t.val % 16 = 0 → g (outsAt0 m c t.val t.isLt) = s t z)
    (hB : ∀ t : Fin cfg0.N, ¬t.val % 16 = 0 → g (outsAt0 m c t.val t.isLt)
      = s t (g (outsAt0 m c (t.val - 1) (Nat.lt_of_le_of_lt (Nat.sub_le _ _) t.isLt))))
    (ht : t.val % 16 = 15) : g (outsAt0 m c t.val t.isLt) (ix2 0 d) = ∑ r : Fin 8192, f r := by
  have hN : cfg0.N = 16 := N_0
  have hv : t.val + 1 = 16 := by have := t.isLt; omega
  refine Eq.trans (Up.runs N_0 f (fun j hj => g (outsAt0 m c j hj) (ix2 0 d)) (fun k hk => ?_) t.val t.isLt)
    (by rw [hv]; exact (Up.sum_parts f).symm)
  have e : grid0.coords ⟨k, hk⟩ 0 = (⟨k % 16, Nat.mod_lt _ (by omega)⟩ : Fin 16) :=
    Fin.ext ((coords_val ⟨k, hk⟩).trans (Nat.mod_eq_of_lt (lt_of_lt_of_eq hk N_0)).symm)
  rw [← e]
  by_cases h0 : k % 16 = 0
  · rw [if_pos h0]
    exact (congrFun (hA ⟨k, hk⟩ h0) _).trans ((hs ⟨k, hk⟩ z).trans (congrArg (fun a : EReal => a + _) hz))
  · rw [if_neg h0]
    exact (congrFun (hB ⟨k, hk⟩ h0) _).trans (hs ⟨k, hk⟩ _)

/-- The four results as arrays. -/
def RX : S8192x1024.Idx → EReal := fun i => DX (Z m c) eW (aX m c) (aN m c) (aS m c) (aO m c) (i 0) (i 1)
def RSC : S1x1024.Idx → EReal := fun i => ∑ r : Fin 8192, fsc (Z m c) eW (aX m c) (aN m c) (i 1) r
def RSH : S1x1024.Idx → EReal := fun i => ∑ r : Fin 8192, fsh (Z m c) eW (i 1) r
def RNW : S1x1024.Idx → EReal := fun i => ∑ r : Fin 8192, fnw (Z m c) eW (aX m c) (aS m c) (i 1) r

theorem dx_pnt (r : Fin 512) (d : Fin 1024) :
    (outsAt0 m c t.val t.isLt).1 (ix2 r d) = DX (Z m c) eW (aX m c) (aN m c) (aS m c) (aO m c) (Down.row (grid0.coords t 0) r) d := by
  refine Eq.trans ?_ (blkDX m c t r d)
  by_cases h0 : t.val % 16 = 0
  · rw [leftA m c t h0]
  · rw [leftB m c t h0]

theorem flushed6 : (dats m 0 c).flushed 6 t = ((cfg0.win 6).blk t).view.read (Elt Ideal) (RX m c) := by
  show (cfg0.win 6).cut (cfg0.grid.coords t) ((dats m 0 c).after 6 t) = _
  rw [after0_6]
  funext (y : S512x1024.Idx)
  rw [← Down.ix_eta y]
  exact (dx_pnt m c t (y 0) (y 1)).trans (congrArg (RX m c) (at_rows t (y 0) (y 1))).symm

theorem flushed7 (ht : t.val % 16 = 15) : (dats m 0 c).flushed 7 t = ((cfg0.win 7).blk t).view.read (Elt Ideal) (RSC m c) := by
  show (cfg0.win 7).cut (cfg0.grid.coords t) ((dats m 0 c).after 7 t) = _
  rw [after0_7]
  funext (y : S1x1024.Idx)
  rw [ix_one y]
  refine Eq.trans ?_ (congrArg (RSC m c) (at_vec t (y 1))).symm
  exact sums m c t (fsc (Z m c) eW (aX m c) (aN m c) (y 1)) (y 1) (fun o => o.2.1) (scale m c) (k0_pay3 (F := Ideal)) (Up.pay4 (y 1)) (fun t o => blkSC m c t o (y 1))
    (fun t h => by rw [leftA m c t h]) (fun t h => by rw [leftB m c t h]) ht

theorem flushed8 (ht : t.val % 16 = 15) : (dats m 0 c).flushed 8 t = ((cfg0.win 8).blk t).view.read (Elt Ideal) (RSH m c) := by
  show (cfg0.win 8).cut (cfg0.grid.coords t) ((dats m 0 c).after 8 t) = _
  rw [after0_8]
  funext (y : S1x1024.Idx)
  rw [ix_one y]
  refine Eq.trans ?_ (congrArg (RSH m c) (at_vec t (y 1))).symm
  exact sums m c t (fsh (Z m c) eW (y 1)) (y 1) (fun o => o.2.2.1) (shift m c) (k0_pay4 (F := Ideal)) (Up.pay5 (y 1)) (fun t o => blkSH m c t o (y 1))
    (fun t h => by rw [leftA m c t h]) (fun t h => by rw [leftB m c t h]) ht

theorem flushed9 (ht : t.val % 16 = 15) : (dats m 0 c).flushed 9 t = ((cfg0.win 9).blk t).view.read (Elt Ideal) (RNW m c) := by
  show (cfg0.win 9).cut (cfg0.grid.coords t) ((dats m 0 c).after 9 t) = _
  rw [after0_9]
  funext (y : S1x1024.Idx)
  rw [ix_one y]
  refine Eq.trans ?_ (congrArg (RNW m c) (at_vec t (y 1))).symm
  exact sums m c t (fnw (Z m c) eW (aX m c) (aS m c) (y 1)) (y 1) (fun o => o.2.2.2) (weight m c) (k0_pay5 (F := Ideal)) (Up.pay6 (y 1)) (fun t o => blkNW m c t o (y 1))
    (fun t h => by rw [leftA m c t h]) (fun t h => by rw [leftB m c t h]) ht

theorem cover6 (i : S8192x1024.Idx) : ∃ t : Fin cfg0.N, (cfg0.win 6).flush t = true ∧ i ∈ ((cfg0.win 6).blk t).view.set := by
  have h0 : (i 0).val < 8192 := (i 0).isLt
  have hN : cfg0.N = 16 := N_0
  have ht : (i 0).val / 512 < cfg0.N := by omega
  have hr : (i 0).val % 512 < 512 := by omega
  refine ⟨⟨(i 0).val / 512, ht⟩, flush0_6 _, ?_⟩
  have e0 : grid0.coords ⟨(i 0).val / 512, ht⟩ 0 = (⟨(i 0).val / 512, by omega⟩ : Fin 16) := Fin.ext (coords_val _)
  have e1 := congrArg (fun t : Fin 16 => (ix2 (Down.row t ⟨(i 0).val % 512, hr⟩) (i 1) : S8192x1024.Idx)) e0
  have e2 := congrArg (fun n : Fin 8192 => (ix2 n (i 1) : S8192x1024.Idx)) (Down.row_eta (i 0) (by omega) hr)
  exact Blocks.mem_of_emb _ _ _ ((at_rows ⟨(i 0).val / 512, ht⟩ ⟨(i 0).val % 512, hr⟩ (i 1)).trans (e1.trans (e2.trans (Down.ix_eta i))))

/-- The last point, whose blocks of the three vectors are kept. -/
def last : Fin cfg0.N := ⟨15, lt_of_lt_of_eq (by omega) N_0.symm⟩

theorem last_at (i : S1x1024.Idx) : (((cfg0.win 7).blk last).view.emb (ix2 0 (i 1)) : S1x1024.Idx) = i := (at_vec last (i 1)).trans (ix_one i).symm

theorem final6 : (dats m 0 c).arrAt 6 cfg0.N = RX m c :=
  (dats m 0 c).arrAt_eq_of_cover 6 (RX m c) (fun t _ => flushed6 m c t) cover6

theorem final7 : (dats m 0 c).arrAt 7 cfg0.N = RSC m c :=
  (dats m 0 c).arrAt_eq_of_cover 7 (RSC m c) (fun t hf => flushed7 m c t ((flush0_7 t).mp hf))
    fun i => ⟨last, (flush0_7 _).mpr rfl, Blocks.mem_of_emb _ _ _ (last_at i)⟩

theorem final8 : (dats m 0 c).arrAt 8 cfg0.N = RSH m c :=
  (dats m 0 c).arrAt_eq_of_cover 8 (RSH m c) (fun t hf => flushed8 m c t ((flush0_8 t).mp hf))
    fun i => ⟨last, (flush0_8 _).mpr rfl, Blocks.mem_of_emb _ _ _ (last_at i)⟩

theorem final9 : (dats m 0 c).arrAt 9 cfg0.N = RNW m c :=
  (dats m 0 c).arrAt_eq_of_cover 9 (RNW m c) (fun t hf => flushed9 m c t ((flush0_9 t).mp hf))
    fun i => ⟨last, (flush0_9 _).mpr rfl, Blocks.mem_of_emb _ _ _ (last_at i)⟩

/-- The cotangent, the weights, the residual stream, the norm's weight, the scale and the residual's cotangent a core holds at launch. -/
abbrev iZ : (⟨Cert.Reference6Ideal.S8192x4112, .f32⟩ : BufTy).Contents (Elt Ideal) := m ((c.tc : Thread nD τ).loc main_arg0)
abbrev iW : (⟨Cert.Reference6Ideal.S1024x4112, .f32⟩ : BufTy).Contents (Elt Ideal) := m ((c.tc : Thread nD τ).loc main_arg1)
abbrev iX : (⟨Cert.Reference6Ideal.S8192x1024, .f32⟩ : BufTy).Contents (Elt Ideal) := m ((c.tc : Thread nD τ).loc main_arg2)
abbrev iN : (⟨Cert.Reference6Ideal.S1x1024, .f32⟩ : BufTy).Contents (Elt Ideal) := m ((c.tc : Thread nD τ).loc main_arg3)
abbrev iS : (⟨Cert.Reference6Ideal.S1x1024, .f32⟩ : BufTy).Contents (Elt Ideal) := m ((c.tc : Thread nD τ).loc main_arg4)
abbrev iO : (⟨Cert.Reference6Ideal.S8192x1024, .f32⟩ : BufTy).Contents (Elt Ideal) := m ((c.tc : Thread nD τ).loc main_arg5)

theorem hX : aX m c = iX m c := V_main_arg2 m c
theorem hN : aN m c = iN m c := V_main_arg3 m c
theorem hS : aS m c = iS m c := V_main_arg4 m c
theorem hO : aO m c = iO m c := V_main_arg5 m c

/-- An array of 4112 columns continued with zeros. -/
def pads {a : ℕ} (x : Shape.Idx ⟨2, ![a, 4112]⟩ → EReal) (r : Fin a) (k : Fin 5120) : EReal :=
  if h : k.val < 4112 then x (@ix2 a 4112 r ⟨k.val, h⟩) else 0

theorem padded {a : ℕ} (x : Shape.Idx ⟨2, ![a, 4112]⟩ → EReal) (hp) (hu) (r : Fin a) (k : Fin 5120) :
    pad (⟨2, ![a, 5120]⟩ : Shape) ![0, 0] ![0, 1008] ![0, 0] x (sitofp (F := Ideal) .f32 (constantI S_ 32 0#32)) hp hu (@ix2 a 5120 r k) = pads x r k := by
  unfold pads
  split
  · rename_i h
    refine pad_apply_of_inside _ _ _ x _ hp hu _ (@ix2 a 4112 r ⟨k.val, h⟩) fun b => ?_
    match b with
    | ⟨0, _⟩ => show r.val = 0 + r.val * (0 + 1); omega
    | ⟨1, _⟩ => show k.val = 0 + k.val * (0 + 1); omega
  · rename_i h
    refine (pad_apply_of_not_inside _ _ _ x _ hp hu _ 1 fun hb => h ?_).trans (sitofp_zero (φ := .f32))
    have h2 := hb.2.2
    have h3 : (k.val - 0) / (0 + 1) < 4112 := h2
    omega

theorem hW (d : Fin 1024) (k : Fin 5120) : aW m c (ix2 d k) = pads (iW m c) d k := by
  have h : aW m c = pad S1024x5120 ![0, 0] ![0, 1008] ![0, 0] (iW m c : S1024x4112.Idx → EReal) (sitofp (F := Ideal) .f32 (constantI S_ 32 0#32))
      pads_S1024x4112_S1024x5120_000_010080 h_S_ := by
    show after (List.flatten [hostOps0, hostOps0_1, hostOps0_2, hostOps0_3, hostOps0_4]) (fun b => m (c, b)) (Proc.devRef .tc main_v5) = _
    simp only [hostOps0, hostOps0_1, hostOps0_2, hostOps0_3, hostOps0_4, List.flatten_cons, List.flatten_nil, List.append_nil, List.cons_append, List.nil_append]
    after_results <;> rfl
  rw [h]
  exact padded (iW m c) _ _ d k

theorem hZ (p : Fin 5) (r : Fin 8192) (n : Fin 1024) : aZ m c (ix3 p r n) = pads (iZ m c) r (col p n) := by
  have h : aZ m c = transpose S5x8192x1024 [1, 0, 2] (shapeCast S8192x5x1024
      (pad S8192x5120 ![0, 0] ![0, 1008] ![0, 0] (iZ m c : S8192x4112.Idx → EReal) (sitofp (F := Ideal) .f32 (constantI S_ 32 0#32))
        pads_S8192x4112_S8192x5120_000_010080 h_S_) shapeCasts_S8192x5120_S8192x5x1024) transposes_S8192x5x1024_S5x8192x1024_1_0_2 := by
    show after (List.flatten [hostOps0, hostOps0_1, hostOps0_2, hostOps0_3, hostOps0_4]) (fun b => m (c, b)) (Proc.devRef .tc main_v4) = _
    simp only [hostOps0, hostOps0_1, hostOps0_2, hostOps0_3, hostOps0_4, List.flatten_cons, List.flatten_nil, List.append_nil, List.cons_append, List.nil_append]
    after_results <;> rfl
  rw [h]
  refine (transpose_apply _ _ _ _ (@ix3 8192 5 1024 r p n) fun b => ?_).trans ((shapeCast_apply _ _ _ (@ix2 8192 5120 r (col p n)) ?_).trans
    (padded (iZ m c) _ _ r (col p n)))
  · match b with
    | ⟨0, _⟩ => rfl
    | ⟨1, _⟩ => rfl
    | ⟨2, _⟩ => rfl
  · rw [Shape.rowMajor_val_two, Shape.rowMajor_val_three]
    show r.val * 5120 + (1024 * p.val + n.val) = (r.val * 5 + p.val) * 1024 + n.val
    omega

/-- The parts' sums are the sum over the 4112 columns. -/
theorem sum_cols (f : Fin 5120 → EReal) (hf : ∀ k : Fin 5120, ¬k.val < 4112 → f k = 0) :
    ∑ p : Fin 5, ∑ n : Fin 1024, f (col p n) = ∑ k : Fin 4112, f ⟨k.val, by omega⟩ := by
  rw [← Fintype.sum_prod_type' (fun (p : Fin 5) (n : Fin 1024) => f (col p n))]
  refine (Fintype.sum_equiv ⟨fun q : Fin 5 × Fin 1024 => col q.1 q.2,
    fun k => (⟨k.val / 1024, by omega⟩, ⟨k.val % 1024, by omega⟩), fun q => ?_, fun k => ?_⟩ _ f fun q => rfl).trans ?_
  · exact Prod.ext (Fin.ext (by show (1024 * q.1.val + q.2.val) / 1024 = q.1.val; omega))
      (Fin.ext (by show (1024 * q.1.val + q.2.val) % 1024 = q.2.val; omega))
  · exact Fin.ext (by show 1024 * (k.val / 1024) + k.val % 1024 = k.val; omega)
  · refine (Fin.sum_univ_add (a := 4112) (b := 1008) f).trans ?_
    rw [Finset.sum_eq_zero fun (k : Fin 1008) _ => hf (Fin.natAdd 4112 k) (by show ¬4112 + k.val < 4112; omega), add_zero]
    rfl

theorem sum_pads {a b : ℕ} (x : Shape.Idx ⟨2, ![a, 4112]⟩ → EReal) (y : Shape.Idx ⟨2, ![b, 4112]⟩ → EReal) (r : Fin a) (d : Fin b) :
    ∑ p : Fin 5, ∑ n : Fin 1024, pads x r (col p n) * pads y d (col p n) = ∑ k : Fin 4112, x (@ix2 a 4112 r k) * y (@ix2 b 4112 d k) := by
  rw [sum_cols (fun k => pads x r k * pads y d k) fun k hk => by simp only [pads, dif_neg hk, mul_zero]]
  refine Finset.sum_congr rfl fun k _ => ?_
  simp only [pads, dif_pos k.isLt]

section Ref
open Cert.Reference6Ideal.Read
variable (x0 : (⟨Cert.Reference6Ideal.S8192x4112, .f32⟩ : BufTy).Contents (Elt Ideal))
  (x1 : (⟨Cert.Reference6Ideal.S1024x4112, .f32⟩ : BufTy).Contents (Elt Ideal))
  (x2 : (⟨Cert.Reference6Ideal.S8192x1024, .f32⟩ : BufTy).Contents (Elt Ideal))
  (x3 x4 : (⟨Cert.Reference6Ideal.S1x1024, .f32⟩ : BufTy).Contents (Elt Ideal))
  (x5 : (⟨Cert.Reference6Ideal.S8192x1024, .f32⟩ : BufTy).Contents (Elt Ideal))

theorem K_eq (r : Fin 8192) (d : Fin 1024) : K m c r d = val_main_v23 (F := Ideal) (iZ m c) (iW m c) (@ix2 8192 1024 r d) := by
  have h : K m c r d = ∑ p : Fin 5, ∑ n : Fin 1024, pads (iZ m c) r (col p n) * pads (iW m c) d (col p n) :=
    Finset.sum_congr rfl fun p _ => Finset.sum_congr rfl fun n _ => congrArg₂ (fun a b : EReal => a * b) (hZ m c p r n) (hW m c d (col p n))
  rw [h, val_main_v23_apply, sum_pads]
  exact Finset.sum_congr rfl fun k _ => congrArg₂ (fun a b : EReal => a * b) (at2 rfl rfl) (at2 rfl rfl)

/-- The reference's product is the up-projection reference's of the array and the identity. -/
theorem same (h : Fin 8192 → Fin 1024 → EReal) (e : ∀ r d, h r d = val_main_v23 (F := Ideal) x0 x1 (@ix2 8192 1024 r d)) :
    val_main_v23 (F := Ideal) x0 x1 = Reference5Ideal.Read.val_main_v23 (F := Ideal) (eZ h) eW := by
  funext i
  obtain ⟨r, d, rfl⟩ : ∃ (r : Fin 8192) (d : Fin 1024), i = @ix2 8192 1024 r d := ⟨i 0, i 1, (Down.ix_eta i).symm⟩
  exact ((e r d).symm.trans (H_e h r d).symm).trans (Up.v23 (eZ h) eW r d).symm

/-- The reference's four results are the up-projection reference's of any product equal to its own. -/
theorem like (y0 y1) (e : val_main_v23 (F := Ideal) x0 x1 = Reference5Ideal.Read.val_main_v23 (F := Ideal) y0 y1) :
    (val_main_v50 (F := Ideal) x0 x1 x2 x3 x4 x5 = Reference5Ideal.Read.val_main_v50 (F := Ideal) y0 y1 x2 x3 x4 x5)
      ∧ (val_main_v28 (F := Ideal) x0 x1 x2 x3 = Reference5Ideal.Read.val_main_v28 (F := Ideal) y0 y1 x2 x3)
      ∧ (val_main_v25 (F := Ideal) x0 x1 = Reference5Ideal.Read.val_main_v25 (F := Ideal) y0 y1)
      ∧ (val_main_v33 (F := Ideal) x0 x1 x2 x4 = Reference5Ideal.Read.val_main_v33 (F := Ideal) y0 y1 x2 x4) := by
  refine ⟨?_, ?_, ?_, ?_⟩
  · unfold val_main_v50 val_main_v49 val_main_v48 val_main_v47 val_main_v46 val_main_v45 val_main_v44 val_main_v42 val_main_v41 val_main_v40
      val_main_v38 val_main_v37 val_main_v36 val_main_v35 val_main_v30
    rw [e]
    rfl
  · unfold val_main_v28 val_main_v27 val_main_v26
    rw [e]
    rfl
  · unfold val_main_v25 val_main_v24
    rw [e]
    rfl
  · unfold val_main_v33 val_main_v32 val_main_v31 val_main_v30
    rw [e]
    rfl

theorem prod_eq : val_main_v23 (F := Ideal) (iZ m c) (iW m c) = Reference5Ideal.Read.val_main_v23 (F := Ideal) (eZ (K m c)) eW :=
  same (iZ m c) (iW m c) (K m c) (K_eq m c)

theorem out0 : (dats m 0 c).arrAt 6 cfg0.N = val_main_v50 (F := Ideal) (iZ m c) (iW m c) (iX m c) (iN m c) (iS m c) (iO m c) := by
  rw [final6, (like (iZ m c) (iW m c) (iX m c) (iN m c) (iS m c) (iO m c) _ _ (prod_eq m c)).1]
  unfold RX
  rw [hX, hN, hS, hO]
  exact funext fun i => Up.ref_dx (eZ (K m c)) eW (iX m c) (iN m c) (iS m c) (iO m c) i

theorem out1 : (dats m 0 c).arrAt 7 cfg0.N = val_main_v28 (F := Ideal) (iZ m c) (iW m c) (iX m c) (iN m c) := by
  rw [final7, (like (iZ m c) (iW m c) (iX m c) (iN m c) (iS m c) (iO m c) _ _ (prod_eq m c)).2.1]
  unfold RSC
  rw [hX, hN]
  exact funext fun i => Up.ref_sc (eZ (K m c)) eW (iX m c) (iN m c) i

theorem out2 : (dats m 0 c).arrAt 8 cfg0.N = val_main_v25 (F := Ideal) (iZ m c) (iW m c) := by
  rw [final8, (like (iZ m c) (iW m c) (iX m c) (iN m c) (iS m c) (iO m c) _ _ (prod_eq m c)).2.2.1]
  exact funext fun i => Up.ref_sh (eZ (K m c)) eW i

theorem out3 : (dats m 0 c).arrAt 9 cfg0.N = val_main_v33 (F := Ideal) (iZ m c) (iW m c) (iX m c) (iS m c) := by
  rw [final9, (like (iZ m c) (iW m c) (iX m c) (iN m c) (iS m c) (iO m c) _ _ (prod_eq m c)).2.2.2]
  unfold RNW
  rw [hX, hS]
  exact funext fun i => Up.ref_nw (eZ (K m c)) eW (iX m c) (iS m c) i

end Ref

end Cert.FoxIn
-- ==== Proof.Resid.lean ====
/-
  The down-projection's forward call: its two results are the reference's.
-/
module

public import Idealize.ShloMosaic.Lib.StableHlo.RunRead
public import proofs.«01_k».proof.Proof.DownFinal
public import proofs.«01_k».proof.Proof.UpValue
public import proofs.«01_k».proof.Proof.Gen.Kernel7Ideal.Frame
public import proofs.«01_k».proof.Proof.Gen.Reference7Ideal.Read

@[expose] public section

set_option maxRecDepth 16384

noncomputable section

namespace Cert.Resid

open Idealize.ShloMosaic Idealize.ShloMosaic.TcCoe Idealize.ShloMosaic.StableHlo Cert.Kernel7Ideal Cert.Kernel7Ideal.Gen Cert.Reference7Ideal.Read

theorem pay1 (a : Vec Ideal S512x4096 .bf16) (w : Vec Ideal S4096x1024 .bf16) (r : Fin 512) (d : Fin 1024) :
    k0_pay1 a w (ix2 r d) = ∑ n : Fin 4096, a (ix2 r n) * w (ix2 n d) := by
  unfold k0_pay1
  pointwise

theorem pay2 (a : Vec Ideal S512x4096 .bf16) (w : Vec Ideal S4096x1024 .bf16) (r : Fin 512) (d : Fin 1024) :
    k0_pay2 a w (ix2 r d) = k0_pay1 a w (ix2 r d) := by
  unfold k0_pay2
  generalize k0_pay1 a w = y
  pointwise

theorem pay3 (a : Vec Ideal S512x4096 .bf16) (w : Vec Ideal S4096x1024 .bf16) (x : Vec Ideal S512x1024 .f32) (g : Vec Ideal S1x1024 .f32)
    (r : Fin 512) (d : Fin 1024) :
    k0_pay3 a w x g (ix2 r d) = x (ix2 r d) + g (ix2 0 d) * k0_pay1 a w (ix2 r d) := by
  unfold k0_pay3
  generalize k0_pay1 a w = y
  pointwise

/-- A rectangle that is the whole array names every position by itself. -/
theorem whole {a b : ℕ} (inb) (y : Shape.Idx ⟨2, ![a, b]⟩) : (Rect.unit (s := ⟨2, ![a, b]⟩) ![0, 0] ![a, b] inb).idx y = y := by
  funext k
  apply Fin.ext
  show (![0, 0] : Fin 2 → ℕ) k + 1 * (y k).val = (y k).val
  rw [Blocks.zero2 k]; omega

theorem wrote {e : EltTy} {a b : ℕ} (inb) (X : Shape.Idx ⟨2, ![a, b]⟩ → Elt Ideal e) :
    View.canon [⟨Rect.unit (s := ⟨2, ![a, b]⟩) ![0, 0] ![a, b] inb, X⟩] = X := by
  funext y
  refine Eq.trans (congrArg _ (whole inb y).symm) ?_
  exact View.canon_cons_emb (Rect.unit (s := ⟨2, ![a, b]⟩) ![0, 0] ![a, b] inb) X [] y

theorem read {e : EltTy} {a b : ℕ} (inb) (X : Shape.Idx ⟨2, ![a, b]⟩ → Elt Ideal e) :
    View.ld X (Rect.unit (s := ⟨2, ![a, b]⟩) ![0, 0] ![a, b] inb) = X :=
  funext fun y => congrArg X (whole inb y)

section Point
variable (x0 : Vec Ideal S512x4096 .bf16) (x1 : Vec Ideal S4096x1024 .bf16) (x2 : Vec Ideal S512x1024 .f32) (x3 : Vec Ideal S1x1024 .f32)

theorem left4 : out0_4 x0 x1 x2 x3 = k0_pay3 x0 x1 x2 x3 := by
  unfold out0_4
  refine (wrote _ _).trans ?_
  rw [read, read, read, read]

theorem left5 : out0_5 x0 x1 x2 x3 = k0_pay2 x0 x1 := by
  unfold out0_5
  refine (wrote _ _).trans ?_
  rw [read, read]

end Point

variable (m : (ℓ : Loc nD τ sig) → Buf (Elt Ideal) ℓ)

/-- The squared activation, the weights, the residual stream and the gate as the call finds them. -/
abbrev aU (c : Dev nD) : Shape.Idx ⟨2, ![8192, 4096]⟩ → EReal := V m c main_v3
abbrev aW (c : Dev nD) : Shape.Idx ⟨2, ![4096, 1024]⟩ → EReal := V m c main_v4
abbrev aX (c : Dev nD) : Shape.Idx ⟨2, ![8192, 1024]⟩ → EReal := V m c main_arg2
abbrev aG (c : Dev nD) : Shape.Idx ⟨2, ![1, 1024]⟩ → EReal := V m c main_arg3

theorem coords_val : ∀ t : Fin grid0.N, (grid0.coords t 0).val = t.val := by
  decide +kernel

theorem iblk0 (c : Dev nD) (t : Fin cfg0.N) (r : Fin 512) (n : Fin 4096) :
    iblk m c 0 t (ix2 r n) = aU m c (ix2 (Down.row (grid0.coords t 0) r) n) := by
  show V m c main_v3 (((cfg0.win 0).blk t).view.emb (ix2 r n)) = _
  refine congrArg (V m c main_v3) ?_
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 4096 + 1 * n.val = n.val
    omega

theorem iblk1 (c : Dev nD) (t : Fin cfg0.N) (n : Fin 4096) (d : Fin 1024) :
    iblk m c 1 t (ix2 n d) = aW m c (ix2 n d) := by
  show V m c main_v4 (((cfg0.win 1).blk t).view.emb (ix2 n d)) = _
  refine congrArg (V m c main_v4) ?_
  have h1 : (grid0.coords t 1).val < 1 := (grid0.coords t 1).isLt
  funext a
  match a with
  | ⟨0, _⟩ =>
    apply Fin.ext
    show 0 * 4096 + 1 * n.val = n.val
    omega
  | ⟨1, _⟩ =>
    apply Fin.ext
    show (BitVec.ofNat 32 (grid0.coords t 1).val).toNat * 1024 + 1 * d.val = d.val
    rw [BitVec.toNat_ofNat]; omega

/-- Where a block of rows of the residual stream, and of either result, lies. -/
theorem at_rows (t : Fin cfg0.N) (r : Fin 512) (d : Fin 1024) :
    (((cfg0.win 4).blk t).view.emb (ix2 r d) : S8192x1024.Idx) = ix2 (Down.row (grid0.coords t 0) r) d := by
  have h0 : (grid0.coords t 0).val < 16 := (grid0.coords t 0).isLt
  have h1 : (grid0.coords t 1).val < 1 := (grid0.coords t 1).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show (BitVec.ofNat 32 (grid0.coords t 1).val).toNat * 1024 + 1 * d.val = d.val
    rw [BitVec.toNat_ofNat]; omega

theorem iblk2 (c : Dev nD) (t : Fin cfg0.N) (r : Fin 512) (d : Fin 1024) :
    iblk m c 2 t (ix2 r d) = aX m c (ix2 (Down.row (grid0.coords t 0) r) d) :=
  congrArg (V m c main_arg2) (at_rows t r d)

theorem iblk3 (c : Dev nD) (t : Fin cfg0.N) (d : Fin 1024) :
    iblk m c 3 t (ix2 0 d) = aG m c (ix2 0 d) := by
  show V m c main_arg3 (((cfg0.win 3).blk t).view.emb (ix2 0 d)) = _
  refine congrArg (V m c main_arg3) ?_
  have h1 : (grid0.coords t 1).val < 1 := (grid0.coords t 1).isLt
  funext a
  match a with
  | ⟨0, _⟩ => rfl
  | ⟨1, _⟩ =>
    apply Fin.ext
    show (BitVec.ofNat 32 (grid0.coords t 1).val).toNat * 1024 + 1 * d.val = d.val
    rw [BitVec.toNat_ofNat]; omega

section Arrays
variable (u : Shape.Idx ⟨2, ![8192, 4096]⟩ → EReal) (w : Shape.Idx ⟨2, ![4096, 1024]⟩ → EReal)
  (x : Shape.Idx ⟨2, ![8192, 1024]⟩ → EReal) (g : Shape.Idx ⟨2, ![1, 1024]⟩ → EReal)

/-- The product, and the residual stream with the gated product on it. -/
def Y : S8192x1024.Idx → EReal := fun i => ∑ n : Fin 4096, u (@ix2 8192 4096 (i 0) n) * w (@ix2 4096 1024 n (i 1))
def O : S8192x1024.Idx → EReal := fun i => x (@ix2 8192 1024 (i 0) (i 1)) + g (@ix2 1 1024 0 (i 1)) * Y u w i

end Arrays

variable (c : Dev nD) (t : Fin cfg0.N)

theorem blkY (r : Fin 512) (d : Fin 1024) :
    k0_pay1 (iblk m c 0 t) (iblk m c 1 t) (ix2 r d) = Y (aU m c) (aW m c) (ix2 (Down.row (grid0.coords t 0) r) d) := by
  refine (pay1 (iblk m c 0 t) (iblk m c 1 t) r d).trans (Finset.sum_congr rfl fun n _ => ?_)
  exact congrArg₂ (fun a b : EReal => a * b) (iblk0 m c t r n) (iblk1 m c t n d)

theorem flushed4 : (dats m 0 c).flushed 4 t = ((cfg0.win 4).blk t).view.read (Elt Ideal) (O (aU m c) (aW m c) (aX m c) (aG m c)) := by
  show (cfg0.win 4).cut (cfg0.grid.coords t) ((dats m 0 c).after 4 t) = _
  rw [after0_4, left4]
  funext (y : S512x1024.Idx)
  rw [← Down.ix_eta y]
  refine ((pay3 (iblk m c 0 t) (iblk m c 1 t) (iblk m c 2 t) (iblk m c 3 t) (y 0) (y 1)).trans ?_).trans
    (congrArg (O (aU m c) (aW m c) (aX m c) (aG m c)) (at_rows t (y 0) (y 1))).symm
  exact congrArg₂ (fun a b : EReal => a + b) (iblk2 m c t (y 0) (y 1))
    (congrArg₂ (fun a b : EReal => a * b) (iblk3 m c t (y 1)) (blkY m c t (y 0) (y 1)))

theorem flushed5 : (dats m 0 c).flushed 5 t = ((cfg0.win 5).blk t).view.read (Elt Ideal) (Y (aU m c) (aW m c)) := by
  show (cfg0.win 5).cut (cfg0.grid.coords t) ((dats m 0 c).after 5 t) = _
  rw [after0_5, left5]
  funext (y : S512x1024.Idx)
  rw [← Down.ix_eta y]
  exact ((pay2 (iblk m c 0 t) (iblk m c 1 t) (y 0) (y 1)).trans (blkY m c t (y 0) (y 1))).trans
    (congrArg (Y (aU m c) (aW m c)) (at_rows t (y 0) (y 1))).symm

/-- Every row of the results lies in some point's block. -/
theorem reached (i : S8192x1024.Idx) : ∃ (t : Fin cfg0.N) (r : Fin 512), (((cfg0.win 4).blk t).view.emb (ix2 r (i 1)) : S8192x1024.Idx) = i := by
  have h0 : (i 0).val < 8192 := (i 0).isLt
  have hN : cfg0.N = 16 := N_0
  have ht : (i 0).val / 512 < cfg0.N := by omega
  have hr : (i 0).val % 512 < 512 := by omega
  refine ⟨⟨(i 0).val / 512, ht⟩, ⟨(i 0).val % 512, hr⟩, (at_rows _ _ (i 1)).trans ?_⟩
  have e0 : grid0.coords ⟨(i 0).val / 512, ht⟩ 0 = (⟨(i 0).val / 512, by omega⟩ : Fin 16) := Fin.ext (coords_val _)
  have e1 := congrArg (fun t : Fin 16 => (ix2 (Down.row t ⟨(i 0).val % 512, hr⟩) (i 1) : S8192x1024.Idx)) e0
  have e2 := congrArg (fun n : Fin 8192 => (ix2 n (i 1) : S8192x1024.Idx)) (Down.row_eta (i 0) (by omega) hr)
  exact e1.trans (e2.trans (Down.ix_eta i))

theorem cover4 (i : S8192x1024.Idx) : ∃ t : Fin cfg0.N, (cfg0.win 4).flush t = true ∧ i ∈ ((cfg0.win 4).blk t).view.set := by
  obtain ⟨t, r, h⟩ := reached i
  exact ⟨t, flush0_4 t, Blocks.mem_of_emb _ _ _ h⟩

theorem cover5 (i : S8192x1024.Idx) : ∃ t : Fin cfg0.N, (cfg0.win 5).flush t = true ∧ i ∈ ((cfg0.win 5).blk t).view.set := by
  obtain ⟨t, r, h⟩ := reached i
  exact ⟨t, flush0_5 t, Blocks.mem_of_emb _ _ _ h⟩

/-- The pre-activation, the weights, the residual stream and the gate a core holds at launch. -/
abbrev iZ : (⟨Cert.Reference7Ideal.S8192x4096, .f32⟩ : BufTy).Contents (Elt Ideal) := m ((c.tc : Thread nD τ).loc main_arg0)
abbrev iW : (⟨Cert.Reference7Ideal.S4096x1024, .f32⟩ : BufTy).Contents (Elt Ideal) := m ((c.tc : Thread nD τ).loc main_arg1)
abbrev iX : (⟨Cert.Reference7Ideal.S8192x1024, .f32⟩ : BufTy).Contents (Elt Ideal) := m ((c.tc : Thread nD τ).loc main_arg2)
abbrev iG : (⟨Cert.Reference7Ideal.S1x1024, .f32⟩ : BufTy).Contents (Elt Ideal) := m ((c.tc : Thread nD τ).loc main_arg3)

theorem hU : aU m c = val_main_v1 (iZ m c) := by
  show after hostOps0 (fun b => m (c, b)) (Proc.devRef .tc main_v3) = _
  simp only [hostOps0]
  after_results <;> rfl

theorem hW : aW m c = iW m c := by
  show after hostOps0 (fun b => m (c, b)) (Proc.devRef .tc main_v4) = _
  simp only [hostOps0]
  after_results <;> rfl

section Ref
variable (x0 : (⟨Cert.Reference7Ideal.S8192x4096, .f32⟩ : BufTy).Contents (Elt Ideal))
  (x1 : (⟨Cert.Reference7Ideal.S4096x1024, .f32⟩ : BufTy).Contents (Elt Ideal))
  (x2 : (⟨Cert.Reference7Ideal.S8192x1024, .f32⟩ : BufTy).Contents (Elt Ideal))
  (x3 : (⟨Cert.Reference7Ideal.S1x1024, .f32⟩ : BufTy).Contents (Elt Ideal))

theorem ref_y (i : Cert.Reference7Ideal.S8192x1024.Idx) : Y (val_main_v1 (F := Ideal) x0) x1 i = val_main_v2 (F := Ideal) x0 x1 i := by
  rw [val_main_v2_apply]
  refine Finset.sum_congr rfl fun n _ => ?_
  exact congrArg₂ (fun a b : EReal => a * b) (Up.at2 rfl rfl) (Up.at2 rfl rfl)

theorem ref_o (i : Cert.Reference7Ideal.S8192x1024.Idx) :
    O (val_main_v1 (F := Ideal) x0) x1 x2 x3 i = val_main_v5 (F := Ideal) x0 x1 x2 x3 i := by
  rw [val_main_v5_apply, val_main_v4_apply, val_main_v3_apply, ← ref_y]
  exact congrArg₂ (fun a b : EReal => a + b) (Up.at2 rfl rfl) (congrArg (fun a : EReal => a * Y (val_main_v1 (F := Ideal) x0) x1 i) (Up.at2 rfl rfl))

end Ref

theorem out0 : (dats m 0 c).arrAt 4 cfg0.N = val_main_v5 (F := Ideal) (iZ m c) (iW m c) (iX m c) (iG m c) := by
  rw [(dats m 0 c).arrAt_eq_of_cover 4 (O (aU m c) (aW m c) (aX m c) (aG m c)) (fun t _ => flushed4 m c t) cover4, hU, hW]
  have hX : aX m c = iX m c := V_main_arg2 m c
  have hG : aG m c = iG m c := V_main_arg3 m c
  rw [hX, hG]
  exact funext fun i => ref_o _ _ _ _ i

theorem out1 : (dats m 0 c).arrAt 5 cfg0.N = val_main_v6 (F := Ideal) (iZ m c) (iW m c) := by
  rw [(dats m 0 c).arrAt_eq_of_cover 5 (Y (aU m c) (aW m c)) (fun t _ => flushed5 m c t) cover5, hU, hW]
  exact funext fun i => ref_y _ _ i

end Cert.Resid
-- ==== Proof.LnUp.lean ====
/-
  The up-projection's forward call: its three results are the reference's.
-/
module

public import Idealize.ShloMosaic.Lib.StableHlo.RunRead
public import proofs.«01_k».proof.Proof.UpValue
public import proofs.«01_k».proof.Proof.Gen.Kernel8Ideal.Frame
public import proofs.«01_k».proof.Proof.Gen.Reference8Ideal.Read

@[expose] public section

set_option maxRecDepth 16384

noncomputable section

namespace Cert.LnUp

open Idealize.ShloMosaic Idealize.ShloMosaic.TcCoe Idealize.ShloMosaic.StableHlo Cert.Kernel8Ideal Cert.Kernel8Ideal.Gen Cert.Reference8Ideal.Read
open Cert.Blocks
open Cert.Up (cK cE c1 R X at2 load2)

theorem pay1 (x : Vec Ideal S512x1024 .f32) (n s b : Vec Ideal S1x1024 .f32) (r : Fin 512) (d : Fin 1024) :
    k0_pay1 x n s b (ix2 r d)
      = x (ix2 r d) * Ideal.rsqrt (Ideal.div (∑ e : Fin 1024, x (ix2 r e) * x (ix2 r e)) cK + cE) * n (ix2 0 d) * (c1 + s (ix2 0 d))
        + b (ix2 0 d) := by
  unfold k0_pay1
  pointwise

theorem pay2 (x : Vec Ideal S512x1024 .f32) (n s b : Vec Ideal S1x1024 .f32) : k0_pay2 x n s b = k0_pay1 x n s b := by
  funext y
  rw [← Down.ix_eta y]
  unfold k0_pay2
  generalize k0_pay1 x n s b = u
  pointwise

theorem pay3 (h : Vec Ideal S512x1024 .bf16) (w : Vec Ideal S1024x4096 .bf16) (r : Fin 512) (n : Fin 4096) :
    k0_pay3 h w (ix2 r n) = max (∑ d : Fin 1024, h (ix2 r d) * w (ix2 d n)) 0 := by
  unfold k0_pay3
  pointwise

theorem pay4 (h : Vec Ideal S512x1024 .bf16) (w : Vec Ideal S1024x4096 .bf16) (r : Fin 512) (n : Fin 4096) :
    k0_pay4 h w (ix2 r n) = k0_pay3 h w (ix2 r n) := by
  unfold k0_pay4
  generalize k0_pay3 h w = u
  pointwise

theorem pay5 (h : Vec Ideal S512x1024 .bf16) (w : Vec Ideal S1024x4096 .bf16) (r : Fin 512) (n : Fin 4096) :
    k0_pay5 h w (ix2 r n) = k0_pay3 h w (ix2 r n) * k0_pay3 h w (ix2 r n) := by
  unfold k0_pay5
  generalize k0_pay3 h w = u
  pointwise

section Point
variable (c : Dev nD) (i : grid0.Coords)
  (arg2 : Memref sig .tc .vmem S512x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x4096 .bf16) (harg6 : arg6.IsWhole) (arg7 : Memref sig .tc .vmem S512x4096 .bf16) (harg7 : arg7.IsWhole)
  (arg8 : Memref sig .tc .vmem S512x4096 .bf16) (harg8 : arg8.IsWhole) (arg9 : Memref sig .tc .vmem S512x1024 .bf16) (harg9 : arg9.IsWhole)
  (arg10 : Memref sig .tc .vmem S512x1024 .bf16) (harg10 : arg10.IsWhole) (hc0 : cond0_0 i)
  (x0 : Vec Ideal S512x1024 .f32) (x1 x2 x3 : Vec Ideal S1x1024 .f32) (x4 : Vec Ideal S1024x4096 .bf16)

/-- The rows the scratch holds when the product reads it. -/
theorem held : kernelRun0_A.sl.v3 (F := Ideal) c arg2 harg2 arg3 harg3 arg4 harg4 arg5 harg5 arg10 x0 x1 x2 x3 = k0_pay1 x0 x1 x2 x3 := by
  unfold kernelRun0_A.sl.v3
  refine (funext fun y => (loaded _ _ _ zero2 _ _).trans (stored _ _ _ zero2 _ _ [] y)).trans ?_
  simp only [load2, pay2]

theorem left5 : out0_A_5 c i arg2 harg2 arg3 harg3 arg4 harg4 arg5 harg5 arg6 harg6 arg7 harg7 arg8 harg8 arg9 harg9 arg10 harg10 hc0 x0 x1 x2 x3 x4
    = k0_pay4 (k0_pay1 x0 x1 x2 x3) x4 := by
  unfold out0_A_5 kernelRun0_A
  refine (funext fun y => stored VO0_5 _ _ zero2 _ _ [] y).trans ?_
  simp only [load2, held]

theorem left6 : out0_A_6 c i arg2 harg2 arg3 harg3 arg4 harg4 arg5 harg5 arg6 harg6 arg7 harg7 arg8 harg8 arg9 harg9 arg10 harg10 hc0 x0 x1 x2 x3 x4
    = k0_pay5 (k0_pay1 x0 x1 x2 x3) x4 := by
  unfold out0_A_6 kernelRun0_A
  refine (funext fun y => stored VO0_6 _ _ zero2 _ _ [] y).trans ?_
  simp only [load2, held]

theorem left7 : out0_A_7 c i arg2 harg2 arg3 harg3 arg4 harg4 arg5 harg5 arg6 harg6 arg7 harg7 arg8 harg8 arg9 harg9 arg10 harg10 hc0 x0 x1 x2 x3 x4
    = k0_pay1 x0 x1 x2 x3 := by
  unfold out0_A_7 kernelRun0_A
  refine (funext fun y => stored VO0_7 _ _ zero2 _ _ [] y).trans ?_
  simp only [load2]

end Point

variable (m : (ℓ : Loc nD τ sig) → Buf (Elt Ideal) ℓ)

/-- The residual stream, the norm's weight, the scale, the shift and the weights as the call finds them. -/
abbrev aX (c : Dev nD) : Shape.Idx ⟨2, ![8192, 1024]⟩ → EReal := V m c main_arg0
abbrev aN (c : Dev nD) : Shape.Idx ⟨2, ![1, 1024]⟩ → EReal := V m c main_arg1
abbrev aS (c : Dev nD) : Shape.Idx ⟨2, ![1, 1024]⟩ → EReal := V m c main_arg2
abbrev aB (c : Dev nD) : Shape.Idx ⟨2, ![1, 1024]⟩ → EReal := V m c main_arg3
abbrev aW (c : Dev nD) : Shape.Idx ⟨2, ![1024, 4096]⟩ → EReal := V m c main_v0

theorem coords_val : ∀ t : Fin grid0.N, (grid0.coords t 0).val = t.val := by
  decide +kernel

/-- Where a block of rows lies: of the residual stream and the modulated rows, and of the two activations. -/
theorem at_rows (t : Fin cfg0.N) (r : Fin 512) (d : Fin 1024) :
    (((cfg0.win 7).blk t).view.emb (ix2 r d) : S8192x1024.Idx) = ix2 (Down.row (grid0.coords t 0) r) d := by
  have h0 : (grid0.coords t 0).val < 16 := (grid0.coords t 0).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show 0 * 1024 + 1 * d.val = d.val
    omega

theorem at_wide (t : Fin cfg0.N) (r : Fin 512) (n : Fin 4096) :
    (((cfg0.win 5).blk t).view.emb (ix2 r n) : S8192x4096.Idx) = ix2 (Down.row (grid0.coords t 0) r) n := by
  have h0 : (grid0.coords t 0).val < 16 := (grid0.coords t 0).isLt
  have h1 : (grid0.coords t 1).val < 1 := (grid0.coords t 1).isLt
  funext a
  match a with
  | ⟨0, _⟩ =>
    apply Fin.ext
    show (BitVec.ofNat 32 (grid0.coords t 0).val).toNat * 512 + 1 * r.val = 512 * (grid0.coords t 0).val + r.val
    rw [BitVec.toNat_ofNat]; omega
  | ⟨1, _⟩ =>
    apply Fin.ext
    show (BitVec.ofNat 32 (grid0.coords t 1).val).toNat * 4096 + 1 * n.val = n.val
    rw [BitVec.toNat_ofNat]; omega

/-- The one block of a vector. -/
theorem at_vec (t : Fin cfg0.N) (d : Fin 1024) : (((cfg0.win 1).blk t).view.emb (ix2 0 d) : S1x1024.Idx) = ix2 0 d := by
  funext a
  match a with
  | ⟨0, _⟩ => rfl
  | ⟨1, _⟩ =>
    apply Fin.ext
    show 0 * 1024 + 1 * d.val = d.val
    omega

variable (c : Dev nD) (t : Fin cfg0.N)

theorem iblk0 (r : Fin 512) (d : Fin 1024) : iblk m c 0 t (ix2 r d) = aX m c (ix2 (Down.row (grid0.coords t 0) r) d) :=
  congrArg (V m c main_arg0) (at_rows t r d)

theorem iblk1 (d : Fin 1024) : iblk m c 1 t (ix2 0 d) = aN m c (ix2 0 d) := congrArg (V m c main_arg1) (at_vec t d)
theorem iblk2 (d : Fin 1024) : iblk m c 2 t (ix2 0 d) = aS m c (ix2 0 d) := congrArg (V m c main_arg2) (at_vec t d)
theorem iblk3 (d : Fin 1024) : iblk m c 3 t (ix2 0 d) = aB m c (ix2 0 d) := congrArg (V m c main_arg3) (at_vec t d)

theorem iblk4 (d : Fin 1024) (n : Fin 4096) : iblk m c 4 t (ix2 d n) = aW m c (ix2 d n) := by
  show V m c main_v0 (((cfg0.win 4).blk t).view.emb (ix2 d n)) = _
  refine congrArg (V m c main_v0) ?_
  have h1 : (grid0.coords t 1).val < 1 := (grid0.coords t 1).isLt
  funext a
  match a with
  | ⟨0, _⟩ =>
    apply Fin.ext
    show 0 * 1024 + 1 * d.val = d.val
    omega
  | ⟨1, _⟩ =>
    apply Fin.ext
    show (BitVec.ofNat 32 (grid0.coords t 1).val).toNat * 4096 + 1 * n.val = n.val
    rw [BitVec.toNat_ofNat]; omega

section Arrays
variable (x : Shape.Idx ⟨2, ![8192, 1024]⟩ → EReal) (n s b : Shape.Idx ⟨2, ![1, 1024]⟩ → EReal) (w : Shape.Idx ⟨2, ![1024, 4096]⟩ → EReal)

/-- The modulated rows, the activation and its square. -/
def M : S8192x1024.Idx → EReal := fun i => X x (i 0) (i 1) * n (@ix2 1 1024 0 (i 1)) * (c1 + s (@ix2 1 1024 0 (i 1))) + b (@ix2 1 1024 0 (i 1))
def A : S8192x4096.Idx → EReal := fun i => max (∑ d : Fin 1024, M x n s b (@ix2 8192 1024 (i 0) d) * w (@ix2 1024 4096 d (i 1))) 0
def U : S8192x4096.Idx → EReal := fun i => A x n s b w i * A x n s b w i

end Arrays

theorem blkM (r : Fin 512) (d : Fin 1024) :
    k0_pay1 (iblk m c 0 t) (iblk m c 1 t) (iblk m c 2 t) (iblk m c 3 t) (ix2 r d)
      = M (aX m c) (aN m c) (aS m c) (aB m c) (ix2 (Down.row (grid0.coords t 0) r) d) := by
  show _ = X (aX m c) (Down.row (grid0.coords t 0) r) d * aN m c (ix2 0 d) * (c1 + aS m c (ix2 0 d)) + aB m c (ix2 0 d)
  unfold X R
  simp only [← iblk0 m c t, ← iblk1 m c t, ← iblk2 m c t, ← iblk3 m c t]
  exact pay1 (iblk m c 0 t) (iblk m c 1 t) (iblk m c 2 t) (iblk m c 3 t) r d

theorem blkA (r : Fin 512) (n : Fin 4096) :
    k0_pay3 (k0_pay1 (iblk m c 0 t) (iblk m c 1 t) (iblk m c 2 t) (iblk m c 3 t)) (iblk m c 4 t) (ix2 r n)
      = A (aX m c) (aN m c) (aS m c) (aB m c) (aW m c) (ix2 (Down.row (grid0.coords t 0) r) n) := by
  refine (pay3 _ (iblk m c 4 t) r n).trans (congrArg (fun y : EReal => max y 0) (Finset.sum_congr rfl fun d _ => ?_))
  exact congrArg₂ (fun a b : EReal => a * b) (blkM m c t r d) (iblk4 m c t d n)

theorem flushed5 : (dats m 0 c).flushed 5 t = ((cfg0.win 5).blk t).view.read (Elt Ideal) (A (aX m c) (aN m c) (aS m c) (aB m c) (aW m c)) := by
  show (cfg0.win 5).cut (cfg0.grid.coords t) ((dats m 0 c).after 5 t) = _
  rw [after0_5]
  unfold outsAt0
  dsimp only
  rw [left5]
  funext (y : S512x4096.Idx)
  rw [← Down.ix_eta y]
  exact ((pay4 _ (iblk m c 4 t) (y 0) (y 1)).trans (blkA m c t (y 0) (y 1))).trans
    (congrArg (A (aX m c) (aN m c) (aS m c) (aB m c) (aW m c)) (at_wide t (y 0) (y 1))).symm

theorem flushed6 : (dats m 0 c).flushed 6 t = ((cfg0.win 6).blk t).view.read (Elt Ideal) (U (aX m c) (aN m c) (aS m c) (aB m c) (aW m c)) := by
  show (cfg0.win 6).cut (cfg0.grid.coords t) ((dats m 0 c).after 6 t) = _
  rw [after0_6]
  unfold outsAt0
  dsimp only
  rw [left6]
  funext (y : S512x4096.Idx)
  rw [← Down.ix_eta y]
  exact ((pay5 _ (iblk m c 4 t) (y 0) (y 1)).trans
      (congrArg₂ (fun a b : EReal => a * b) (blkA m c t (y 0) (y 1)) (blkA m c t (y 0) (y 1)))).trans
    (congrArg (U (aX m c) (aN m c) (aS m c) (aB m c) (aW m c)) (at_wide t (y 0) (y 1))).symm

theorem flushed7 : (dats m 0 c).flushed 7 t = ((cfg0.win 7).blk t).view.read (Elt Ideal) (M (aX m c) (aN m c) (aS m c) (aB m c)) := by
  show (cfg0.win 7).cut (cfg0.grid.coords t) ((dats m 0 c).after 7 t) = _
  rw [after0_7]
  unfold outsAt0
  dsimp only
  rw [left7]
  funext (y : S512x1024.Idx)
  rw [← Down.ix_eta y]
  exact (blkM m c t (y 0) (y 1)).trans (congrArg (M (aX m c) (aN m c) (aS m c) (aB m c)) (at_rows t (y 0) (y 1))).symm

/-- Every row of an array is a row of some point's block. -/
theorem reached (n : Fin 8192) : ∃ (t : Fin cfg0.N) (r : Fin 512), Down.row (grid0.coords t 0) r = n := by
  have hN : cfg0.N = 16 := N_0
  have ht : n.val / 512 < cfg0.N := by omega
  have hr : n.val % 512 < 512 := by omega
  refine ⟨⟨n.val / 512, ht⟩, ⟨n.val % 512, hr⟩, ?_⟩
  have e0 : grid0.coords ⟨n.val / 512, ht⟩ 0 = (⟨n.val / 512, by omega⟩ : Fin 16) := Fin.ext (coords_val _)
  exact (congrArg (fun t : Fin 16 => Down.row t ⟨n.val % 512, hr⟩) e0).trans (Down.row_eta n (by omega) hr)

theorem wide (i : S8192x4096.Idx) : ∃ (t : Fin cfg0.N) (y : S512x4096.Idx), (((cfg0.win 5).blk t).view.emb y : S8192x4096.Idx) = i := by
  obtain ⟨t, r, h⟩ := reached (i 0)
  exact ⟨t, ix2 r (i 1), (at_wide t r (i 1)).trans ((congrArg (fun n : Fin 8192 => (ix2 n (i 1) : S8192x4096.Idx)) h).trans (Down.ix_eta i))⟩

theorem cover5 (i : S8192x4096.Idx) : ∃ t : Fin cfg0.N, (cfg0.win 5).flush t = true ∧ i ∈ ((cfg0.win 5).blk t).view.set := by
  obtain ⟨t, y, h⟩ := wide i
  exact ⟨t, flush0_5 t, mem_of_emb _ _ _ h⟩

theorem cover6 (i : S8192x4096.Idx) : ∃ t : Fin cfg0.N, (cfg0.win 6).flush t = true ∧ i ∈ ((cfg0.win 6).blk t).view.set := by
  obtain ⟨t, y, h⟩ := wide i
  exact ⟨t, flush0_6 t, mem_of_emb _ _ _ h⟩

theorem cover7 (i : S8192x1024.Idx) : ∃ t : Fin cfg0.N, (cfg0.win 7).flush t = true ∧ i ∈ ((cfg0.win 7).blk t).view.set := by
  obtain ⟨t, r, h⟩ := reached (i 0)
  exact ⟨t, flush0_7 t, mem_of_emb _ _ _
    ((at_rows t r (i 1)).trans ((congrArg (fun n : Fin 8192 => (ix2 n (i 1) : S8192x1024.Idx)) h).trans (Down.ix_eta i)))⟩

/-- The residual stream, the norm's weight, the scale, the shift and the weights a core holds at launch. -/
abbrev iX : (⟨Cert.Reference8Ideal.S8192x1024, .f32⟩ : BufTy).Contents (Elt Ideal) := m ((c.tc : Thread nD τ).loc main_arg0)
abbrev iN : (⟨Cert.Reference8Ideal.S1x1024, .f32⟩ : BufTy).Contents (Elt Ideal) := m ((c.tc : Thread nD τ).loc main_arg1)
abbrev iS : (⟨Cert.Reference8Ideal.S1x1024, .f32⟩ : BufTy).Contents (Elt Ideal) := m ((c.tc : Thread nD τ).loc main_arg2)
abbrev iB : (⟨Cert.Reference8Ideal.S1x1024, .f32⟩ : BufTy).Contents (Elt Ideal) := m ((c.tc : Thread nD τ).loc main_arg3)
abbrev iW : (⟨Cert.Reference8Ideal.S1024x4096, .f32⟩ : BufTy).Contents (Elt Ideal) := m ((c.tc : Thread nD τ).loc main_arg4)

theorem hX : aX m c = iX m c := V_main_arg0 m c
theorem hN : aN m c = iN m c := V_main_arg1 m c
theorem hS : aS m c = iS m c := V_main_arg2 m c
theorem hB : aB m c = iB m c := V_main_arg3 m c

theorem hW : aW m c = iW m c := by
  show after hostOps0 (fun b => m (c, b)) (Proc.devRef .tc main_v0) = _
  simp only [hostOps0]
  after_results <;> rfl

section Ref
variable (x0 : (⟨Cert.Reference8Ideal.S8192x1024, .f32⟩ : BufTy).Contents (Elt Ideal))
  (x1 x2 x3 : (⟨Cert.Reference8Ideal.S1x1024, .f32⟩ : BufTy).Contents (Elt Ideal))
  (x4 : (⟨Cert.Reference8Ideal.S1024x4096, .f32⟩ : BufTy).Contents (Elt Ideal))

theorem v7 (r : Fin 8192) (q : Fin 1) : val_main_v7 (F := Ideal) x0 (@ix2 8192 1 r q) = R x0 r := by
  rw [val_main_v7_apply, val_main_v6_apply, val_main_v4_apply, val_main_v5_apply, val_main_v3_apply, val_main_v2_apply, val_main_v1_apply]
  refine congrArg (fun y : EReal => Ideal.rsqrt (Ideal.div y cK + cE)) ?_
  refine (congrArg (fun a : EReal => a + _) Ideal.ofBits_zero_f32).trans ((zero_add _).trans ?_)
  refine Finset.sum_congr rfl fun d _ => ?_
  rw [val_main_v0_apply]
  exact congrArg₂ (fun a b : EReal => a * b) (at2 rfl rfl) (at2 rfl rfl)

theorem ref_m (i : Cert.Reference8Ideal.S8192x1024.Idx) : M x0 x1 x2 x3 i = val_main_v17 (F := Ideal) x0 x1 x2 x3 i := by
  obtain ⟨r, d, rfl⟩ : ∃ (r : Fin 8192) (d : Fin 1024), i = @ix2 8192 1024 r d := ⟨i 0, i 1, (Down.ix_eta i).symm⟩
  rw [val_main_v17_apply, val_main_v15_apply, val_main_v11_apply, val_main_v9_apply, val_main_v8_apply, val_main_v10_apply,
    val_main_v14_apply, val_main_v13_apply, val_main_v12_apply, val_main_v16_apply]
  have e7 : val_main_v7 (F := Ideal) x0 (idx_main_v8 (@ix2 8192 1024 r d)) = R x0 r :=
    Eq.trans (b := val_main_v7 (F := Ideal) x0 (@ix2 8192 1 r 0)) (at2 rfl rfl) (v7 x0 r 0)
  rw [e7]
  refine congrArg₂ (fun a b : EReal => a + b) (congrArg₂ (fun a b : EReal => a * b) (congrArg (fun a : EReal => X x0 r d * a) (at2 rfl rfl))
    (congrArg (fun a : EReal => c1 + a) (at2 rfl rfl))) (at2 rfl rfl)

theorem ref_a (i : Cert.Reference8Ideal.S8192x4096.Idx) : A x0 x1 x2 x3 x4 i = val_main_v19 (F := Ideal) x0 x1 x2 x3 x4 i := by
  rw [val_main_v19_apply, val_main_v18_apply, val_main_call0_v0_apply, val_main_call0_cst_apply]
  refine congrArg₂ (fun a b : EReal => max a b) (Finset.sum_congr rfl fun d _ => ?_) Ideal.ofBits_zero_f32.symm
  rw [← ref_m]
  exact congrArg₂ (fun a b : EReal => a * b) (at2 rfl rfl) (at2 rfl rfl)

theorem ref_u (i : Cert.Reference8Ideal.S8192x4096.Idx) : U x0 x1 x2 x3 x4 i = val_main_v21 (F := Ideal) x0 x1 x2 x3 x4 i := by
  rw [val_main_v21_apply, ← ref_a]
  rfl

end Ref

theorem final5 : (dats m 0 c).arrAt 5 cfg0.N = A (aX m c) (aN m c) (aS m c) (aB m c) (aW m c) :=
  (dats m 0 c).arrAt_eq_of_cover 5 (A (aX m c) (aN m c) (aS m c) (aB m c) (aW m c)) (fun t _ => flushed5 m c t) cover5

theorem final6 : (dats m 0 c).arrAt 6 cfg0.N = U (aX m c) (aN m c) (aS m c) (aB m c) (aW m c) :=
  (dats m 0 c).arrAt_eq_of_cover 6 (U (aX m c) (aN m c) (aS m c) (aB m c) (aW m c)) (fun t _ => flushed6 m c t) cover6

theorem final7 : (dats m 0 c).arrAt 7 cfg0.N = M (aX m c) (aN m c) (aS m c) (aB m c) :=
  (dats m 0 c).arrAt_eq_of_cover 7 (M (aX m c) (aN m c) (aS m c) (aB m c)) (fun t _ => flushed7 m c t) cover7

theorem out0 : (dats m 0 c).arrAt 5 cfg0.N = val_main_v20 (F := Ideal) (iX m c) (iN m c) (iS m c) (iB m c) (iW m c) := by
  rw [final5, hX, hN, hS, hB, hW]
  exact funext fun i => ref_a _ _ _ _ _ i

theorem out1 : (dats m 0 c).arrAt 6 cfg0.N = val_main_v22 (F := Ideal) (iX m c) (iN m c) (iS m c) (iB m c) (iW m c) := by
  rw [final6, hX, hN, hS, hB, hW]
  exact funext fun i => ref_u _ _ _ _ _ i

theorem out2 : (dats m 0 c).arrAt 7 cfg0.N = val_main_v23 (F := Ideal) (iX m c) (iN m c) (iS m c) (iB m c) := by
  rw [final7, hX, hN, hS, hB]
  exact funext fun i => ref_m _ _ _ _ i

end Cert.LnUp
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Pre_in_range
public import proofs.«01_k».proof.Proof.Result
public import proofs.«01_k».proof.Proof.RefValue
public import proofs.«01_k».proof.Proof.DownValue
public import proofs.«01_k».proof.Proof.GradInValue
public import proofs.«01_k».proof.Proof.GradOutValue
public import proofs.«01_k».proof.Proof.UpValue
public import proofs.«01_k».proof.Proof.FoxInValue
public import proofs.«01_k».proof.Proof.Resid
public import proofs.«01_k».proof.Proof.LnUp
public import Idealize.ShloMosaic.Adequacy
public import Idealize.ShloMosaic.Init

@[expose] public section

noncomputable section

namespace Cert.Proof

open Idealize.ShloMosaic Idealize.SL.Sem Cert.Kernel

/-- The reference's frame: its run with the results dropped; it declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Both runs end with the same four derivatives. -/
theorem algebraic : Cert.algebraic_KernelIdeal_ReferenceIdeal := by
  intro m g m' g' hpre hargs
  have h := Table.inRange_ideal m hpre
  have hr := fun c => Table.real_of_fn _ _ _ _ _ _ (hpre c)
  have hA : ∀ c, (Result.A m c).tab = Table.tab m := fun c => by
    obtain rfl : c = 0 := Subsingleton.elim c 0
    rfl
  have hg : ∀ c, HostValue.Good (Result.A m c) := fun c =>
    ⟨(hA c).symm ▸ h, (hr c).1, (hr c).2.1, (hr c).2.2.1, (hr c).2.2.2.1, (hr c).2.2.2.2⟩
  refine ⟨fun c => Spec.dq (Result.A m c).tab (Result.A m c).q (Result.A m c).k (Result.A m c).v (Result.A m c).f (Result.A m c).ct,
    fun c => Spec.dk (Result.A m c).tab (Result.A m c).q (Result.A m c).k (Result.A m c).v (Result.A m c).f (Result.A m c).ct,
    fun c => Spec.dv (Result.A m c).tab (Result.A m c).q (Result.A m c).k (Result.A m c).f (Result.A m c).ct,
    fun c => Spec.df (Result.A m c).tab (Result.A m c).q (Result.A m c).k (Result.A m c).v (Result.A m c).f (Result.A m c).ct, ?_, ?_⟩
  · exact (θ_run Cert.KernelIdeal.defs _ _).mono (fun _ r c =>
        ⟨((r.1.1 c).2 Cert.KernelIdeal.main_v115 (show _ ∈ Pipeline.restRefs Cert.KernelIdeal.sig Cert.KernelIdeal.spec0 by decide)).trans (Result.out0 m h c (hg c) (hA c)),
          ((r.1.1 c).2 Cert.KernelIdeal.main_v118 (show _ ∈ Pipeline.restRefs Cert.KernelIdeal.sig Cert.KernelIdeal.spec0 by decide)).trans (Result.out1 m h c (hg c) (hA c)),
          ((r.1.1 c).2 Cert.KernelIdeal.main_v119 (show _ ∈ Pipeline.restRefs Cert.KernelIdeal.sig Cert.KernelIdeal.spec0 by decide)).trans (Result.out2 m h c (hg c) (hA c)),
          ((r.1.1 c).2 Cert.KernelIdeal.main_v121 (show _ ∈ Pipeline.restRefs Cert.KernelIdeal.sig Cert.KernelIdeal.spec0 by decide)).trans (Result.out3 m h c (hg c) (hA c)), r.2 c⟩)
      (θ_run_and (Cert.KernelIdeal.Gen.run_main_quiescent m g (Table.ok m) (Table.hyps_ideal m h))
        (Cert.KernelIdeal.Gen.unchanged m g (Table.ok m) (Table.hyps_ideal m h)))
  · refine (θ_run Cert.ReferenceIdeal.defs _ _).mono (fun _ r c => ?_) (Cert.ReferenceIdeal.Value.run (F := Ideal) m' g')
    obtain ⟨a, b, d, e, rest⟩ := r c
    obtain ⟨e0, e1, e2, e3, e4, e5⟩ := hargs c
    have hv : RefValue.Good (Result.A m c).tab (Result.A m c).q (Result.A m c).k (Result.A m c).v (Result.A m c).f (Result.A m c).ct :=
      ⟨(hA c).symm ▸ h, (hr c).1, (hr c).2.1, (hr c).2.2.1, (hr c).2.2.2.1, (hr c).2.2.2.2⟩
    refine ⟨a.trans ?_, b.trans ?_, d.trans ?_, e.trans ?_, rest⟩
    · rw [Cert.ReferenceIdeal.Read.val_main_v79_eq, e0, e1, e2, e3, e4, e5]
      exact funext fun i => RefValue.dq _ _ _ _ _ _ hv i
    · rw [Cert.ReferenceIdeal.Read.val_main_v78_eq, e0, e1, e2, e3, e4, e5]
      exact funext fun i => RefValue.dk _ _ _ _ _ _ hv i
    · rw [Cert.ReferenceIdeal.Read.val_main_v53_eq, e0, e1, e2, e4, e5]
      exact funext fun i => RefValue.dv _ _ _ _ _ _ hv i
    · rw [Cert.ReferenceIdeal.Read.val_main_v75_eq, e0, e1, e2, e3, e4, e5]
      exact funext fun i => RefValue.df _ _ _ _ _ _ hv i

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Both runs of the down-projection's backward call end with the same three derivatives. -/
theorem algebraic2 : Cert.algebraic_Kernel2Ideal_Reference2Ideal := by
  intro m g m' g' _ hargs
  refine ⟨fun c => Cert.Reference2Ideal.Read.val_main_v19 (F := Ideal) (Down.iZ m c) (Down.iW m c) (Down.iG m c) (Down.iC m c),
    fun c => Cert.Reference2Ideal.Read.val_main_v20 (F := Ideal) (Down.iG m c) (Down.iC m c),
    fun c => Cert.Reference2Ideal.Read.val_main_v12 (F := Ideal) (Down.iZ m c) (Down.iW m c) (Down.iC m c), ?_, ?_⟩
  · exact (θ_run Cert.Kernel2Ideal.defs _ _).mono (fun _ r c =>
        ⟨((r.1.1 c).1 5).trans (Down.out0 m c), ((r.1.1 c).1 6).trans (Down.out1 m c), ((r.1.1 c).1 7).trans (Down.out2 m c), r.2 c⟩)
      (θ_run_and (Cert.Kernel2Ideal.Gen.run_main_quiescent m g) (Cert.Kernel2Ideal.Gen.unchanged m g))
  · refine (θ_run Cert.Reference2Ideal.defs _ _).mono (fun _ r c => ?_) (Cert.Reference2Ideal.Value.run (F := Ideal) m' g')
    obtain ⟨a, b, d, rest⟩ := r c
    obtain ⟨e0, e1, e2, e3⟩ := hargs c
    refine ⟨a.trans ?_, b.trans ?_, d.trans ?_, rest⟩
    · rw [Cert.Reference2Ideal.Read.val_main_v19_eq, e0, e1, e2, e3]
    · rw [Cert.Reference2Ideal.Read.val_main_v20_eq, e2, e3]
    · rw [Cert.Reference2Ideal.Read.val_main_v12_eq, e0, e1, e3]

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both runs end with the same gradient of the MLP's first weights. -/
theorem algebraic3 : Cert.algebraic_Kernel3Ideal_Reference3Ideal := by
  intro m g m' g' _ hargs
  refine ⟨fun c => Cert.Reference3Ideal.Read.val_main_v3 (F := Ideal) (GradIn.iH m c) (GradIn.iZ m c), ?_, ?_⟩
  · exact (θ_run Cert.Kernel3Ideal.defs _ _).mono (fun _ r c =>
        ⟨((r.1.1 c).2 Cert.Kernel3Ideal.main_v8 (show _ ∈ Pipeline.restRefs Cert.Kernel3Ideal.sig Cert.Kernel3Ideal.spec0 by decide)).trans (GradIn.out m c), r.2 c⟩)
      (θ_run_and (Cert.Kernel3Ideal.Gen.run_main_quiescent m g) (Cert.Kernel3Ideal.Gen.unchanged m g))
  · refine (θ_run Cert.Reference3Ideal.defs _ _).mono (fun _ r c => ?_) (Cert.Reference3Ideal.Value.run (F := Ideal) m' g')
    obtain ⟨a, rest⟩ := r c
    obtain ⟨e0, e1⟩ := hargs c
    refine ⟨a.trans ?_, rest⟩
    rw [Cert.Reference3Ideal.Read.val_main_v3_eq, e0, e1]

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both runs end with the same gradient of the MLP's second weights. -/
theorem algebraic4 : Cert.algebraic_Kernel4Ideal_Reference4Ideal := by
  intro m g m' g' _ hargs
  refine ⟨fun c => Cert.Reference4Ideal.Read.val_main_v5 (F := Ideal) (GradOut.iZ m c) (GradOut.iY m c), ?_, ?_⟩
  · exact (θ_run Cert.Kernel4Ideal.defs _ _).mono (fun _ r c =>
        ⟨((r.1.1 c).2 Cert.Kernel4Ideal.main_v10 (show _ ∈ Pipeline.restRefs Cert.Kernel4Ideal.sig Cert.Kernel4Ideal.spec0 by decide)).trans (GradOut.out m c), r.2 c⟩)
      (θ_run_and (Cert.Kernel4Ideal.Gen.run_main_quiescent m g) (Cert.Kernel4Ideal.Gen.unchanged m g))
  · refine (θ_run Cert.Reference4Ideal.defs _ _).mono (fun _ r c => ?_) (Cert.Reference4Ideal.Value.run (F := Ideal) m' g')
    obtain ⟨a, rest⟩ := r c
    obtain ⟨e0, e1⟩ := hargs c
    refine ⟨a.trans ?_, rest⟩
    rw [Cert.Reference4Ideal.Read.val_main_v5_eq, e0, e1]

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- Both runs of the up-projection's backward call end with the same four derivatives. -/
theorem algebraic5 : Cert.algebraic_Kernel5Ideal_Reference5Ideal := by
  intro m g m' g' _ hargs
  refine ⟨fun c => Cert.Reference5Ideal.Read.val_main_v50 (F := Ideal) (Up.iZ m c) (Up.iW m c) (Up.iX m c) (Up.iN m c) (Up.iS m c) (Up.iO m c),
    fun c => Cert.Reference5Ideal.Read.val_main_v28 (F := Ideal) (Up.iZ m c) (Up.iW m c) (Up.iX m c) (Up.iN m c),
    fun c => Cert.Reference5Ideal.Read.val_main_v25 (F := Ideal) (Up.iZ m c) (Up.iW m c),
    fun c => Cert.Reference5Ideal.Read.val_main_v33 (F := Ideal) (Up.iZ m c) (Up.iW m c) (Up.iX m c) (Up.iS m c), ?_, ?_⟩
  · exact (θ_run Cert.Kernel5Ideal.defs _ _).mono (fun _ r c =>
        ⟨((r.1.1 c).1 6).trans (Up.out0 m c), ((r.1.1 c).1 7).trans (Up.out1 m c), ((r.1.1 c).1 8).trans (Up.out2 m c),
          ((r.1.1 c).1 9).trans (Up.out3 m c), r.2 c⟩)
      (θ_run_and (Cert.Kernel5Ideal.Gen.run_main_quiescent m g) (Cert.Kernel5Ideal.Gen.unchanged m g))
  · refine (θ_run Cert.Reference5Ideal.defs _ _).mono (fun _ r c => ?_) (Cert.Reference5Ideal.Value.run (F := Ideal) m' g')
    obtain ⟨a, b, d, k, rest⟩ := r c
    obtain ⟨e0, e1, e2, e3, e4, e5⟩ := hargs c
    refine ⟨a.trans ?_, b.trans ?_, d.trans ?_, k.trans ?_, rest⟩
    · rw [Cert.Reference5Ideal.Read.val_main_v50_eq, e0, e1, e2, e3, e4, e5]
    · rw [Cert.Reference5Ideal.Read.val_main_v28_eq, e0, e1, e2, e3]
    · rw [Cert.Reference5Ideal.Read.val_main_v25_eq, e0, e1]
    · rw [Cert.Reference5Ideal.Read.val_main_v33_eq, e0, e1, e2, e4]

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Both runs of the mixer's input projection's backward call end with the same four derivatives. -/
theorem algebraic6 : Cert.algebraic_Kernel6Ideal_Reference6Ideal := by
  intro m g m' g' _ hargs
  refine ⟨fun c => Cert.Reference6Ideal.Read.val_main_v50 (F := Ideal) (FoxIn.iZ m c) (FoxIn.iW m c) (FoxIn.iX m c) (FoxIn.iN m c) (FoxIn.iS m c) (FoxIn.iO m c),
    fun c => Cert.Reference6Ideal.Read.val_main_v28 (F := Ideal) (FoxIn.iZ m c) (FoxIn.iW m c) (FoxIn.iX m c) (FoxIn.iN m c),
    fun c => Cert.Reference6Ideal.Read.val_main_v25 (F := Ideal) (FoxIn.iZ m c) (FoxIn.iW m c),
    fun c => Cert.Reference6Ideal.Read.val_main_v33 (F := Ideal) (FoxIn.iZ m c) (FoxIn.iW m c) (FoxIn.iX m c) (FoxIn.iS m c), ?_, ?_⟩
  · exact (θ_run Cert.Kernel6Ideal.defs _ _).mono (fun _ r c =>
        ⟨((r.1.1 c).1 6).trans (FoxIn.out0 m c), ((r.1.1 c).1 7).trans (FoxIn.out1 m c), ((r.1.1 c).1 8).trans (FoxIn.out2 m c), ((r.1.1 c).1 9).trans (FoxIn.out3 m c), r.2 c⟩)
      (θ_run_and (Cert.Kernel6Ideal.Gen.run_main_quiescent m g) (Cert.Kernel6Ideal.Gen.unchanged m g))
  · refine (θ_run Cert.Reference6Ideal.defs _ _).mono (fun _ r c => ?_) (Cert.Reference6Ideal.Value.run (F := Ideal) m' g')
    obtain ⟨a, b, d, k, rest⟩ := r c
    obtain ⟨e0, e1, e2, e3, e4, e5⟩ := hargs c
    refine ⟨a.trans ?_, b.trans ?_, d.trans ?_, k.trans ?_, rest⟩
    · rw [Cert.Reference6Ideal.Read.val_main_v50_eq, e0, e1, e2, e3, e4, e5]
    · rw [Cert.Reference6Ideal.Read.val_main_v28_eq, e0, e1, e2, e3]
    · rw [Cert.Reference6Ideal.Read.val_main_v25_eq, e0, e1]
    · rw [Cert.Reference6Ideal.Read.val_main_v33_eq, e0, e1, e2, e4]

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Both runs of the down-projection's forward call end with the same residual stream and the same product. -/
theorem algebraic7 : Cert.algebraic_Kernel7Ideal_Reference7Ideal := by
  intro m g m' g' _ hargs
  refine ⟨fun c => Cert.Reference7Ideal.Read.val_main_v5 (F := Ideal) (Resid.iZ m c) (Resid.iW m c) (Resid.iX m c) (Resid.iG m c),
    fun c => Cert.Reference7Ideal.Read.val_main_v6 (F := Ideal) (Resid.iZ m c) (Resid.iW m c), ?_, ?_⟩
  · exact (θ_run Cert.Kernel7Ideal.defs _ _).mono (fun _ r c =>
        ⟨((r.1.1 c).1 4).trans (Resid.out0 m c), ((r.1.1 c).1 5).trans (Resid.out1 m c), r.2 c⟩)
      (θ_run_and (Cert.Kernel7Ideal.Gen.run_main_quiescent m g) (Cert.Kernel7Ideal.Gen.unchanged m g))
  · refine (θ_run Cert.Reference7Ideal.defs _ _).mono (fun _ r c => ?_) (Cert.Reference7Ideal.Value.run (F := Ideal) m' g')
    obtain ⟨a, b, rest⟩ := r c
    obtain ⟨e0, e1, e2, e3⟩ := hargs c
    refine ⟨a.trans ?_, b.trans ?_, rest⟩
    · rw [Cert.Reference7Ideal.Read.val_main_v5_eq, e0, e1, e2, e3]
    · rw [Cert.Reference7Ideal.Read.val_main_v6_eq, e0, e1]

theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- Both runs of the up-projection's forward call end with the same activation, square and modulated rows. -/
theorem algebraic8 : Cert.algebraic_Kernel8Ideal_Reference8Ideal := by
  intro m g m' g' _ hargs
  refine ⟨fun c => Cert.Reference8Ideal.Read.val_main_v20 (F := Ideal) (LnUp.iX m c) (LnUp.iN m c) (LnUp.iS m c) (LnUp.iB m c) (LnUp.iW m c),
    fun c => Cert.Reference8Ideal.Read.val_main_v22 (F := Ideal) (LnUp.iX m c) (LnUp.iN m c) (LnUp.iS m c) (LnUp.iB m c) (LnUp.iW m c),
    fun c => Cert.Reference8Ideal.Read.val_main_v23 (F := Ideal) (LnUp.iX m c) (LnUp.iN m c) (LnUp.iS m c) (LnUp.iB m c), ?_, ?_⟩
  · exact (θ_run Cert.Kernel8Ideal.defs _ _).mono (fun _ r c =>
        ⟨((r.1.1 c).1 5).trans (LnUp.out0 m c), ((r.1.1 c).1 6).trans (LnUp.out1 m c), ((r.1.1 c).1 7).trans (LnUp.out2 m c), r.2 c⟩)
      (θ_run_and (Cert.Kernel8Ideal.Gen.run_main_quiescent m g) (Cert.Kernel8Ideal.Gen.unchanged m g))
  · refine (θ_run Cert.Reference8Ideal.defs _ _).mono (fun _ r c => ?_) (Cert.Reference8Ideal.Value.run (F := Ideal) m' g')
    obtain ⟨a, b, d, rest⟩ := r c
    obtain ⟨e0, e1, e2, e3, e4⟩ := hargs c
    refine ⟨a.trans ?_, b.trans ?_, d.trans ?_, rest⟩
    · rw [Cert.Reference8Ideal.Read.val_main_v20_eq, e0, e1, e2, e3, e4]
    · rw [Cert.Reference8Ideal.Read.val_main_v22_eq, e0, e1, e2, e3, e4]
    · rw [Cert.Reference8Ideal.Read.val_main_v23_eq, e0, e1, e2, e3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_in_range.Gen.facts,
  fun m ρ h => Cert.Kernel.Gen.frame m ρ (Table.okBits m) (Table.hyps_bits m h),
  fun m ρ h => Cert.KernelIdeal.Gen.frame m ρ (Table.ok m) (Table.hyps_ideal m (Table.inRange_ideal m h)),
  fun m ρ _ => frame_reference m ρ trivial,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  trivial,
  algebraic,
  trivial,
  algebraic2,
  trivial,
  algebraic3,
  trivial,
  algebraic4,
  trivial,
  algebraic5,
  trivial,
  algebraic6,
  trivial,
  algebraic7,
  trivial,
  algebraic8⟩

end Cert.Proof

end
